-- ==== Defs.lean ====
def Pre_GmlpKernel (m : (ℓ : Loc Cert.GmlpKernel.nD Cert.GmlpKernel.τ Cert.GmlpKernel.sig) → Buf (Elt Bits) ℓ) : Prop :=
  True

def Pre_GmlpKernelIdeal (m : (ℓ : Loc Cert.GmlpKernelIdeal.nD Cert.GmlpKernelIdeal.τ Cert.GmlpKernelIdeal.sig) → Buf (Elt Ideal) ℓ) : Prop :=
  True

def Pre_GmlpKernelIdeal_finite [hPre_finite : Cert.Pre_finite.Facts] (m : (ℓ : Loc Cert.GmlpKernelIdeal.nD Cert.GmlpKernelIdeal.τ Cert.GmlpKernelIdeal.sig) → Buf (Elt Ideal) ℓ) : Prop :=
  ∀ c : Dev Cert.GmlpKernelIdeal.nD,
    (Cert.Pre_finite.fn (F := Ideal) (m ((c.tc : Thread Cert.GmlpKernelIdeal.nD Cert.GmlpKernelIdeal.τ).loc Cert.GmlpKernelIdeal.main_arg0)) (m ((c.tc : Thread Cert.GmlpKernelIdeal.nD Cert.GmlpKernelIdeal.τ).loc Cert.GmlpKernelIdeal.main_arg1)) (m ((c.tc : Thread Cert.GmlpKernelIdeal.nD Cert.GmlpKernelIdeal.τ).loc Cert.GmlpKernelIdeal.main_arg2)) (m ((c.tc : Thread Cert.GmlpKernelIdeal.nD Cert.GmlpKernelIdeal.τ).loc Cert.GmlpKernelIdeal.main_arg3)) (m ((c.tc : Thread Cert.GmlpKernelIdeal.nD Cert.GmlpKernelIdeal.τ).loc Cert.GmlpKernelIdeal.main_arg4)) (m ((c.tc : Thread Cert.GmlpKernelIdeal.nD Cert.GmlpKernelIdeal.τ).loc Cert.GmlpKernelIdeal.main_arg5))) = (fun _ => 1#1)

def Pre_GmlpReferenceIdeal (m : (ℓ : Loc Cert.GmlpReferenceIdeal.nD Cert.GmlpReferenceIdeal.τ Cert.GmlpReferenceIdeal.sig) → Buf (Elt Ideal) ℓ) : Prop :=
  True

def Pre_GmlpReferenceIdeal_finite [hPre_finite : Cert.Pre_finite.Facts] (m : (ℓ : Loc Cert.GmlpReferenceIdeal.nD Cert.GmlpReferenceIdeal.τ Cert.GmlpReferenceIdeal.sig) → Buf (Elt Ideal) ℓ) : Prop :=
  ∀ c : Dev Cert.GmlpReferenceIdeal.nD,
    (Cert.Pre_finite.fn (F := Ideal) (m ((c.tc : Thread Cert.GmlpReferenceIdeal.nD Cert.GmlpReferenceIdeal.τ).loc Cert.GmlpReferenceIdeal.main_arg0)) (m ((c.tc : Thread Cert.GmlpReferenceIdeal.nD Cert.GmlpReferenceIdeal.τ).loc Cert.GmlpReferenceIdeal.main_arg1)) (m ((c.tc : Thread Cert.GmlpReferenceIdeal.nD Cert.GmlpReferenceIdeal.τ).loc Cert.GmlpReferenceIdeal.main_arg2)) (m ((c.tc : Thread Cert.GmlpReferenceIdeal.nD Cert.GmlpReferenceIdeal.τ).loc Cert.GmlpReferenceIdeal.main_arg3)) (m ((c.tc : Thread Cert.GmlpReferenceIdeal.nD Cert.GmlpReferenceIdeal.τ).loc Cert.GmlpReferenceIdeal.main_arg4)) (m ((c.tc : Thread Cert.GmlpReferenceIdeal.nD Cert.GmlpReferenceIdeal.τ).loc Cert.GmlpReferenceIdeal.main_arg5))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))) = (fun _ => 1#1)

def Pre_WinKernel (m : (ℓ : Loc Cert.WinKernel.nD Cert.WinKernel.τ Cert.WinKernel.sig) → Buf (Elt Bits) ℓ) : Prop :=
  True

def Pre_WinKernelIdeal (m : (ℓ : Loc Cert.WinKernelIdeal.nD Cert.WinKernelIdeal.τ Cert.WinKernelIdeal.sig) → Buf (Elt Ideal) ℓ) : Prop :=
  True

def Pre_WinReferenceIdeal (m : (ℓ : Loc Cert.WinReferenceIdeal.nD Cert.WinReferenceIdeal.τ Cert.WinReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormKernelIdeal_norm_finite [hPre_norm_finite : Cert.Pre_norm_finite.Facts] (m : (ℓ : Loc Cert.NormKernelIdeal.nD Cert.NormKernelIdeal.τ Cert.NormKernelIdeal.sig) → Buf (Elt Ideal) ℓ) : Prop :=
  ∀ c : Dev Cert.NormKernelIdeal.nD,
    (Cert.Pre_norm_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5))) = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_norm_finite [hPre_norm_finite : Cert.Pre_norm_finite.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_norm_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5))) = (fun _ => 1#1)

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def quiescent_GmlpKernel [hGmlpKernel : Cert.GmlpKernel.Facts] : Prop :=
  ∀ (m : (ℓ : Loc Cert.GmlpKernel.nD Cert.GmlpKernel.τ Cert.GmlpKernel.sig) → Buf (Elt Bits) ℓ) (g : Dev Cert.GmlpKernel.nD → PrngReg), Pre_GmlpKernel m →
    θ_run (Cert.GmlpKernel.defs (F := Bits)) (onTc (τ := Cert.GmlpKernel.τ) (Cert.GmlpKernel.main (F := Bits))) ⟨m, fun _ => 0, g⟩ (fun r => (∀ c : Dev Cert.GmlpKernel.nD,
      r.2.mem ((c.tc : Thread Cert.GmlpKernel.nD Cert.GmlpKernel.τ).loc Cert.GmlpKernel.main_arg0) = m ((c.tc : Thread Cert.GmlpKernel.nD Cert.GmlpKernel.τ).loc Cert.GmlpKernel.main_arg0)
      ∧ r.2.mem ((c.tc : Thread Cert.GmlpKernel.nD Cert.GmlpKernel.τ).loc Cert.GmlpKernel.main_arg1) = m ((c.tc : Thread Cert.GmlpKernel.nD Cert.GmlpKernel.τ).loc Cert.GmlpKernel.main_arg1)
      ∧ r.2.mem ((c.tc : Thread Cert.GmlpKernel.nD Cert.GmlpKernel.τ).loc Cert.GmlpKernel.main_arg2) = m ((c.tc : Thread Cert.GmlpKernel.nD Cert.GmlpKernel.τ).loc Cert.GmlpKernel.main_arg2)
      ∧ r.2.mem ((c.tc : Thread Cert.GmlpKernel.nD Cert.GmlpKernel.τ).loc Cert.GmlpKernel.main_arg3) = m ((c.tc : Thread Cert.GmlpKernel.nD Cert.GmlpKernel.τ).loc Cert.GmlpKernel.main_arg3)
      ∧ r.2.mem ((c.tc : Thread Cert.GmlpKernel.nD Cert.GmlpKernel.τ).loc Cert.GmlpKernel.main_arg4) = m ((c.tc : Thread Cert.GmlpKernel.nD Cert.GmlpKernel.τ).loc Cert.GmlpKernel.main_arg4)
      ∧ r.2.mem ((c.tc : Thread Cert.GmlpKernel.nD Cert.GmlpKernel.τ).loc Cert.GmlpKernel.main_arg5) = m ((c.tc : Thread Cert.GmlpKernel.nD Cert.GmlpKernel.τ).loc Cert.GmlpKernel.main_arg5))
      ∧ r.2.sem = fun _ => 0)

def quiescent_GmlpKernelIdeal [hGmlpKernelIdeal : Cert.GmlpKernelIdeal.Facts] : Prop :=
  ∀ (m : (ℓ : Loc Cert.GmlpKernelIdeal.nD Cert.GmlpKernelIdeal.τ Cert.GmlpKernelIdeal.sig) → Buf (Elt Ideal) ℓ) (g : Dev Cert.GmlpKernelIdeal.nD → PrngReg), Pre_GmlpKernelIdeal m →
    θ_run (Cert.GmlpKernelIdeal.defs (F := Ideal)) (onTc (τ := Cert.GmlpKernelIdeal.τ) (Cert.GmlpKernelIdeal.main (F := Ideal))) ⟨m, fun _ => 0, g⟩ (fun r => (∀ c : Dev Cert.GmlpKernelIdeal.nD,
      r.2.mem ((c.tc : Thread Cert.GmlpKernelIdeal.nD Cert.GmlpKernelIdeal.τ).loc Cert.GmlpKernelIdeal.main_arg0) = m ((c.tc : Thread Cert.GmlpKernelIdeal.nD Cert.GmlpKernelIdeal.τ).loc Cert.GmlpKernelIdeal.main_arg0)
      ∧ r.2.mem ((c.tc : Thread Cert.GmlpKernelIdeal.nD Cert.GmlpKernelIdeal.τ).loc Cert.GmlpKernelIdeal.main_arg1) = m ((c.tc : Thread Cert.GmlpKernelIdeal.nD Cert.GmlpKernelIdeal.τ).loc Cert.GmlpKernelIdeal.main_arg1)
      ∧ r.2.mem ((c.tc : Thread Cert.GmlpKernelIdeal.nD Cert.GmlpKernelIdeal.τ).loc Cert.GmlpKernelIdeal.main_arg2) = m ((c.tc : Thread Cert.GmlpKernelIdeal.nD Cert.GmlpKernelIdeal.τ).loc Cert.GmlpKernelIdeal.main_arg2)
      ∧ r.2.mem ((c.tc : Thread Cert.GmlpKernelIdeal.nD Cert.GmlpKernelIdeal.τ).loc Cert.GmlpKernelIdeal.main_arg3) = m ((c.tc : Thread Cert.GmlpKernelIdeal.nD Cert.GmlpKernelIdeal.τ).loc Cert.GmlpKernelIdeal.main_arg3)
      ∧ r.2.mem ((c.tc : Thread Cert.GmlpKernelIdeal.nD Cert.GmlpKernelIdeal.τ).loc Cert.GmlpKernelIdeal.main_arg4) = m ((c.tc : Thread Cert.GmlpKernelIdeal.nD Cert.GmlpKernelIdeal.τ).loc Cert.GmlpKernelIdeal.main_arg4)
      ∧ r.2.mem ((c.tc : Thread Cert.GmlpKernelIdeal.nD Cert.GmlpKernelIdeal.τ).loc Cert.GmlpKernelIdeal.main_arg5) = m ((c.tc : Thread Cert.GmlpKernelIdeal.nD Cert.GmlpKernelIdeal.τ).loc Cert.GmlpKernelIdeal.main_arg5))
      ∧ r.2.sem = fun _ => 0)

def quiescent_GmlpKernelIdeal_pre_finite [hGmlpKernelIdeal : Cert.GmlpKernelIdeal.Facts] [hPre_finite : Cert.Pre_finite.Facts] : Prop :=
  ∀ (m : (ℓ : Loc Cert.GmlpKernelIdeal.nD Cert.GmlpKernelIdeal.τ Cert.GmlpKernelIdeal.sig) → Buf (Elt Ideal) ℓ) (g : Dev Cert.GmlpKernelIdeal.nD → PrngReg), Pre_GmlpKernelIdeal_finite m →
    θ_run (Cert.GmlpKernelIdeal.defs (F := Ideal)) (onTc (τ := Cert.GmlpKernelIdeal.τ) (Cert.GmlpKernelIdeal.main (F := Ideal))) ⟨m, fun _ => 0, g⟩ (fun r => (∀ c : Dev Cert.GmlpKernelIdeal.nD,
      r.2.mem ((c.tc : Thread Cert.GmlpKernelIdeal.nD Cert.GmlpKernelIdeal.τ).loc Cert.GmlpKernelIdeal.main_arg0) = m ((c.tc : Thread Cert.GmlpKernelIdeal.nD Cert.GmlpKernelIdeal.τ).loc Cert.GmlpKernelIdeal.main_arg0)
      ∧ r.2.mem ((c.tc : Thread Cert.GmlpKernelIdeal.nD Cert.GmlpKernelIdeal.τ).loc Cert.GmlpKernelIdeal.main_arg1) = m ((c.tc : Thread Cert.GmlpKernelIdeal.nD Cert.GmlpKernelIdeal.τ).loc Cert.GmlpKernelIdeal.main_arg1)
      ∧ r.2.mem ((c.tc : Thread Cert.GmlpKernelIdeal.nD Cert.GmlpKernelIdeal.τ).loc Cert.GmlpKernelIdeal.main_arg2) = m ((c.tc : Thread Cert.GmlpKernelIdeal.nD Cert.GmlpKernelIdeal.τ).loc Cert.GmlpKernelIdeal.main_arg2)
      ∧ r.2.mem ((c.tc : Thread Cert.GmlpKernelIdeal.nD Cert.GmlpKernelIdeal.τ).loc Cert.GmlpKernelIdeal.main_arg3) = m ((c.tc : Thread Cert.GmlpKernelIdeal.nD Cert.GmlpKernelIdeal.τ).loc Cert.GmlpKernelIdeal.main_arg3)
      ∧ r.2.mem ((c.tc : Thread Cert.GmlpKernelIdeal.nD Cert.GmlpKernelIdeal.τ).loc Cert.GmlpKernelIdeal.main_arg4) = m ((c.tc : Thread Cert.GmlpKernelIdeal.nD Cert.GmlpKernelIdeal.τ).loc Cert.GmlpKernelIdeal.main_arg4)
      ∧ r.2.mem ((c.tc : Thread Cert.GmlpKernelIdeal.nD Cert.GmlpKernelIdeal.τ).loc Cert.GmlpKernelIdeal.main_arg5) = m ((c.tc : Thread Cert.GmlpKernelIdeal.nD Cert.GmlpKernelIdeal.τ).loc Cert.GmlpKernelIdeal.main_arg5))
      ∧ r.2.sem = fun _ => 0)

def quiescent_GmlpReferenceIdeal [hGmlpReferenceIdeal : Cert.GmlpReferenceIdeal.Facts] : Prop :=
  ∀ (m : (ℓ : Loc Cert.GmlpReferenceIdeal.nD Cert.GmlpReferenceIdeal.τ Cert.GmlpReferenceIdeal.sig) → Buf (Elt Ideal) ℓ) (g : Dev Cert.GmlpReferenceIdeal.nD → PrngReg), Pre_GmlpReferenceIdeal m →
    θ_run (Cert.GmlpReferenceIdeal.defs (F := Ideal)) (onTc (τ := Cert.GmlpReferenceIdeal.τ) (Cert.GmlpReferenceIdeal.main (F := Ideal))) ⟨m, fun _ => 0, g⟩ (fun r => (∀ c : Dev Cert.GmlpReferenceIdeal.nD,
      r.2.mem ((c.tc : Thread Cert.GmlpReferenceIdeal.nD Cert.GmlpReferenceIdeal.τ).loc Cert.GmlpReferenceIdeal.main_arg0) = m ((c.tc : Thread Cert.GmlpReferenceIdeal.nD Cert.GmlpReferenceIdeal.τ).loc Cert.GmlpReferenceIdeal.main_arg0)
      ∧ r.2.mem ((c.tc : Thread Cert.GmlpReferenceIdeal.nD Cert.GmlpReferenceIdeal.τ).loc Cert.GmlpReferenceIdeal.main_arg1) = m ((c.tc : Thread Cert.GmlpReferenceIdeal.nD Cert.GmlpReferenceIdeal.τ).loc Cert.GmlpReferenceIdeal.main_arg1)
      ∧ r.2.mem ((c.tc : Thread Cert.GmlpReferenceIdeal.nD Cert.GmlpReferenceIdeal.τ).loc Cert.GmlpReferenceIdeal.main_arg2) = m ((c.tc : Thread Cert.GmlpReferenceIdeal.nD Cert.GmlpReferenceIdeal.τ).loc Cert.GmlpReferenceIdeal.main_arg2)
      ∧ r.2.mem ((c.tc : Thread Cert.GmlpReferenceIdeal.nD Cert.GmlpReferenceIdeal.τ).loc Cert.GmlpReferenceIdeal.main_arg3) = m ((c.tc : Thread Cert.GmlpReferenceIdeal.nD Cert.GmlpReferenceIdeal.τ).loc Cert.GmlpReferenceIdeal.main_arg3)
      ∧ r.2.mem ((c.tc : Thread Cert.GmlpReferenceIdeal.nD Cert.GmlpReferenceIdeal.τ).loc Cert.GmlpReferenceIdeal.main_arg4) = m ((c.tc : Thread Cert.GmlpReferenceIdeal.nD Cert.GmlpReferenceIdeal.τ).loc Cert.GmlpReferenceIdeal.main_arg4)
      ∧ r.2.mem ((c.tc : Thread Cert.GmlpReferenceIdeal.nD Cert.GmlpReferenceIdeal.τ).loc Cert.GmlpReferenceIdeal.main_arg5) = m ((c.tc : Thread Cert.GmlpReferenceIdeal.nD Cert.GmlpReferenceIdeal.τ).loc Cert.GmlpReferenceIdeal.main_arg5))
      ∧ r.2.sem = fun _ => 0)

def quiescent_GmlpReferenceIdeal_pre_finite [hGmlpReferenceIdeal : Cert.GmlpReferenceIdeal.Facts] [hPre_finite : Cert.Pre_finite.Facts] : Prop :=
  ∀ (m : (ℓ : Loc Cert.GmlpReferenceIdeal.nD Cert.GmlpReferenceIdeal.τ Cert.GmlpReferenceIdeal.sig) → Buf (Elt Ideal) ℓ) (g : Dev Cert.GmlpReferenceIdeal.nD → PrngReg), Pre_GmlpReferenceIdeal_finite m →
    θ_run (Cert.GmlpReferenceIdeal.defs (F := Ideal)) (onTc (τ := Cert.GmlpReferenceIdeal.τ) (Cert.GmlpReferenceIdeal.main (F := Ideal))) ⟨m, fun _ => 0, g⟩ (fun r => (∀ c : Dev Cert.GmlpReferenceIdeal.nD,
      r.2.mem ((c.tc : Thread Cert.GmlpReferenceIdeal.nD Cert.GmlpReferenceIdeal.τ).loc Cert.GmlpReferenceIdeal.main_arg0) = m ((c.tc : Thread Cert.GmlpReferenceIdeal.nD Cert.GmlpReferenceIdeal.τ).loc Cert.GmlpReferenceIdeal.main_arg0)
      ∧ r.2.mem ((c.tc : Thread Cert.GmlpReferenceIdeal.nD Cert.GmlpReferenceIdeal.τ).loc Cert.GmlpReferenceIdeal.main_arg1) = m ((c.tc : Thread Cert.GmlpReferenceIdeal.nD Cert.GmlpReferenceIdeal.τ).loc Cert.GmlpReferenceIdeal.main_arg1)
      ∧ r.2.mem ((c.tc : Thread Cert.GmlpReferenceIdeal.nD Cert.GmlpReferenceIdeal.τ).loc Cert.GmlpReferenceIdeal.main_arg2) = m ((c.tc : Thread Cert.GmlpReferenceIdeal.nD Cert.GmlpReferenceIdeal.τ).loc Cert.GmlpReferenceIdeal.main_arg2)
      ∧ r.2.mem ((c.tc : Thread Cert.GmlpReferenceIdeal.nD Cert.GmlpReferenceIdeal.τ).loc Cert.GmlpReferenceIdeal.main_arg3) = m ((c.tc : Thread Cert.GmlpReferenceIdeal.nD Cert.GmlpReferenceIdeal.τ).loc Cert.GmlpReferenceIdeal.main_arg3)
      ∧ r.2.mem ((c.tc : Thread Cert.GmlpReferenceIdeal.nD Cert.GmlpReferenceIdeal.τ).loc Cert.GmlpReferenceIdeal.main_arg4) = m ((c.tc : Thread Cert.GmlpReferenceIdeal.nD Cert.GmlpReferenceIdeal.τ).loc Cert.GmlpReferenceIdeal.main_arg4)
      ∧ r.2.mem ((c.tc : Thread Cert.GmlpReferenceIdeal.nD Cert.GmlpReferenceIdeal.τ).loc Cert.GmlpReferenceIdeal.main_arg5) = m ((c.tc : Thread Cert.GmlpReferenceIdeal.nD Cert.GmlpReferenceIdeal.τ).loc Cert.GmlpReferenceIdeal.main_arg5))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_WinKernel [hWinKernel : Cert.WinKernel.Facts] : Prop :=
  ∀ (m : (ℓ : Loc Cert.WinKernel.nD Cert.WinKernel.τ Cert.WinKernel.sig) → Buf (Elt Bits) ℓ) (g : Dev Cert.WinKernel.nD → PrngReg), Pre_WinKernel m →
    θ_run (Cert.WinKernel.defs (F := Bits)) (onTc (τ := Cert.WinKernel.τ) (Cert.WinKernel.main (F := Bits))) ⟨m, fun _ => 0, g⟩ (fun r => (∀ c : Dev Cert.WinKernel.nD,
      r.2.mem ((c.tc : Thread Cert.WinKernel.nD Cert.WinKernel.τ).loc Cert.WinKernel.main_arg0) = m ((c.tc : Thread Cert.WinKernel.nD Cert.WinKernel.τ).loc Cert.WinKernel.main_arg0)
      ∧ r.2.mem ((c.tc : Thread Cert.WinKernel.nD Cert.WinKernel.τ).loc Cert.WinKernel.main_arg1) = m ((c.tc : Thread Cert.WinKernel.nD Cert.WinKernel.τ).loc Cert.WinKernel.main_arg1)
      ∧ r.2.mem ((c.tc : Thread Cert.WinKernel.nD Cert.WinKernel.τ).loc Cert.WinKernel.main_arg2) = m ((c.tc : Thread Cert.WinKernel.nD Cert.WinKernel.τ).loc Cert.WinKernel.main_arg2))
      ∧ r.2.sem = fun _ => 0)

def quiescent_WinKernelIdeal [hWinKernelIdeal : Cert.WinKernelIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg), Pre_WinKernelIdeal m →
    θ_run (Cert.WinKernelIdeal.defs (F := Ideal)) (onTc (τ := Cert.WinKernelIdeal.τ) (Cert.WinKernelIdeal.main (F := Ideal))) ⟨m, fun _ => 0, g⟩ (fun r => (∀ c : Dev Cert.WinKernelIdeal.nD,
      r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
      ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
      ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2))
      ∧ r.2.sem = fun _ => 0)

def quiescent_WinReferenceIdeal [hWinReferenceIdeal : Cert.WinReferenceIdeal.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1)
      ∧ r.2.mem ((c.tc : Thread Cert.WinReferenceIdeal.nD Cert.WinReferenceIdeal.τ).loc Cert.WinReferenceIdeal.main_arg2) = m ((c.tc : Thread Cert.WinReferenceIdeal.nD Cert.WinReferenceIdeal.τ).loc Cert.WinReferenceIdeal.main_arg2))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3)
      ∧ r.2.mem ((c.tc : Thread Cert.NormKernel.nD Cert.NormKernel.τ).loc Cert.NormKernel.main_arg4) = m ((c.tc : Thread Cert.NormKernel.nD Cert.NormKernel.τ).loc Cert.NormKernel.main_arg4)
      ∧ r.2.mem ((c.tc : Thread Cert.NormKernel.nD Cert.NormKernel.τ).loc Cert.NormKernel.main_arg5) = m ((c.tc : Thread Cert.NormKernel.nD Cert.NormKernel.τ).loc Cert.NormKernel.main_arg5))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
      ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5))
      ∧ r.2.sem = fun _ => 0)

def quiescent_NormKernelIdeal_pre_norm_finite [hNormKernelIdeal : Cert.NormKernelIdeal.Facts] [hPre_norm_finite : Cert.Pre_norm_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal_norm_finite m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
      ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5))
      ∧ r.2.sem = fun _ => 0)

def quiescent_NormReferenceIdeal_pre_norm_finite [hNormReferenceIdeal : Cert.NormReferenceIdeal.Facts] [hPre_norm_finite : Cert.Pre_norm_finite.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_norm_finite m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2)
      ∧ r.2.mem ((c.tc : Thread Cert.FwdKernel.nD Cert.FwdKernel.τ).loc Cert.FwdKernel.main_arg3) = m ((c.tc : Thread Cert.FwdKernel.nD Cert.FwdKernel.τ).loc Cert.FwdKernel.main_arg3)
      ∧ r.2.mem ((c.tc : Thread Cert.FwdKernel.nD Cert.FwdKernel.τ).loc Cert.FwdKernel.main_arg4) = m ((c.tc : Thread Cert.FwdKernel.nD Cert.FwdKernel.τ).loc Cert.FwdKernel.main_arg4)
      ∧ r.2.mem ((c.tc : Thread Cert.FwdKernel.nD Cert.FwdKernel.τ).loc Cert.FwdKernel.main_arg5) = m ((c.tc : Thread Cert.FwdKernel.nD Cert.FwdKernel.τ).loc Cert.FwdKernel.main_arg5))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
      ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
      ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4)
      ∧ r.2.mem ((c.tc : Thread Cert.FwdReferenceIdeal.nD Cert.FwdReferenceIdeal.τ).loc Cert.FwdReferenceIdeal.main_arg5) = m ((c.tc : Thread Cert.FwdReferenceIdeal.nD Cert.FwdReferenceIdeal.τ).loc Cert.FwdReferenceIdeal.main_arg5))
      ∧ r.2.sem = fun _ => 0)

def preserves_GmlpKernel_GmlpKernelIdeal : Prop :=
  IdealRules.named_const.Statement Cert.GmlpKernelIdeal.κ "sqrt_half" .f32 0x3F3504F3#32 (((Real.sqrt 2)⁻¹ : ℝ) : EReal)
  ∧ IdealRules.named_const.Statement Cert.GmlpKernelIdeal.κ "inv_sqrt_two_pi" .f32 0x3ECC422A#32 (((Real.sqrt (2 * Real.pi))⁻¹ : ℝ) : EReal)

def algebraic_GmlpKernelIdeal_GmlpReferenceIdeal_pre_finite [hGmlpKernelIdeal : Cert.GmlpKernelIdeal.Facts] [hGmlpReferenceIdeal : Cert.GmlpReferenceIdeal.Facts] [hPre_finite : Cert.Pre_finite.Facts] : Prop :=
  ∀ (m : (ℓ : Loc Cert.GmlpKernelIdeal.nD Cert.GmlpKernelIdeal.τ Cert.GmlpKernelIdeal.sig) → Buf (Elt Ideal) ℓ) (g : Dev Cert.GmlpKernelIdeal.nD → PrngReg)
    (m' : (ℓ : Loc Cert.GmlpReferenceIdeal.nD Cert.GmlpReferenceIdeal.τ Cert.GmlpReferenceIdeal.sig) → Buf (Elt Ideal) ℓ) (g' : Dev Cert.GmlpReferenceIdeal.nD → PrngReg), Pre_GmlpKernelIdeal_finite m →
    (∀ c : Dev Cert.GmlpKernelIdeal.nD,
      m' ((c.tc : Thread Cert.GmlpReferenceIdeal.nD Cert.GmlpReferenceIdeal.τ).loc Cert.GmlpReferenceIdeal.main_arg0) = m ((c.tc : Thread Cert.GmlpKernelIdeal.nD Cert.GmlpKernelIdeal.τ).loc Cert.GmlpKernelIdeal.main_arg0)
      ∧ m' ((c.tc : Thread Cert.GmlpReferenceIdeal.nD Cert.GmlpReferenceIdeal.τ).loc Cert.GmlpReferenceIdeal.main_arg1) = m ((c.tc : Thread Cert.GmlpKernelIdeal.nD Cert.GmlpKernelIdeal.τ).loc Cert.GmlpKernelIdeal.main_arg1)
      ∧ m' ((c.tc : Thread Cert.GmlpReferenceIdeal.nD Cert.GmlpReferenceIdeal.τ).loc Cert.GmlpReferenceIdeal.main_arg2) = m ((c.tc : Thread Cert.GmlpKernelIdeal.nD Cert.GmlpKernelIdeal.τ).loc Cert.GmlpKernelIdeal.main_arg2)
      ∧ m' ((c.tc : Thread Cert.GmlpReferenceIdeal.nD Cert.GmlpReferenceIdeal.τ).loc Cert.GmlpReferenceIdeal.main_arg3) = m ((c.tc : Thread Cert.GmlpKernelIdeal.nD Cert.GmlpKernelIdeal.τ).loc Cert.GmlpKernelIdeal.main_arg3)
      ∧ m' ((c.tc : Thread Cert.GmlpReferenceIdeal.nD Cert.GmlpReferenceIdeal.τ).loc Cert.GmlpReferenceIdeal.main_arg4) = m ((c.tc : Thread Cert.GmlpKernelIdeal.nD Cert.GmlpKernelIdeal.τ).loc Cert.GmlpKernelIdeal.main_arg4)
      ∧ m' ((c.tc : Thread Cert.GmlpReferenceIdeal.nD Cert.GmlpReferenceIdeal.τ).loc Cert.GmlpReferenceIdeal.main_arg5) = m ((c.tc : Thread Cert.GmlpKernelIdeal.nD Cert.GmlpKernelIdeal.τ).loc Cert.GmlpKernelIdeal.main_arg5)) →
    ∃ (v0 : (c : Dev Cert.GmlpKernelIdeal.nD) → Buf (Elt Ideal) ((c.tc : Thread Cert.GmlpKernelIdeal.nD Cert.GmlpKernelIdeal.τ).loc Cert.GmlpKernelIdeal.main_v1_0)) (v1 : (c : Dev Cert.GmlpKernelIdeal.nD) → Buf (Elt Ideal) ((c.tc : Thread Cert.GmlpKernelIdeal.nD Cert.GmlpKernelIdeal.τ).loc Cert.GmlpKernelIdeal.main_v1_1)) (v2 : (c : Dev Cert.GmlpKernelIdeal.nD) → Buf (Elt Ideal) ((c.tc : Thread Cert.GmlpKernelIdeal.nD Cert.GmlpKernelIdeal.τ).loc Cert.GmlpKernelIdeal.main_v1_2)) (v3 : (c : Dev Cert.GmlpKernelIdeal.nD) → Buf (Elt Ideal) ((c.tc : Thread Cert.GmlpKernelIdeal.nD Cert.GmlpKernelIdeal.τ).loc Cert.GmlpKernelIdeal.main_v1_3)) (v4 : (c : Dev Cert.GmlpKernelIdeal.nD) → Buf (Elt Ideal) ((c.tc : Thread Cert.GmlpKernelIdeal.nD Cert.GmlpKernelIdeal.τ).loc Cert.GmlpKernelIdeal.main_v1_4)),
      θ_run (Cert.GmlpKernelIdeal.defs (F := Ideal)) (onTc (τ := Cert.GmlpKernelIdeal.τ) (Cert.GmlpKernelIdeal.main (F := Ideal))) ⟨m, fun _ => 0, g⟩ (fun r => ∀ c : Dev Cert.GmlpKernelIdeal.nD,
          r.2.mem ((c.tc : Thread Cert.GmlpKernelIdeal.nD Cert.GmlpKernelIdeal.τ).loc Cert.GmlpKernelIdeal.main_v1_0) = v0 c
          ∧ r.2.mem ((c.tc : Thread Cert.GmlpKernelIdeal.nD Cert.GmlpKernelIdeal.τ).loc Cert.GmlpKernelIdeal.main_v1_1) = v1 c
          ∧ r.2.mem ((c.tc : Thread Cert.GmlpKernelIdeal.nD Cert.GmlpKernelIdeal.τ).loc Cert.GmlpKernelIdeal.main_v1_2) = v2 c
          ∧ r.2.mem ((c.tc : Thread Cert.GmlpKernelIdeal.nD Cert.GmlpKernelIdeal.τ).loc Cert.GmlpKernelIdeal.main_v1_3) = v3 c
          ∧ r.2.mem ((c.tc : Thread Cert.GmlpKernelIdeal.nD Cert.GmlpKernelIdeal.τ).loc Cert.GmlpKernelIdeal.main_v1_4) = v4 c
          ∧ r.2.mem ((c.tc : Thread Cert.GmlpKernelIdeal.nD Cert.GmlpKernelIdeal.τ).loc Cert.GmlpKernelIdeal.main_arg0) = m ((c.tc : Thread Cert.GmlpKernelIdeal.nD Cert.GmlpKernelIdeal.τ).loc Cert.GmlpKernelIdeal.main_arg0)
          ∧ r.2.mem ((c.tc : Thread Cert.GmlpKernelIdeal.nD Cert.GmlpKernelIdeal.τ).loc Cert.GmlpKernelIdeal.main_arg1) = m ((c.tc : Thread Cert.GmlpKernelIdeal.nD Cert.GmlpKernelIdeal.τ).loc Cert.GmlpKernelIdeal.main_arg1)
          ∧ r.2.mem ((c.tc : Thread Cert.GmlpKernelIdeal.nD Cert.GmlpKernelIdeal.τ).loc Cert.GmlpKernelIdeal.main_arg2) = m ((c.tc : Thread Cert.GmlpKernelIdeal.nD Cert.GmlpKernelIdeal.τ).loc Cert.GmlpKernelIdeal.main_arg2)
          ∧ r.2.mem ((c.tc : Thread Cert.GmlpKernelIdeal.nD Cert.GmlpKernelIdeal.τ).loc Cert.GmlpKernelIdeal.main_arg3) = m ((c.tc : Thread Cert.GmlpKernelIdeal.nD Cert.GmlpKernelIdeal.τ).loc Cert.GmlpKernelIdeal.main_arg3)
          ∧ r.2.mem ((c.tc : Thread Cert.GmlpKernelIdeal.nD Cert.GmlpKernelIdeal.τ).loc Cert.GmlpKernelIdeal.main_arg4) = m ((c.tc : Thread Cert.GmlpKernelIdeal.nD Cert.GmlpKernelIdeal.τ).loc Cert.GmlpKernelIdeal.main_arg4)
          ∧ r.2.mem ((c.tc : Thread Cert.GmlpKernelIdeal.nD Cert.GmlpKernelIdeal.τ).loc Cert.GmlpKernelIdeal.main_arg5) = m ((c.tc : Thread Cert.GmlpKernelIdeal.nD Cert.GmlpKernelIdeal.τ).loc Cert.GmlpKernelIdeal.main_arg5))
      ∧ θ_run (Cert.GmlpReferenceIdeal.defs (F := Ideal)) (onTc (τ := Cert.GmlpReferenceIdeal.τ) (Cert.GmlpReferenceIdeal.main (F := Ideal))) ⟨m', fun _ => 0, g'⟩ (fun r => ∀ c : Dev Cert.GmlpReferenceIdeal.nD,
          r.2.mem ((c.tc : Thread Cert.GmlpReferenceIdeal.nD Cert.GmlpReferenceIdeal.τ).loc Cert.GmlpReferenceIdeal.main_v117) = v0 c
          ∧ r.2.mem ((c.tc : Thread Cert.GmlpReferenceIdeal.nD Cert.GmlpReferenceIdeal.τ).loc Cert.GmlpReferenceIdeal.main_v72) = v1 c
          ∧ r.2.mem ((c.tc : Thread Cert.GmlpReferenceIdeal.nD Cert.GmlpReferenceIdeal.τ).loc Cert.GmlpReferenceIdeal.main_v118) = v2 c
          ∧ r.2.mem ((c.tc : Thread Cert.GmlpReferenceIdeal.nD Cert.GmlpReferenceIdeal.τ).loc Cert.GmlpReferenceIdeal.main_v78) = v3 c
          ∧ r.2.mem ((c.tc : Thread Cert.GmlpReferenceIdeal.nD Cert.GmlpReferenceIdeal.τ).loc Cert.GmlpReferenceIdeal.main_v75) = v4 c
          ∧ r.2.mem ((c.tc : Thread Cert.GmlpReferenceIdeal.nD Cert.GmlpReferenceIdeal.τ).loc Cert.GmlpReferenceIdeal.main_arg0) = m' ((c.tc : Thread Cert.GmlpReferenceIdeal.nD Cert.GmlpReferenceIdeal.τ).loc Cert.GmlpReferenceIdeal.main_arg0)
          ∧ r.2.mem ((c.tc : Thread Cert.GmlpReferenceIdeal.nD Cert.GmlpReferenceIdeal.τ).loc Cert.GmlpReferenceIdeal.main_arg1) = m' ((c.tc : Thread Cert.GmlpReferenceIdeal.nD Cert.GmlpReferenceIdeal.τ).loc Cert.GmlpReferenceIdeal.main_arg1)
          ∧ r.2.mem ((c.tc : Thread Cert.GmlpReferenceIdeal.nD Cert.GmlpReferenceIdeal.τ).loc Cert.GmlpReferenceIdeal.main_arg2) = m' ((c.tc : Thread Cert.GmlpReferenceIdeal.nD Cert.GmlpReferenceIdeal.τ).loc Cert.GmlpReferenceIdeal.main_arg2)
          ∧ r.2.mem ((c.tc : Thread Cert.GmlpReferenceIdeal.nD Cert.GmlpReferenceIdeal.τ).loc Cert.GmlpReferenceIdeal.main_arg3) = m' ((c.tc : Thread Cert.GmlpReferenceIdeal.nD Cert.GmlpReferenceIdeal.τ).loc Cert.GmlpReferenceIdeal.main_arg3)
          ∧ r.2.mem ((c.tc : Thread Cert.GmlpReferenceIdeal.nD Cert.GmlpReferenceIdeal.τ).loc Cert.GmlpReferenceIdeal.main_arg4) = m' ((c.tc : Thread Cert.GmlpReferenceIdeal.nD Cert.GmlpReferenceIdeal.τ).loc Cert.GmlpReferenceIdeal.main_arg4)
          ∧ r.2.mem ((c.tc : Thread Cert.GmlpReferenceIdeal.nD Cert.GmlpReferenceIdeal.τ).loc Cert.GmlpReferenceIdeal.main_arg5) = m' ((c.tc : Thread Cert.GmlpReferenceIdeal.nD Cert.GmlpReferenceIdeal.τ).loc Cert.GmlpReferenceIdeal.main_arg5))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v17_0)) (v1 : (c : Dev Cert.FfnKernelIdeal.nD) → Buf (Elt Ideal) ((c.tc : Thread Cert.FfnKernelIdeal.nD Cert.FfnKernelIdeal.τ).loc Cert.FfnKernelIdeal.main_v17_1)) (v2 : (c : Dev Cert.FfnKernelIdeal.nD) → Buf (Elt Ideal) ((c.tc : Thread Cert.FfnKernelIdeal.nD Cert.FfnKernelIdeal.τ).loc Cert.FfnKernelIdeal.main_v17_2)) (v3 : (c : Dev Cert.FfnKernelIdeal.nD) → Buf (Elt Ideal) ((c.tc : Thread Cert.FfnKernelIdeal.nD Cert.FfnKernelIdeal.τ).loc Cert.FfnKernelIdeal.main_v17_3)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v17_0) = v0 c
          ∧ r.2.mem ((c.tc : Thread Cert.FfnKernelIdeal.nD Cert.FfnKernelIdeal.τ).loc Cert.FfnKernelIdeal.main_v17_1) = v1 c
          ∧ r.2.mem ((c.tc : Thread Cert.FfnKernelIdeal.nD Cert.FfnKernelIdeal.τ).loc Cert.FfnKernelIdeal.main_v17_2) = v2 c
          ∧ r.2.mem ((c.tc : Thread Cert.FfnKernelIdeal.nD Cert.FfnKernelIdeal.τ).loc Cert.FfnKernelIdeal.main_v17_3) = v3 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v32) = v0 c
          ∧ r.2.mem ((c.tc : Thread Cert.FfnReferenceIdeal.nD Cert.FfnReferenceIdeal.τ).loc Cert.FfnReferenceIdeal.main_v35) = v1 c
          ∧ r.2.mem ((c.tc : Thread Cert.FfnReferenceIdeal.nD Cert.FfnReferenceIdeal.τ).loc Cert.FfnReferenceIdeal.main_v37) = v2 c
          ∧ r.2.mem ((c.tc : Thread Cert.FfnReferenceIdeal.nD Cert.FfnReferenceIdeal.τ).loc Cert.FfnReferenceIdeal.main_v29) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_WinKernel_WinKernelIdeal : Prop :=
  True

def algebraic_WinKernelIdeal_WinReferenceIdeal [hWinKernelIdeal : Cert.WinKernelIdeal.Facts] [hWinReferenceIdeal : Cert.WinReferenceIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg)
    (m' : (ℓ : Loc Cert.WinReferenceIdeal.nD Cert.WinReferenceIdeal.τ Cert.WinReferenceIdeal.sig) → Buf (Elt Ideal) ℓ) (g' : Dev Cert.WinReferenceIdeal.nD → PrngReg), Pre_WinKernelIdeal m →
    (∀ c : Dev Cert.WinKernelIdeal.nD,
      m' ((c.tc : Thread Cert.WinReferenceIdeal.nD Cert.WinReferenceIdeal.τ).loc Cert.WinReferenceIdeal.main_arg0) = m ((c.tc : Thread Cert.WinKernelIdeal.nD Cert.WinKernelIdeal.τ).loc Cert.WinKernelIdeal.main_arg0)
      ∧ m' ((c.tc : Thread Cert.WinReferenceIdeal.nD Cert.WinReferenceIdeal.τ).loc Cert.WinReferenceIdeal.main_arg1) = m ((c.tc : Thread Cert.WinKernelIdeal.nD Cert.WinKernelIdeal.τ).loc Cert.WinKernelIdeal.main_arg1)
      ∧ m' ((c.tc : Thread Cert.WinReferenceIdeal.nD Cert.WinReferenceIdeal.τ).loc Cert.WinReferenceIdeal.main_arg2) = m ((c.tc : Thread Cert.WinKernelIdeal.nD Cert.WinKernelIdeal.τ).loc Cert.WinKernelIdeal.main_arg2)) →
    ∃ (v0 : (c : Dev Cert.WinKernelIdeal.nD) → Buf (Elt Ideal) ((c.tc : Thread Cert.WinKernelIdeal.nD Cert.WinKernelIdeal.τ).loc Cert.WinKernelIdeal.main_v3)),
      θ_run (Cert.WinKernelIdeal.defs (F := Ideal)) (onTc (τ := Cert.WinKernelIdeal.τ) (Cert.WinKernelIdeal.main (F := Ideal))) ⟨m, fun _ => 0, g⟩ (fun r => ∀ c : Dev Cert.WinKernelIdeal.nD,
          r.2.mem ((c.tc : Thread Cert.WinKernelIdeal.nD Cert.WinKernelIdeal.τ).loc Cert.WinKernelIdeal.main_v3) = v0 c
          ∧ r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
          ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
          ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2))
      ∧ θ_run (Cert.WinReferenceIdeal.defs (F := Ideal)) (onTc (τ := Cert.WinReferenceIdeal.τ) (Cert.WinReferenceIdeal.main (F := Ideal))) ⟨m', fun _ => 0, g'⟩ (fun r => ∀ c : Dev Cert.WinReferenceIdeal.nD,
          r.2.mem ((c.tc : Thread Cert.WinReferenceIdeal.nD Cert.WinReferenceIdeal.τ).loc Cert.WinReferenceIdeal.main_v5) = v0 c
          ∧ r.2.mem ((c.tc : Thread Cert.WinReferenceIdeal.nD Cert.WinReferenceIdeal.τ).loc Cert.WinReferenceIdeal.main_arg0) = m' ((c.tc : Thread Cert.WinReferenceIdeal.nD Cert.WinReferenceIdeal.τ).loc Cert.WinReferenceIdeal.main_arg0)
          ∧ r.2.mem ((c.tc : Thread Cert.WinReferenceIdeal.nD Cert.WinReferenceIdeal.τ).loc Cert.WinReferenceIdeal.main_arg1) = m' ((c.tc : Thread Cert.WinReferenceIdeal.nD Cert.WinReferenceIdeal.τ).loc Cert.WinReferenceIdeal.main_arg1)
          ∧ r.2.mem ((c.tc : Thread Cert.WinReferenceIdeal.nD Cert.WinReferenceIdeal.τ).loc Cert.WinReferenceIdeal.main_arg2) = m' ((c.tc : Thread Cert.WinReferenceIdeal.nD Cert.WinReferenceIdeal.τ).loc Cert.WinReferenceIdeal.main_arg2))

def preserves_NormKernel_NormKernelIdeal : Prop :=
  True

def algebraic_NormKernelIdeal_NormReferenceIdeal_pre_norm_finite [hNormKernelIdeal : Cert.NormKernelIdeal.Facts] [hNormReferenceIdeal : Cert.NormReferenceIdeal.Facts] [hPre_norm_finite : Cert.Pre_norm_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal_norm_finite m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)
      ∧ m' ((c.tc : Thread Cert.NormReferenceIdeal.nD Cert.NormReferenceIdeal.τ).loc Cert.NormReferenceIdeal.main_arg4) = m ((c.tc : Thread Cert.NormKernelIdeal.nD Cert.NormKernelIdeal.τ).loc Cert.NormKernelIdeal.main_arg4)
      ∧ m' ((c.tc : Thread Cert.NormReferenceIdeal.nD Cert.NormReferenceIdeal.τ).loc Cert.NormReferenceIdeal.main_arg5) = m ((c.tc : Thread Cert.NormKernelIdeal.nD Cert.NormKernelIdeal.τ).loc Cert.NormKernelIdeal.main_arg5)) →
    ∃ (v0 : (c : Dev Cert.NormKernelIdeal.nD) → Buf (Elt Ideal) ((c.tc : Thread Cert.NormKernelIdeal.nD Cert.NormKernelIdeal.τ).loc Cert.NormKernelIdeal.main_v20_0)) (v1 : (c : Dev Cert.NormKernelIdeal.nD) → Buf (Elt Ideal) ((c.tc : Thread Cert.NormKernelIdeal.nD Cert.NormKernelIdeal.τ).loc Cert.NormKernelIdeal.main_v20_1)) (v2 : (c : Dev Cert.NormKernelIdeal.nD) → Buf (Elt Ideal) ((c.tc : Thread Cert.NormKernelIdeal.nD Cert.NormKernelIdeal.τ).loc Cert.NormKernelIdeal.main_v20_2)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v20_0) = v0 c
          ∧ r.2.mem ((c.tc : Thread Cert.NormKernelIdeal.nD Cert.NormKernelIdeal.τ).loc Cert.NormKernelIdeal.main_v20_1) = v1 c
          ∧ r.2.mem ((c.tc : Thread Cert.NormKernelIdeal.nD Cert.NormKernelIdeal.τ).loc Cert.NormKernelIdeal.main_v20_2) = v2 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
          ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
          ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v66) = v0 c
          ∧ r.2.mem ((c.tc : Thread Cert.NormReferenceIdeal.nD Cert.NormReferenceIdeal.τ).loc Cert.NormReferenceIdeal.main_v40) = v1 c
          ∧ r.2.mem ((c.tc : Thread Cert.NormReferenceIdeal.nD Cert.NormReferenceIdeal.τ).loc Cert.NormReferenceIdeal.main_v37) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4)
          ∧ r.2.mem ((c.tc : Thread Cert.NormReferenceIdeal.nD Cert.NormReferenceIdeal.τ).loc Cert.NormReferenceIdeal.main_arg5) = m' ((c.tc : Thread Cert.NormReferenceIdeal.nD Cert.NormReferenceIdeal.τ).loc Cert.NormReferenceIdeal.main_arg5))

def preserves_FwdKernel_FwdKernelIdeal : Prop :=
  True

def algebraic_FwdKernelIdeal_FwdReferenceIdeal [hFwdKernelIdeal : Cert.FwdKernelIdeal.Facts] [hFwdReferenceIdeal : Cert.FwdReferenceIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)
      ∧ m' ((c.tc : Thread Cert.FwdReferenceIdeal.nD Cert.FwdReferenceIdeal.τ).loc Cert.FwdReferenceIdeal.main_arg3) = m ((c.tc : Thread Cert.FwdKernelIdeal.nD Cert.FwdKernelIdeal.τ).loc Cert.FwdKernelIdeal.main_arg3)
      ∧ m' ((c.tc : Thread Cert.FwdReferenceIdeal.nD Cert.FwdReferenceIdeal.τ).loc Cert.FwdReferenceIdeal.main_arg4) = m ((c.tc : Thread Cert.FwdKernelIdeal.nD Cert.FwdKernelIdeal.τ).loc Cert.FwdKernelIdeal.main_arg4)
      ∧ m' ((c.tc : Thread Cert.FwdReferenceIdeal.nD Cert.FwdReferenceIdeal.τ).loc Cert.FwdReferenceIdeal.main_arg5) = m ((c.tc : Thread Cert.FwdKernelIdeal.nD Cert.FwdKernelIdeal.τ).loc Cert.FwdKernelIdeal.main_arg5)) →
    ∃ (v0 : (c : Dev Cert.FwdKernelIdeal.nD) → Buf (Elt Ideal) ((c.tc : Thread Cert.FwdKernelIdeal.nD Cert.FwdKernelIdeal.τ).loc Cert.FwdKernelIdeal.main_v8_0)) (v1 : (c : Dev Cert.FwdKernelIdeal.nD) → Buf (Elt Ideal) ((c.tc : Thread Cert.FwdKernelIdeal.nD Cert.FwdKernelIdeal.τ).loc Cert.FwdKernelIdeal.main_v8_1)) (v2 : (c : Dev Cert.FwdKernelIdeal.nD) → Buf (Elt Ideal) ((c.tc : Thread Cert.FwdKernelIdeal.nD Cert.FwdKernelIdeal.τ).loc Cert.FwdKernelIdeal.main_v8_2)) (v3 : (c : Dev Cert.FwdKernelIdeal.nD) → Buf (Elt Ideal) ((c.tc : Thread Cert.FwdKernelIdeal.nD Cert.FwdKernelIdeal.τ).loc Cert.FwdKernelIdeal.main_v8_3)) (v4 : (c : Dev Cert.FwdKernelIdeal.nD) → Buf (Elt Ideal) ((c.tc : Thread Cert.FwdKernelIdeal.nD Cert.FwdKernelIdeal.τ).loc Cert.FwdKernelIdeal.main_v8_4)) (v5 : (c : Dev Cert.FwdKernelIdeal.nD) → Buf (Elt Ideal) ((c.tc : Thread Cert.FwdKernelIdeal.nD Cert.FwdKernelIdeal.τ).loc Cert.FwdKernelIdeal.main_v8_5)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v8_0) = v0 c
          ∧ r.2.mem ((c.tc : Thread Cert.FwdKernelIdeal.nD Cert.FwdKernelIdeal.τ).loc Cert.FwdKernelIdeal.main_v8_1) = v1 c
          ∧ r.2.mem ((c.tc : Thread Cert.FwdKernelIdeal.nD Cert.FwdKernelIdeal.τ).loc Cert.FwdKernelIdeal.main_v8_2) = v2 c
          ∧ r.2.mem ((c.tc : Thread Cert.FwdKernelIdeal.nD Cert.FwdKernelIdeal.τ).loc Cert.FwdKernelIdeal.main_v8_3) = v3 c
          ∧ r.2.mem ((c.tc : Thread Cert.FwdKernelIdeal.nD Cert.FwdKernelIdeal.τ).loc Cert.FwdKernelIdeal.main_v8_4) = v4 c
          ∧ r.2.mem ((c.tc : Thread Cert.FwdKernelIdeal.nD Cert.FwdKernelIdeal.τ).loc Cert.FwdKernelIdeal.main_v8_5) = v5 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
          ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
          ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
          ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v32) = v0 c
          ∧ r.2.mem ((c.tc : Thread Cert.FwdReferenceIdeal.nD Cert.FwdReferenceIdeal.τ).loc Cert.FwdReferenceIdeal.main_v27) = v1 c
          ∧ r.2.mem ((c.tc : Thread Cert.FwdReferenceIdeal.nD Cert.FwdReferenceIdeal.τ).loc Cert.FwdReferenceIdeal.main_v23) = v2 c
          ∧ r.2.mem ((c.tc : Thread Cert.FwdReferenceIdeal.nD Cert.FwdReferenceIdeal.τ).loc Cert.FwdReferenceIdeal.main_v35) = v3 c
          ∧ r.2.mem ((c.tc : Thread Cert.FwdReferenceIdeal.nD Cert.FwdReferenceIdeal.τ).loc Cert.FwdReferenceIdeal.main_v38) = v4 c
          ∧ r.2.mem ((c.tc : Thread Cert.FwdReferenceIdeal.nD Cert.FwdReferenceIdeal.τ).loc Cert.FwdReferenceIdeal.main_v40) = v5 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4)
          ∧ r.2.mem ((c.tc : Thread Cert.FwdReferenceIdeal.nD Cert.FwdReferenceIdeal.τ).loc Cert.FwdReferenceIdeal.main_arg5) = m' ((c.tc : Thread Cert.FwdReferenceIdeal.nD Cert.FwdReferenceIdeal.τ).loc Cert.FwdReferenceIdeal.main_arg5))

def Claim : Prop :=
  ∃ (hGmlpKernel : Cert.GmlpKernel.Facts) (hGmlpKernelIdeal : Cert.GmlpKernelIdeal.Facts) (hGmlpReferenceIdeal : Cert.GmlpReferenceIdeal.Facts) (hFfnKernel : Cert.FfnKernel.Facts) (hFfnKernelIdeal : Cert.FfnKernelIdeal.Facts) (hFfnReferenceIdeal : Cert.FfnReferenceIdeal.Facts) (hWinKernel : Cert.WinKernel.Facts) (hWinKernelIdeal : Cert.WinKernelIdeal.Facts) (hWinReferenceIdeal : Cert.WinReferenceIdeal.Facts) (hNormKernel : Cert.NormKernel.Facts) (hNormKernelIdeal : Cert.NormKernelIdeal.Facts) (hNormReferenceIdeal : Cert.NormReferenceIdeal.Facts) (hFwdKernel : Cert.FwdKernel.Facts) (hFwdKernelIdeal : Cert.FwdKernelIdeal.Facts) (hFwdReferenceIdeal : Cert.FwdReferenceIdeal.Facts) (hPre_finite : Cert.Pre_finite.Facts) (hPre_ffn_finite : Cert.Pre_ffn_finite.Facts) (hPre_norm_finite : Cert.Pre_norm_finite.Facts),
    quiescent_GmlpKernel (hGmlpKernel := hGmlpKernel)
    ∧ quiescent_GmlpKernelIdeal (hGmlpKernelIdeal := hGmlpKernelIdeal)
    ∧ quiescent_GmlpKernelIdeal_pre_finite (hGmlpKernelIdeal := hGmlpKernelIdeal) (hPre_finite := hPre_finite)
    ∧ quiescent_GmlpReferenceIdeal (hGmlpReferenceIdeal := hGmlpReferenceIdeal)
    ∧ quiescent_GmlpReferenceIdeal_pre_finite (hGmlpReferenceIdeal := hGmlpReferenceIdeal) (hPre_finite := hPre_finite)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_WinKernel (hWinKernel := hWinKernel)
    ∧ quiescent_WinKernelIdeal (hWinKernelIdeal := hWinKernelIdeal)
    ∧ quiescent_WinReferenceIdeal (hWinReferenceIdeal := hWinReferenceIdeal)
    ∧ quiescent_NormKernel (hNormKernel := hNormKernel)
    ∧ quiescent_NormKernelIdeal (hNormKernelIdeal := hNormKernelIdeal)
    ∧ quiescent_NormKernelIdeal_pre_norm_finite (hNormKernelIdeal := hNormKernelIdeal) (hPre_norm_finite := hPre_norm_finite)
    ∧ quiescent_NormReferenceIdeal (hNormReferenceIdeal := hNormReferenceIdeal)
    ∧ quiescent_NormReferenceIdeal_pre_norm_finite (hNormReferenceIdeal := hNormReferenceIdeal) (hPre_norm_finite := hPre_norm_finite)
    ∧ quiescent_FwdKernel (hFwdKernel := hFwdKernel)
    ∧ quiescent_FwdKernelIdeal (hFwdKernelIdeal := hFwdKernelIdeal)
    ∧ quiescent_FwdReferenceIdeal (hFwdReferenceIdeal := hFwdReferenceIdeal)
    ∧ preserves_GmlpKernel_GmlpKernelIdeal
    ∧ algebraic_GmlpKernelIdeal_GmlpReferenceIdeal_pre_finite (hGmlpKernelIdeal := hGmlpKernelIdeal) (hGmlpReferenceIdeal := hGmlpReferenceIdeal) (hPre_finite := hPre_finite)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_WinKernel_WinKernelIdeal
    ∧ algebraic_WinKernelIdeal_WinReferenceIdeal (hWinKernelIdeal := hWinKernelIdeal) (hWinReferenceIdeal := hWinReferenceIdeal)
    ∧ preserves_NormKernel_NormKernelIdeal
    ∧ algebraic_NormKernelIdeal_NormReferenceIdeal_pre_norm_finite (hNormKernelIdeal := hNormKernelIdeal) (hNormReferenceIdeal := hNormReferenceIdeal) (hPre_norm_finite := hPre_norm_finite)
    ∧ preserves_FwdKernel_FwdKernelIdeal
    ∧ algebraic_FwdKernelIdeal_FwdReferenceIdeal (hFwdKernelIdeal := hFwdKernelIdeal) (hFwdReferenceIdeal := hFwdReferenceIdeal)
-- ==== Pre_ffn_finite.lean ====
abbrev S2048x1024 : Shape := ⟨2, ![2048, 1024]⟩
abbrev S1024x2816 : Shape := ⟨2, ![1024, 2816]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2048x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  main_v23

def fn {F : FTy → Type} [FloatOps F] (main_arg0 : FVec F S2048x1024 .f32) (main_arg1 : FVec F S1024x2816 .f32) (main_arg2 : FVec F S1024x2816 .f32) (main_arg3 : FVec F S2816x1024 .f32) (main_arg4 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_finite.lean ====
abbrev S2048x2048 : Shape := ⟨2, ![2048, 2048]⟩
abbrev S2048x1024 : Shape := ⟨2, ![2048, 1024]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg4 : FVec F S8x128x128 .f32) (main_arg5 : FVec F S8x128 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S8x128x128 .f32 := Host.absf main_arg4
  let main_cst_6 : FVec F S_ .f32 := constant S_ .f32 0x7F800000#32
  let main_v20 : FVec F S8x128x128 .f32 := broadcastInDim S8x128x128 ![] bcast_S_S8x128x128 main_cst_6
  let main_v21 : IVec S8x128x128 1 := cmpf .olt main_v19 main_v20
  let main_c_7 : IVec S_ 1 := constantI S_ 1 1#1
  let main_v22 : IVec S_ 1 := (fun x v => Host.reduce IntOp.andi x v reducesTo_S8x128x128_S_d0_1_2 h_S_) main_v21 main_c_7
  let main_v23 : IVec S_ 1 := andi main_v18 main_v22
  let main_v24 : FVec F S8x128 .f32 := Host.absf main_arg5
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  main_v28

def fn {F : FTy → Type} [FloatOps F] (main_arg0 : FVec F S2048x2048 .f32) (main_arg1 : FVec F S2048x1024 .f32) (main_arg2 : FVec F S1x1024 .f32) (main_arg3 : FVec F S1x1024 .f32) (main_arg4 : FVec F S8x128x128 .f32) (main_arg5 : FVec F S8x128 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v13 main_v16
-- ==== Pre_norm_finite.lean ====
abbrev S2048x1024 : Shape := ⟨2, ![2048, 1024]⟩
abbrev S1x1024 : Shape := ⟨2, ![1, 1024]⟩
abbrev S1024x8704 : Shape := ⟨2, ![1024, 8704]⟩
abbrev S2048x8704 : Shape := ⟨2, ![2048, 8704]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x8704 : S_.BroadcastsInDim S1024x8704 (![] : Fin 0 → Fin S1024x8704.rank)
  reducesTo_S1024x8704_S_d0_1 : S1024x8704.ReducesTo [0, 1] S_
  bcast_S_S2048x8704 : S_.BroadcastsInDim S2048x8704 (![] : Fin 0 → Fin S2048x8704.rank)
  reducesTo_S2048x8704_S_d0_1 : S2048x8704.ReducesTo [0, 1] S_

variable [Facts]

def fn_part1 {F : FTy → Type} [FloatOps F] (main_arg4 : FVec F S2048x1024 .f32) (main_arg5 : FVec F S2048x8704 .f32) (main_v13 : IVec S_ 1) (main_v16 : IVec S1024x8704 1) : IVec S_ 1 :=
  let main_c_5 : IVec S_ 1 := constantI S_ 1 1#1
  let main_v17 : IVec S_ 1 := (fun x v => Host.reduce IntOp.andi x v reducesTo_S1024x8704_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S2048x8704 .f32 := Host.absf main_arg5
  let main_cst_8 : FVec F S_ .f32 := constant S_ .f32 0x7F800000#32
  let main_v25 : FVec F S2048x8704 .f32 := broadcastInDim S2048x8704 ![] bcast_S_S2048x8704 main_cst_8
  let main_v26 : IVec S2048x8704 1 := cmpf .olt main_v24 main_v25
  let main_c_9 : IVec S_ 1 := constantI S_ 1 1#1
  let main_v27 : IVec S_ 1 := (fun x v => Host.reduce IntOp.andi x v reducesTo_S2048x8704_S_d0_1 h_S_) main_v26 main_c_9
  let main_v28 : IVec S_ 1 := andi main_v23 main_v27
  main_v28

def fn {F : FTy → Type} [FloatOps F] (main_arg0 : FVec F S2048x1024 .f32) (main_arg1 : FVec F S1x1024 .f32) (main_arg2 : FVec F S1x1024 .f32) (main_arg3 : FVec F S1024x8704 .f32) (main_arg4 : FVec F S2048x1024 .f32) (main_arg5 : FVec F S2048x8704 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x8704 .f32 := Host.absf main_arg3
  let main_cst_4 : FVec F S_ .f32 := constant S_ .f32 0x7F800000#32
  let main_v15 : FVec F S1024x8704 .f32 := broadcastInDim S1024x8704 ![] bcast_S_S1024x8704 main_cst_4
  let main_v16 : IVec S1024x8704 1 := cmpf .olt main_v14 main_v15
  fn_part1 (F := F) main_arg4 main_arg5 main_v13 main_v16
-- ==== GmlpKernel.lean ====
abbrev S2048x2048 : Shape := ⟨2, ![2048, 2048]⟩
abbrev S2048x1024 : Shape := ⟨2, ![2048, 1024]⟩
abbrev S1x1024 : Shape := ⟨2, ![1, 1024]⟩
abbrev S8x128x128 : Shape := ⟨3, ![8, 128, 128]⟩
abbrev S8x128 : Shape := ⟨2, ![8, 128]⟩
abbrev S128x8 : Shape := ⟨2, ![128, 8]⟩
abbrev S128x2048 : Shape := ⟨2, ![128, 2048]⟩
abbrev S128x1024 : Shape := ⟨2, ![128, 1024]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S1x128x1 : Shape := ⟨3, ![1, 128, 1]⟩
abbrev S8x128x1 : Shape := ⟨3, ![8, 128, 1]⟩
abbrev S1024 : Shape := ⟨1, ![1024]⟩

abbrev nBuf : Space → Nat
  | .hbm => 12
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S8x128x128, .f32⟩
  | .hbm, ⟨5, _⟩ => ⟨S8x128, .f32⟩
  | .hbm, ⟨6, _⟩ => ⟨S128x8, .f32⟩
  | .hbm, ⟨7, _⟩ => ⟨S2048x2048, .bf16⟩
  | .hbm, ⟨8, _⟩ => ⟨S8x128x128, .f32⟩
  | .hbm, ⟨9, _⟩ => ⟨S128x8, .f32⟩
  | .hbm, ⟨10, _⟩ => ⟨S1x1024, .f32⟩
  | .hbm, ⟨11, _⟩ => ⟨S1x1024, .f32⟩
  | .local _ .vmem, ⟨0, _⟩ => ⟨S128x2048, .f32⟩
  | .local _ .vmem, ⟨1, _⟩ => ⟨S128x2048, .f32⟩
  | .local _ .vmem, ⟨2, _⟩ => ⟨S128x1024, .f32⟩
  | .local _ .vmem, ⟨3, _⟩ => ⟨S128x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x8, .f32⟩
  | .local _ .vmem, ⟨8, _⟩ => ⟨S128x2048, .bf16⟩
  | .local _ .vmem, ⟨9, _⟩ => ⟨S128x2048, .bf16⟩
  | .local _ .vmem, ⟨10, _⟩ => ⟨S8x128x128, .f32⟩
  | .local _ .vmem, ⟨11, _⟩ => ⟨S128x8, .f32⟩
  | .local _ .vmem, ⟨12, _⟩ => ⟨S1x1024, .f32⟩
  | .local _ .vmem, ⟨13, _⟩ => ⟨S1x1024, .f32⟩
  | .local _ .vmem, ⟨14, _⟩ => ⟨S128x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GmlpKernelIdeal.lean ====
variable {F : FTy → Type} [FloatOps F] [Named F]
def κ : String → Option EReal := fun
  | "inv_sqrt_two_pi" => some (((Real.sqrt (2 * Real.pi))⁻¹ : ℝ) : EReal)
  | "sqrt_half" => some (((Real.sqrt 2)⁻¹ : ℝ) : EReal)
  | _ => none
-- ==== GmlpReferenceIdeal.lean ====
abbrev S2048x2048 : Shape := ⟨2, ![2048, 2048]⟩
abbrev S2048x1024 : Shape := ⟨2, ![2048, 1024]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩
abbrev S2048 : Shape := ⟨1, ![2048]⟩
abbrev S2048x1 : Shape := ⟨2, ![2048, 1]⟩
abbrev S16x128x8x128 : Shape := ⟨4, ![16, 128, 8, 128]⟩
abbrev S128x128 : Shape := ⟨2, ![128, 128]⟩
abbrev S1x128x128 : Shape := ⟨3, ![1, 128, 128]⟩
abbrev S8x16x128x128 : Shape := ⟨4, ![8, 16, 128, 128]⟩
abbrev S128x8 : Shape := ⟨2, ![128, 8]⟩
abbrev S128x8x1 : Shape := ⟨3, ![128, 8, 1]⟩
abbrev S1x128x8x1 : Shape := ⟨4, ![1, 128, 8, 1]⟩
abbrev S1024 : Shape := ⟨1, ![1024]⟩

abbrev nBuf : Space → Nat
  | .hbm => 158
  | .vmem => 0
  | .smem => 0
  | _ => 0

abbrev hbmTy0_0 (i : Nat) : BufTy := match i % 128 with
  | 0 => ⟨S2048x2048, .f32⟩
  | 1 => ⟨S2048x1024, .f32⟩
  | 2 => ⟨S1x1024, .f32⟩
  | 3 => ⟨S1x1024, .f32⟩
  | 4 => ⟨S8x128x128, .f32⟩
  | 5 => ⟨S8x128, .f32⟩
  | 6 => ⟨S_, .f32⟩
  | 7 => ⟨S2048x2048, .f32⟩
  | 8 => ⟨S2048x2048, .f32⟩
  | 9 => ⟨S2048x2048, .f32⟩
  | 10 => ⟨S_, .f32⟩
  | 11 => ⟨S_, .f32⟩
  | 12 => ⟨S2048x2048, .f32⟩
  | 13 => ⟨S2048x2048, .f32⟩
  | 14 => ⟨S2048x2048, .f32⟩
  | 15 => ⟨S_, .f32⟩
  | 16 => ⟨S_, .f32⟩
  | 17 => ⟨S_, .f32⟩
  | 18 => ⟨S_, .f32⟩
  | 19 => ⟨S_, .f32⟩
  | 20 => ⟨S2048x2048, .f32⟩
  | 21 => ⟨S2048x2048, .f32⟩
  | 22 => ⟨S2048x2048, .f32⟩
  | 23 => ⟨S2048x2048, .f32⟩
  | 24 => ⟨S2048x1024, .f32⟩
  | 25 => ⟨S2048x1024, .f32⟩
  | 26 => ⟨S_, .f32⟩
  | 27 => ⟨S2048, .f32⟩
  | 28 => ⟨S2048x1, .f32⟩
  | 29 => ⟨S_, .f32⟩
  | 30 => ⟨S2048x1, .f32⟩
  | 31 => ⟨S2048x1, .f32⟩
  | 32 => ⟨S2048x1024, .f32⟩
  | 33 => ⟨S2048x1024, .f32⟩
  | 34 => ⟨S2048x1024, .f32⟩
  | 35 => ⟨S_, .f32⟩
  | 36 => ⟨S2048x1024, .f32⟩
  | 37 => ⟨S2048x1024, .f32⟩
  | 38 => ⟨S_, .f32⟩
  | 39 => ⟨S2048, .f32⟩
  | 40 => ⟨S2048x1, .f32⟩
  | 41 => ⟨S_, .f32⟩
  | 42 => ⟨S2048x1, .f32⟩
  | 43 => ⟨S2048x1, .f32⟩
  | 44 => ⟨S2048x1024, .f32⟩
  | 45 => ⟨S2048x1024, .f32⟩
  | 46 => ⟨S_, .f32⟩
  | 47 => ⟨S2048x1, .f32⟩
  | 48 => ⟨S2048x1, .f32⟩
  | 49 => ⟨S2048x1, .f32⟩
  | 50 => ⟨S2048x1, .f32⟩
  | 51 => ⟨S_, .f32⟩
  | 52 => ⟨S2048x1, .f32⟩
  | 53 => ⟨S2048x1, .f32⟩
  | 54 => ⟨S2048x1024, .f32⟩
  | 55 => ⟨S2048x1024, .f32⟩
  | 56 => ⟨S2048x1024, .f32⟩
  | 57 => ⟨S2048x1024, .f32⟩
  | 58 => ⟨S2048x1024, .f32⟩
  | 59 => ⟨S2048x1024, .f32⟩
  | 60 => ⟨S16x128x8x128, .f32⟩
  | 61 => ⟨S_, .f32⟩
  | 62 => ⟨S128x128, .f32⟩
  | 63 => ⟨S128x128, .i32⟩
  | 64 => ⟨S_, .i32⟩
  | 65 => ⟨S128x128, .i32⟩
  | 66 => ⟨S128x128, .i32⟩
  | 67 => ⟨S128x128, .i32⟩
  | 68 => ⟨S128x128, .i1⟩
  | 69 => ⟨S_, .f32⟩
  | 70 => ⟨S128x128, .f32⟩
  | 71 => ⟨S128x128, .f32⟩
  | 72 => ⟨S1x128x128, .f32⟩
  | 73 => ⟨S8x128x128, .f32⟩
  | 74 => ⟨S8x128x128, .f32⟩
  | 75 => ⟨S8x16x128x128, .f32⟩
  | 76 => ⟨S16x128x8x128, .f32⟩
  | 77 => ⟨S128x8, .f32⟩
  | 78 => ⟨S128x8x1, .f32⟩
  | 79 => ⟨S1x128x8x1, .f32⟩
  | 80 => ⟨S16x128x8x128, .f32⟩
  | 81 => ⟨S16x128x8x128, .f32⟩
  | 82 => ⟨S2048x1024, .f32⟩
  | 83 => ⟨S2048x1024, .f32⟩
  | 84 => ⟨S2048x1024, .f32⟩
  | 85 => ⟨S2048x1024, .f32⟩
  | 86 => ⟨S16x128x8x128, .f32⟩
  | 87 => ⟨S_, .f32⟩
  | 88 => ⟨S128x8, .f32⟩
  | 89 => ⟨S1x128x8x1, .f32⟩
  | 90 => ⟨S_, .f32⟩
  | 91 => ⟨S128x8, .f32⟩
  | 92 => ⟨S128x8x1, .f32⟩
  | 93 => ⟨S_, .f32⟩
  | 94 => ⟨S128x8, .f32⟩
  | 95 => ⟨S8x128, .f32⟩
  | 96 => ⟨S8x16x128x128, .f32⟩
  | 97 => ⟨S8x128x128, .f32⟩
  | 98 => ⟨S8x16x128x128, .f32⟩
  | 99 => ⟨S16x128x8x128, .f32⟩
  | 100 => ⟨S8x128x128, .f32⟩
  | 101 => ⟨S8x128x128, .f32⟩
  | 102 => ⟨S2048x1024, .f32⟩
  | 103 => ⟨S_, .f32⟩
  | 104 => ⟨S1024, .f32⟩
  | 105 => ⟨S1x1024, .f32⟩
  | 106 => ⟨S2048x1024, .f32⟩
  | 107 => ⟨S_, .f32⟩
  | 108 => ⟨S1024, .f32⟩
  | 109 => ⟨S1x1024, .f32⟩
  | 110 => ⟨S2048x1024, .f32⟩
  | 111 => ⟨S2048x1024, .f32⟩
  | 112 => ⟨S2048x1024, .f32⟩
  | 113 => ⟨S_, .f32⟩
  | 114 => ⟨S2048, .f32⟩
  | 115 => ⟨S2048x1, .f32⟩
  | 116 => ⟨S2048x1024, .f32⟩
  | 117 => ⟨S2048x1024, .f32⟩
  | 118 => ⟨S2048x1, .f32⟩
  | 119 => ⟨S2048x1024, .f32⟩
  | 120 => ⟨S_, .f32⟩
  | 121 => ⟨S2048, .f32⟩
  | 122 => ⟨S2048x1, .f32⟩
  | 123 => ⟨S_, .f32⟩
  | 124 => ⟨S2048x1, .f32⟩
  | 125 => ⟨S2048x1, .f32⟩
  | 126 => ⟨S_, .f32⟩
  | 127 => ⟨S2048, .f32⟩
  | _ => ⟨S2048x2048, .f32⟩

abbrev hbmTy0_1 (i : Nat) : BufTy := match i % 128 with
  | 0 => ⟨S2048x1024, .f32⟩
  | 1 => ⟨S2048x1024, .f32⟩
  | 2 => ⟨S2048x1024, .f32⟩
  | 3 => ⟨S_, .f32⟩
  | 4 => ⟨S2048, .f32⟩
  | 5 => ⟨S2048x1, .f32⟩
  | 6 => ⟨S2048x1024, .f32⟩
  | 7 => ⟨S2048x1, .f32⟩
  | 8 => ⟨S_, .f32⟩
  | 9 => ⟨S2048x1, .f32⟩
  | 10 => ⟨S2048x1, .f32⟩
  | 11 => ⟨S_, .f32⟩
  | 12 => ⟨S2048, .f32⟩
  | 13 => ⟨S2048x1024, .f32⟩
  | 14 => ⟨S2048x1024, .f32⟩
  | 15 => ⟨S2048x2048, .f32⟩
  | 16 => ⟨S2048x2048, .f32⟩
  | 17 => ⟨S2048x2048, .f32⟩
  | 18 => ⟨S2048x2048, .f32⟩
  | 19 => ⟨S2048x2048, .f32⟩
  | 20 => ⟨S2048x2048, .f32⟩
  | 21 => ⟨S2048x2048, .f32⟩
  | 22 => ⟨S2048x2048, .f32⟩
  | 23 => ⟨S2048x2048, .f32⟩
  | 24 => ⟨S_, .f32⟩
  | 25 => ⟨S2048x2048, .f32⟩
  | 26 => ⟨S2048x2048, .f32⟩
  | 27 => ⟨S2048x2048, .f32⟩
  | 28 => ⟨S2048x2048, .bf16⟩
  | 29 => ⟨S128x8, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_call0_v0 : Ref sig .tc := ⟨.hbm, 63, rfl⟩
abbrev main_call0_c : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_cst : Ref sig .tc := ⟨.hbm, 69, rfl⟩
abbrev main_call0_v5 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_14 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_15 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_16 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_17 : Ref sig .tc := ⟨.hbm, 120, rfl⟩
abbrev main_v88 : Ref sig .tc := ⟨.hbm, 121, rfl⟩
abbrev main_v89 : Ref sig .tc := ⟨.hbm, 122, rfl⟩
abbrev main_cst_18 : Ref sig .tc := ⟨.hbm, 123, rfl⟩
abbrev main_v90 : Ref sig .tc := ⟨.hbm, 124, rfl⟩
abbrev main_v91 : Ref sig .tc := ⟨.hbm, 125, rfl⟩
abbrev main_cst_19 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_20 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_21 : Ref sig .tc := ⟨.hbm, 136, rfl⟩
abbrev main_v100 : Ref sig .tc := ⟨.hbm, 137, rfl⟩
abbrev main_v101 : Ref sig .tc := ⟨.hbm, 138, rfl⟩
abbrev main_cst_22 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_23 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩

abbrev nD : Nat := 1
abbrev τ : Topo := Topo.v7x

variable {F : FTy → Type} [FloatOps F]
-- ==== FfnKernel.lean ====
abbrev S2048x1024 : Shape := ⟨2, ![2048, 1024]⟩
abbrev S1024x2816 : Shape := ⟨2, ![1024, 2816]⟩
abbrev S2816x1024 : Shape := ⟨2, ![2816, 1024]⟩
abbrev S2048x2816 : Shape := ⟨2, ![2048, 2816]⟩
abbrev S2048x4x704 : Shape := ⟨3, ![2048, 4, 704]⟩
abbrev S4x2048x704 : Shape := ⟨3, ![4, 2048, 704]⟩
abbrev S4x704x1024 : Shape := ⟨3, ![4, 704, 1024]⟩
abbrev S2x4x352x1024 : Shape := ⟨4, ![2, 4, 352, 1024]⟩
abbrev S512x1024 : Shape := ⟨2, ![512, 1024]⟩
abbrev S1x512x704 : Shape := ⟨3, ![1, 512, 704]⟩
abbrev S1x704x1024 : Shape := ⟨3, ![1, 704, 1024]⟩
abbrev S2048x704 : Shape := ⟨2, ![2048, 704]⟩
abbrev S2x704x1024 : Shape := ⟨3, ![2, 704, 1024]⟩
abbrev S5 : Shape := ⟨1, ![5]⟩
abbrev S1 : Shape := ⟨1, ![1]⟩
abbrev S_ : Shape := ⟨0, ![]⟩
abbrev S1x384x1024 : Shape := ⟨3, ![1, 384, 1024]⟩
abbrev S384x1024 : Shape := ⟨2, ![384, 1024]⟩
abbrev S512x384 : Shape := ⟨2, ![512, 384]⟩
abbrev S1x320x1024 : Shape := ⟨3, ![1, 320, 1024]⟩
abbrev S320x1024 : Shape := ⟨2, ![320, 1024]⟩
abbrev S512x320 : Shape := ⟨2, ![512, 320]⟩
abbrev S512x704 : Shape := ⟨2, ![512, 704]⟩
abbrev S704x1024 : Shape := ⟨2, ![704, 1024]⟩
abbrev S1x1x352x1024 : Shape := ⟨4, ![1, 1, 352, 1024]⟩
abbrev S352x1024 : Shape := ⟨2, ![352, 1024]⟩
abbrev S1x352x1024 : Shape := ⟨3, ![1, 352, 1024]⟩

abbrev nBuf : Space → Nat
  | .hbm => 26
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S2048x1024, .bf16⟩
  | .hbm, ⟨6, _⟩ => ⟨S2048x2816, .f32⟩
  | .hbm, ⟨7, _⟩ => ⟨S2048x4x704, .f32⟩
  | .hbm, ⟨8, _⟩ => ⟨S4x2048x704, .f32⟩
  | .hbm, ⟨9, _⟩ => ⟨S4x2048x704, .bf16⟩
  | .hbm, ⟨10, _⟩ => ⟨S2048x2816, .f32⟩
  | .hbm, ⟨11, _⟩ => ⟨S2048x4x704, .f32⟩
  | .hbm, ⟨12, _⟩ => ⟨S4x2048x704, .f32⟩
  | .hbm, ⟨13, _⟩ => ⟨S4x2048x704, .bf16⟩
  | .hbm, ⟨14, _⟩ => ⟨S2816x1024, .f32⟩
  | .hbm, ⟨15, _⟩ => ⟨S4x704x1024, .f32⟩
  | .hbm, ⟨16, _⟩ => ⟨S4x704x1024, .bf16⟩
  | .hbm, ⟨17, _⟩ => ⟨S2816x1024, .f32⟩
  | .hbm, ⟨18, _⟩ => ⟨S4x704x1024, .f32⟩
  | .hbm, ⟨19, _⟩ => ⟨S4x704x1024, .bf16⟩
  | .hbm, ⟨20, _⟩ => ⟨S4x704x1024, .f32⟩
  | .hbm, ⟨21, _⟩ => ⟨S4x704x1024, .bf16⟩
  | .hbm, ⟨22, _⟩ => ⟨S2x4x352x1024, .f32⟩
  | .hbm, ⟨23, _⟩ => ⟨S2x4x352x1024, .f32⟩
  | .hbm, ⟨24, _⟩ => ⟨S2x4x352x1024, .f32⟩
  | .hbm, ⟨25, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1x512x704, .bf16⟩
  | .local _ .vmem, ⟨3, _⟩ => ⟨S1x512x704, .bf16⟩
  | .local _ .vmem, ⟨4, _⟩ => ⟨S1x512x704, .bf16⟩
  | .local _ .vmem, ⟨5, _⟩ => ⟨S1x512x704, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S2048x1024, .f32⟩
  | .local _ .vmem, ⟨13, _⟩ => ⟨S2048x704, .bf16⟩
  | .local _ .vmem, ⟨14, _⟩ => ⟨S2048x704, .bf16⟩
  | .local _ .vmem, ⟨15, _⟩ => ⟨S2048x704, .bf16⟩
  | .local _ .vmem, ⟨16, _⟩ => ⟨S2048x1024, .bf16⟩
  | .local _ .vmem, ⟨17, _⟩ => ⟨S2048x1024, .bf16⟩
  | .local _ .vmem, ⟨18, _⟩ => ⟨S2x704x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev main_v17_2 : Ref sig .tc := ⟨.hbm, 24, rfl⟩
abbrev main_v17_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond2 (i : grid0.Coords) : BitVec 1 :=
  let arg0 : BitVec 32 := BitVec.ofNat 32 (i 0).val
  let c0_i32_3 : BitVec 32 := 0#32
  let v11 : BitVec 1 := Scalar.cmpi .eq arg0 c0_i32_3
  let v12 : BitVec 32 := Scalar.extui v11
  let c0_i32_4 : BitVec 32 := 0#32
  let v13 : BitVec 1 := Scalar.cmpi .ne v12 c0_i32_4
  v13

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v75 : Index := Scalar.indexCast v1
  let c0_39 : Index := 0#32
  ![v75.toNat, 0]
def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v40 : Index := Scalar.indexCast v1
  let c0_20 : Index := 0#32
  ![v40.toNat, 0]
def k0_cond3 (i : grid0.Coords) : BitVec 1 :=
  let arg0 : BitVec 32 := BitVec.ofNat 32 (i 0).val
  let c0_i32_31 : BitVec 32 := 0#32
  let v61 : BitVec 1 := Scalar.cmpi .eq arg0 c0_i32_31
  let v62 : BitVec 32 := Scalar.extui v61
  let c0_i32_32 : BitVec 32 := 0#32
  let v63 : BitVec 1 := Scalar.cmpi .ne v62 c0_i32_32
  v63

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v78 : Index := Scalar.indexCast v1
  let c0_40 : Index := 0#32
  ![v78.toNat, 0]
def k0_cond4 (i : grid0.Coords) : BitVec 1 :=
  let arg0 : BitVec 32 := BitVec.ofNat 32 (i 0).val
  let c0_i32_33 : BitVec 32 := 0#32
  let v64 : BitVec 1 := Scalar.cmpi .sgt arg0 c0_i32_33
  let v65 : BitVec 32 := Scalar.extui v64
  let c0_i32_34 : BitVec 32 := 0#32
  let v66 : BitVec 1 := Scalar.cmpi .ne v65 c0_i32_34
  v66

def k0_off4 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v75 : Index := Scalar.indexCast v1
  let c0_39 : Index := 0#32
  ![v75.toNat, 0]
def k0_cond5 (i : grid0.Coords) : BitVec 1 :=
  let arg1 : BitVec 32 := BitVec.ofNat 32 (i 1).val
  let c3_i32 : BitVec 32 := 3#32
  let v67 : BitVec 1 := Scalar.cmpi .eq arg1 c3_i32
  let v68 : BitVec 32 := Scalar.extui v67
  let c0_i32_35 : BitVec 32 := 0#32
  let v69 : BitVec 1 := Scalar.cmpi .ne v68 c0_i32_35
  v69

def k0_off5 (i : grid0.Coords) : Fin 4 → Nat :=
  let c0_i32_48 : BitVec 32 := 0#32
  let arg0 : BitVec 32 := BitVec.ofNat 32 (i 0).val
  let c0_i32_49 : BitVec 32 := 0#32
  let c0_i32_50 : BitVec 32 := 0#32
  ![0, arg0.toNat, 0, 0]
def k0_off6 (i : grid0.Coords) : Fin 4 → Nat :=
  let c1_i32_54 : BitVec 32 := 1#32
  let arg0 : BitVec 32 := BitVec.ofNat 32 (i 0).val
  let c0_i32_55 : BitVec 32 := 0#32
  let c0_i32_56 : BitVec 32 := 0#32
  ![1, arg0.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S2048x1024 : Shape := ⟨2, ![2048, 1024]⟩
abbrev S1024x2816 : Shape := ⟨2, ![1024, 2816]⟩
abbrev S2816x1024 : Shape := ⟨2, ![2816, 1024]⟩
abbrev S_ : Shape := ⟨0, ![]⟩
abbrev S2048x2816 : Shape := ⟨2, ![2048, 2816]⟩
abbrev S4x2x352x1024 : Shape := ⟨4, ![4, 2, 352, 1024]⟩
abbrev S2x4x352x1024 : Shape := ⟨4, ![2, 4, 352, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S_, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S1024x2816, .f32⟩
  | .hbm, ⟨35, _⟩ => ⟨S2816x1024, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2816x1024, .f32⟩
  | .hbm, ⟨40, _⟩ => ⟨S1024x2816, .f32⟩
  | .hbm, ⟨41, _⟩ => ⟨S2048x1024, .f32⟩
  | .hbm, ⟨42, _⟩ => ⟨S2048x2816, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S2816x1024, .f32⟩
  | .hbm, ⟨47, _⟩ => ⟨S1024x2816, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2816x1024, .f32⟩
  | .hbm, ⟨55, _⟩ => ⟨S4x2x352x1024, .f32⟩
  | .hbm, ⟨56, _⟩ => ⟨S2x4x352x1024, .f32⟩
  | .hbm, ⟨57, _⟩ => ⟨S2816x1024, .f32⟩
  | .hbm, ⟨58, _⟩ => ⟨S4x2x352x1024, .f32⟩
  | .hbm, ⟨59, _⟩ => ⟨S2x4x352x1024, .f32⟩
  | .hbm, ⟨60, _⟩ => ⟨S4x2x352x1024, .f32⟩
  | .hbm, ⟨61, _⟩ => ⟨S2x4x352x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v3_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v3_1 : Ref sig .tc := ⟨.hbm, 20, rfl⟩
abbrev main_v3_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]
-- ==== WinKernel.lean ====
abbrev S2048x1024 : Shape := ⟨2, ![2048, 1024]⟩
abbrev S1024x8704 : Shape := ⟨2, ![1024, 8704]⟩
abbrev S2048x8704 : Shape := ⟨2, ![2048, 8704]⟩
abbrev S1024x2048 : Shape := ⟨2, ![1024, 2048]⟩
abbrev S2x4x512x2176 : Shape := ⟨4, ![2, 4, 512, 2176]⟩
abbrev S512x2048 : Shape := ⟨2, ![512, 2048]⟩
abbrev S2048x2176 : Shape := ⟨2, ![2048, 2176]⟩
abbrev S1x1x512x2176 : Shape := ⟨4, ![1, 1, 512, 2176]⟩
abbrev S512x2176 : Shape := ⟨2, ![512, 2176]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x8704, .f32⟩
  | .hbm, ⟨2, _⟩ => ⟨S2048x8704, .f32⟩
  | .hbm, ⟨3, _⟩ => ⟨S1024x2048, .f32⟩
  | .hbm, ⟨4, _⟩ => ⟨S1024x2048, .bf16⟩
  | .hbm, ⟨5, _⟩ => ⟨S2048x8704, .bf16⟩
  | .hbm, ⟨6, _⟩ => ⟨S2x4x512x2176, .f32⟩
  | .local _ .vmem, ⟨0, _⟩ => ⟨S512x2048, .bf16⟩
  | .local _ .vmem, ⟨1, _⟩ => ⟨S512x2048, .bf16⟩
  | .local _ .vmem, ⟨2, _⟩ => ⟨S2048x2176, .bf16⟩
  | .local _ .vmem, ⟨3, _⟩ => ⟨S2048x2176, .bf16⟩
  | .local _ .vmem, ⟨4, _⟩ => ⟨S1x1x512x2176, .f32⟩
  | .local _ .vmem, ⟨5, _⟩ => ⟨S1x1x512x2176, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WinReferenceIdeal.lean ====
abbrev S2048x1024 : Shape := ⟨2, ![2048, 1024]⟩
abbrev S1024x8704 : Shape := ⟨2, ![1024, 8704]⟩
abbrev S2048x8704 : Shape := ⟨2, ![2048, 8704]⟩
abbrev S8704x1024 : Shape := ⟨2, ![8704, 1024]⟩
abbrev S2x512x4x2176 : Shape := ⟨4, ![2, 512, 4, 2176]⟩
abbrev S2x4x512x2176 : Shape := ⟨4, ![2, 4, 512, 2176]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x8704, .f32⟩
  | .hbm, ⟨2, _⟩ => ⟨S2048x8704, .f32⟩
  | .hbm, ⟨3, _⟩ => ⟨S2048x8704, .f32⟩
  | .hbm, ⟨4, _⟩ => ⟨S8704x1024, .f32⟩
  | .hbm, ⟨5, _⟩ => ⟨S1024x8704, .f32⟩
  | .hbm, ⟨6, _⟩ => ⟨S2048x1024, .f32⟩
  | .hbm, ⟨7, _⟩ => ⟨S2x512x4x2176, .f32⟩
  | .hbm, ⟨8, _⟩ => ⟨S2x4x512x2176, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== NormKernel.lean ====
abbrev S2048x1024 : Shape := ⟨2, ![2048, 1024]⟩
abbrev S1x1024 : Shape := ⟨2, ![1, 1024]⟩
abbrev S1024x8704 : Shape := ⟨2, ![1024, 8704]⟩
abbrev S2048x8704 : Shape := ⟨2, ![2048, 8704]⟩
abbrev S_ : Shape := ⟨0, ![]⟩
abbrev S2048 : Shape := ⟨1, ![2048]⟩
abbrev S2048x1 : Shape := ⟨2, ![2048, 1]⟩
abbrev S1024x2176 : Shape := ⟨2, ![1024, 2176]⟩
abbrev S1024x1024 : Shape := ⟨2, ![1024, 1024]⟩
abbrev S1024x1 : Shape := ⟨2, ![1024, 1]⟩
abbrev S256x1024 : Shape := ⟨2, ![256, 1024]⟩
abbrev S256x1 : Shape := ⟨2, ![256, 1]⟩
abbrev S256 : Shape := ⟨1, ![256]⟩
abbrev S1024 : Shape := ⟨1, ![1024]⟩

abbrev nBuf : Space → Nat
  | .hbm => 34
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1024x8704, .f32⟩
  | .hbm, ⟨4, _⟩ => ⟨S2048x1024, .f32⟩
  | .hbm, ⟨5, _⟩ => ⟨S2048x8704, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x8704, .bf16⟩
  | .hbm, ⟨26, _⟩ => ⟨S1024x8704, .bf16⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S1x1024, .f32⟩
  | .hbm, ⟨33, _⟩ => ⟨S1x1024, .f32⟩
  | .local _ .vmem, ⟨0, _⟩ => ⟨S1024x2176, .bf16⟩
  | .local _ .vmem, ⟨1, _⟩ => ⟨S1024x2176, .bf16⟩
  | .local _ .vmem, ⟨2, _⟩ => ⟨S1024x2176, .bf16⟩
  | .local _ .vmem, ⟨3, _⟩ => ⟨S1024x2176, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1, .f32⟩
  | .local _ .vmem, ⟨9, _⟩ => ⟨S1024x1, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨2, ![2, 4], ![false, false]⟩

def k0_cond4 (i : grid0.Coords) : BitVec 1 :=
  let arg1 : BitVec 32 := BitVec.ofNat 32 (i 1).val
  let c3_i32_8 : BitVec 32 := 3#32
  let v16 : BitVec 1 := Scalar.cmpi .eq arg1 c3_i32_8
  let v17 : BitVec 32 := Scalar.extui v16
  let c0_i32_9 : BitVec 32 := 0#32
  let v18 : BitVec 1 := Scalar.cmpi .ne v17 c0_i32_9
  v18

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let arg0 : BitVec 32 := BitVec.ofNat 32 (i 0).val
  let c0_i32_6 : BitVec 32 := 0#32
  let v12 : BitVec 1 := Scalar.cmpi .eq arg0 c0_i32_6
  let v13 : BitVec 1 := Scalar.andi v11 v12
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== NormReferenceIdeal.lean ====
abbrev S2048x1024 : Shape := ⟨2, ![2048, 1024]⟩
abbrev S1x1024 : Shape := ⟨2, ![1, 1024]⟩
abbrev S1024x8704 : Shape := ⟨2, ![1024, 8704]⟩
abbrev S2048x8704 : Shape := ⟨2, ![2048, 8704]⟩
abbrev S_ : Shape := ⟨0, ![]⟩
abbrev S2048 : Shape := ⟨1, ![2048]⟩
abbrev S2048x1 : Shape := ⟨2, ![2048, 1]⟩
abbrev S8704x1024 : Shape := ⟨2, ![8704, 1024]⟩
abbrev S1024 : Shape := ⟨1, ![1024]⟩

abbrev nBuf : Space → Nat
  | .hbm => 91
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1024x8704, .f32⟩
  | .hbm, ⟨4, _⟩ => ⟨S2048x1024, .f32⟩
  | .hbm, ⟨5, _⟩ => ⟨S2048x8704, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S2048x8704, .f32⟩
  | .hbm, ⟨44, _⟩ => ⟨S8704x1024, .f32⟩
  | .hbm, ⟨45, _⟩ => ⟨S1024x8704, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x1024, .f32⟩
  | .hbm, ⟨65, _⟩ => ⟨S2048x1024, .f32⟩
  | .hbm, ⟨66, _⟩ => ⟨S2048x1, .f32⟩
  | .hbm, ⟨67, _⟩ => ⟨S2048x1024, .f32⟩
  | .hbm, ⟨68, _⟩ => ⟨S_, .f32⟩
  | .hbm, ⟨69, _⟩ => ⟨S2048, .f32⟩
  | .hbm, ⟨70, _⟩ => ⟨S2048x1, .f32⟩
  | .hbm, ⟨71, _⟩ => ⟨S_, .f32⟩
  | .hbm, ⟨72, _⟩ => ⟨S2048x1, .f32⟩
  | .hbm, ⟨73, _⟩ => ⟨S2048x1, .f32⟩
  | .hbm, ⟨74, _⟩ => ⟨S_, .f32⟩
  | .hbm, ⟨75, _⟩ => ⟨S2048, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S_, .f32⟩
  | .hbm, ⟨80, _⟩ => ⟨S2048, .f32⟩
  | .hbm, ⟨81, _⟩ => ⟨S2048x1, .f32⟩
  | .hbm, ⟨82, _⟩ => ⟨S2048x1024, .f32⟩
  | .hbm, ⟨83, _⟩ => ⟨S2048x1, .f32⟩
  | .hbm, ⟨84, _⟩ => ⟨S_, .f32⟩
  | .hbm, ⟨85, _⟩ => ⟨S2048x1, .f32⟩
  | .hbm, ⟨86, _⟩ => ⟨S2048x1, .f32⟩
  | .hbm, ⟨87, _⟩ => ⟨S_, .f32⟩
  | .hbm, ⟨88, _⟩ => ⟨S2048, .f32⟩
  | .hbm, ⟨89, _⟩ => ⟨S2048x1024, .f32⟩
  | .hbm, ⟨90, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_14 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_15 : Ref sig .tc := ⟨.hbm, 84, rfl⟩
abbrev main_v62 : Ref sig .tc := ⟨.hbm, 85, rfl⟩
abbrev main_v63 : Ref sig .tc := ⟨.hbm, 86, rfl⟩
abbrev main_cst_16 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== FwdKernel.lean ====
abbrev S2048x1024 : Shape := ⟨2, ![2048, 1024]⟩
abbrev S1024x2816 : Shape := ⟨2, ![1024, 2816]⟩
abbrev S2816x1024 : Shape := ⟨2, ![2816, 1024]⟩
abbrev S1x1024 : Shape := ⟨2, ![1, 1024]⟩
abbrev S4x704x1024 : Shape := ⟨3, ![4, 704, 1024]⟩
abbrev S2048x1 : Shape := ⟨2, ![2048, 1]⟩
abbrev S4x2048x704 : Shape := ⟨3, ![4, 2048, 704]⟩
abbrev S1024x2048 : Shape := ⟨2, ![1024, 2048]⟩
abbrev S1024x1024 : Shape := ⟨2, ![1024, 1024]⟩
abbrev S1x704x1024 : Shape := ⟨3, ![1, 704, 1024]⟩
abbrev S1024x1 : Shape := ⟨2, ![1024, 1]⟩
abbrev S1x1024x704 : Shape := ⟨3, ![1, 1024, 704]⟩
abbrev S704x1024 : Shape := ⟨2, ![704, 1024]⟩
abbrev S1024x704 : Shape := ⟨2, ![1024, 704]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩

abbrev nBuf : Space → Nat
  | .hbm => 20
  | .vmem => 23
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x1024, .f32⟩
  | .hbm, ⟨5, _⟩ => ⟨S1x1024, .f32⟩
  | .hbm, ⟨6, _⟩ => ⟨S2816x1024, .f32⟩
  | .hbm, ⟨7, _⟩ => ⟨S4x704x1024, .f32⟩
  | .hbm, ⟨8, _⟩ => ⟨S4x704x1024, .bf16⟩
  | .hbm, ⟨9, _⟩ => ⟨S2816x1024, .f32⟩
  | .hbm, ⟨10, _⟩ => ⟨S4x704x1024, .f32⟩
  | .hbm, ⟨11, _⟩ => ⟨S4x704x1024, .bf16⟩
  | .hbm, ⟨12, _⟩ => ⟨S4x704x1024, .f32⟩
  | .hbm, ⟨13, _⟩ => ⟨S4x704x1024, .bf16⟩
  | .hbm, ⟨14, _⟩ => ⟨S2048x1024, .bf16⟩
  | .hbm, ⟨15, _⟩ => ⟨S2048x1024, .f32⟩
  | .hbm, ⟨16, _⟩ => ⟨S2048x1, .f32⟩
  | .hbm, ⟨17, _⟩ => ⟨S4x2048x704, .bf16⟩
  | .hbm, ⟨18, _⟩ => ⟨S4x2048x704, .bf16⟩
  | .hbm, ⟨19, _⟩ => ⟨S1024x2048, .bf16⟩
  | .local _ .vmem, ⟨0, _⟩ => ⟨S1024x1024, .f32⟩
  | .local _ .vmem, ⟨1, _⟩ => ⟨S1024x1024, .f32⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1, .f32⟩
  | .local _ .vmem, ⟨15, _⟩ => ⟨S1024x1, .f32⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v8_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_21 : BitVec 32 := 0#32
  let v31 : BitVec 1 := Scalar.cmpi .ne v30 c0_i32_21
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== FwdReferenceIdeal.lean ====
abbrev S2048x1024 : Shape := ⟨2, ![2048, 1024]⟩
abbrev S1024x2816 : Shape := ⟨2, ![1024, 2816]⟩
abbrev S2816x1024 : Shape := ⟨2, ![2816, 1024]⟩
abbrev S1x1024 : Shape := ⟨2, ![1, 1024]⟩
abbrev S2048x2816 : Shape := ⟨2, ![2048, 2816]⟩
abbrev S_ : Shape := ⟨0, ![]⟩
abbrev S2048 : Shape := ⟨1, ![2048]⟩
abbrev S2048x1 : Shape := ⟨2, ![2048, 1]⟩
abbrev S2048x4x704 : Shape := ⟨3, ![2048, 4, 704]⟩
abbrev S4x2048x704 : Shape := ⟨3, ![4, 2048, 704]⟩
abbrev S1024x2048 : Shape := ⟨2, ![1024, 2048]⟩

abbrev nBuf : Space → Nat
  | .hbm => 62
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x1024, .f32⟩
  | .hbm, ⟨5, _⟩ => ⟨S1x1024, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S_, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x1, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .bf16⟩
  | .hbm, ⟨54, _⟩ => ⟨S2048x4x704, .f32⟩
  | .hbm, ⟨55, _⟩ => ⟨S4x2048x704, .f32⟩
  | .hbm, ⟨56, _⟩ => ⟨S4x2048x704, .bf16⟩
  | .hbm, ⟨57, _⟩ => ⟨S2048x4x704, .f32⟩
  | .hbm, ⟨58, _⟩ => ⟨S4x2048x704, .f32⟩
  | .hbm, ⟨59, _⟩ => ⟨S4x2048x704, .bf16⟩
  | .hbm, ⟨60, _⟩ => ⟨S1024x2048, .f32⟩
  | .hbm, ⟨61, _⟩ => ⟨S1024x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Proof.Spec.lean ====
/- The gated unit's gradient over the reals: the functions both programs compute, for one block of 128 rows, and the
   real identities that join the two ways of writing them. -/
module

public import Idealize.ShloMosaic.PureOps.Ideal

@[expose] public section

noncomputable section

namespace Cert.Proof.Spec

open Real

/-- The error function. -/
def erfR (x : ℝ) : ℝ := 2 / √π * ∫ t in (0 : ℝ)..x, exp (-(t ^ 2))

theorem erfR_neg (x : ℝ) : erfR (-x) = -erfR x := by
  unfold erfR
  have h := intervalIntegral.integral_comp_neg (a := 0) (b := x) fun t : ℝ => exp (-(t ^ 2))
  rw [neg_zero] at h
  simp only [neg_sq] at h
  rw [intervalIntegral.integral_symm, ← h]
  ring

/-- The exact gelu and its derivative. -/
def gelu (z : ℝ) : ℝ := 1 / 2 * z * (1 + erfR (z * (√2)⁻¹))
def dgelu (z : ℝ) : ℝ := 1 / 2 * (1 + erfR (z * (√2)⁻¹)) + z * (exp (-(1 / 2) * z * z) * (√(2 * π))⁻¹)

theorem sqrt_half : √(1 / 2) = (√2)⁻¹ := by
  rw [one_div, sqrt_inv]

/-- The gelu written with the complement of the error function. -/
theorem gelu_erfc (z : ℝ) : 1 / 2 * z * (1 - erfR (-z * √(1 / 2))) = gelu z := by
  rw [gelu, sqrt_half, neg_mul, erfR_neg]; ring

/-- The transposed derivative of the gelu so written, at the cotangent `d`. -/
theorem dgelu_erfc (z d : ℝ) :
    -(-2 / √π * (1 / 2 * z * d) * exp (-(-z * √(1 / 2) * (-z * √(1 / 2)))) * √(1 / 2))
      + 1 / 2 * (d * (1 - erfR (-z * √(1 / 2)))) = d * dgelu z := by
  have h2 : √2 * √2 = 2 := mul_self_sqrt (by norm_num)
  have hs : (√2)⁻¹ * (√2)⁻¹ = 1 / 2 := by rw [← mul_inv, h2]; norm_num
  have he : -(-z * (√2)⁻¹ * (-z * (√2)⁻¹)) = -(1 / 2) * z * z := by linear_combination (-z * z) * hs
  rw [dgelu, sqrt_half, neg_mul z, erfR_neg, ← neg_mul z, he, sqrt_mul (by norm_num) π, mul_inv]
  ring

/-- Channels: the first and second half of a row of 2048, and a channel's group and place in it. -/
def lo (c : Fin 1024) : Fin 2048 := ⟨c.val, by omega⟩
def hi (c : Fin 1024) : Fin 2048 := ⟨1024 + c.val, by omega⟩
def grp (c : Fin 1024) : Fin 8 := ⟨c.val / 128, by omega⟩
def plc (c : Fin 1024) : Fin 128 := ⟨c.val % 128, by omega⟩
def ch (n : Fin 8) (p : Fin 128) : Fin 1024 := ⟨128 * n.val + p.val, by omega⟩

theorem ch_grp_plc (c : Fin 1024) : ch (grp c) (plc c) = c := Fin.ext (by simp only [ch, grp, plc]; omega)
theorem grp_ch (n : Fin 8) (p : Fin 128) : grp (ch n p) = n := Fin.ext (by simp only [ch, grp]; omega)
theorem plc_ch (n : Fin 8) (p : Fin 128) : plc (ch n p) = p := Fin.ext (by simp only [ch, plc]; omega)

/-- The norm's small constant, as the f32 number it is. -/
def eps : ℝ := 2748779 / 274877906944

theorem eps_pos : 0 < eps := by unfold eps; norm_num

def mean (f : Fin 1024 → ℝ) : ℝ := (∑ c, f c) * (1 / 1024)

/-- One row of the gated unit's input. -/
abbrev Row := Fin 2048 → ℝ
def val (z : Row) (c : Fin 1024) : ℝ := gelu (z (hi c))
def gat (z : Row) (c : Fin 1024) : ℝ := gelu (z (lo c))
def cen (z : Row) (c : Fin 1024) : ℝ := val z c - mean (val z)
def var (z : Row) : ℝ := mean fun c => cen z c * cen z c
def rstd (z : Row) : ℝ := (√(var z + eps))⁻¹
def xh (z : Row) (c : Fin 1024) : ℝ := cen z c * rstd z
def vn (g b : Fin 1024 → ℝ) (z : Row) (c : Fin 1024) : ℝ := xh z c * g c + b c

theorem var_nonneg (z : Row) : 0 ≤ var z := by
  unfold var mean
  exact mul_nonneg (Finset.sum_nonneg fun c _ => mul_self_nonneg _) (by norm_num)

theorem var_pos (z : Row) : 0 < var z + eps := add_pos_of_nonneg_of_pos (var_nonneg z) eps_pos

theorem sum_cen (z : Row) : ∑ c, cen z c = 0 := by
  simp only [cen, Finset.sum_sub_distrib, Finset.sum_const, Finset.card_univ, Fintype.card_fin, nsmul_eq_mul]
  unfold mean
  push_cast
  ring

theorem rstd_sq (z : Row) : rstd z * rstd z = 1 / (var z + eps) := by
  rw [rstd, ← mul_inv, mul_self_sqrt (var_pos z).le, one_div]

/-- The transposed norm as the centred form. -/
def lnT (z : Row) (d : Fin 1024 → ℝ) (c : Fin 1024) : ℝ :=
  rstd z * (d c - mean d - xh z c * mean fun c => d c * xh z c)

/-- The transposed norm as the derivative of mean, centring and variance one after another. -/
theorem lnT_eq (z : Row) (d : Fin 1024 → ℝ) (c : Fin 1024) :
    d c * rstd z + (∑ c, cen z c * d c) * (-(1 / 2) * (rstd z * (1 / (var z + eps)))) * (1 / 1024) * (2 * cen z c)
      + ((∑ c, -(d c * rstd z))
        + ∑ c', -((∑ c, cen z c * d c) * (-(1 / 2) * (rstd z * (1 / (var z + eps)))) * (1 / 1024) * (2 * cen z c')))
        * (1 / 1024)
      = lnT z d c := by
  rw [Finset.sum_neg_distrib, Finset.sum_neg_distrib, ← Finset.mul_sum, ← Finset.mul_sum, sum_cen, ← Finset.sum_mul,
    ← rstd_sq]
  have h : (∑ c, d c * xh z c) = (∑ c, cen z c * d c) * rstd z := by
    rw [Finset.sum_mul]; exact Finset.sum_congr rfl fun c _ => by rw [xh]; ring
  unfold lnT mean
  rw [h, xh]
  ring

/-- One block: its 128 rows of the input and of the cotangent, and the small parameters. -/
structure Blk where
  z : Fin 128 → Row
  dy : Fin 128 → Fin 1024 → ℝ

structure Par where
  g : Fin 1024 → ℝ
  b : Fin 1024 → ℝ
  ws : Fin 8 → Fin 128 → Fin 128 → ℝ
  bs : Fin 8 → Fin 128 → ℝ

/-- The causal mixing weights. -/
def Par.w (P : Par) (n : Fin 8) (t s : Fin 128) : ℝ := if s ≤ t then P.ws n t s else 0

variable (P : Par) (B : Blk)

def mixed (t : Fin 128) (c : Fin 1024) : ℝ := ∑ s, P.w (grp c) t s * vn P.g P.b (B.z s) c + P.bs (grp c) t
def dmix (t : Fin 128) (c : Fin 1024) : ℝ := B.dy t c * gat (B.z t) c
def dvn (s : Fin 128) (c : Fin 1024) : ℝ := ∑ t, P.w (grp c) t s * dmix B t c
def dval (s : Fin 128) (c : Fin 1024) : ℝ := lnT (B.z s) (fun c => dvn P B s c * P.g c) c

/-- What the block gives each result: a row block of the input's gradient, and a summand of each other one. -/
def dzLo (t : Fin 128) (c : Fin 1024) : ℝ := B.dy t c * mixed P B t c * dgelu (B.z t (lo c))
def dzHi (t : Fin 128) (c : Fin 1024) : ℝ := dval P B t c * dgelu (B.z t (hi c))
def dws (n : Fin 8) (t s : Fin 128) : ℝ := if s ≤ t then ∑ p, dmix B t (ch n p) * vn P.g P.b (B.z s) (ch n p) else 0
def dbs (n : Fin 8) (t : Fin 128) : ℝ := ∑ p, dmix B t (ch n p)
def dg (c : Fin 1024) : ℝ := ∑ s, dvn P B s c * xh (B.z s) c
def db (c : Fin 1024) : ℝ := ∑ s, dvn P B s c

end Cert.Proof.Spec

end
-- ==== Proof.Consts.lean ====
/- The float constants the programs write, as the real numbers they are, and arrays of real numbers as arrays of extended
   reals. -/
module

public import Idealize.ShloMosaic.Lib.Pointwise
public import Idealize.ShloMosaic.PureOps.IdealRules
public import proofs.«01_k».proof.Proof.Spec

@[expose] public section

noncomputable section

namespace Cert.Proof

open Idealize.ShloMosaic

theorem c_half : Ideal.ofBits .f32 0x3F000000#32 = ((1 / 2 : ℝ) : EReal) := by
  simp [Ideal.ofBits, Ideal.ieee, -EReal.coe_mul]; norm_num
theorem c_neg_half : Ideal.ofBits .f32 0xBF000000#32 = ((-(1 / 2) : ℝ) : EReal) := by
  simp [Ideal.ofBits, Ideal.ieee, -EReal.coe_mul]; norm_num
theorem c_one : Ideal.ofBits .f32 0x3F800000#32 = ((1 : ℝ) : EReal) := by
  simp [Ideal.ofBits, Ideal.ieee, -EReal.coe_mul]; norm_num
theorem c_neg_one : Ideal.ofBits .f32 0xBF800000#32 = ((-1 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_neg_two : Ideal.ofBits .f32 0xC0000000#32 = ((-2 : ℝ) : EReal) := by
  simp [Ideal.ofBits, Ideal.ieee, -EReal.coe_mul]; norm_num
theorem c_1024 : Ideal.ofBits .f32 0x44800000#32 = ((1024 : ℝ) : EReal) := by
  simp [Ideal.ofBits, Ideal.ieee, -EReal.coe_mul]; norm_num
theorem c_eps : Ideal.ofBits .f32 0x3727C5AC#32 = ((Spec.eps : ℝ) : EReal) := by
  simp [Ideal.ofBits, Ideal.ieee, Spec.eps, -EReal.coe_mul]; norm_num
theorem c_zero : Ideal.ofBits .f32 0x00000000#32 = ((0 : ℝ) : EReal) := by
  simp [Ideal.ofBits, Ideal.ieee]
theorem c_inf : Ideal.ofBits .f32 0x7F800000#32 = ⊤ := by
  simp [Ideal.ofBits, Ideal.ieee]

theorem erf_real (x : ℝ) : Ideal.erf x = ((Spec.erfR x : ℝ) : EReal) := rfl
theorem erfc_real (x : ℝ) : Ideal.erfc x = ((1 - Spec.erfR x : ℝ) : EReal) := by
  rw [Ideal.erfc, erf_real, EReal.coe_sub, EReal.coe_one]
theorem div_1024 (x : ℝ) : Ideal.div (x : EReal) ((1024 : ℝ) : EReal) = ((x * (1 / 1024) : ℝ) : EReal) := by
  rw [Ideal.div_coe (by norm_num), ← EReal.coe_mul]
theorem rsqrt_real {x : ℝ} (h : 0 < x) : Ideal.rsqrt (x : EReal) = (((√x)⁻¹ : ℝ) : EReal) := by
  rw [Ideal.rsqrt_coe, if_neg h.not_gt, if_neg h.ne']
theorem sqrt_real {x : ℝ} (h : 0 ≤ x) : Ideal.sqrt (x : EReal) = ((√x : ℝ) : EReal) := by
  rw [Ideal.sqrt_coe, if_neg h.not_gt]
theorem div_real {x y : ℝ} (h : y ≠ 0) : Ideal.div (x : EReal) (y : EReal) = ((x / y : ℝ) : EReal) := by
  rw [Ideal.div_coe h, ← EReal.coe_mul, mul_one_div]

theorem sum_real {ι : Type} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

/-- Arrays of real numbers, read as arrays of floats of any format. -/
def up1 (φ : FTy) {a : ℕ} (f : Fin a → ℝ) : FVec Ideal ⟨1, ![a]⟩ φ := fun i => ((f (i 0) : ℝ) : EReal)
def up2 (φ : FTy) {a b : ℕ} (f : Fin a → Fin b → ℝ) : FVec Ideal ⟨2, ![a, b]⟩ φ := fun i => ((f (i 0) (i 1) : ℝ) : EReal)
def up3 (φ : FTy) {a b c : ℕ} (f : Fin a → Fin b → Fin c → ℝ) : FVec Ideal ⟨3, ![a, b, c]⟩ φ :=
  fun i => ((f (i 0) (i 1) (i 2) : ℝ) : EReal)

theorem up1_apply {φ : FTy} {a : ℕ} (f : Fin a → ℝ) (i : Fin a) : up1 φ f (ix1 i) = ((f i : ℝ) : EReal) := rfl
theorem up2_apply {φ : FTy} {a b : ℕ} (f : Fin a → Fin b → ℝ) (i : Fin a) (j : Fin b) :
    up2 φ f (ix2 i j) = ((f i j : ℝ) : EReal) := rfl
theorem up3_apply {φ : FTy} {a b c : ℕ} (f : Fin a → Fin b → Fin c → ℝ) (i : Fin a) (j : Fin b) (k : Fin c) :
    up3 φ f (ix3 i j k) = ((f i j k : ℝ) : EReal) := rfl

theorem eq_up1 {φ : FTy} {a : ℕ} {x : FVec Ideal ⟨1, ![a]⟩ φ} {f : Fin a → ℝ} (h : ∀ i, x (ix1 i) = ((f i : ℝ) : EReal)) : x = up1 φ f := by
  exact funext fun i => (congrArg x (eq_ix1 i)).trans (h _)
theorem eq_up2 {φ : FTy} {a b : ℕ} {x : FVec Ideal ⟨2, ![a, b]⟩ φ} {f : Fin a → Fin b → ℝ}
    (h : ∀ i j, x (ix2 i j) = ((f i j : ℝ) : EReal)) : x = up2 φ f := by
  exact funext fun i => (congrArg x (eq_ix2 i)).trans (h _ _)
theorem eq_up3 {φ : FTy} {a b c : ℕ} {x : FVec Ideal ⟨3, ![a, b, c]⟩ φ} {f : Fin a → Fin b → Fin c → ℝ}
    (h : ∀ i j k, x (ix3 i j k) = ((f i j k : ℝ) : EReal)) : x = up3 φ f := by
  exact funext fun i => (congrArg x (eq_ix3 i)).trans (h _ _ _)

end Cert.Proof

end
-- ==== Proof.Block.lean ====
/- The kernel's payloads on one block of real numbers: each is the real function of Spec it computes. -/
module

public import proofs.«01_k».proof.Proof.Consts
public import proofs.«01_k».proof.Proof.Gen.GmlpKernelIdeal.Skeleton

@[expose] public section

set_option maxRecDepth 8192

noncomputable section

namespace Cert.Proof.Block

open Idealize.ShloMosaic Cert.GmlpKernelIdeal Cert.GmlpKernelIdeal.Gen

theorem k_sqrt_half : (Named.named (F := Ideal) κ "sqrt_half" 0x3F3504F3#32 : Ideal .f32) = (((√2)⁻¹ : ℝ) : EReal) :=
  IdealRules.named_const.ideal_named_scalar _ _ _ _ rfl
theorem k_inv_sqrt_two_pi :
    (Named.named (F := Ideal) κ "inv_sqrt_two_pi" 0x3ECC422A#32 : Ideal .f32) = (((√(2 * Real.pi))⁻¹ : ℝ) : EReal) :=
  IdealRules.named_const.ideal_named_scalar _ _ _ _ rfl
theorem erf_op (x : ℝ) : (FloatOps.erf (F := Ideal) (φ := .f32) (x : EReal) : EReal) = ((Spec.erfR x : ℝ) : EReal) := rfl

theorem pay2 (z : Fin 128 → Fin 2048 → ℝ) : k0_pay2 (F := Ideal) (up2 .f32 z) = up2 .f32 fun p c => Spec.gelu (z p c) := by
  refine eq_up2 fun p c => ?_
  pointwise [k0_pay2]
  rw [k_sqrt_half]
  simp only [up2_apply, c_half, ← EReal.coe_mul, erf_op, ← EReal.coe_one, ← EReal.coe_add]
  rfl

theorem pay3 (z : Fin 128 → Spec.Row) : k0_pay3 (F := Ideal) (up2 .f32 z) = up2 .f32 fun p c => Spec.gat (z p) c := by
  refine eq_up2 fun p c => ?_
  simp only [k0_pay3, pay2]
  pointwise
  rfl

theorem pay4 (z : Fin 128 → Spec.Row) : k0_pay4 (F := Ideal) (up2 .f32 z) = up2 .f32 fun p c => Spec.cen (z p) c := by
  refine eq_up2 fun p c => ?_
  simp only [k0_pay4, pay2]
  pointwise
  simp only [up2_apply, c_1024, sum_real, div_1024, ← EReal.coe_sub]
  rfl

theorem pay5 (z : Fin 128 → Spec.Row) : k0_pay5 (F := Ideal) (up2 .f32 z) = up2 .f32 fun p (_ : Fin 1) => Spec.rstd (z p) := by
  refine eq_up2 fun p c => ?_
  simp only [k0_pay5, pay4]
  pointwise
  simp only [up2_apply, c_1024, c_eps, sum_real, div_1024, ← EReal.coe_mul, ← EReal.coe_add]
  exact rsqrt_real (Spec.var_pos (z p))

theorem pay6 (z : Fin 128 → Spec.Row) : k0_pay6 (F := Ideal) (up2 .f32 z) = up2 .f32 fun p c => Spec.xh (z p) c := by
  refine eq_up2 fun p c => ?_
  simp only [k0_pay6, pay4, pay5]
  pointwise
  simp only [up2_apply, ← EReal.coe_mul]
  rfl

theorem pay7 (z : Fin 128 → Spec.Row) (g b : Fin 1024 → ℝ) :
    k0_pay7 (F := Ideal) (up2 .f32 z) (up2 .f32 fun (_ : Fin 1) c => g c) (up2 .f32 fun (_ : Fin 1) c => b c)
      = up2 .bf16 fun p c => Spec.vn g b (z p) c := by
  refine eq_up2 fun p c => ?_
  simp only [k0_pay7, pay6]
  pointwise
  simp only [up2_apply, ← EReal.coe_mul, ← EReal.coe_add]
  rfl

theorem pay8_apply (t s : Fin 128) : k0_pay8 (ix2 t s) = if s ≤ t then 1#1 else 0#1 := by
  simp only [k0_pay8]
  pointwise
  have ht := t.isLt
  have hs := s.isLt
  have h : ((BitVec.ofNat 32 s.val).sle (BitVec.ofNat 32 t.val)) = decide (s ≤ t) := by
    rw [BitVec.sle_eq_decide, BitVec.toInt_ofNat', BitVec.toInt_ofNat', Int.bmod_eq_of_le (by omega) (by omega),
      Int.bmod_eq_of_le (by omega) (by omega)]
    simp only [Nat.cast_le, Fin.val_fin_le]
  by_cases hle : s ≤ t <;> simp [IntOp.cmpi, h, hle]

theorem select_mask (t s : Fin 128) (a b : EReal) : Scalar.select (k0_pay8 (ix2 t s)) a b = if s ≤ t then a else b := by
  rw [pay8_apply]
  by_cases hle : s ≤ t
  · rw [if_pos hle, if_pos hle]; rfl
  · rw [if_neg hle, if_neg hle]; rfl

theorem coe_ite {p : Prop} [Decidable p] (a b : ℝ) : (if p then (a : EReal) else b) = ((if p then a else b : ℝ) : EReal) := by
  split_ifs <;> rfl

theorem pay13 (w : Fin 8 → Fin 128 → Fin 128 → ℝ) :
    k0_pay13 (F := Ideal) k0_pay8 (up3 .f32 w) = up3 .bf16 fun n t s => if s ≤ t then w n t s else 0 := by
  refine eq_up3 fun n t s => ?_
  simp only [k0_pay13]
  pointwise
  rw [select_mask, up3_apply, ← EReal.coe_zero, coe_ite]

theorem pay14 (x : Fin 128 → Fin 1024 → ℝ) :
    k0_pay14 (F := Ideal) (up2 .bf16 x) = up3 .bf16 fun n s p => x s (Spec.ch n p) := by
  refine eq_up3 fun n t s => ?_
  simp only [k0_pay14]
  pointwise
  fin_vals n with hk
  all_goals
    simp only [hk, Nat.reduceSub, Nat.reduceLT, ↓reduceDIte, up2_apply]
    congr 2
    exact Fin.ext (by simp only [Spec.ch, hk, Nat.mul_zero, Nat.zero_add, Nat.reduceMul])

/-- A sum of products of two real arrays is real. -/
theorem dot_real {n : ℕ} (f g : Fin n → ℝ) : (∑ k, ((f k : ℝ) : EReal) * ((g k : ℝ) : EReal)) = ((∑ k, f k * g k : ℝ) : EReal) := by
  simp only [← EReal.coe_mul, sum_real]

theorem pay15 (x : Fin 128 → Fin 1024 → ℝ) (w : Fin 8 → Fin 128 → Fin 128 → ℝ) :
    k0_pay15 (F := Ideal) (up2 .bf16 x) k0_pay8 (up3 .f32 w)
      = up3 .f32 fun n t p => ∑ s, (if s ≤ t then w n t s else 0) * x s (Spec.ch n p) := by
  refine eq_up3 fun n t p => ?_
  simp only [k0_pay15, pay13, pay14]
  pointwise
  simp only [up3_apply, dot_real]

/-- One column of 128 numbers. -/
abbrev col (f : Fin 128 → ℝ) : FVec Ideal S128x1 .f32 := up2 .f32 fun t (_ : Fin 1) => f t

theorem pay16 (f : Fin 128 → ℝ) : k0_pay16 (F := Ideal) (col f) = col f := shapeCast_self _ _
theorem pay17 (f : Fin 128 → ℝ) : k0_pay17 (F := Ideal) (col f) = col f := shapeCast_self _ _
theorem pay18 (f : Fin 128 → ℝ) : k0_pay18 (F := Ideal) (col f) = col f := shapeCast_self _ _
theorem pay19 (f : Fin 128 → ℝ) : k0_pay19 (F := Ideal) (col f) = col f := shapeCast_self _ _
theorem pay20 (f : Fin 128 → ℝ) : k0_pay20 (F := Ideal) (col f) = col f := shapeCast_self _ _
theorem pay21 (f : Fin 128 → ℝ) : k0_pay21 (F := Ideal) (col f) = col f := shapeCast_self _ _
theorem pay22 (f : Fin 128 → ℝ) : k0_pay22 (F := Ideal) (col f) = col f := shapeCast_self _ _
theorem pay37 (f : Fin 128 → ℝ) : k0_pay37 (F := Ideal) (col f) = col f := shapeCast_self _ _

theorem exp_op (x : ℝ) : (FloatOps.exp (F := Ideal) (φ := .f32) (x : EReal) : EReal) = ((Real.exp x : ℝ) : EReal) := rfl

theorem fin_eq {n : ℕ} (p : Fin n) (v : ℕ) (hv : v < n) (h : v = p.val) : (⟨v, hv⟩ : Fin n) = p := Fin.ext h

theorem pay40 (w d : Fin 8 → Fin 128 → Fin 128 → ℝ) :
    k0_pay40 (F := Ideal) (up3 .bf16 w) (up3 .bf16 d)
      = up2 .f32 fun s c => ∑ t, w (Spec.grp c) t s * d (Spec.grp c) t (Spec.plc c) := by
  refine eq_up2 fun s c => ?_
  obtain ⟨n, p, rfl⟩ : ∃ n p, c = Spec.ch n p := ⟨_, _, (Spec.ch_grp_plc c).symm⟩
  have hc : (Spec.ch n p).val = 128 * n.val + p.val := rfl
  have hp := p.isLt
  rw [Spec.grp_ch, Spec.plc_ch]
  simp only [k0_pay40]
  pointwise
  fin_vals n with hk
  all_goals
    repeat first | rw [dif_pos (by omega)] | rw [dif_neg (by omega)]
    rw [fin_eq p _ _ (by omega)]
    simp only [up3_apply, dot_real]
    obtain ⟨v, hv⟩ := n
    dsimp only at hk
    subst hk
    rfl

/-- The derivative of the gelu as the kernel's operations on a real number. -/
theorem dgelu_ops (x : ℝ) :
    Ideal.ofBits .f32 0x3F000000#32 * (1 + FloatOps.erf (F := Ideal) (φ := .f32) ((x : EReal) * Named.named (F := Ideal) (φ := .f32) κ "sqrt_half" 0x3F3504F3#32))
        + (x : EReal) * (Ideal.exp (Ideal.ofBits .f32 0xBF000000#32 * x * x) * Named.named (F := Ideal) (φ := .f32) κ "inv_sqrt_two_pi" 0x3ECC422A#32)
      = ((Spec.dgelu x : ℝ) : EReal) := by
  rw [k_sqrt_half, k_inv_sqrt_two_pi, c_half, c_neg_half]
  simp only [← EReal.coe_mul, erf_op, Ideal.exp_coe, ← EReal.coe_one, ← EReal.coe_add]
  rfl

set_option maxHeartbeats 1600000 in
theorem pay23 (z : Fin 128 → Spec.Row) (dy : Fin 128 → Fin 1024 → ℝ) (m : Fin 8 → Fin 128 → Fin 128 → ℝ) (bs : Fin 8 → Fin 128 → ℝ) :
    k0_pay23 (F := Ideal) (up2 .f32 z) (up2 .f32 dy) (up3 .f32 m) (col (bs 0)) (col (bs 1)) (col (bs 2)) (col (bs 3)) (col (bs 4))
        (col (bs 5)) (col (bs 6)) (col (bs 7))
      = up2 .bf16 fun t c => dy t c * (m (Spec.grp c) t (Spec.plc c) + bs (Spec.grp c) t) * Spec.dgelu (z t (Spec.lo c)) := by
  refine eq_up2 fun s c => ?_
  obtain ⟨n, p, rfl⟩ : ∃ n p, c = Spec.ch n p := ⟨_, _, (Spec.ch_grp_plc c).symm⟩
  have hc : (Spec.ch n p).val = 128 * n.val + p.val := rfl
  have hp := p.isLt
  rw [Spec.grp_ch, Spec.plc_ch]
  simp only [k0_pay23]
  pointwise
  rw [EReal.coe_mul]
  refine congrArg₂ (· * ·) ?_ (dgelu_ops (z s (Spec.lo (Spec.ch n p))))
  fin_vals n with hk
  all_goals
    repeat first | rw [dif_pos (by omega)] | rw [dif_neg (by omega)]
    rw [fin_eq p _ _ (by omega)]
    simp only [up3_apply, up2_apply, ← EReal.coe_mul, ← EReal.coe_add]
    obtain ⟨v, hv⟩ := n
    dsimp only at hk
    subst hk
    rfl

theorem pay24 (u dy : Fin 128 → Fin 1024 → ℝ) :
    k0_pay24 (F := Ideal) (up2 .f32 u) (up2 .f32 dy) = up2 .f32 fun t c => dy t c * u t c := by
  refine eq_up2 fun s c => ?_
  pointwise [k0_pay24]
  simp only [up2_apply, ← EReal.coe_mul]

theorem pay25 (u dy : Fin 128 → Fin 1024 → ℝ) :
    k0_pay25 (F := Ideal) (up2 .f32 u) (up2 .f32 dy) = up2 .f32 fun t p => dy t (Spec.ch 0 p) * u t (Spec.ch 0 p) := by
  refine eq_up2 fun s c => ?_
  simp only [k0_pay25, pay24]
  pointwise
  rw [fin_eq (Spec.ch 0 c) _ _ (by simp [Spec.ch])]
  rfl

theorem pay26 (d : Fin 128 → Fin 1024 → ℝ) :
    k0_pay26 (F := Ideal) (up2 .f32 d) (up2 .f32 fun t p => d t (Spec.ch 0 p)) = up3 .f32 fun n t p => d t (Spec.ch n p) := by
  refine eq_up3 fun n t s => ?_
  simp only [k0_pay26]
  pointwise
  fin_vals n with hk
  all_goals
    simp only [hk, Nat.reduceSub, Nat.reduceLT, ↓reduceDIte, up2_apply]
    congr 2
    exact Fin.ext (by simp only [Spec.ch, hk, Fin.val_zero])

theorem pay27 (d : Fin 128 → Fin 1024 → ℝ) :
    k0_pay27 (F := Ideal) (up2 .f32 d) (up2 .f32 fun t p => d t (Spec.ch 0 p)) = up3 .bf16 fun n t p => d t (Spec.ch n p) := by
  simp only [k0_pay27, pay26]
  rfl

theorem pay28 (d : Fin 128 → Fin 1024 → ℝ) (x old : Fin 8 → Fin 128 → Fin 128 → ℝ) :
    k0_pay28 (F := Ideal) k0_pay8 (up3 .bf16 x) (up2 .f32 d) (up2 .f32 fun t p => d t (Spec.ch 0 p)) (up3 .f32 old)
      = up3 .f32 fun n t s => old n t s + if s ≤ t then ∑ p, d t (Spec.ch n p) * x n s p else 0 := by
  refine eq_up3 fun n t s => ?_
  simp only [k0_pay28, pay27]
  pointwise
  simp only [select_mask, up3_apply, dot_real, ← EReal.coe_zero, coe_ite, ← EReal.coe_add]

theorem pay29 (d : Fin 128 → Fin 1024 → ℝ) :
    k0_pay29 (F := Ideal) (up2 .f32 d) (up2 .f32 fun t p => d t (Spec.ch 0 p))
      = up3 .f32 fun n t (_ : Fin 1) => ∑ p, d t (Spec.ch n p) := by
  refine eq_up3 fun n t s => ?_
  simp only [k0_pay29, pay26]
  pointwise
  simp only [up3_apply, sum_real]

/-- The eight columns of the bias gradient's block. -/
theorem pay30 (d : Fin 128 → Fin 1024 → ℝ) (old : Fin 128 → ℝ) :
    k0_pay30 (F := Ideal) (up2 .f32 d) (up2 .f32 fun t p => d t (Spec.ch 0 p)) (col old)
      = col fun t => old t + ∑ p, d t (Spec.ch 0 p) := by
  refine eq_up2 fun t s => ?_
  simp only [k0_pay30, pay29]
  pointwise
  simp only [up3_apply, up2_apply, ← EReal.coe_add]

theorem pay31 (d : Fin 128 → Fin 1024 → ℝ) (old : Fin 128 → ℝ) :
    k0_pay31 (F := Ideal) (up2 .f32 d) (up2 .f32 fun t p => d t (Spec.ch 0 p)) (col old)
      = col fun t => old t + ∑ p, d t (Spec.ch 1 p) := by
  refine eq_up2 fun t s => ?_
  simp only [k0_pay31, pay29]
  pointwise
  simp only [up3_apply, up2_apply, ← EReal.coe_add]

theorem pay32 (x : Fin 8 → Fin 128 → ℝ) (old : Fin 128 → ℝ) :
    k0_pay32 (F := Ideal) (up3 .f32 fun n t (_ : Fin 1) => x n t) (col old) = col fun t => old t + x 2 t := by
  refine eq_up2 fun t s => ?_
  pointwise [k0_pay32]
  simp only [up3_apply, up2_apply, ← EReal.coe_add]
theorem pay33 (x : Fin 8 → Fin 128 → ℝ) (old : Fin 128 → ℝ) :
    k0_pay33 (F := Ideal) (up3 .f32 fun n t (_ : Fin 1) => x n t) (col old) = col fun t => old t + x 3 t := by
  refine eq_up2 fun t s => ?_
  pointwise [k0_pay33]
  simp only [up3_apply, up2_apply, ← EReal.coe_add]
theorem pay34 (x : Fin 8 → Fin 128 → ℝ) (old : Fin 128 → ℝ) :
    k0_pay34 (F := Ideal) (up3 .f32 fun n t (_ : Fin 1) => x n t) (col old) = col fun t => old t + x 4 t := by
  refine eq_up2 fun t s => ?_
  pointwise [k0_pay34]
  simp only [up3_apply, up2_apply, ← EReal.coe_add]
theorem pay35 (x : Fin 8 → Fin 128 → ℝ) (old : Fin 128 → ℝ) :
    k0_pay35 (F := Ideal) (up3 .f32 fun n t (_ : Fin 1) => x n t) (col old) = col fun t => old t + x 5 t := by
  refine eq_up2 fun t s => ?_
  pointwise [k0_pay35]
  simp only [up3_apply, up2_apply, ← EReal.coe_add]
theorem pay36 (x : Fin 8 → Fin 128 → ℝ) (old : Fin 128 → ℝ) :
    k0_pay36 (F := Ideal) (up3 .f32 fun n t (_ : Fin 1) => x n t) (col old) = col fun t => old t + x 6 t := by
  refine eq_up2 fun t s => ?_
  pointwise [k0_pay36]
  simp only [up3_apply, up2_apply, ← EReal.coe_add]
theorem pay39 (x : Fin 8 → Fin 128 → ℝ) (old : Fin 128 → ℝ) :
    k0_pay39 (F := Ideal) (col old) (k0_pay38 (up3 .f32 fun n t (_ : Fin 1) => x n t)) = col fun t => old t + x 7 t := by
  refine eq_up2 fun t s => ?_
  pointwise [k0_pay39, k0_pay38]
  simp only [up3_apply, up2_apply, ← EReal.coe_add]

/-- One row of 1024 numbers. -/
abbrev row (f : Fin 1024 → ℝ) : FVec Ideal S1x1024 .f32 := up2 .f32 fun (_ : Fin 1) c => f c

theorem pay41 (x d : Fin 128 → Fin 1024 → ℝ) (old : Fin 1024 → ℝ) :
    k0_pay41 (F := Ideal) (up2 .f32 x) (up2 .f32 d) (row old) = row fun c => old c + ∑ s, d s c * x s c := by
  refine eq_up2 fun _ c => ?_
  pointwise [k0_pay41]
  simp only [up2_apply, dot_real, ← EReal.coe_add]

theorem pay42 (d : Fin 128 → Fin 1024 → ℝ) (old : Fin 1024 → ℝ) :
    k0_pay42 (F := Ideal) (up2 .f32 d) (row old) = row fun c => old c + ∑ s, d s c := by
  refine eq_up2 fun _ c => ?_
  pointwise [k0_pay42]
  simp only [up2_apply, sum_real, ← EReal.coe_add]

theorem pay1 (z : Fin 128 → Spec.Row) (d : Fin 128 → Fin 1024 → ℝ) (g : Fin 1024 → ℝ) :
    k0_pay1 (F := Ideal) (up2 .f32 z) (up2 .f32 fun p (_ : Fin 1) => Spec.rstd (z p)) (up2 .f32 fun p c => Spec.xh (z p) c)
        (up2 .f32 d) (row g)
      = up2 .bf16 fun s c => Spec.lnT (z s) (fun c => d s c * g c) c * Spec.dgelu (z s (Spec.hi c)) := by
  refine eq_up2 fun s c => ?_
  pointwise [k0_pay1]
  rw [EReal.coe_mul]
  refine congrArg₂ (· * ·) ?_ (dgelu_ops (z s (Spec.hi c)))
  simp only [up2_apply, c_1024, ← EReal.coe_mul, sum_real, div_1024, ← EReal.coe_sub]
  rfl

theorem pay9 : k0_pay9 (F := Ideal) = up3 .f32 fun _ _ _ => 0 := eq_up3 fun _ _ _ => c_zero
theorem pay10 : k0_pay10 (F := Ideal) = up2 .f32 fun _ _ => 0 := eq_up2 fun _ _ => c_zero
theorem pay11 : k0_pay11 (F := Ideal) = row fun _ => 0 := eq_up2 fun _ _ => c_zero
theorem pay12 : k0_pay12 (F := Ideal) = row fun _ => 0 := eq_up2 fun _ _ => c_zero

end Cert.Proof.Block

end
-- ==== Proof.Whole.lean ====
/- The whole sequence as real numbers, its sixteen blocks of 128 rows, and the five results as sums over the blocks. -/
module

public import proofs.«01_k».proof.Proof.Spec

@[expose] public section

noncomputable section

namespace Cert.Proof.Spec

/-- The 2048 rows of the unit's input and of the incoming gradient. -/
structure Seq where
  z : Fin 2048 → Row
  dy : Fin 2048 → Fin 1024 → ℝ

/-- Row `p` of block `k`. -/
def at_ (k : ℕ) (p : Fin 128) : Fin 2048 := ⟨(128 * k + p.val) % 2048, Nat.mod_lt _ (by decide)⟩

theorem at_div_mod (r : Fin 2048) : at_ (r.val / 128) ⟨r.val % 128, Nat.mod_lt _ (by decide)⟩ = r :=
  Fin.ext (by simp only [at_]; omega)

/-- A row's block, and its place in it. -/
def blkOf (r : Fin 2048) : ℕ := r.val / 128
def inBlk (r : Fin 2048) : Fin 128 := ⟨r.val % 128, Nat.mod_lt _ (by decide)⟩

theorem at_blkOf (r : Fin 2048) : at_ (blkOf r) (inBlk r) = r := at_div_mod r
theorem blkOf_at (k : ℕ) (hk : k < 16) (p : Fin 128) : blkOf (at_ k p) = k := by simp only [blkOf, at_]; omega
theorem inBlk_at (k : ℕ) (hk : k < 16) (p : Fin 128) : inBlk (at_ k p) = p := Fin.ext (by simp only [inBlk, at_]; omega)

/-- A sum over the rows, block by block. -/
theorem sum_rows (f : Fin 2048 → ℝ) : ∑ r, f r = ∑ k ∈ Finset.range 16, ∑ p : Fin 128, f (at_ k p) := by
  rw [Finset.sum_range fun k => ∑ p : Fin 128, f (at_ k p), ← Fintype.sum_prod_type']
  let e : Fin 2048 ≃ Fin 16 × Fin 128 :=
    { toFun := fun r => (⟨blkOf r, by simp only [blkOf]; omega⟩, inBlk r)
      invFun := fun q => at_ q.1.val q.2
      left_inv := at_blkOf
      right_inv := fun q => Prod.ext (Fin.ext (blkOf_at _ q.1.isLt _)) (inBlk_at _ q.1.isLt _) }
  exact Fintype.sum_equiv e _ _ fun r => congrArg f (at_blkOf r).symm

/-- Block `k`. -/
def Seq.blk (S : Seq) (k : ℕ) : Blk := ⟨fun p => S.z (at_ k p), fun p => S.dy (at_ k p)⟩

variable (P : Par) (S : Seq)

/-- The parameters' gradients, summed over the first `n` blocks. -/
def sumWs (n : ℕ) (g : Fin 8) (t s : Fin 128) : ℝ := ∑ k ∈ Finset.range n, dws P (S.blk k) g t s
def sumBs (n : ℕ) (t : Fin 128) (g : Fin 8) : ℝ := ∑ k ∈ Finset.range n, dbs (S.blk k) g t
def sumG (n : ℕ) (c : Fin 1024) : ℝ := ∑ k ∈ Finset.range n, dg P (S.blk k) c
def sumB (n : ℕ) (c : Fin 1024) : ℝ := ∑ k ∈ Finset.range n, db P (S.blk k) c

theorem sumWs_succ (n : ℕ) : sumWs P S (n + 1) = fun g t s => sumWs P S n g t s + dws P (S.blk n) g t s :=
  funext fun _ => funext fun _ => funext fun _ => Finset.sum_range_succ _ _
theorem sumBs_succ (n : ℕ) : sumBs S (n + 1) = fun t g => sumBs S n t g + dbs (S.blk n) g t :=
  funext fun _ => funext fun _ => Finset.sum_range_succ _ _
theorem sumG_succ (n : ℕ) : sumG P S (n + 1) = fun c => sumG P S n c + dg P (S.blk n) c := funext fun _ => Finset.sum_range_succ _ _
theorem sumB_succ (n : ℕ) : sumB P S (n + 1) = fun c => sumB P S n c + db P (S.blk n) c := funext fun _ => Finset.sum_range_succ _ _

/-- A row block of the input's gradient: the first half's columns, then the second's. -/
def dz (B : Blk) (t : Fin 128) (c : Fin 2048) : ℝ :=
  if h : c.val < 1024 then dzLo P B t ⟨c.val, h⟩ else dzHi P B t ⟨c.val - 1024, by omega⟩

theorem dz_lo (B : Blk) (t : Fin 128) (c : Fin 1024) : dz P B t (lo c) = dzLo P B t c := dif_pos c.isLt
theorem dz_hi (B : Blk) (t : Fin 128) (c : Fin 1024) : dz P B t (hi c) = dzHi P B t c := by
  unfold dz
  rw [dif_neg (by simp [hi])]
  congr 1
  apply Fin.ext
  simp [hi]

/-- A column is of the first half or of the second. -/
theorem lo_or_hi (c : Fin 2048) : (∃ d, c = lo d) ∨ ∃ d, c = hi d := by
  by_cases h : c.val < 1024
  · exact .inl ⟨⟨c.val, h⟩, Fin.ext rfl⟩
  · exact .inr ⟨⟨c.val - 1024, by omega⟩, Fin.ext (by simp [hi]; omega)⟩

/-- The input's gradient, by row. -/
def allZ (r c : Fin 2048) : ℝ := dz P (S.blk (r.val / 128)) ⟨r.val % 128, Nat.mod_lt _ (by decide)⟩ c

theorem mixed_ch (B : Blk) (t : Fin 128) (n : Fin 8) (p : Fin 128) :
    mixed P B t (ch n p) = (∑ s, P.w n t s * vn P.g P.b (B.z s) (ch n p)) + P.bs n t := by
  unfold mixed; rw [grp_ch]
theorem dvn_ch (B : Blk) (s : Fin 128) (n : Fin 8) (p : Fin 128) :
    dvn P B s (ch n p) = ∑ t, P.w n t s * dmix B t (ch n p) := by
  unfold dvn; rw [grp_ch]

/-- The mixed values, and the gradient of the normed ones, by row. -/
def allMixed (r : Fin 2048) (c : Fin 1024) : ℝ := mixed P (S.blk (blkOf r)) (inBlk r) c
def allVn (r : Fin 2048) (c : Fin 1024) : ℝ := dvn P (S.blk (blkOf r)) (inBlk r) c

theorem allVn_at (k : ℕ) (hk : k < 16) (p : Fin 128) (c : Fin 1024) : allVn P S (at_ k p) c = dvn P (S.blk k) p c := by
  unfold allVn; rw [blkOf_at k hk, inBlk_at k hk]

end Cert.Proof.Spec

end
-- ==== Proof.Point.lean ====
/- What the kernel's body leaves in each result's buffer at one grid point, from the block's real numbers: in case A (the
   first point, which clears the sums) and in case B (a later point, which adds to them). -/
module

public import proofs.«01_k».proof.Proof.Block
public import proofs.«01_k».proof.Proof.Whole
public import proofs.«01_k».proof.Proof.Gen.GmlpKernelIdeal.Value

@[expose] public section

set_option maxRecDepth 16384

noncomputable section

namespace Cert.Proof.Point

open Idealize.ShloMosaic Idealize.ShloMosaic.TcCoe Idealize.SL.Sem Cert.GmlpKernelIdeal Cert.GmlpKernelIdeal.Gen
open Cert.Proof.Block (col row)

variable (c : Dev nD) (i : grid0.Coords) (a1 : Memref sig .tc .vmem S128x2048 .f32) (h1 : a1.IsWhole) (a2 : Memref sig .tc .vmem S128x1024 .f32) (h2 : a2.IsWhole) (a3 : Memref sig .tc .vmem S1x1024 .f32) (h3 : a3.IsWhole) (a4 : Memref sig .tc .vmem S1x1024 .f32) (h4 : a4.IsWhole) (a5 : Memref sig .tc .vmem S8x128x128 .f32) (h5 : a5.IsWhole) (a6 : Memref sig .tc .vmem S128x8 .f32) (h6 : a6.IsWhole)
  (a7 : Memref sig .tc .vmem S128x2048 .bf16) (h7 : a7.IsWhole) (a8 : Memref sig .tc .vmem S8x128x128 .f32) (h8 : a8.IsWhole) (a9 : Memref sig .tc .vmem S128x8 .f32) (h9 : a9.IsWhole) (a10 : Memref sig .tc .vmem S1x1024 .f32) (h10 : a10.IsWhole) (a11 : Memref sig .tc .vmem S1x1024 .f32) (h11 : a11.IsWhole) (a12 : Memref sig .tc .vmem S128x1024 .f32) (h12 : a12.IsWhole)

theorem hz2 : (![0, 0] : Fin 2 → Nat) = fun _ => 0 := funext fun a => by fin_cases a <;> rfl
theorem hz3 : (![0, 0, 0] : Fin 3 → Nat) = fun _ => 0 := funext fun a => by fin_cases a <;> rfl

variable (P : Spec.Par) (B : Spec.Blk)

/-- The block and the parameters as the kernel finds them. -/
abbrev xz : Vec Ideal S128x2048 .f32 := up2 .f32 B.z
abbrev xdy : Vec Ideal S128x1024 .f32 := up2 .f32 B.dy
abbrev xg : Vec Ideal S1x1024 .f32 := row P.g
abbrev xb : Vec Ideal S1x1024 .f32 := row P.b
abbrev xw : Vec Ideal S8x128x128 .f32 := up3 .f32 P.ws
abbrev xs : Vec Ideal S128x8 .f32 := up2 .f32 fun t n => P.bs n t

/-- Column `k` of a block of eight columns, loaded. -/
theorem ld_col (old : Fin 128 → Fin 8 → ℝ) (k : ℕ) (hk : k < 8) (inb) :
    View.ld (Val := Elt Ideal) (e' := .f32) (up2 .f32 old : S128x8.Idx → Ideal .f32) (Rect.unit (s := S128x8) ![0, k] ![128, 1] inb) = col fun t => old t ⟨k, hk⟩ := by
  refine eq_up2 fun t s => ?_
  have hs := s.isLt
  have ht := t.isLt
  show up2 .f32 old _ = _
  simp only [up2]
  congr 1
  congr 1 <;> apply Fin.ext <;> simp [Rect.unit] <;> omega

/-- Column `k` read where the whole block was filled, -/
theorem rd_fill {κ : Kind} {sp : Space} (v : View sig κ sp S128x8 .f32) (old : Fin 128 → Fin 8 → ℝ) (k : ℕ) (hk : k < 8) (inbz inb) (L) :
    v.readCov (Val := Elt Ideal) (⟨Rect.unit ![0, 0] ![128, 8] inbz, (up2 .f32 old : S128x8.Idx → Ideal .f32)⟩ :: L) (Rect.unit ![0, k] ![128, 1] inb).toLoadRect
      = col fun t => old t ⟨k, hk⟩ := by
  rw [← ld_col old k hk inb]
  rw [View.readCov_eq_canon', View.canon_cons_unit_zero (S := S128x8) hz2]

/-- and past a store of another column. -/
theorem rd_skip {κ : Kind} {sp : Space} (v : View sig κ sp S128x8 .f32) (k k' : ℕ) (h : k' ≠ k) (inb inb') (w) (L) :
    v.readCov (Val := Elt Ideal) (⟨Rect.unit ![0, k'] ![128, 1] inb', w⟩ :: L) (Rect.unit ![0, k] ![128, 1] inb).toLoadRect
      = v.readCov L (Rect.unit ![0, k] ![128, 1] inb).toLoadRect := by
  refine View.readCov_cons_of_disjoint v _ L _ ?_
  rw [Finset.disjoint_left]
  intro y hy hy'
  have h1 := ((Rect.mem_set_unit (s := S128x8) (inb := inb')).mp hy) 1
  have h2 := ((Rect.mem_set_unit (s := S128x8) (inb := inb)).mp hy') 1
  simp at h1 h2
  omega

/-- What a block holds after the stores of its columns: the last store's column, -/
theorem cn_hit (k : ℕ) (hk : k < 8) (inb) (f : Fin 128 → ℝ) (L) (t : Fin 128) :
    View.canon (Val := Elt Ideal) (s := S128x8) (e := .f32) (⟨Rect.unit ![0, k] ![128, 1] inb, col f⟩ :: L) (ix2 t (⟨k, hk⟩ : Fin 8)) = ((f t : ℝ) : EReal) := by
  refine (congrArg _ ?_).trans (View.canon_cons_emb (Val := Elt Ideal) (Rect.unit (s := S128x8) ![0, k] ![128, 1] inb) (col f) L (ix2 t (0 : Fin 1)))
  funext a
  apply Fin.ext
  match a with
  | ⟨0, _⟩ => simp [Rect.unit, Rect.emb]
  | ⟨1, _⟩ => simp [Rect.unit, Rect.emb]

/-- and off it the earlier stores. -/
theorem cn_miss (k k' : ℕ) (hk : k < 8) (h : k' ≠ k) (inb) (w) (L) (t : Fin 128) :
    View.canon (Val := Elt Ideal) (s := S128x8) (e := .f32) (⟨Rect.unit ![0, k'] ![128, 1] inb, w⟩ :: L) (ix2 t (⟨k, hk⟩ : Fin 8))
      = View.canon L (ix2 t (⟨k, hk⟩ : Fin 8)) := by
  refine View.canon_cons_of_not_mem _ L fun hy => ?_
  have h1 := ((Rect.mem_set_unit (s := S128x8) (inb := inb)).mp hy) 1
  simp at h1
  omega

/-- The two halves of a row block, stored one after the other. -/
theorem cn_lo (inb inb') (f g : Fin 128 → Fin 1024 → ℝ) (t : Fin 128) (c : Fin 1024) :
    View.canon (Val := Elt Ideal) (s := S128x2048) (e := .bf16)
        [⟨Rect.unit ![0, 1024] ![128, 1024] inb, (up2 .bf16 g : S128x1024.Idx → Ideal .bf16)⟩,
          ⟨Rect.unit ![0, 0] ![128, 1024] inb', (up2 .bf16 f : S128x1024.Idx → Ideal .bf16)⟩] (ix2 t (Spec.lo c)) = ((f t c : ℝ) : EReal) := by
  rw [View.canon_cons_of_not_mem]
  · have e : ix2 t (Spec.lo c) = (Rect.unit (s := S128x2048) ![0, 0] ![128, 1024] inb').emb (ix2 t c) := by
      funext a
      apply Fin.ext
      match a with
      | ⟨0, _⟩ => simp [Rect.unit, Rect.emb]
      | ⟨1, _⟩ => simp [Rect.unit, Rect.emb, Spec.lo]
    rw [e]
    exact View.canon_cons_emb (Val := Elt Ideal) (e := .bf16) (Rect.unit (s := S128x2048) ![0, 0] ![128, 1024] inb') (up2 .bf16 f) [] (ix2 t c)
  · intro hy
    have h1 := ((Rect.mem_set_unit (s := S128x2048) (inb := inb)).mp hy) 1
    have hc := c.isLt
    simp [Spec.lo] at h1
    omega

theorem cn_hi (inb) (g : Fin 128 → Fin 1024 → ℝ) (L) (t : Fin 128) (c : Fin 1024) :
    View.canon (Val := Elt Ideal) (s := S128x2048) (e := .bf16)
        (⟨Rect.unit ![0, 1024] ![128, 1024] inb, (up2 .bf16 g : S128x1024.Idx → Ideal .bf16)⟩ :: L) (ix2 t (Spec.hi c)) = ((g t c : ℝ) : EReal) := by
  have e : ix2 t (Spec.hi c) = (Rect.unit (s := S128x2048) ![0, 1024] ![128, 1024] inb).emb (ix2 t c) := by
    funext a
    apply Fin.ext
    match a with
    | ⟨0, _⟩ => simp [Rect.unit, Rect.emb]
    | ⟨1, _⟩ => simp [Rect.unit, Rect.emb, Spec.hi]
  rw [e]
  exact View.canon_cons_emb (Val := Elt Ideal) (e := .bf16) (Rect.unit (s := S128x2048) ![0, 1024] ![128, 1024] inb) (up2 .bf16 g) L (ix2 t c)

theorem pay23_cols (z : Fin 128 → Spec.Row) (dy : Fin 128 → Fin 1024 → ℝ) (m : Fin 8 → Fin 128 → Fin 128 → ℝ) (bs : Fin 8 → Fin 128 → ℝ) :
    k0_pay23 (F := Ideal) (up2 .f32 z) (up2 .f32 dy) (up3 .f32 m) (col (bs ⟨0, by omega⟩)) (col (bs ⟨1, by omega⟩)) (col (bs ⟨2, by omega⟩)) (col (bs ⟨3, by omega⟩)) (col (bs ⟨4, by omega⟩)) (col (bs ⟨5, by omega⟩)) (col (bs ⟨6, by omega⟩)) (col (bs ⟨7, by omega⟩))
      = up2 .bf16 fun t c => dy t c * (m (Spec.grp c) t (Spec.plc c) + bs (Spec.grp c) t) * Spec.dgelu (z t (Spec.lo c)) :=
  Block.pay23 z dy m bs

theorem out_A_6 (hc : cond0_0 i) :
    out0_A_6 (F := Ideal) c i a1 h1 a2 h2 a3 h3 a4 h4 a5 h5 a6 h6 a7 h7 a8 h8 a9 h9 a10 h10 a11 h11 a12 h12 hc (xz B) (xdy B) (xg P) (xb P) (xw P) (xs P) = up2 .bf16 fun t c => Spec.dz P B t c := by
  unfold out0_A_6
  rw [View.read_writes_eq_canon _ _ _ (cover0_A_6 c i a1 h1 a2 h2 a3 h3 a4 h4 a5 h5 a6 h6 a7 h7 a8 h8 a9 h9 a10 h10 a11 h11 a12 h12 hc (xz B) (xdy B) (xg P) (xb P) (xw P) (xs P))]
  unfold kernelRun0_A
  dsimp only
  sl_unfold_words
  simp only [View.readAt_eq_ld, h1.read_unread, h2.read_unread, h3.read_unread, h4.read_unread, h5.read_unread, h6.read_unread,
    View.ld_unit_zero (S := S128x2048) hz2, View.ld_unit_zero (S := S128x1024) hz2, View.ld_unit_zero (S := S1x1024) hz2, View.ld_unit_zero (S := S8x128x128) hz3]
  simp (discharger := omega) only [ld_col, rd_fill, rd_skip, View.readCov_cons_toLoadRect, View.readCov_unit_zero (S := S8x128x128) _ hz3, View.readCov_unit_zero (S := S1x1024) _ hz2, Block.pay1, Block.pay2, Block.pay3, Block.pay4, Block.pay5, Block.pay6, Block.pay7, Block.pay9, Block.pay10, Block.pay11, Block.pay12, Block.pay13, Block.pay14, Block.pay15, Block.pay16, Block.pay17, Block.pay18, Block.pay19, Block.pay20, Block.pay21, Block.pay22, Block.pay24, Block.pay25, Block.pay26, Block.pay27, Block.pay28, Block.pay29, Block.pay30, Block.pay31, Block.pay32, Block.pay33, Block.pay34, Block.pay35, Block.pay36, Block.pay37, Block.pay39, Block.pay40, Block.pay41, Block.pay42, pay23_cols, Spec.ch_grp_plc]
  refine eq_up2 fun t c => ?_
  rcases Spec.lo_or_hi c with ⟨d, rfl⟩ | ⟨d, rfl⟩
  · rw [Spec.dz_lo, cn_lo]; rfl
  · rw [Spec.dz_hi, cn_hi]; rfl

theorem out_A_7 (hc : cond0_0 i) :
    out0_A_7 (F := Ideal) c i a1 h1 a2 h2 a3 h3 a4 h4 a5 h5 a6 h6 a7 h7 a8 h8 a9 h9 a10 h10 a11 h11 a12 h12 hc (xz B) (xdy B) (xg P) (xb P) (xw P) (xs P) = up3 .f32 fun n t s => 0 + Spec.dws P B n t s := by
  unfold out0_A_7
  rw [View.read_writes_eq_canon _ _ _ (cover0_A_7 c i a1 h1 a2 h2 a3 h3 a4 h4 a5 h5 a6 h6 a7 h7 a8 h8 a9 h9 a10 h10 a11 h11 a12 h12 hc (xz B) (xdy B) (xg P) (xb P) (xw P) (xs P))]
  unfold kernelRun0_A
  dsimp only
  sl_unfold_words
  rw [View.canon_cons_unit_zero hz3]
  simp only [View.readAt_eq_ld, h1.read_unread, h2.read_unread, h3.read_unread, h4.read_unread, h5.read_unread, h6.read_unread,
    View.ld_unit_zero (S := S128x2048) hz2, View.ld_unit_zero (S := S128x1024) hz2, View.ld_unit_zero (S := S1x1024) hz2, View.ld_unit_zero (S := S8x128x128) hz3]
  simp (discharger := omega) only [ld_col, rd_fill, rd_skip, View.readCov_cons_toLoadRect, View.readCov_unit_zero (S := S8x128x128) _ hz3, View.readCov_unit_zero (S := S1x1024) _ hz2, Block.pay1, Block.pay2, Block.pay3, Block.pay4, Block.pay5, Block.pay6, Block.pay7, Block.pay9, Block.pay10, Block.pay11, Block.pay12, Block.pay13, Block.pay14, Block.pay15, Block.pay16, Block.pay17, Block.pay18, Block.pay19, Block.pay20, Block.pay21, Block.pay22, Block.pay24, Block.pay25, Block.pay26, Block.pay27, Block.pay28, Block.pay29, Block.pay30, Block.pay31, Block.pay32, Block.pay33, Block.pay34, Block.pay35, Block.pay36, Block.pay37, Block.pay39, Block.pay40, Block.pay41, Block.pay42, pay23_cols, Spec.ch_grp_plc]
  rfl

theorem out_A_8 (hc : cond0_0 i) :
    out0_A_8 (F := Ideal) c i a1 h1 a2 h2 a3 h3 a4 h4 a5 h5 a6 h6 a7 h7 a8 h8 a9 h9 a10 h10 a11 h11 a12 h12 hc (xz B) (xdy B) (xg P) (xb P) (xw P) (xs P) = up2 .f32 fun t n => 0 + Spec.dbs B n t := by
  unfold out0_A_8
  rw [View.read_writes_eq_canon _ _ _ (cover0_A_8 c i a1 h1 a2 h2 a3 h3 a4 h4 a5 h5 a6 h6 a7 h7 a8 h8 a9 h9 a10 h10 a11 h11 a12 h12 hc (xz B) (xdy B) (xg P) (xb P) (xw P) (xs P))]
  unfold kernelRun0_A
  dsimp only
  sl_unfold_words
  simp only [View.readAt_eq_ld, h1.read_unread, h2.read_unread, h3.read_unread, h4.read_unread, h5.read_unread, h6.read_unread,
    View.ld_unit_zero (S := S128x2048) hz2, View.ld_unit_zero (S := S128x1024) hz2, View.ld_unit_zero (S := S1x1024) hz2, View.ld_unit_zero (S := S8x128x128) hz3]
  simp (discharger := omega) only [ld_col, rd_fill, rd_skip, View.readCov_cons_toLoadRect, View.readCov_unit_zero (S := S8x128x128) _ hz3, View.readCov_unit_zero (S := S1x1024) _ hz2, Block.pay1, Block.pay2, Block.pay3, Block.pay4, Block.pay5, Block.pay6, Block.pay7, Block.pay9, Block.pay10, Block.pay11, Block.pay12, Block.pay13, Block.pay14, Block.pay15, Block.pay16, Block.pay17, Block.pay18, Block.pay19, Block.pay20, Block.pay21, Block.pay22, Block.pay24, Block.pay25, Block.pay26, Block.pay27, Block.pay28, Block.pay29, Block.pay30, Block.pay31, Block.pay32, Block.pay33, Block.pay34, Block.pay35, Block.pay36, Block.pay37, Block.pay39, Block.pay40, Block.pay41, Block.pay42, pay23_cols, Spec.ch_grp_plc]
  refine eq_up2 fun t n => ?_
  fin_cases n <;> simp (discharger := omega) only [cn_hit, cn_miss] <;> rfl

theorem out_A_9 (hc : cond0_0 i) :
    out0_A_9 (F := Ideal) c i a1 h1 a2 h2 a3 h3 a4 h4 a5 h5 a6 h6 a7 h7 a8 h8 a9 h9 a10 h10 a11 h11 a12 h12 hc (xz B) (xdy B) (xg P) (xb P) (xw P) (xs P) = row fun c => 0 + Spec.dg P B c := by
  unfold out0_A_9
  rw [View.read_writes_eq_canon _ _ _ (cover0_A_9 c i a1 h1 a2 h2 a3 h3 a4 h4 a5 h5 a6 h6 a7 h7 a8 h8 a9 h9 a10 h10 a11 h11 a12 h12 hc (xz B) (xdy B) (xg P) (xb P) (xw P) (xs P))]
  unfold kernelRun0_A
  dsimp only
  sl_unfold_words
  rw [View.canon_cons_unit_zero hz2]
  simp only [View.readAt_eq_ld, h1.read_unread, h2.read_unread, h3.read_unread, h4.read_unread, h5.read_unread, h6.read_unread,
    View.ld_unit_zero (S := S128x2048) hz2, View.ld_unit_zero (S := S128x1024) hz2, View.ld_unit_zero (S := S1x1024) hz2, View.ld_unit_zero (S := S8x128x128) hz3]
  simp (discharger := omega) only [ld_col, rd_fill, rd_skip, View.readCov_cons_toLoadRect, View.readCov_unit_zero (S := S8x128x128) _ hz3, View.readCov_unit_zero (S := S1x1024) _ hz2, Block.pay1, Block.pay2, Block.pay3, Block.pay4, Block.pay5, Block.pay6, Block.pay7, Block.pay9, Block.pay10, Block.pay11, Block.pay12, Block.pay13, Block.pay14, Block.pay15, Block.pay16, Block.pay17, Block.pay18, Block.pay19, Block.pay20, Block.pay21, Block.pay22, Block.pay24, Block.pay25, Block.pay26, Block.pay27, Block.pay28, Block.pay29, Block.pay30, Block.pay31, Block.pay32, Block.pay33, Block.pay34, Block.pay35, Block.pay36, Block.pay37, Block.pay39, Block.pay40, Block.pay41, Block.pay42, pay23_cols, Spec.ch_grp_plc]
  rfl

theorem out_A_10 (hc : cond0_0 i) :
    out0_A_10 (F := Ideal) c i a1 h1 a2 h2 a3 h3 a4 h4 a5 h5 a6 h6 a7 h7 a8 h8 a9 h9 a10 h10 a11 h11 a12 h12 hc (xz B) (xdy B) (xg P) (xb P) (xw P) (xs P) = row fun c => 0 + Spec.db P B c := by
  unfold out0_A_10
  rw [View.read_writes_eq_canon _ _ _ (cover0_A_10 c i a1 h1 a2 h2 a3 h3 a4 h4 a5 h5 a6 h6 a7 h7 a8 h8 a9 h9 a10 h10 a11 h11 a12 h12 hc (xz B) (xdy B) (xg P) (xb P) (xw P) (xs P))]
  unfold kernelRun0_A
  dsimp only
  sl_unfold_words
  rw [View.canon_cons_unit_zero hz2]
  simp only [View.readAt_eq_ld, h1.read_unread, h2.read_unread, h3.read_unread, h4.read_unread, h5.read_unread, h6.read_unread,
    View.ld_unit_zero (S := S128x2048) hz2, View.ld_unit_zero (S := S128x1024) hz2, View.ld_unit_zero (S := S1x1024) hz2, View.ld_unit_zero (S := S8x128x128) hz3]
  simp (discharger := omega) only [ld_col, rd_fill, rd_skip, View.readCov_cons_toLoadRect, View.readCov_unit_zero (S := S8x128x128) _ hz3, View.readCov_unit_zero (S := S1x1024) _ hz2, Block.pay1, Block.pay2, Block.pay3, Block.pay4, Block.pay5, Block.pay6, Block.pay7, Block.pay9, Block.pay10, Block.pay11, Block.pay12, Block.pay13, Block.pay14, Block.pay15, Block.pay16, Block.pay17, Block.pay18, Block.pay19, Block.pay20, Block.pay21, Block.pay22, Block.pay24, Block.pay25, Block.pay26, Block.pay27, Block.pay28, Block.pay29, Block.pay30, Block.pay31, Block.pay32, Block.pay33, Block.pay34, Block.pay35, Block.pay36, Block.pay37, Block.pay39, Block.pay40, Block.pay41, Block.pay42, pay23_cols, Spec.ch_grp_plc]
  rfl

theorem out_B_6 (hc : ¬cond0_0 i) (o7 : Fin 8 → Fin 128 → Fin 128 → ℝ) (o8 : Fin 128 → Fin 8 → ℝ) (o9 o10 : Fin 1024 → ℝ) :
    out0_B_6 (F := Ideal) c i a1 h1 a2 h2 a3 h3 a4 h4 a5 h5 a6 h6 a7 h7 a8 h8 a9 h9 a10 h10 a11 h11 a12 h12 hc (xz B) (xdy B) (xg P) (xb P) (xw P) (xs P) (up3 .f32 o7 : S8x128x128.Idx → Ideal .f32) (up2 .f32 o8 : S128x8.Idx → Ideal .f32) (row o9) (row o10) = up2 .bf16 fun t c => Spec.dz P B t c := by
  unfold out0_B_6
  rw [View.read_writes_eq_canon _ _ _ (cover0_B_6 c i a1 h1 a2 h2 a3 h3 a4 h4 a5 h5 a6 h6 a7 h7 a8 h8 a9 h9 a10 h10 a11 h11 a12 h12 hc (xz B) (xdy B) (xg P) (xb P) (xw P) (xs P) (up3 .f32 o7 : S8x128x128.Idx → Ideal .f32) (up2 .f32 o8 : S128x8.Idx → Ideal .f32) (row o9) (row o10))]
  unfold kernelRun0_B
  dsimp only
  sl_unfold_words
  simp only [View.readAt_eq_ld, h1.read_unread, h2.read_unread, h3.read_unread, h4.read_unread, h5.read_unread, h6.read_unread,
    View.ld_unit_zero (S := S128x2048) hz2, View.ld_unit_zero (S := S128x1024) hz2, View.ld_unit_zero (S := S1x1024) hz2, View.ld_unit_zero (S := S8x128x128) hz3,
    View.ld_unit_zero (S := S128x8) hz2, h8.read_unread, h9.read_unread, h10.read_unread, h11.read_unread]
  simp (discharger := omega) only [ld_col, rd_fill, rd_skip, View.readCov_cons_toLoadRect, View.readCov_unit_zero (S := S8x128x128) _ hz3, View.readCov_unit_zero (S := S1x1024) _ hz2, Block.pay1, Block.pay2, Block.pay3, Block.pay4, Block.pay5, Block.pay6, Block.pay7, Block.pay9, Block.pay10, Block.pay11, Block.pay12, Block.pay13, Block.pay14, Block.pay15, Block.pay16, Block.pay17, Block.pay18, Block.pay19, Block.pay20, Block.pay21, Block.pay22, Block.pay24, Block.pay25, Block.pay26, Block.pay27, Block.pay28, Block.pay29, Block.pay30, Block.pay31, Block.pay32, Block.pay33, Block.pay34, Block.pay35, Block.pay36, Block.pay37, Block.pay39, Block.pay40, Block.pay41, Block.pay42, pay23_cols, Spec.ch_grp_plc]
  refine eq_up2 fun t c => ?_
  rcases Spec.lo_or_hi c with ⟨d, rfl⟩ | ⟨d, rfl⟩
  · rw [Spec.dz_lo, cn_lo]; rfl
  · rw [Spec.dz_hi, cn_hi]; rfl

theorem out_B_7 (hc : ¬cond0_0 i) (o7 : Fin 8 → Fin 128 → Fin 128 → ℝ) (o8 : Fin 128 → Fin 8 → ℝ) (o9 o10 : Fin 1024 → ℝ) :
    out0_B_7 (F := Ideal) c i a1 h1 a2 h2 a3 h3 a4 h4 a5 h5 a6 h6 a7 h7 a8 h8 a9 h9 a10 h10 a11 h11 a12 h12 hc (xz B) (xdy B) (xg P) (xb P) (xw P) (xs P) (up3 .f32 o7 : S8x128x128.Idx → Ideal .f32) (up2 .f32 o8 : S128x8.Idx → Ideal .f32) (row o9) (row o10) = up3 .f32 fun n t s => o7 n t s + Spec.dws P B n t s := by
  unfold out0_B_7
  rw [View.read_writes_eq_canon _ _ _ (cover0_B_7 c i a1 h1 a2 h2 a3 h3 a4 h4 a5 h5 a6 h6 a7 h7 a8 h8 a9 h9 a10 h10 a11 h11 a12 h12 hc (xz B) (xdy B) (xg P) (xb P) (xw P) (xs P) (up3 .f32 o7 : S8x128x128.Idx → Ideal .f32) (up2 .f32 o8 : S128x8.Idx → Ideal .f32) (row o9) (row o10))]
  unfold kernelRun0_B
  dsimp only
  sl_unfold_words
  rw [View.canon_cons_unit_zero hz3]
  simp only [View.readAt_eq_ld, h1.read_unread, h2.read_unread, h3.read_unread, h4.read_unread, h5.read_unread, h6.read_unread,
    View.ld_unit_zero (S := S128x2048) hz2, View.ld_unit_zero (S := S128x1024) hz2, View.ld_unit_zero (S := S1x1024) hz2, View.ld_unit_zero (S := S8x128x128) hz3,
    View.ld_unit_zero (S := S128x8) hz2, h8.read_unread, h9.read_unread, h10.read_unread, h11.read_unread]
  simp (discharger := omega) only [ld_col, rd_fill, rd_skip, View.readCov_cons_toLoadRect, View.readCov_unit_zero (S := S8x128x128) _ hz3, View.readCov_unit_zero (S := S1x1024) _ hz2, Block.pay1, Block.pay2, Block.pay3, Block.pay4, Block.pay5, Block.pay6, Block.pay7, Block.pay9, Block.pay10, Block.pay11, Block.pay12, Block.pay13, Block.pay14, Block.pay15, Block.pay16, Block.pay17, Block.pay18, Block.pay19, Block.pay20, Block.pay21, Block.pay22, Block.pay24, Block.pay25, Block.pay26, Block.pay27, Block.pay28, Block.pay29, Block.pay30, Block.pay31, Block.pay32, Block.pay33, Block.pay34, Block.pay35, Block.pay36, Block.pay37, Block.pay39, Block.pay40, Block.pay41, Block.pay42, pay23_cols, Spec.ch_grp_plc]
  rfl

theorem out_B_8 (hc : ¬cond0_0 i) (o7 : Fin 8 → Fin 128 → Fin 128 → ℝ) (o8 : Fin 128 → Fin 8 → ℝ) (o9 o10 : Fin 1024 → ℝ) :
    out0_B_8 (F := Ideal) c i a1 h1 a2 h2 a3 h3 a4 h4 a5 h5 a6 h6 a7 h7 a8 h8 a9 h9 a10 h10 a11 h11 a12 h12 hc (xz B) (xdy B) (xg P) (xb P) (xw P) (xs P) (up3 .f32 o7 : S8x128x128.Idx → Ideal .f32) (up2 .f32 o8 : S128x8.Idx → Ideal .f32) (row o9) (row o10) = up2 .f32 fun t n => o8 t n + Spec.dbs B n t := by
  unfold out0_B_8
  rw [View.read_writes_eq_canon _ _ _ (cover0_B_8 c i a1 h1 a2 h2 a3 h3 a4 h4 a5 h5 a6 h6 a7 h7 a8 h8 a9 h9 a10 h10 a11 h11 a12 h12 hc (xz B) (xdy B) (xg P) (xb P) (xw P) (xs P) (up3 .f32 o7 : S8x128x128.Idx → Ideal .f32) (up2 .f32 o8 : S128x8.Idx → Ideal .f32) (row o9) (row o10))]
  unfold kernelRun0_B
  dsimp only
  sl_unfold_words
  simp only [View.readAt_eq_ld, h1.read_unread, h2.read_unread, h3.read_unread, h4.read_unread, h5.read_unread, h6.read_unread,
    View.ld_unit_zero (S := S128x2048) hz2, View.ld_unit_zero (S := S128x1024) hz2, View.ld_unit_zero (S := S1x1024) hz2, View.ld_unit_zero (S := S8x128x128) hz3,
    View.ld_unit_zero (S := S128x8) hz2, h8.read_unread, h9.read_unread, h10.read_unread, h11.read_unread]
  simp (discharger := omega) only [ld_col, rd_fill, rd_skip, View.readCov_cons_toLoadRect, View.readCov_unit_zero (S := S8x128x128) _ hz3, View.readCov_unit_zero (S := S1x1024) _ hz2, Block.pay1, Block.pay2, Block.pay3, Block.pay4, Block.pay5, Block.pay6, Block.pay7, Block.pay9, Block.pay10, Block.pay11, Block.pay12, Block.pay13, Block.pay14, Block.pay15, Block.pay16, Block.pay17, Block.pay18, Block.pay19, Block.pay20, Block.pay21, Block.pay22, Block.pay24, Block.pay25, Block.pay26, Block.pay27, Block.pay28, Block.pay29, Block.pay30, Block.pay31, Block.pay32, Block.pay33, Block.pay34, Block.pay35, Block.pay36, Block.pay37, Block.pay39, Block.pay40, Block.pay41, Block.pay42, pay23_cols, Spec.ch_grp_plc]
  refine eq_up2 fun t n => ?_
  fin_cases n <;> simp (discharger := omega) only [cn_hit, cn_miss] <;> rfl

theorem out_B_9 (hc : ¬cond0_0 i) (o7 : Fin 8 → Fin 128 → Fin 128 → ℝ) (o8 : Fin 128 → Fin 8 → ℝ) (o9 o10 : Fin 1024 → ℝ) :
    out0_B_9 (F := Ideal) c i a1 h1 a2 h2 a3 h3 a4 h4 a5 h5 a6 h6 a7 h7 a8 h8 a9 h9 a10 h10 a11 h11 a12 h12 hc (xz B) (xdy B) (xg P) (xb P) (xw P) (xs P) (up3 .f32 o7 : S8x128x128.Idx → Ideal .f32) (up2 .f32 o8 : S128x8.Idx → Ideal .f32) (row o9) (row o10) = row fun c => o9 c + Spec.dg P B c := by
  unfold out0_B_9
  rw [View.read_writes_eq_canon _ _ _ (cover0_B_9 c i a1 h1 a2 h2 a3 h3 a4 h4 a5 h5 a6 h6 a7 h7 a8 h8 a9 h9 a10 h10 a11 h11 a12 h12 hc (xz B) (xdy B) (xg P) (xb P) (xw P) (xs P) (up3 .f32 o7 : S8x128x128.Idx → Ideal .f32) (up2 .f32 o8 : S128x8.Idx → Ideal .f32) (row o9) (row o10))]
  unfold kernelRun0_B
  dsimp only
  sl_unfold_words
  rw [View.canon_cons_unit_zero hz2]
  simp only [View.readAt_eq_ld, h1.read_unread, h2.read_unread, h3.read_unread, h4.read_unread, h5.read_unread, h6.read_unread,
    View.ld_unit_zero (S := S128x2048) hz2, View.ld_unit_zero (S := S128x1024) hz2, View.ld_unit_zero (S := S1x1024) hz2, View.ld_unit_zero (S := S8x128x128) hz3,
    View.ld_unit_zero (S := S128x8) hz2, h8.read_unread, h9.read_unread, h10.read_unread, h11.read_unread]
  simp (discharger := omega) only [ld_col, rd_fill, rd_skip, View.readCov_cons_toLoadRect, View.readCov_unit_zero (S := S8x128x128) _ hz3, View.readCov_unit_zero (S := S1x1024) _ hz2, Block.pay1, Block.pay2, Block.pay3, Block.pay4, Block.pay5, Block.pay6, Block.pay7, Block.pay9, Block.pay10, Block.pay11, Block.pay12, Block.pay13, Block.pay14, Block.pay15, Block.pay16, Block.pay17, Block.pay18, Block.pay19, Block.pay20, Block.pay21, Block.pay22, Block.pay24, Block.pay25, Block.pay26, Block.pay27, Block.pay28, Block.pay29, Block.pay30, Block.pay31, Block.pay32, Block.pay33, Block.pay34, Block.pay35, Block.pay36, Block.pay37, Block.pay39, Block.pay40, Block.pay41, Block.pay42, pay23_cols, Spec.ch_grp_plc]
  rfl

theorem out_B_10 (hc : ¬cond0_0 i) (o7 : Fin 8 → Fin 128 → Fin 128 → ℝ) (o8 : Fin 128 → Fin 8 → ℝ) (o9 o10 : Fin 1024 → ℝ) :
    out0_B_10 (F := Ideal) c i a1 h1 a2 h2 a3 h3 a4 h4 a5 h5 a6 h6 a7 h7 a8 h8 a9 h9 a10 h10 a11 h11 a12 h12 hc (xz B) (xdy B) (xg P) (xb P) (xw P) (xs P) (up3 .f32 o7 : S8x128x128.Idx → Ideal .f32) (up2 .f32 o8 : S128x8.Idx → Ideal .f32) (row o9) (row o10) = row fun c => o10 c + Spec.db P B c := by
  unfold out0_B_10
  rw [View.read_writes_eq_canon _ _ _ (cover0_B_10 c i a1 h1 a2 h2 a3 h3 a4 h4 a5 h5 a6 h6 a7 h7 a8 h8 a9 h9 a10 h10 a11 h11 a12 h12 hc (xz B) (xdy B) (xg P) (xb P) (xw P) (xs P) (up3 .f32 o7 : S8x128x128.Idx → Ideal .f32) (up2 .f32 o8 : S128x8.Idx → Ideal .f32) (row o9) (row o10))]
  unfold kernelRun0_B
  dsimp only
  sl_unfold_words
  rw [View.canon_cons_unit_zero hz2]
  simp only [View.readAt_eq_ld, h1.read_unread, h2.read_unread, h3.read_unread, h4.read_unread, h5.read_unread, h6.read_unread,
    View.ld_unit_zero (S := S128x2048) hz2, View.ld_unit_zero (S := S128x1024) hz2, View.ld_unit_zero (S := S1x1024) hz2, View.ld_unit_zero (S := S8x128x128) hz3,
    View.ld_unit_zero (S := S128x8) hz2, h8.read_unread, h9.read_unread, h10.read_unread, h11.read_unread]
  simp (discharger := omega) only [ld_col, rd_fill, rd_skip, View.readCov_cons_toLoadRect, View.readCov_unit_zero (S := S8x128x128) _ hz3, View.readCov_unit_zero (S := S1x1024) _ hz2, Block.pay1, Block.pay2, Block.pay3, Block.pay4, Block.pay5, Block.pay6, Block.pay7, Block.pay9, Block.pay10, Block.pay11, Block.pay12, Block.pay13, Block.pay14, Block.pay15, Block.pay16, Block.pay17, Block.pay18, Block.pay19, Block.pay20, Block.pay21, Block.pay22, Block.pay24, Block.pay25, Block.pay26, Block.pay27, Block.pay28, Block.pay29, Block.pay30, Block.pay31, Block.pay32, Block.pay33, Block.pay34, Block.pay35, Block.pay36, Block.pay37, Block.pay39, Block.pay40, Block.pay41, Block.pay42, pay23_cols, Spec.ch_grp_plc]
  rfl

end Cert.Proof.Point

end
-- ==== Proof.Fold.lean ====
/- The kernel's five results as real numbers: the points' contents by induction on the point, and the arrays after the
   last one. -/
module

public import proofs.«01_k».proof.Proof.Point

@[expose] public section

set_option maxRecDepth 16384

noncomputable section

namespace Cert.Proof.Fold

open Idealize.ShloMosaic Idealize.ShloMosaic.TcCoe Idealize.SL.Sem Cert.GmlpKernelIdeal Cert.GmlpKernelIdeal.Gen
open Idealize.ShloMosaic.Pipeline (Dat)
open Cert.Proof.Block (col row)
open Cert.Proof.Spec (at_)

variable (m : (ℓ : Loc nD τ sig) → Buf (Elt Ideal) ℓ) (c : Dev nD) (P : Spec.Par) (S : Spec.Seq)

/-- The arguments hold the real numbers `P` and `S`. -/
structure Holds : Prop where
  z : (m ((c : Thread nD τ).loc main_arg0) : FVec Ideal S2048x2048 .f32) = up2 .f32 S.z
  dy : (m ((c : Thread nD τ).loc main_arg1) : FVec Ideal S2048x1024 .f32) = up2 .f32 S.dy
  g : (m ((c : Thread nD τ).loc main_arg2) : FVec Ideal S1x1024 .f32) = row P.g
  b : (m ((c : Thread nD τ).loc main_arg3) : FVec Ideal S1x1024 .f32) = row P.b
  ws : (m ((c : Thread nD τ).loc main_arg4) : FVec Ideal S8x128x128 .f32) = up3 .f32 P.ws
  bs : (m ((c : Thread nD τ).loc main_arg5) : FVec Ideal S8x128 .f32) = up2 .f32 P.bs

variable {m c P S} (H : Holds m c P S)
include H

theorem iblk0 (t : Fin cfg0.N) : (iblk m c 0 t : FVec Ideal S128x2048 .f32) = up2 .f32 (S.blk t.val).z := by
  have hi : ∀ t : Fin grid0.N, win0_0.index t 0 = t.val ∧ win0_0.index t 1 = 0 := by decide +kernel
  have ht : t.val < 16 := t.isLt.trans_eq N_0
  refine eq_up2 fun p d => ?_
  unfold iblk
  rw [View.read_apply]
  show V m c main_arg0 _ = _
  rw [V_main_arg0 m c]
  refine (congrFun H.z _).trans ?_
  show ((S.z _ _ : ℝ) : EReal) = ((S.z (at_ t.val p) d : ℝ) : EReal)
  congr 2
  · apply Fin.ext
    show win0_0.index t 0 * 128 + 1 * p.val = (128 * t.val + p.val) % 2048
    rw [(hi t).1]
    omega
  · apply Fin.ext
    show win0_0.index t 1 * 2048 + 1 * d.val = d.val
    rw [(hi t).2]
    omega

theorem iblk1 (t : Fin cfg0.N) : (iblk m c 1 t : FVec Ideal S128x1024 .f32) = up2 .f32 (S.blk t.val).dy := by
  have hi : ∀ t : Fin grid0.N, win0_1.index t 0 = t.val ∧ win0_1.index t 1 = 0 := by decide +kernel
  have ht : t.val < 16 := t.isLt.trans_eq N_0
  refine eq_up2 fun p d => ?_
  unfold iblk
  rw [View.read_apply]
  show V m c main_arg1 _ = _
  rw [V_main_arg1 m c]
  refine (congrFun H.dy _).trans ?_
  show ((S.dy _ _ : ℝ) : EReal) = ((S.dy (at_ t.val p) d : ℝ) : EReal)
  congr 2
  · apply Fin.ext
    show win0_1.index t 0 * 128 + 1 * p.val = (128 * t.val + p.val) % 2048
    rw [(hi t).1]
    omega
  · apply Fin.ext
    show win0_1.index t 1 * 1024 + 1 * d.val = d.val
    rw [(hi t).2]
    omega

theorem iblk2 (t : Fin cfg0.N) : (iblk m c 2 t : FVec Ideal S1x1024 .f32) = row P.g := by
  have hi : ∀ t : Fin grid0.N, win0_2.index t 0 = 0 ∧ win0_2.index t 1 = 0 := by decide +kernel
  refine Eq.trans ?_ ((V_main_arg2 m c).trans H.g)
  funext j
  unfold iblk
  rw [View.read_apply]
  show V m c main_arg2 _ = V m c main_arg2 j
  congr 1
  funext a
  apply Fin.ext
  match a with
  | ⟨0, _⟩ => show win0_2.index t 0 * 1 + 1 * (j 0).val = (j 0).val; rw [(hi t).1]; omega
  | ⟨1, _⟩ => show win0_2.index t 1 * 1024 + 1 * (j 1).val = (j 1).val; rw [(hi t).2]; omega

theorem iblk3 (t : Fin cfg0.N) : (iblk m c 3 t : FVec Ideal S1x1024 .f32) = row P.b := by
  have hi : ∀ t : Fin grid0.N, win0_3.index t 0 = 0 ∧ win0_3.index t 1 = 0 := by decide +kernel
  refine Eq.trans ?_ ((V_main_arg3 m c).trans H.b)
  funext j
  unfold iblk
  rw [View.read_apply]
  show V m c main_arg3 _ = V m c main_arg3 j
  congr 1
  funext a
  apply Fin.ext
  match a with
  | ⟨0, _⟩ => show win0_3.index t 0 * 1 + 1 * (j 0).val = (j 0).val; rw [(hi t).1]; omega
  | ⟨1, _⟩ => show win0_3.index t 1 * 1024 + 1 * (j 1).val = (j 1).val; rw [(hi t).2]; omega

theorem iblk4 (t : Fin cfg0.N) : (iblk m c 4 t : FVec Ideal S8x128x128 .f32) = up3 .f32 P.ws := by
  have hi : ∀ t : Fin grid0.N, win0_4.index t 0 = 0 ∧ win0_4.index t 1 = 0 ∧ win0_4.index t 2 = 0 := by decide +kernel
  refine Eq.trans ?_ ((V_main_arg4 m c).trans H.ws)
  funext j
  unfold iblk
  rw [View.read_apply]
  show V m c main_arg4 _ = V m c main_arg4 j
  congr 1
  funext a
  apply Fin.ext
  match a with
  | ⟨0, _⟩ => show win0_4.index t 0 * 8 + 1 * (j 0).val = (j 0).val; rw [(hi t).1]; omega
  | ⟨1, _⟩ => show win0_4.index t 1 * 128 + 1 * (j 1).val = (j 1).val; rw [(hi t).2.1]; omega
  | ⟨2, _⟩ => show win0_4.index t 2 * 128 + 1 * (j 2).val = (j 2).val; rw [(hi t).2.2]; omega

omit H in
/-- The host's transpose before the kernel. -/
theorem V_bias : (V m c main_v0 : FVec Ideal S128x8 .f32) = transpose S128x8 [1, 0] (m ((c : Thread nD τ).loc main_arg5) : FVec Ideal S8x128 .f32) transposes_S8x128_S128x8_1_0 := by
  simp only [V, hostOps0, StableHlo.after]
  rfl

theorem bias : (V m c main_v0 : FVec Ideal S128x8 .f32) = up2 .f32 fun t n => P.bs n t := by
  rw [V_bias, H.bs]
  exact eq_up2 fun t n => by pointwise [up2]

theorem iblk5 (t : Fin cfg0.N) : (iblk m c 5 t : FVec Ideal S128x8 .f32) = up2 .f32 fun t n => P.bs n t := by
  have hi : ∀ t : Fin grid0.N, win0_5.index t 0 = 0 ∧ win0_5.index t 1 = 0 := by decide +kernel
  refine Eq.trans ?_ (bias H)
  funext j
  unfold iblk
  rw [View.read_apply]
  show V m c main_v0 _ = V m c main_v0 j
  congr 1
  funext a
  apply Fin.ext
  match a with
  | ⟨0, _⟩ => show win0_5.index t 0 * 128 + 1 * (j 0).val = (j 0).val; rw [(hi t).1]; omega
  | ⟨1, _⟩ => show win0_5.index t 1 * 8 + 1 * (j 1).val = (j 1).val; rw [(hi t).2]; omega

/-- What the results' buffers hold after point `n`. -/
theorem outs_eq : ∀ (n : ℕ) (h : n < cfg0.N), outsAt0 m c n h
    = ((up2 .bf16 (Spec.dz P (S.blk n)) : S128x2048.Idx → Ideal .bf16), (up3 .f32 (Spec.sumWs P S (n + 1)) : S8x128x128.Idx → Ideal .f32),
        (up2 .f32 (Spec.sumBs S (n + 1)) : S128x8.Idx → Ideal .f32), row (Spec.sumG P S (n + 1)), row (Spec.sumB P S (n + 1)))
  | 0, h => by
    rw [outsAt0_A m c ⟨0, h⟩ rfl, iblk0 H, iblk1 H, iblk2 H, iblk3 H, iblk4 H, iblk5 H, Point.out_A_6, Point.out_A_7, Point.out_A_8, Point.out_A_9,
      Point.out_A_10, Spec.sumWs_succ, Spec.sumBs_succ, Spec.sumG_succ, Spec.sumB_succ]
    rfl
  | n + 1, h => by
    have hN : cfg0.N = 16 := N_0
    have hB : ¬(⟨n + 1, h⟩ : Fin cfg0.N).val % 16 = 0 := by dsimp only; omega
    rw [outsAt0_B m c ⟨n + 1, h⟩ hB, iblk0 H, iblk1 H, iblk2 H, iblk3 H, iblk4 H, iblk5 H]
    have ih := outs_eq n (Nat.lt_of_succ_lt h)
    simp only [Nat.add_sub_cancel, ih]
    rw [Point.out_B_6, Point.out_B_7, Point.out_B_8, Point.out_B_9, Point.out_B_10, Spec.sumWs_succ P S (n + 1),
      Spec.sumBs_succ S (n + 1), Spec.sumG_succ P S (n + 1), Spec.sumB_succ P S (n + 1)]

theorem final7 : (dats m 0 c).arrAt 7 cfg0.N = ((up3 .f32 (Spec.sumWs P S 16) : S8x128x128.Idx → Ideal .f32) : Buf (Elt Ideal) ((c : Thread nD τ).loc main_v1_1)) := by
  have hx : ∀ a, win0_7.index t0_15 a * win0_7.size a = 0 := by decide +kernel
  refine (dats m 0 c).arrAt_eq_of_cover 7 _ (fun t hf => ?_) fun i => ⟨t0_15, (flush0_7 t0_15).mpr rfl, ?_⟩
  · have h3 : t.val = 15 := by
      have h1 : t.val < 16 := t.isLt.trans_eq N_0
      have h2 := (flush0_7 t).mp hf
      omega
    obtain rfl : t = t0_15 := Fin.ext h3
    show (cfg0.win 7).cut (grid0.coords t0_15) ((dats m 0 c).after 7 t0_15) = _
    rw [after0_7, show outsAt0 m c t0_15.val t0_15.isLt = _ from outs_eq H 15 t0_15.isLt]
    have hz' : (fun a => win0_7.index t0_15 a * main_v1_1.ty.shape.size a) = fun _ => 0 := funext fun a => by fin_cases a <;> decide +kernel
    exact (Memref.read_access_unit_zero (Elt Ideal) main_v1_1 hz' (fun a => by rw [congrFun hz' a]; simp) _).symm
  · show i ∈ ((View.whole main_v1_1).slice (win0_7.rect t0_15)).set
    rw [View.set_slice_whole, Rect.mem_set_unit]
    intro a
    match a with
    | ⟨0, _⟩ =>
      show win0_7.index t0_15 0 * win0_7.size 0 ≤ (i 0 : Nat) ∧ (i 0 : Nat) < win0_7.index t0_15 0 * win0_7.size 0 + win0_7.xsize (grid0.coords t0_15) 0
      have h0 : (i 0 : Nat) < 8 := (i 0).isLt
      rw [hx 0, show win0_7.xsize (grid0.coords t0_15) 0 = 8 from by decide +kernel]
      omega
    | ⟨1, _⟩ =>
      show win0_7.index t0_15 1 * win0_7.size 1 ≤ (i 1 : Nat) ∧ (i 1 : Nat) < win0_7.index t0_15 1 * win0_7.size 1 + win0_7.xsize (grid0.coords t0_15) 1
      have h0 : (i 1 : Nat) < 128 := (i 1).isLt
      rw [hx 1, show win0_7.xsize (grid0.coords t0_15) 1 = 128 from by decide +kernel]
      omega
    | ⟨2, _⟩ =>
      show win0_7.index t0_15 2 * win0_7.size 2 ≤ (i 2 : Nat) ∧ (i 2 : Nat) < win0_7.index t0_15 2 * win0_7.size 2 + win0_7.xsize (grid0.coords t0_15) 2
      have h0 : (i 2 : Nat) < 128 := (i 2).isLt
      rw [hx 2, show win0_7.xsize (grid0.coords t0_15) 2 = 128 from by decide +kernel]
      omega

theorem final8 : (dats m 0 c).arrAt 8 cfg0.N = ((up2 .f32 (Spec.sumBs S 16) : S128x8.Idx → Ideal .f32) : Buf (Elt Ideal) ((c : Thread nD τ).loc main_v1_2)) := by
  have hx : ∀ a, win0_8.index t0_15 a * win0_8.size a = 0 := by decide +kernel
  refine (dats m 0 c).arrAt_eq_of_cover 8 _ (fun t hf => ?_) fun i => ⟨t0_15, (flush0_8 t0_15).mpr rfl, ?_⟩
  · have h3 : t.val = 15 := by
      have h1 : t.val < 16 := t.isLt.trans_eq N_0
      have h2 := (flush0_8 t).mp hf
      omega
    obtain rfl : t = t0_15 := Fin.ext h3
    show (cfg0.win 8).cut (grid0.coords t0_15) ((dats m 0 c).after 8 t0_15) = _
    rw [after0_8, show outsAt0 m c t0_15.val t0_15.isLt = _ from outs_eq H 15 t0_15.isLt]
    have hz' : (fun a => win0_8.index t0_15 a * main_v1_2.ty.shape.size a) = fun _ => 0 := funext fun a => by fin_cases a <;> decide +kernel
    exact (Memref.read_access_unit_zero (Elt Ideal) main_v1_2 hz' (fun a => by rw [congrFun hz' a]; simp) _).symm
  · show i ∈ ((View.whole main_v1_2).slice (win0_8.rect t0_15)).set
    rw [View.set_slice_whole, Rect.mem_set_unit]
    intro a
    match a with
    | ⟨0, _⟩ =>
      show win0_8.index t0_15 0 * win0_8.size 0 ≤ (i 0 : Nat) ∧ (i 0 : Nat) < win0_8.index t0_15 0 * win0_8.size 0 + win0_8.xsize (grid0.coords t0_15) 0
      have h0 : (i 0 : Nat) < 128 := (i 0).isLt
      rw [hx 0, show win0_8.xsize (grid0.coords t0_15) 0 = 128 from by decide +kernel]
      omega
    | ⟨1, _⟩ =>
      show win0_8.index t0_15 1 * win0_8.size 1 ≤ (i 1 : Nat) ∧ (i 1 : Nat) < win0_8.index t0_15 1 * win0_8.size 1 + win0_8.xsize (grid0.coords t0_15) 1
      have h0 : (i 1 : Nat) < 8 := (i 1).isLt
      rw [hx 1, show win0_8.xsize (grid0.coords t0_15) 1 = 8 from by decide +kernel]
      omega

theorem final9 : (dats m 0 c).arrAt 9 cfg0.N = (row (Spec.sumG P S 16) : Buf (Elt Ideal) ((c : Thread nD τ).loc main_v1_3)) := by
  have hx : ∀ a, win0_9.index t0_15 a * win0_9.size a = 0 := by decide +kernel
  refine (dats m 0 c).arrAt_eq_of_cover 9 _ (fun t hf => ?_) fun i => ⟨t0_15, (flush0_9 t0_15).mpr rfl, ?_⟩
  · have h3 : t.val = 15 := by
      have h1 : t.val < 16 := t.isLt.trans_eq N_0
      have h2 := (flush0_9 t).mp hf
      omega
    obtain rfl : t = t0_15 := Fin.ext h3
    show (cfg0.win 9).cut (grid0.coords t0_15) ((dats m 0 c).after 9 t0_15) = _
    rw [after0_9, show outsAt0 m c t0_15.val t0_15.isLt = _ from outs_eq H 15 t0_15.isLt]
    have hz' : (fun a => win0_9.index t0_15 a * main_v1_3.ty.shape.size a) = fun _ => 0 := funext fun a => by fin_cases a <;> decide +kernel
    exact (Memref.read_access_unit_zero (Elt Ideal) main_v1_3 hz' (fun a => by rw [congrFun hz' a]; simp) _).symm
  · show i ∈ ((View.whole main_v1_3).slice (win0_9.rect t0_15)).set
    rw [View.set_slice_whole, Rect.mem_set_unit]
    intro a
    match a with
    | ⟨0, _⟩ =>
      show win0_9.index t0_15 0 * win0_9.size 0 ≤ (i 0 : Nat) ∧ (i 0 : Nat) < win0_9.index t0_15 0 * win0_9.size 0 + win0_9.xsize (grid0.coords t0_15) 0
      have h0 : (i 0 : Nat) < 1 := (i 0).isLt
      rw [hx 0, show win0_9.xsize (grid0.coords t0_15) 0 = 1 from by decide +kernel]
      omega
    | ⟨1, _⟩ =>
      show win0_9.index t0_15 1 * win0_9.size 1 ≤ (i 1 : Nat) ∧ (i 1 : Nat) < win0_9.index t0_15 1 * win0_9.size 1 + win0_9.xsize (grid0.coords t0_15) 1
      have h0 : (i 1 : Nat) < 1024 := (i 1).isLt
      rw [hx 1, show win0_9.xsize (grid0.coords t0_15) 1 = 1024 from by decide +kernel]
      omega

theorem final10 : (dats m 0 c).arrAt 10 cfg0.N = (row (Spec.sumB P S 16) : Buf (Elt Ideal) ((c : Thread nD τ).loc main_v1_4)) := by
  have hx : ∀ a, win0_10.index t0_15 a * win0_10.size a = 0 := by decide +kernel
  refine (dats m 0 c).arrAt_eq_of_cover 10 _ (fun t hf => ?_) fun i => ⟨t0_15, (flush0_10 t0_15).mpr rfl, ?_⟩
  · have h3 : t.val = 15 := by
      have h1 : t.val < 16 := t.isLt.trans_eq N_0
      have h2 := (flush0_10 t).mp hf
      omega
    obtain rfl : t = t0_15 := Fin.ext h3
    show (cfg0.win 10).cut (grid0.coords t0_15) ((dats m 0 c).after 10 t0_15) = _
    rw [after0_10, show outsAt0 m c t0_15.val t0_15.isLt = _ from outs_eq H 15 t0_15.isLt]
    have hz' : (fun a => win0_10.index t0_15 a * main_v1_4.ty.shape.size a) = fun _ => 0 := funext fun a => by fin_cases a <;> decide +kernel
    exact (Memref.read_access_unit_zero (Elt Ideal) main_v1_4 hz' (fun a => by rw [congrFun hz' a]; simp) _).symm
  · show i ∈ ((View.whole main_v1_4).slice (win0_10.rect t0_15)).set
    rw [View.set_slice_whole, Rect.mem_set_unit]
    intro a
    match a with
    | ⟨0, _⟩ =>
      show win0_10.index t0_15 0 * win0_10.size 0 ≤ (i 0 : Nat) ∧ (i 0 : Nat) < win0_10.index t0_15 0 * win0_10.size 0 + win0_10.xsize (grid0.coords t0_15) 0
      have h0 : (i 0 : Nat) < 1 := (i 0).isLt
      rw [hx 0, show win0_10.xsize (grid0.coords t0_15) 0 = 1 from by decide +kernel]
      omega
    | ⟨1, _⟩ =>
      show win0_10.index t0_15 1 * win0_10.size 1 ≤ (i 1 : Nat) ∧ (i 1 : Nat) < win0_10.index t0_15 1 * win0_10.size 1 + win0_10.xsize (grid0.coords t0_15) 1
      have h0 : (i 1 : Nat) < 1024 := (i 1).isLt
      rw [hx 1, show win0_10.xsize (grid0.coords t0_15) 1 = 1024 from by decide +kernel]
      omega

theorem final6 : (dats m 0 c).arrAt 6 cfg0.N = ((up2 .bf16 (Spec.allZ P S) : S2048x2048.Idx → Ideal .bf16) : Buf (Elt Ideal) ((c : Thread nD τ).loc main_v1_0)) := by
  have hi : ∀ t : Fin grid0.N, win0_6.index t 0 = t.val ∧ win0_6.index t 1 = 0 := by decide +kernel
  refine (dats m 0 c).arrAt_eq_of_cover 6 _ (fun t hf => ?_) fun i => ?_
  · have ht : t.val < 16 := t.isLt.trans_eq N_0
    show (cfg0.win 6).cut (grid0.coords t) ((dats m 0 c).after 6 t) = _
    rw [after0_6, outs_eq H t.val t.isLt]
    funext j
    rw [View.read_apply]
    have h0 : (j 0 : Nat) < 128 := (j 0).isLt
    have h1 : (j 1 : Nat) < 2048 := (j 1).isLt
    have e : ∀ (i : S2048x2048.Idx), (i 0).val = 128 * t.val + (j 0 : Nat) → (i 1).val = (j 1 : Nat) →
        ((Spec.dz P (S.blk t.val) ⟨(j 0 : Nat), h0⟩ ⟨(j 1 : Nat), h1⟩ : ℝ) : EReal) = ((Spec.allZ P S (i 0) (i 1) : ℝ) : EReal) := by
      intro i e0 e1
      unfold Spec.allZ
      congr 2
      · rw [show (i 0).val / 128 = t.val from by omega]
      · exact Fin.ext (by show (j 0 : Nat) = (i 0).val % 128; omega)
      · exact Fin.ext e1.symm
    refine e _ ?_ ?_
    · show win0_6.index t 0 * 128 + 1 * (j 0).val = 128 * t.val + (j 0).val
      rw [(hi t).1]
      omega
    · show win0_6.index t 1 * 2048 + 1 * (j 1).val = (j 1).val
      rw [(hi t).2]
      omega
  · have h0 : (i 0 : Nat) < 2048 := (i 0).isLt
    have h1 : (i 1 : Nat) < 2048 := (i 1).isLt
    let t : Fin grid0.N := ⟨(i 0 : Nat) / 128, by rw [N_0]; omega⟩
    refine ⟨t, flush0_6 t, ?_⟩
    show i ∈ ((View.whole main_v1_0).slice (win0_6.rect t)).set
    rw [View.set_slice_whole, Rect.mem_set_unit]
    have hx : ∀ t : Fin grid0.N, win0_6.xsize (grid0.coords t) 0 = 128 ∧ win0_6.xsize (grid0.coords t) 1 = 2048 := by decide +kernel
    intro a
    match a with
    | ⟨0, _⟩ =>
      show win0_6.index t 0 * 128 ≤ (i 0 : Nat) ∧ (i 0 : Nat) < win0_6.index t 0 * 128 + win0_6.xsize (grid0.coords t) 0
      rw [(hi t).1, (hx t).1]
      show (i 0 : Nat) / 128 * 128 ≤ (i 0 : Nat) ∧ (i 0 : Nat) < (i 0 : Nat) / 128 * 128 + 128
      omega
    | ⟨1, _⟩ =>
      show win0_6.index t 1 * 2048 ≤ (i 1 : Nat) ∧ (i 1 : Nat) < win0_6.index t 1 * 2048 + win0_6.xsize (grid0.coords t) 1
      rw [(hi t).2, (hx t).2]
      omega

end Cert.Proof.Fold

end
-- ==== Proof.Finite.lean ====
/- The precondition read back: every element of the arguments is a real number. -/
module

public import proofs.«01_k».proof.Proof.Fold
public import proofs.«01_k».proof.Proof.Gen.Pre_finite
public import Idealize.ShloMosaic.Lib.ReduceAll

@[expose] public section

noncomputable section

namespace Cert.Proof.Finite

open Idealize.ShloMosaic Idealize.ShloMosaic.TcCoe Cert.GmlpKernelIdeal
open Cert.Proof.Block (row)

/-- An extended real whose absolute value is below infinity is a real number. -/
theorem real_of_lt {x : EReal} (h : max x (-x) < ⊤) : x = ((x.toReal : ℝ) : EReal) := by
  induction x
  · exact absurd h (by simp)
  · rfl
  · exact absurd h (by simp)

theorem scalar_eq (i j : (⟨0, ![]⟩ : Shape).Idx) : i = j := funext fun a => a.elim0

instance : Subsingleton (⟨0, ![]⟩ : Shape).Idx := ⟨scalar_eq⟩

/-- An array whose elements all passed the comparison with infinity holds real numbers. -/
theorem real_of_all {s : Shape} {axes : List (Fin s.rank)} (x : FVec Ideal s .f32) (hb : (⟨0, ![]⟩ : Shape).BroadcastsInDim s (![] : Fin 0 → Fin s.rank))
    (init : IVec ⟨0, ![]⟩ 1) (hr : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant ⟨0, ![]⟩ .f32 0x7F800000#32))) init hr hu j = 1#1) (i : s.Idx) :
    x i = (((x i).toReal : ℝ) : EReal) := by
  have h := Host.reduce_andi_all _ _ hr hu j e i
  have h' : Ideal.ofBits .f32 0x7F800000#32 = ⊤ := Cert.Proof.c_inf
  have h'' : (decide (max (x i) (-(x i)) < Ideal.ofBits .f32 0x7F800000#32)) = true := by
    have : BitVec.ofBool (decide (max (x i) (-(x i)) < Ideal.ofBits .f32 0x7F800000#32)) = 1#1 := h
    revert this
    cases decide (max (x i) (-(x i)) < Ideal.ofBits .f32 0x7F800000#32) <;> decide
  rw [h'] at h''
  exact real_of_lt (of_decide_eq_true h'')

theorem all_real (x0 : FVec Ideal S2048x2048 .f32) (x1 : FVec Ideal S2048x1024 .f32) (x2 x3 : FVec Ideal S1x1024 .f32) (x4 : FVec Ideal S8x128x128 .f32)
    (x5 : FVec Ideal S8x128 .f32) (j) (h : Cert.Pre_finite.fn (F := Ideal) x0 x1 x2 x3 x4 x5 j = 1#1) :
    (∀ i, x0 i = (((x0 i).toReal : ℝ) : EReal)) ∧ (∀ i, x1 i = (((x1 i).toReal : ℝ) : EReal)) ∧ (∀ i, x2 i = (((x2 i).toReal : ℝ) : EReal))
      ∧ (∀ i, x3 i = (((x3 i).toReal : ℝ) : EReal)) ∧ (∀ i, x4 i = (((x4 i).toReal : ℝ) : EReal)) ∧ ∀ i, x5 i = (((x5 i).toReal : ℝ) : EReal) := by
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all x0 _ _ _ _ j h0, real_of_all x1 _ _ _ _ j h1, real_of_all x2 _ _ _ _ j h2, real_of_all x3 _ _ _ _ j h3,
    real_of_all x4 _ _ _ _ j h4, real_of_all x5 _ _ _ _ j h5⟩

variable (m : (ℓ : Loc nD τ sig) → Buf (Elt Ideal) ℓ) (c : Dev nD)

/-- The real numbers the arguments hold. -/
def par : Spec.Par where
  g k := ((m ((c : Thread nD τ).loc main_arg2) : FVec Ideal S1x1024 .f32) (ix2 0 k)).toReal
  b k := ((m ((c : Thread nD τ).loc main_arg3) : FVec Ideal S1x1024 .f32) (ix2 0 k)).toReal
  ws n t s := ((m ((c : Thread nD τ).loc main_arg4) : FVec Ideal S8x128x128 .f32) (ix3 n t s)).toReal
  bs n t := ((m ((c : Thread nD τ).loc main_arg5) : FVec Ideal S8x128 .f32) (ix2 n t)).toReal
def seq : Spec.Seq where
  z r k := ((m ((c : Thread nD τ).loc main_arg0) : FVec Ideal S2048x2048 .f32) (ix2 r k)).toReal
  dy r k := ((m ((c : Thread nD τ).loc main_arg1) : FVec Ideal S2048x1024 .f32) (ix2 r k)).toReal

theorem two {a b : ℕ} (x : FVec Ideal ⟨2, ![a, b]⟩ .f32) (h : ∀ i, x i = (((x i).toReal : ℝ) : EReal)) :
    x = up2 .f32 fun p q => (x (ix2 p q)).toReal :=
  funext fun i => (h i).trans (congrArg (fun i => (((x i).toReal : ℝ) : EReal)) (show i = ix2 (i 0) (i 1) from
    funext fun a => match a with | ⟨0, _⟩ => rfl | ⟨1, _⟩ => rfl))
theorem three {a b d : ℕ} (x : FVec Ideal ⟨3, ![a, b, d]⟩ .f32) (h : ∀ i, x i = (((x i).toReal : ℝ) : EReal)) :
    x = up3 .f32 fun p q r => (x (ix3 p q r)).toReal :=
  funext fun i => (h i).trans (congrArg (fun i => (((x i).toReal : ℝ) : EReal)) (show i = ix3 (i 0) (i 1) (i 2) from
    funext fun a => match a with | ⟨0, _⟩ => rfl | ⟨1, _⟩ => rfl | ⟨2, _⟩ => rfl))
theorem one {b : ℕ} (x : FVec Ideal ⟨2, ![1, b]⟩ .f32) (h : ∀ i, x i = (((x i).toReal : ℝ) : EReal)) :
    x = up2 .f32 fun (_ : Fin 1) q => (x (ix2 0 q)).toReal :=
  (two x h).trans (funext fun i => congrArg (fun p => (((x (ix2 p (i 1))).toReal : ℝ) : EReal)) (Subsingleton.elim (α := Fin 1) (i 0) 0))

theorem holds (h : Cert.Pre_finite.fn (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) = fun _ => 1#1) : Fold.Holds m c (par m c) (seq m c) := by
  obtain ⟨h0, h1, h2, h3, h4, h5⟩ := all_real _ _ _ _ _ _ _ (congrFun h (fun a => a.elim0))
  exact ⟨two _ h0, two _ h1, one _ h2, one _ h3, three _ h4, two _ h5⟩

end Cert.Proof.Finite

end
-- ==== Proof.RefNorm.lean ====
/- The reference's gelu and layer norm, read at an index as real numbers. -/
module

public import proofs.«01_k».proof.Proof.Consts
public import proofs.«01_k».proof.Proof.Whole
public import proofs.«01_k».proof.Proof.Gen.GmlpReferenceIdeal.Read

@[expose] public section

set_option maxRecDepth 16384

noncomputable section

namespace Cert.Proof.Ref

open Idealize.ShloMosaic Idealize.ShloMosaic.TcCoe Cert.GmlpReferenceIdeal Cert.GmlpReferenceIdeal.Gen Cert.GmlpReferenceIdeal.Read

/-- The arguments' contents. -/
abbrev az (S : Spec.Seq) : (⟨S2048x2048, .f32⟩ : BufTy).Contents (Elt Ideal) := (up2 .f32 S.z : S2048x2048.Idx → Ideal .f32)
abbrev ady (S : Spec.Seq) : (⟨S2048x1024, .f32⟩ : BufTy).Contents (Elt Ideal) := (up2 .f32 S.dy : S2048x1024.Idx → Ideal .f32)
abbrev ag (P : Spec.Par) : (⟨S1x1024, .f32⟩ : BufTy).Contents (Elt Ideal) := (up2 .f32 fun (_ : Fin 1) c => P.g c : S1x1024.Idx → Ideal .f32)
abbrev ab (P : Spec.Par) : (⟨S1x1024, .f32⟩ : BufTy).Contents (Elt Ideal) := (up2 .f32 fun (_ : Fin 1) c => P.b c : S1x1024.Idx → Ideal .f32)
abbrev aw (P : Spec.Par) : (⟨S8x128x128, .f32⟩ : BufTy).Contents (Elt Ideal) := (up3 .f32 P.ws : S8x128x128.Idx → Ideal .f32)
abbrev abs_ (P : Spec.Par) : (⟨S8x128, .f32⟩ : BufTy).Contents (Elt Ideal) := (up2 .f32 P.bs : S8x128.Idx → Ideal .f32)

variable (P : Spec.Par) (S : Spec.Seq)

/-- The operations of the host on real numbers. -/
theorem o_add (x y : ℝ) : (FloatOps.addf (F := Ideal) (φ := .f32) (x : EReal) (y : EReal) : EReal) = ((x + y : ℝ) : EReal) := rfl
theorem o_sub (x y : ℝ) : (FloatOps.subf (F := Ideal) (φ := .f32) (x : EReal) (y : EReal) : EReal) = ((x - y : ℝ) : EReal) := rfl
theorem o_mul (x y : ℝ) : (FloatOps.mulf (F := Ideal) (φ := .f32) (x : EReal) (y : EReal) : EReal) = ((x * y : ℝ) : EReal) := rfl
theorem o_neg (x : ℝ) : (FloatOps.hostNegf (F := Ideal) (φ := .f32) (x : EReal) : EReal) = ((-x : ℝ) : EReal) := rfl
theorem o_div {x y : ℝ} (h : y ≠ 0) : (FloatOps.hostDivf (F := Ideal) (φ := .f32) (x : EReal) (y : EReal) : EReal) = ((x / y : ℝ) : EReal) := div_real h
theorem o_div_1024 (x : ℝ) : (FloatOps.hostDivf (F := Ideal) (φ := .f32) (x : EReal) (((1024 : ℝ) : EReal)) : EReal) = ((x * (1 / 1024) : ℝ) : EReal) :=
  div_1024 x
theorem o_exp (x : ℝ) : (FloatOps.hostUnary (F := Ideal) (φ := .f32) .exp (x : EReal) : EReal) = ((Real.exp x : ℝ) : EReal) := rfl
theorem o_erfc (x : ℝ) : (FloatOps.hostUnary (F := Ideal) (φ := .f32) .erfc (x : EReal) : EReal) = ((1 - Spec.erfR x : ℝ) : EReal) := erfc_real x
theorem o_sqrt {x : ℝ} (h : 0 ≤ x) : (FloatOps.hostUnary (F := Ideal) (φ := .f32) .sqrt (x : EReal) : EReal) = ((√x : ℝ) : EReal) := sqrt_real h
theorem o_rsqrt {x : ℝ} (h : 0 < x) : (FloatOps.hostUnary (F := Ideal) (φ := .f32) .rsqrt (x : EReal) : EReal) = (((√x)⁻¹ : ℝ) : EReal) := rsqrt_real h
theorem o_acos : (FloatOps.hostUnary (F := Ideal) (φ := .f32) .acos (((-1 : ℝ)) : EReal) : EReal) = ((Real.pi : ℝ) : EReal) := by
  rw [Ideal.hostUnary_acos_def, Ideal.acos_coe, if_pos (by norm_num), Real.arccos_neg_one]
theorem o_bits (b : BitVec 32) : (FloatOps.ofBits (F := Ideal) .f32 b : EReal) = Ideal.ofBits .f32 b := rfl
theorem add_zero_sum {n : ℕ} (f : Fin n → ℝ) : (((0 : ℝ) : EReal) + ∑ k, ((f k : ℝ) : EReal)) = ((∑ k, f k : ℝ) : EReal) := by
  rw [sum_real, EReal.coe_zero, zero_add]

theorem r5 (i) : val_main_v5 (F := Ideal) (az S) i = ((-S.z (i 0) (i 1) * √(1 / 2) : ℝ) : EReal) := by
  rw [val_main_v5_apply, val_main_v2_apply, val_main_v4_apply, val_main_v3_apply, val_main_cst_0_apply, o_bits, c_half, o_sqrt (by norm_num)]
  rfl
theorem r1 (i) : val_main_v1 (F := Ideal) (az S) i = ((1 / 2 * S.z (i 0) (i 1) : ℝ) : EReal) := by
  rw [val_main_v1_apply, val_main_v0_apply, val_main_cst_apply, o_bits, c_half]
  rfl
theorem r6 (i) : val_main_v6 (F := Ideal) (az S) i = ((1 - Spec.erfR (-S.z (i 0) (i 1) * √(1 / 2)) : ℝ) : EReal) := by
  rw [val_main_v6_apply, r5, o_erfc]
theorem r12 (i) : val_main_v12 (F := Ideal) (az S) i
    = ((Real.exp (-(-S.z (i 0) (i 1) * √(1 / 2) * (-S.z (i 0) (i 1) * √(1 / 2)))) : ℝ) : EReal) := by
  rw [val_main_v12_apply, val_main_v11_apply, val_main_v10_apply, r5, o_mul, o_neg, o_exp]
theorem r9 (i) : val_main_v9 (F := Ideal) i = ((-2 / √Real.pi : ℝ) : EReal) := by
  rw [val_main_v9_apply, val_main_v8_apply, val_main_v7_apply, val_main_cst_1_apply, val_main_cst_2_apply, o_bits, o_bits, c_neg_one, c_neg_two, o_acos,
    o_sqrt Real.pi_pos.le, o_div (Real.sqrt_ne_zero'.mpr Real.pi_pos)]
theorem r13 (i) : val_main_v13 (F := Ideal) (az S) i = ((Spec.gelu (S.z (i 0) (i 1)) : ℝ) : EReal) := by
  rw [val_main_v13_apply, r1, r6, o_mul, Spec.gelu_erfc]
theorem r14 (i) : val_main_v14 (F := Ideal) (az S) i = ((Spec.gat (S.z (i 0)) (i 1) : ℝ) : EReal) := by
  rw [val_main_v14_apply, r13]
  rfl
theorem r15 (i) : val_main_v15 (F := Ideal) (az S) i = ((Spec.val (S.z (i 0)) (i 1) : ℝ) : EReal) := by
  rw [val_main_v15_apply, r13]
  rfl
theorem r16 (i) : val_main_v16 (F := Ideal) (az S) i = ((∑ c, Spec.val (S.z (i 0)) c : ℝ) : EReal) := by
  rw [val_main_v16_apply, val_main_cst_3_apply, o_bits, c_zero, ← add_zero_sum]
  simp only [r15]
  rfl
theorem r19 (i) : val_main_v19 (F := Ideal) (az S) i = ((Spec.mean (Spec.val (S.z (i 0))) : ℝ) : EReal) := by
  rw [val_main_v19_apply, val_main_v17_apply, r16, val_main_v18_apply, val_main_cst_4_apply, o_bits, c_1024, o_div_1024]
  unfold Spec.mean
  congr 5
theorem o_div_one {x y : ℝ} (h : y ≠ 0) : (FloatOps.hostDivf (F := Ideal) (φ := .f32) (x : EReal) (y : EReal) : EReal) = ((x * (1 / y) : ℝ) : EReal) := by
  rw [o_div h, mul_one_div]
theorem r21 (i) : val_main_v21 (F := Ideal) (az S) i = ((Spec.cen (S.z (i 0)) (i 1) : ℝ) : EReal) := by
  rw [val_main_v21_apply, r15, val_main_v20_apply, r19, o_sub]
  rfl
theorem r30 (i) : val_main_v30 (F := Ideal) (az S) i = ((Spec.cen (S.z (i 0)) (i 1) : ℝ) : EReal) := by
  rw [val_main_v30_apply, r15, val_main_v29_apply, r19, o_sub]
  rfl
theorem r24 (i) : val_main_v24 (F := Ideal) (az S) i = ((2 * Spec.cen (S.z (i 0)) (i 1) : ℝ) : EReal) := by
  rw [val_main_v24_apply, r21, val_main_v23_apply, val_main_cst_5_apply, o_bits, c_two, o_mul]
theorem r25 (i) : val_main_v25 (F := Ideal) (az S) i = ((∑ c, Spec.cen (S.z (i 0)) c * Spec.cen (S.z (i 0)) c : ℝ) : EReal) := by
  rw [val_main_v25_apply, val_main_cst_6_apply, o_bits, c_zero, ← add_zero_sum]
  simp only [val_main_v22_apply, r21, o_mul]
  rfl
theorem r32 (i) : val_main_v32 (F := Ideal) (az S) i = ((Spec.var (S.z (i 0)) + Spec.eps : ℝ) : EReal) := by
  rw [val_main_v32_apply, val_main_v28_apply, val_main_v26_apply, r25, val_main_v27_apply, val_main_cst_7_apply, val_main_v31_apply, val_main_cst_8_apply,
    o_bits, o_bits, c_1024, c_eps, o_div_1024, o_add]
  rfl
theorem r33 (i) : val_main_v33 (F := Ideal) (az S) i = ((Spec.rstd (S.z (i 0)) : ℝ) : EReal) := by
  rw [val_main_v33_apply, r32, o_rsqrt (Spec.var_pos _)]
  rfl
theorem r36 (i) : val_main_v36 (F := Ideal) (az S) i
    = ((-(1 / 2) * (Spec.rstd (S.z (i 0)) * (1 / (Spec.var (S.z (i 0)) + Spec.eps))) : ℝ) : EReal) := by
  rw [val_main_v36_apply, val_main_v35_apply, val_main_cst_9_apply, o_bits, c_neg_half, val_main_v34_apply, r33, r32, o_div_one (Spec.var_pos _).ne', o_mul]
theorem r38 (i) : val_main_v38 (F := Ideal) (az S) i = ((Spec.xh (S.z (i 0)) (i 1) : ℝ) : EReal) := by
  rw [val_main_v38_apply, r30, val_main_v37_apply, r33, o_mul]
  rfl
theorem r42 (i) : val_main_v42 (F := Ideal) (az S) (ag P) (ab P) i = ((Spec.vn P.g P.b (S.z (i 0)) (i 1) : ℝ) : EReal) := by
  rw [val_main_v42_apply, val_main_v40_apply, r38, val_main_v39_apply, val_main_v41_apply]
  rfl

/-- The lower triangle, as ones and zeros. -/
theorem r45 (t s : Fin 128) : val_main_v45 (F := Ideal) (ix2 t s) = (((if s ≤ t then 1 else 0 : ℝ)) : EReal) := by
  rw [val_main_v45_apply, val_main_call0_v4_apply, val_main_call0_v2_apply, val_main_call0_v0_apply, val_main_call0_v1_apply, val_main_call0_c_apply,
    val_main_call0_v3_apply, val_main_v44_apply, val_main_cst_10_apply, val_main_call0_v5_apply, val_main_call0_cst_apply, o_bits, o_bits, c_one, c_zero]
  have ht := t.isLt
  have hs := s.isLt
  have h : IntOp.cmpi .sge (IntOp.addi (BitVec.ofNat 32 t.val) 0#32) (BitVec.ofNat 32 s.val) = if s ≤ t then 1#1 else 0#1 := by
    show BitVec.ofBool (BitVec.sle (BitVec.ofNat 32 s.val) (BitVec.ofNat 32 t.val + 0#32)) = _
    rw [BitVec.add_zero, BitVec.sle_eq_decide, BitVec.toInt_ofNat', BitVec.toInt_ofNat', Int.bmod_eq_of_le (by omega) (by omega),
      Int.bmod_eq_of_le (by omega) (by omega)]
    by_cases hle : s ≤ t
    · rw [if_pos hle, decide_eq_true (by exact_mod_cast hle)]; rfl
    · rw [if_neg hle, decide_eq_false (by exact_mod_cast hle)]; rfl
  rw [show IntOp.cmpi .sge (IntOp.addi (BitVec.ofNat 32 ((ix2 t s : S128x128.Idx) 0).val) 0#32) (BitVec.ofNat 32 ((ix2 t s : S128x128.Idx) 1).val) = _ from h]
  by_cases hle : s ≤ t
  · rw [if_pos hle, if_pos hle]; rfl
  · rw [if_neg hle, if_neg hle]; rfl
theorem r48 (n : Fin 8) (t s : Fin 128) : val_main_v48 (F := Ideal) (aw P) (ix3 n t s) = ((P.w n t s : ℝ) : EReal) := by
  rw [val_main_v48_apply, val_main_v47_apply, val_main_v46_apply]
  show FloatOps.mulf (F := Ideal) (φ := .f32) ((P.ws n t s : ℝ) : EReal) (val_main_v45 (F := Ideal) _) = _
  rw [show idx_main_v46 (idx_main_v47 (ix3 n t s)) = ix2 t s from funext fun a => match a with | ⟨0, _⟩ => rfl | ⟨1, _⟩ => rfl, r45, o_mul]
  unfold Spec.Par.w
  split_ifs <;> simp

end Cert.Proof.Ref

end
-- ==== Proof.RefMix.lean ====
/- The reference's mixing of the rows and its gradients, read at an index as real numbers. -/
module

public import proofs.«01_k».proof.Proof.RefNorm
public import Idealize.ShloMosaic.Lib.Pointwise

@[expose] public section

set_option maxRecDepth 16384

noncomputable section

namespace Cert.Proof.Ref

open Idealize.ShloMosaic Idealize.ShloMosaic.TcCoe Cert.GmlpReferenceIdeal Cert.GmlpReferenceIdeal.Gen Cert.GmlpReferenceIdeal.Read
open Cert.Proof.Spec (at_ ch grp plc blkOf inBlk)

variable (P : Spec.Par) (S : Spec.Seq)

/-- Row and column of an element of the array split into blocks and groups, -/
theorem row_of {a b c d : ℕ} (ha : a < 16) (hb : b < 128) (hc : c < 8) (hd : d < 128) (h) :
    (⟨(((a * 128 + b) * 8 + c) * 128 + d) / 1024, h⟩ : Fin 2048) = at_ a ⟨b, hb⟩ :=
  Fin.ext (by simp only [at_]; omega)
theorem col_of {a b c d : ℕ} (hc : c < 8) (hd : d < 128) (h) :
    (⟨(((a * 128 + b) * 8 + c) * 128 + d) % 1024, h⟩ : Fin 1024) = ch ⟨c, hc⟩ ⟨d, hd⟩ :=
  Fin.ext (by simp only [ch]; omega)

/-- The masked weights at any index. -/
theorem r48x (i) : val_main_v48 (F := Ideal) (aw P) i = ((P.w (i 0) (i 1) (i 2) : ℝ) : EReal) :=
  (congrArg _ (show i = ix3 (i 0) (i 1) (i 2) from funext fun a => match a with | ⟨0, _⟩ => rfl | ⟨1, _⟩ => rfl | ⟨2, _⟩ => rfl)).trans (r48 P _ _ _)

theorem r43 (i) : val_main_v43 (F := Ideal) (az S) (ag P) (ab P) i
    = ((Spec.vn P.g P.b (S.z (at_ (i 0).val (i 1))) (ch (i 2) (i 3)) : ℝ) : EReal) := by
  rw [val_main_v43_apply, r42]
  exact congrArg Real.toEReal (congrArg₂ (fun r c => Spec.vn P.g P.b (S.z r) c) (row_of (i 0).isLt (i 1).isLt (i 2).isLt (i 3).isLt _) (col_of (i 2).isLt (i 3).isLt _))
theorem r58 (i) : val_main_v58 (F := Ideal) (az S) (ady S) i = ((S.dy (i 0) (i 1) * Spec.gat (S.z (i 0)) (i 1) : ℝ) : EReal) := by
  rw [val_main_v58_apply, r14]
  exact mul_comm _ _
theorem r60 (i) : val_main_v60 (F := Ideal) (az S) (ady S) i
    = ((Spec.dmix (S.blk (i 0).val) (i 1) (ch (i 2) (i 3)) : ℝ) : EReal) := by
  rw [val_main_v60_apply, r58]
  exact congrArg Real.toEReal (congrArg₂ (fun r c => S.dy r c * Spec.gat (S.z r) c)
    (row_of (i 0).isLt (i 1).isLt (i 2).isLt (i 3).isLt _) (col_of (i 2).isLt (i 3).isLt _))
theorem r49 (i) : val_main_v49 (F := Ideal) (az S) (ag P) (ab P) (aw P) i
    = ((∑ s, P.w (i 0) (i 3) s * Spec.vn P.g P.b (S.z (at_ (i 1).val s)) (ch (i 0) (i 2)) : ℝ) : EReal) := by
  rw [val_main_v49_apply, ← sum_real]
  refine Finset.sum_congr rfl fun s _ => ?_
  refine (congrArg₂ (· * ·) (r43 P S (lidx_main_v49 i s)) (r48x P (ridx_main_v49 i s))).trans ?_
  exact (mul_comm _ _)
theorem r54 (i) : val_main_v54 (F := Ideal) (abs_ P) i = ((P.bs (i 2) (i 1) : ℝ) : EReal) := by
  rw [val_main_v54_apply, val_main_v53_apply, val_main_v52_apply, val_main_v51_apply]
  rfl
theorem r55 (i) : val_main_v55 (F := Ideal) (az S) (ag P) (ab P) (aw P) (abs_ P) i
    = ((Spec.mixed P (S.blk (i 0).val) (i 1) (ch (i 2) (i 3)) : ℝ) : EReal) := by
  rw [val_main_v55_apply, val_main_v50_apply, r49, r54, o_add]
  exact congrArg Real.toEReal (Spec.mixed_ch P (S.blk (i 0).val) (i 1) (i 2) (i 3)).symm
/-- An element's block, place, group and lane. -/
theorem split_of (i : S2048x1024.Idx) (f : ℕ → Fin 128 → Fin 8 → Fin 128 → ℝ) :
    f ((idx_main_v56 i) 0).val ((idx_main_v56 i) 1) ((idx_main_v56 i) 2) ((idx_main_v56 i) 3)
      = f (blkOf (i 0)) (inBlk (i 0)) (grp (i 1)) (plc (i 1)) := by
  have h0 : (i 0).val < 2048 := (i 0).isLt
  have h1 : (i 1).val < 1024 := (i 1).isLt
  have e0 : ((idx_main_v56 i) 0).val = blkOf (i 0) := by
    show ((i 0).val * 1024 + (i 1).val) / 131072 = (i 0).val / 128
    omega
  have e1 : (idx_main_v56 i) 1 = inBlk (i 0) := by
    apply Fin.ext
    show ((i 0).val * 1024 + (i 1).val) / 1024 % 128 = (i 0).val % 128
    omega
  have e2 : (idx_main_v56 i) 2 = grp (i 1) := by
    apply Fin.ext
    show ((i 0).val * 1024 + (i 1).val) / 128 % 8 = (i 1).val / 128
    omega
  have e3 : (idx_main_v56 i) 3 = plc (i 1) := by
    apply Fin.ext
    show ((i 0).val * 1024 + (i 1).val) % 128 = (i 1).val % 128
    omega
  exact (congrArg (fun k => f k _ _ _) e0).trans ((congrArg (fun k => f _ k _ _) e1).trans ((congrArg (fun k => f _ _ k _) e2).trans (congrArg (fun k => f _ _ _ k) e3)))
theorem r56 (i) : val_main_v56 (F := Ideal) (az S) (ag P) (ab P) (aw P) (abs_ P) i = ((Spec.allMixed P S (i 0) (i 1) : ℝ) : EReal) := by
  rw [val_main_v56_apply, r55]
  exact congrArg Real.toEReal ((split_of i fun k p n q => Spec.mixed P (S.blk k) p (ch n q)).trans
    (congrArg (Spec.mixed P (S.blk (blkOf (i 0))) (inBlk (i 0))) (Spec.ch_grp_plc (i 1))))
theorem r59 (i) : val_main_v59 (F := Ideal) (az S) (ady S) (ag P) (ab P) (aw P) (abs_ P) i
    = ((S.dy (i 0) (i 1) * Spec.allMixed P S (i 0) (i 1) : ℝ) : EReal) := by
  rw [val_main_v59_apply, r56]
  rfl
theorem r69 (i) : val_main_v69 (F := Ideal) (az S) (ady S) (aw P) i
    = ((Spec.dvn P (S.blk (i 1).val) (i 3) (ch (i 0) (i 2)) : ℝ) : EReal) := by
  rw [val_main_v69_apply]
  refine Eq.trans ?_ (congrArg Real.toEReal (Spec.dvn_ch P (S.blk (i 1).val) (i 3) (i 0) (i 2)).symm)
  rw [← sum_real]
  refine Finset.sum_congr rfl fun t _ => ?_
  rw [val_main_v67_apply]
  refine (congrArg₂ (· * ·) (r60 S _) (r48x P (ridx_main_v69 i t))).trans ?_
  exact mul_comm _ _
theorem r73 (i) : val_main_v73 (F := Ideal) (az S) (ady S) (aw P) i = ((Spec.allVn P S (i 0) (i 1) : ℝ) : EReal) := by
  rw [val_main_v73_apply, val_main_v70_apply, r69]
  exact congrArg Real.toEReal ((split_of i fun k p n q => Spec.dvn P (S.blk k) p (ch n q)).trans
    (congrArg (Spec.dvn P (S.blk (blkOf (i 0))) (inBlk (i 0))) (Spec.ch_grp_plc (i 1))))

end Cert.Proof.Ref

end
-- ==== Proof.RefSum.lean ====
/- The parameters' gradients of the reference, read as sums of real numbers over the blocks. -/
module

public import proofs.«01_k».proof.Proof.RefMix

@[expose] public section

set_option maxRecDepth 16384

noncomputable section

namespace Cert.Proof.Ref

open Idealize.ShloMosaic Idealize.ShloMosaic.TcCoe Cert.GmlpReferenceIdeal Cert.GmlpReferenceIdeal.Gen Cert.GmlpReferenceIdeal.Read
open Cert.Proof.Spec (at_ ch grp plc blkOf inBlk)

variable (P : Spec.Par) (S : Spec.Seq)

theorem ix2_of {a b : ℕ} (i : (⟨2, ![a, b]⟩ : Shape).Idx) : i = ix2 (i 0) (i 1) :=
  funext fun a => match a with | ⟨0, _⟩ => rfl | ⟨1, _⟩ => rfl

/-- The elements of an array of four axes that lie over one element of its sum along the first and the last. -/
theorem over_iff {a b c d : ℕ} (h : (⟨4, ![a, b, c, d]⟩ : Shape).ReducesTo [0, 3] ⟨2, ![b, c]⟩) (p : Fin b) (q : Fin c)
    (i : (⟨4, ![a, b, c, d]⟩ : Shape).Idx) : h.drop i = ix2 p q ↔ ∃ k : Fin a × Fin d, ix4 k.1 p q k.2 = i := by
  constructor
  · intro hj
    refine ⟨(i 0, i 3), ?_⟩
    have h0 := congrArg Fin.val (congrFun hj 0)
    have h1 := congrArg Fin.val (congrFun hj 1)
    funext x; apply Fin.ext
    match x with
    | ⟨0, _⟩ => rfl
    | ⟨1, _⟩ => exact h0.symm
    | ⟨2, _⟩ => exact h1.symm
    | ⟨3, _⟩ => rfl
  · rintro ⟨k, rfl⟩
    funext x; apply Fin.ext
    match x with
    | ⟨0, _⟩ => rfl
    | ⟨1, _⟩ => rfl

theorem sum_over {a b c d : ℕ} (h : (⟨4, ![a, b, c, d]⟩ : Shape).ReducesTo [0, 3] ⟨2, ![b, c]⟩) (p : Fin b) (q : Fin c)
    (v : (⟨4, ![a, b, c, d]⟩ : Shape).Idx → EReal) (z : EReal) :
    Ideal.hostReduceAdd h v z (ix2 p q) = z + ∑ k : Fin a, ∑ l : Fin d, v (ix4 k p q l) := by
  refine congrArg (z + ·) ?_
  refine (Finset.sum_filter_eq_sum_of_fiber _ (fun k : Fin a × Fin d => ix4 k.1 p q k.2)
    (fun _ _ e => Prod.ext (congrFun e 0) (congrFun e 3)) (over_iff h p q) v).trans ?_
  simp only [Fintype.sum_prod_type]

theorem zero_add_real (x : ℝ) : (((0 : ℝ) : EReal) + (x : EReal)) = (x : EReal) := by rw [EReal.coe_zero, zero_add]

theorem sum_sum {n k : ℕ} (f : Fin n → Fin k → ℝ) : (∑ a, ∑ b, ((f a b : ℝ) : EReal)) = ((∑ a, ∑ b, f a b : ℝ) : EReal) := by
  rw [← sum_real]
  exact Finset.sum_congr rfl fun _ _ => sum_real _ _

theorem r61 (t : Fin 128) (g : Fin 8) : val_main_v61 (F := Ideal) (az S) (ady S) (ix2 t g) = ((Spec.sumBs S 16 t g : ℝ) : EReal) := by
  pointwise [val_main_v61]
  rw [val_main_cst_11_apply, o_bits, c_zero]
  refine (sum_over reducesTo_S16x128x8x128_S128x8_d0_3 t g _ _).trans ?_
  simp only [r60]
  rw [sum_sum, zero_add_real]
  unfold Spec.sumBs Spec.dbs
  rw [Finset.sum_range]
  rfl
theorem r63 (t : Fin 128) (g : Fin 8) : val_main_v63 (F := Ideal) (az S) (ady S) (ix2 t g) = ((Spec.sumBs S 16 t g : ℝ) : EReal) := by
  pointwise [val_main_v63]
  rw [val_main_cst_12_apply, o_bits, c_zero]
  refine (sum_over reducesTo_S1x128x8x1_S128x8_d0_3 t g _ _).trans ?_
  have e : ∀ k l, val_main_v62 (F := Ideal) (az S) (ady S) (ix4 k t g l) = ((Spec.sumBs S 16 t g : ℝ) : EReal) := fun k l => by
    rw [val_main_v62_apply, ← r61]
    congr 1
    funext x
    apply Fin.ext
    have hk := k.isLt
    have hl := l.isLt
    have ht := t.isLt
    have hg := g.isLt
    match x with
    | ⟨0, _⟩ => show (((k.val * 128 + t.val) * 8 + g.val) * 1 + l.val) / 8 = t.val; omega
    | ⟨1, _⟩ => show (((k.val * 128 + t.val) * 8 + g.val) * 1 + l.val) % 8 = g.val; omega
  simp only [e, sum_sum, zero_add_real]
  simp
theorem r118 (i) : val_main_v118 (F := Ideal) (az S) (ady S) i = ((Spec.sumBs S 16 (i 0) (i 1) : ℝ) : EReal) := by
  rw [val_main_v118_apply, val_main_v66_apply, val_main_v65_apply, val_main_cst_13_apply, o_bits, c_zero]
  have e : ∀ k, val_main_v64 (F := Ideal) (az S) (ady S) (idx_main_v65 (idx_main_v66 (idx_main_v118 i)) k) = ((Spec.sumBs S 16 (i 0) (i 1) : ℝ) : EReal) := fun k => by
    rw [val_main_v64_apply]
    exact (congrArg _ (ix2_of _)).trans (r63 S (i 0) (i 1))
  simp only [e]
  rw [add_zero_sum]
  simp

theorem r68 (g : Fin 8) (t s : Fin 128) : val_main_v68 (F := Ideal) (az S) (ady S) (ag P) (ab P) (ix3 g t s)
    = ((∑ k ∈ Finset.range 16, ∑ p, Spec.dmix (S.blk k) t (ch g p) * Spec.vn P.g P.b ((S.blk k).z s) (ch g p) : ℝ) : EReal) := by
  pointwise [val_main_v68]
  rw [Finset.sum_range, ← sum_sum]
  refine Finset.sum_congr rfl fun k _ => Finset.sum_congr rfl fun p _ => ?_
  rw [val_main_v67_apply]
  exact congrArg₂ (· * ·) (r60 S _) (r43 P S _)
theorem r71 (g : Fin 8) (t s : Fin 128) : val_main_v71 (F := Ideal) (ix3 g t s) = (((if s ≤ t then 1 else 0 : ℝ)) : EReal) := by
  rw [val_main_v71_apply, val_main_v46_apply]
  exact (congrArg _ (ix2_of _)).trans (r45 t s)
theorem r72 (g : Fin 8) (t s : Fin 128) : val_main_v72 (F := Ideal) (az S) (ady S) (ag P) (ab P) (ix3 g t s)
    = ((Spec.sumWs P S 16 g t s : ℝ) : EReal) := by
  rw [val_main_v72_apply, r68, r71, o_mul]
  unfold Spec.sumWs Spec.dws
  split_ifs
  · rw [mul_one]
  · rw [mul_zero, Finset.sum_const_zero]

theorem r75 (i) : val_main_v75 (F := Ideal) (az S) (ady S) (aw P) i = ((Spec.sumB P S 16 (i 1) : ℝ) : EReal) := by
  rw [val_main_v75_apply, val_main_v74_apply, val_main_cst_14_apply, o_bits, c_zero]
  simp only [r73]
  refine (add_zero_sum _).trans (congrArg Real.toEReal ?_)
  refine (Spec.sum_rows _).trans (Finset.sum_congr rfl fun k hk => Finset.sum_congr rfl fun p _ => ?_)
  refine (Spec.allVn_at P S k (Finset.mem_range.mp hk) p _).trans (congrArg _ (Fin.ext ?_))
  have h0 : (i 0).val < 1 := (i 0).isLt
  show (i 0).val * 1024 + (i 1).val = (i 1).val
  omega
theorem r76 (i) : val_main_v76 (F := Ideal) (az S) (ady S) (aw P) i = ((Spec.allVn P S (i 0) (i 1) * Spec.xh (S.z (i 0)) (i 1) : ℝ) : EReal) := by
  rw [val_main_v76_apply, r73, r38]
  exact mul_comm _ _
theorem r78 (i) : val_main_v78 (F := Ideal) (az S) (ady S) (aw P) i = ((Spec.sumG P S 16 (i 1) : ℝ) : EReal) := by
  rw [val_main_v78_apply, val_main_v77_apply, val_main_cst_15_apply, o_bits, c_zero]
  simp only [r76]
  refine (add_zero_sum _).trans (congrArg Real.toEReal ?_)
  refine (Spec.sum_rows _).trans (Finset.sum_congr rfl fun k hk => Finset.sum_congr rfl fun p _ => ?_)
  have e : (idx_main_v77 (idx_main_v78 i) (at_ k p)) 1 = i 1 := by
    apply Fin.ext
    have h0 : (i 0).val < 1 := (i 0).isLt
    show (i 0).val * 1024 + (i 1).val = (i 1).val
    omega
  exact (congrArg (fun c => Spec.allVn P S (at_ k p) c * Spec.xh (S.z (at_ k p)) c) e).trans
    (congrArg (· * _) (Spec.allVn_at P S k (Finset.mem_range.mp hk) p _))

end Cert.Proof.Ref

end
-- ==== Proof.RefDz.lean ====
/- The gradient of the gated unit's input in the reference, read at an index as a real number. -/
module

public import proofs.«01_k».proof.Proof.RefSum

@[expose] public section

set_option maxRecDepth 16384

noncomputable section

namespace Cert.Proof.Ref

open Idealize.ShloMosaic Idealize.ShloMosaic.TcCoe Cert.GmlpReferenceIdeal Cert.GmlpReferenceIdeal.Gen Cert.GmlpReferenceIdeal.Read
open Cert.Proof.Spec (at_ ch grp plc blkOf inBlk)

variable (P : Spec.Par) (S : Spec.Seq)

/-- The cotangent of the normed row, row by row. -/
abbrev dn (r : Fin 2048) (c : Fin 1024) : ℝ := Spec.allVn P S r c * P.g c
/-- The common factor of the variance's part. -/
abbrev vf (r : Fin 2048) : ℝ :=
  (∑ c, Spec.cen (S.z r) c * dn P S r c) * (-(1 / 2) * (Spec.rstd (S.z r) * (1 / (Spec.var (S.z r) + Spec.eps)))) * (1 / 1024)

theorem r80 (i) : val_main_v80 (F := Ideal) (az S) (ady S) (ag P) (aw P) i = ((dn P S (i 0) (i 1) : ℝ) : EReal) := by
  rw [val_main_v80_apply, r73, val_main_v79_apply]
  rfl
theorem r83 (i) : val_main_v83 (F := Ideal) (az S) (ady S) (ag P) (aw P) i = ((∑ c, Spec.cen (S.z (i 0)) c * dn P S (i 0) c : ℝ) : EReal) := by
  rw [val_main_v83_apply, val_main_v82_apply, val_main_cst_16_apply, o_bits, c_zero]
  simp only [val_main_v81_apply, r30, r80]
  refine (add_zero_sum fun c => Spec.cen (S.z _) c * dn P S _ c).trans (congrArg (fun r => ((∑ c, Spec.cen (S.z r) c * dn P S r c : ℝ) : EReal)) ?_)
  apply Fin.ext
  have h1 : (i 1).val < 1 := (i 1).isLt
  show (i 0).val * 1 + (i 1).val = (i 0).val
  omega
theorem r85 (i) : val_main_v85 (F := Ideal) (az S) (ady S) (ag P) (aw P) i = ((dn P S (i 0) (i 1) * Spec.rstd (S.z (i 0)) : ℝ) : EReal) := by
  rw [val_main_v85_apply, r80, val_main_v84_apply, r33]
  rfl
theorem r92 (i) : val_main_v92 (F := Ideal) (az S) (ady S) (ag P) (aw P) i = ((vf P S (i 0) : ℝ) : EReal) := by
  rw [val_main_v92_apply, val_main_cst_19_apply, o_bits, c_zero]
  have e : ∀ k, val_main_v91 (F := Ideal) (az S) (ady S) (ag P) (aw P) (idx_main_v92 i k) = ((vf P S (i 0) : ℝ) : EReal) := fun k => by
    rw [val_main_v91_apply, val_main_v86_apply, r83, r36, val_main_v90_apply, val_main_cst_18_apply, o_bits, c_1024, o_mul, o_div_1024]
    rfl
  simp only [e]
  rw [add_zero_sum]
  simp
theorem r94 (i) : val_main_v94 (F := Ideal) (az S) (ady S) (ag P) (aw P) i = ((vf P S (i 0) * (2 * Spec.cen (S.z (i 0)) (i 1)) : ℝ) : EReal) := by
  rw [val_main_v94_apply, val_main_v93_apply, r92, r24]
  rfl
theorem r89 (i) : val_main_v89 (F := Ideal) (az S) (ady S) (ag P) (aw P) i = ((∑ c, -(dn P S (i 0) c * Spec.rstd (S.z (i 0))) : ℝ) : EReal) := by
  rw [val_main_v89_apply, val_main_v88_apply, val_main_cst_17_apply, o_bits, c_zero]
  simp only [val_main_v87_apply, r85]
  refine (add_zero_sum fun c => -(dn P S _ c * Spec.rstd (S.z _))).trans (congrArg (fun r => ((∑ c, -(dn P S r c * Spec.rstd (S.z r)) : ℝ) : EReal)) ?_)
  apply Fin.ext
  have h1 : (i 1).val < 1 := (i 1).isLt
  show (i 0).val * 1 + (i 1).val = (i 0).val
  omega
theorem r97 (i) : val_main_v97 (F := Ideal) (az S) (ady S) (ag P) (aw P) i = ((∑ c, -(vf P S (i 0) * (2 * Spec.cen (S.z (i 0)) c)) : ℝ) : EReal) := by
  rw [val_main_v97_apply, val_main_v96_apply, val_main_cst_20_apply, o_bits, c_zero]
  simp only [val_main_v95_apply, r94]
  refine (add_zero_sum fun c => -(vf P S _ * (2 * Spec.cen (S.z _) c))).trans (congrArg (fun r => ((∑ c, -(vf P S r * (2 * Spec.cen (S.z r) c)) : ℝ) : EReal)) ?_)
  apply Fin.ext
  have h1 : (i 1).val < 1 := (i 1).isLt
  show (i 0).val * 1 + (i 1).val = (i 0).val
  omega
theorem r102 (i) : val_main_v102 (F := Ideal) (az S) (ady S) (ag P) (aw P) i
    = ((((∑ c, -(dn P S (i 0) c * Spec.rstd (S.z (i 0)))) + ∑ c, -(vf P S (i 0) * (2 * Spec.cen (S.z (i 0)) c))) * (1 / 1024) : ℝ) : EReal) := by
  rw [val_main_v102_apply, val_main_cst_22_apply, o_bits, c_zero]
  have e : ∀ k, val_main_v101 (F := Ideal) (az S) (ady S) (ag P) (aw P) (idx_main_v102 i k)
      = ((((∑ c, -(dn P S (i 0) c * Spec.rstd (S.z (i 0)))) + ∑ c, -(vf P S (i 0) * (2 * Spec.cen (S.z (i 0)) c))) * (1 / 1024) : ℝ) : EReal) := fun k => by
    rw [val_main_v101_apply, val_main_v99_apply, r89, r97, val_main_v100_apply, val_main_cst_21_apply, o_bits, c_1024, o_add, o_div_1024]
    rfl
  simp only [e]
  rw [add_zero_sum]
  simp

/-- The transposed norm by rows of the whole array. -/
theorem dval_row (r : Fin 2048) (c : Fin 1024) :
    dn P S r c * Spec.rstd (S.z r) + vf P S r * (2 * Spec.cen (S.z r) c)
      + ((∑ c, -(dn P S r c * Spec.rstd (S.z r))) + ∑ c, -(vf P S r * (2 * Spec.cen (S.z r) c))) * (1 / 1024)
      = Spec.dval P (S.blk (blkOf r)) (inBlk r) c := by
  refine (Spec.lnT_eq (S.z r) (dn P S r) c).trans ?_
  exact congrArg (fun q => Spec.lnT (S.z q) (dn P S r) c) (Spec.at_blkOf r).symm
theorem r104 (i) : val_main_v104 (F := Ideal) (az S) (ady S) (ag P) (aw P) i
    = ((Spec.dval P (S.blk (blkOf (i 0))) (inBlk (i 0)) (i 1) : ℝ) : EReal) := by
  rw [val_main_v104_apply, val_main_v98_apply, r85, r94, val_main_v103_apply, r102, o_add, o_add]
  exact congrArg Real.toEReal (dval_row P S (i 0) (i 1))

/-- The cotangent of the unit's two halves side by side. -/
def both (r c : Fin 2048) : ℝ :=
  if h : c.val < 1024 then S.dy r ⟨c.val, h⟩ * Spec.allMixed P S r ⟨c.val, h⟩
  else Spec.dval P (S.blk (blkOf r)) (inBlk r) ⟨c.val - 1024, by omega⟩

theorem r105 (r c : Fin 2048) : val_main_v105 (F := Ideal) (az S) (ady S) (ag P) (ab P) (aw P) (abs_ P) (ix2 r c) = ((both P S r c : ℝ) : EReal) := by
  pointwise [val_main_v105]
  unfold both
  split_ifs with h
  all_goals first | (rw [r59]; rfl) | (rw [r104]; rfl)

theorem both_eq (r c : Fin 2048) : both P S r c * Spec.dgelu (S.z r c) = Spec.allZ P S r c := by
  unfold both Spec.allZ Spec.dz
  have e : S.z r = (S.blk (blkOf r)).z (inBlk r) := congrArg S.z (Spec.at_blkOf r).symm
  have f : S.dy r = (S.blk (blkOf r)).dy (inBlk r) := congrArg S.dy (Spec.at_blkOf r).symm
  rw [e, f]
  split_ifs with h
  · rfl
  · refine congrArg (fun q => Spec.dval P (S.blk (blkOf r)) (inBlk r) ⟨c.val - 1024, _⟩ * Spec.dgelu ((S.blk (blkOf r)).z (inBlk r) q)) ?_
    apply Fin.ext
    simp [Spec.hi]
    omega

theorem r3 (i) : val_main_v3 (F := Ideal) i = ((√(1 / 2) : ℝ) : EReal) := by
  rw [val_main_v3_apply, val_main_cst_0_apply, o_bits, c_half, o_sqrt (by norm_num)]

theorem r117 (r c : Fin 2048) : val_main_v117 (F := Ideal) (az S) (ady S) (ag P) (ab P) (aw P) (abs_ P) (ix2 r c) = ((Spec.allZ P S r c : ℝ) : EReal) := by
  rw [val_main_v117_apply, val_main_v116_apply, val_main_v113_apply, val_main_v112_apply, val_main_v110_apply, val_main_v109_apply,
    val_main_v108_apply, val_main_v106_apply, val_main_v111_apply, val_main_v115_apply, val_main_v107_apply, val_main_v114_apply, val_main_cst_23_apply,
    r105, r1, r6, r9, r12, r3, o_bits, c_half, o_mul, o_mul, o_mul, o_mul, o_mul, o_mul, o_neg, o_add]
  refine congrArg Real.toEReal (Eq.trans ?_ (both_eq P S r c))
  exact Spec.dgelu_erfc (S.z r c) (both P S r c)

/-! The reference's five results. -/

theorem res_dz : val_main_v117 (F := Ideal) (az S) (ady S) (ag P) (ab P) (aw P) (abs_ P) = (up2 .bf16 (Spec.allZ P S) : S2048x2048.Idx → Ideal .bf16) :=
  funext fun i => (congrArg _ (ix2_of i)).trans (r117 P S (i 0) (i 1))
theorem res_dws : val_main_v72 (F := Ideal) (az S) (ady S) (ag P) (ab P) = (up3 .f32 (Spec.sumWs P S 16) : S8x128x128.Idx → Ideal .f32) :=
  funext fun i => (congrArg _ (show i = ix3 (i 0) (i 1) (i 2) from funext fun a => match a with | ⟨0, _⟩ => rfl | ⟨1, _⟩ => rfl | ⟨2, _⟩ => rfl)).trans
    (r72 P S (i 0) (i 1) (i 2))
theorem res_dbs : val_main_v118 (F := Ideal) (az S) (ady S) = (up2 .f32 (Spec.sumBs S 16) : S128x8.Idx → Ideal .f32) :=
  funext fun i => r118 S i
theorem res_dg : val_main_v78 (F := Ideal) (az S) (ady S) (aw P) = (up2 .f32 (fun (_ : Fin 1) c => Spec.sumG P S 16 c) : S1x1024.Idx → Ideal .f32) :=
  funext fun i => r78 P S i
theorem res_db : val_main_v75 (F := Ideal) (az S) (ady S) (aw P) = (up2 .f32 (fun (_ : Fin 1) c => Spec.sumB P S 16 c) : S1x1024.Idx → Ideal .f32) :=
  funext fun i => r75 P S i

end Cert.Proof.Ref

end
-- ==== Proof.Gmlp.lean ====
/- The claims about the backward pass of the gated unit: the frames, the named constants, and that the kernel's five
   results are the reference's. -/
module

public import proofs.«01_k».proof.Defs
public import proofs.«01_k».proof.Proof.Finite
public import proofs.«01_k».proof.Proof.RefDz
public import proofs.«01_k».proof.Proof.Gen.GmlpKernel.Frame
public import proofs.«01_k».proof.Proof.Gen.GmlpReferenceIdeal.Run
public import Idealize.ShloMosaic.Adequacy

@[expose] public section

noncomputable section

namespace Cert.Proof.Gmlp

open Idealize.ShloMosaic Idealize.ShloMosaic.TcCoe Idealize.SL.Sem

theorem frame_p : Cert.quiescent_GmlpKernel := fun m ρ _ => Cert.GmlpKernel.Gen.frame m ρ
theorem frame_pi : Cert.quiescent_GmlpKernelIdeal := fun m ρ _ => Cert.GmlpKernelIdeal.Gen.frame m ρ
theorem frame_pi_finite : Cert.quiescent_GmlpKernelIdeal_pre_finite := fun m ρ _ => Cert.GmlpKernelIdeal.Gen.frame m ρ
theorem frame_ri : Cert.quiescent_GmlpReferenceIdeal := fun m ρ _ =>
  (θ_run Cert.GmlpReferenceIdeal.defs _ _).mono (fun r h => ⟨fun c => (h c).2.2.2.2.2,
      Idealize.ShloMosaic.sem_eq_zero_of_no_sems (by decide) r.2⟩)
    (Cert.GmlpReferenceIdeal.Value.run (F := Ideal) m ρ)
theorem frame_ri_finite : Cert.quiescent_GmlpReferenceIdeal_pre_finite := fun m ρ _ => frame_ri m ρ trivial

theorem preserves : Cert.preserves_GmlpKernel_GmlpKernelIdeal :=
  ⟨IdealRules.named_const.statement Cert.GmlpKernelIdeal.κ "sqrt_half" .f32 0x3F3504F3#32 (((Real.sqrt 2)⁻¹ : ℝ) : EReal) rfl,
    IdealRules.named_const.statement Cert.GmlpKernelIdeal.κ "inv_sqrt_two_pi" .f32 0x3ECC422A#32 (((Real.sqrt (2 * Real.pi))⁻¹ : ℝ) : EReal) rfl⟩

theorem algebraic : Cert.algebraic_GmlpKernelIdeal_GmlpReferenceIdeal_pre_finite := by
  intro m ρ m' ρ' hpre hagree
  have H := fun c => Finite.holds m c (hpre c)
  refine ⟨_, _, _, _, _, Cert.GmlpKernelIdeal.Value.run_blocks (F := Ideal) m ρ, ?_⟩
  refine (θ_run Cert.GmlpReferenceIdeal.defs _ _).mono (fun _ h c => ?_) (Cert.GmlpReferenceIdeal.Value.run (F := Ideal) m' ρ')
  obtain ⟨h0, h1, h2, h3, h4, hk⟩ := h c
  obtain ⟨a0, a1, a2, a3, a4, a5⟩ := hagree c
  have e0 := a0.trans (H c).z
  have e1 := a1.trans (H c).dy
  have e2 := a2.trans (H c).g
  have e3 := a3.trans (H c).b
  have e4 := a4.trans (H c).ws
  have e5 := a5.trans (H c).bs
  refine ⟨h0.trans ?_, h1.trans ?_, h2.trans ?_, h3.trans ?_, h4.trans ?_, hk⟩
  · rw [Fold.final6 (H c), Cert.GmlpReferenceIdeal.Read.val_main_v117_eq, e0, e1, e2, e3, e4, e5]
    exact Ref.res_dz (Finite.par m c) (Finite.seq m c)
  · rw [Fold.final7 (H c), Cert.GmlpReferenceIdeal.Read.val_main_v72_eq, e0, e1, e2, e3]
    exact Ref.res_dws (Finite.par m c) (Finite.seq m c)
  · rw [Fold.final8 (H c), Cert.GmlpReferenceIdeal.Read.val_main_v118_eq, e0, e1]
    exact Ref.res_dbs (Finite.seq m c)
  · rw [Fold.final9 (H c), Cert.GmlpReferenceIdeal.Read.val_main_v78_eq, e0, e1, e4]
    exact Ref.res_dg (Finite.par m c) (Finite.seq m c)
  · rw [Fold.final10 (H c), Cert.GmlpReferenceIdeal.Read.val_main_v75_eq, e0, e1, e4]
    exact Ref.res_db (Finite.par m c) (Finite.seq m c)

end Cert.Proof.Gmlp

end
-- ==== Proof.FfnSpec.lean ====
/- The backward pass of the gated FFN on real numbers: every quantity at a row and a hidden unit or a column, the gradients as
   sums, and the hidden units of a shard and the rows of a row block. -/
module

public import proofs.«01_k».proof.Proof.Consts

@[expose] public section

noncomputable section

namespace Cert.Proof.Swi

open Idealize.ShloMosaic

/-- The input's rows, the three weights, and the gradient of the result. -/
structure Args where
  x : Fin 2048 → Fin 1024 → ℝ
  wg : Fin 1024 → Fin 2816 → ℝ
  wu : Fin 1024 → Fin 2816 → ℝ
  wd : Fin 2816 → Fin 1024 → ℝ
  dr : Fin 2048 → Fin 1024 → ℝ

/-- The weight of the residual branch. -/
def alpha : ℝ := 623487 / 524288

theorem c_alpha : Ideal.ofBits .f32 0x3F9837F0#32 = ((alpha : ℝ) : EReal) := by
  simp [Ideal.ofBits, Ideal.ieee, alpha, -EReal.coe_mul]; norm_num

/-- The logistic function, and the gated unit's activation. -/
def lgs (a : ℝ) : ℝ := (1 + Real.exp (-a))⁻¹
def silu (a : ℝ) : ℝ := a * lgs a
def dsilu (a : ℝ) : ℝ := lgs a * (1 + a * (1 - lgs a))

/-! ## By row and hidden unit -/

section
variable (A : Args)
def ga (r : Fin 2048) (k : Fin 2816) : ℝ := ∑ d, A.x r d * A.wg d k
def up (r : Fin 2048) (k : Fin 2816) : ℝ := ∑ d, A.x r d * A.wu d k
def df (r : Fin 2048) (d : Fin 1024) : ℝ := 1 / 2 * A.dr r d
def ds (r : Fin 2048) (k : Fin 2816) : ℝ := ∑ d, df A r d * A.wd k d
def da (r : Fin 2048) (k : Fin 2816) : ℝ := ds A r k * up A r k * dsilu (ga A r k)
def db (r : Fin 2048) (k : Fin 2816) : ℝ := ds A r k * silu (ga A r k)
def s (r : Fin 2048) (k : Fin 2816) : ℝ := silu (ga A r k) * up A r k

/-- The gradients of the input and of the three weights, a weight's by hidden unit. -/
def dx (r : Fin 2048) (d : Fin 1024) : ℝ := alpha * A.dr r d + ∑ k, (da A r k * A.wg d k + db A r k * A.wu d k)
def dwg (k : Fin 2816) (d : Fin 1024) : ℝ := ∑ r, da A r k * A.x r d
def dwu (k : Fin 2816) (d : Fin 1024) : ℝ := ∑ r, db A r k * A.x r d
def dwd (k : Fin 2816) (d : Fin 1024) : ℝ := ∑ r, s A r k * df A r d
end

/-! ## Shards and row blocks -/

/-- Hidden unit `f` of shard `j`, and row `p` of row block `b`. -/
def hid (j : ℕ) (f : Fin 704) : Fin 2816 := ⟨(704 * j + f.val) % 2816, Nat.mod_lt _ (by decide)⟩
def row (b : ℕ) (p : Fin 512) : Fin 2048 := ⟨(512 * b + p.val) % 2048, Nat.mod_lt _ (by decide)⟩

theorem hid_val {j : ℕ} (h : j < 4) (f : Fin 704) : (hid j f).val = 704 * j + f.val := by simp only [hid]; omega
theorem row_val {b : ℕ} (h : b < 4) (p : Fin 512) : (row b p).val = 512 * b + p.val := by simp only [row]; omega

theorem row_div (r : Fin 2048) (h) : row (r.val / 512) ⟨r.val % 512, h⟩ = r := Fin.ext (by simp only [row]; omega)

/-- The hidden unit of an element of a weight's gradient as the results hold it: half `y 0` of shard `y 1`. -/
def unit (y : (⟨4, ![2, 4, 352, 1024]⟩ : Shape).Idx) : Fin 2816 :=
  hid (y 1).val ⟨352 * (y 0).val + (y 2).val, by have h0 : (y 0).val < 2 := (y 0).isLt; have h2 : (y 2).val < 352 := (y 2).isLt; omega⟩

/-- A sum over the hidden units, shard by shard. -/
theorem sum_hid (g : Fin 2816 → ℝ) : ∑ k, g k = ∑ j ∈ Finset.range 4, ∑ f : Fin 704, g (hid j f) := by
  rw [Finset.sum_range fun j => ∑ f : Fin 704, g (hid j f), ← Fintype.sum_prod_type']
  let e : Fin 2816 ≃ Fin 4 × Fin 704 :=
    { toFun := fun k => (⟨k.val / 704, by omega⟩, ⟨k.val % 704, Nat.mod_lt _ (by decide)⟩)
      invFun := fun q => hid q.1.val q.2
      left_inv := fun k => Fin.ext (by simp only [hid]; omega)
      right_inv := fun q => Prod.ext (Fin.ext (by simp only [hid]; omega)) (Fin.ext (by simp only [hid]; omega)) }
  exact Fintype.sum_equiv e _ _ fun k => congrArg g (e.left_inv k).symm

/-! ## One row block and one shard -/

/-- What one point of the grid reads: the rows' gradient and activations, and the shard's weights. -/
structure Blk where
  dr : Fin 512 → Fin 1024 → ℝ
  wd : Fin 704 → Fin 1024 → ℝ
  a : Fin 512 → Fin 704 → ℝ
  b : Fin 512 → Fin 704 → ℝ
  wg : Fin 704 → Fin 1024 → ℝ
  wu : Fin 704 → Fin 1024 → ℝ

section
variable (B : Blk)
def Blk.df (p : Fin 512) (d : Fin 1024) : ℝ := 1 / 2 * B.dr p d
def Blk.ds (p : Fin 512) (f : Fin 704) : ℝ := ∑ d, B.df p d * B.wd f d
def Blk.da (p : Fin 512) (f : Fin 704) : ℝ := B.ds p f * B.b p f * dsilu (B.a p f)
def Blk.db (p : Fin 512) (f : Fin 704) : ℝ := B.ds p f * silu (B.a p f)
def Blk.s (p : Fin 512) (f : Fin 704) : ℝ := silu (B.a p f) * B.b p f
/-- The shard's part of the input's gradient. -/
def Blk.part (p : Fin 512) (d : Fin 1024) : ℝ := (∑ f, B.da p f * B.wg f d) + ∑ f, B.db p f * B.wu f d
end

/-- The block of shard `j` and row block `b`. -/
def Args.blk (A : Args) (j b : ℕ) : Blk where
  dr p d := A.dr (row b p) d
  wd f d := A.wd (hid j f) d
  a p f := ga A (row b p) (hid j f)
  b p f := up A (row b p) (hid j f)
  wg f d := A.wg d (hid j f)
  wu f d := A.wu d (hid j f)

variable (A : Args)

/-- The input's gradient over the first `n` shards. -/
def dxUpTo (n b : ℕ) (p : Fin 512) (d : Fin 1024) : ℝ :=
  alpha * A.dr (row b p) d + ∑ j ∈ Finset.range n, (A.blk j b).part p d

theorem dxUpTo_succ (n b : ℕ) : dxUpTo A (n + 1) b = fun p d => dxUpTo A n b p d + (A.blk n b).part p d := by
  funext p d
  rw [dxUpTo, Finset.sum_range_succ, ← add_assoc]
  rfl

theorem dxUpTo_four (b : ℕ) (p : Fin 512) (d : Fin 1024) : dxUpTo A 4 b p d = dx A (row b p) d := by
  rw [dxUpTo, dx, sum_hid]
  refine congrArg (_ + ·) (Finset.sum_congr rfl fun j _ => ?_)
  rw [Finset.sum_add_distrib]
  rfl

end Cert.Proof.Swi

end
-- ==== Proof.FfnHost.lean ====
/- What the launch's arrays hold before the kernel, on real numbers: the host's casts, its two projections, and their split
   into shards. -/
module

public import proofs.«01_k».proof.Proof.FfnSpec
public import proofs.«01_k».proof.Proof.Gen.FfnKernelIdeal.Frame

@[expose] public section

set_option maxRecDepth 16384

noncomputable section

namespace Cert.Proof.Swi

open Idealize.ShloMosaic Idealize.ShloMosaic.TcCoe Idealize.SL.Sem Cert.FfnKernelIdeal Cert.FfnKernelIdeal.Gen

/-- The projection of the rows by a weight. -/
def proj (x : Fin 2048 → Fin 1024 → ℝ) (w : Fin 1024 → Fin 2816 → ℝ) (r : Fin 2048) (k : Fin 2816) : ℝ := ∑ d, x r d * w d k

theorem h_dot (x : Fin 2048 → Fin 1024 → ℝ) (w : Fin 1024 → Fin 2816 → ℝ) :
    Host.dotGeneral (F := Ideal) dot_S2048x1024_S1024x2816_S2048x2816_1_0_0_1_n_n none (up2 .f32 x : FVec Ideal S2048x1024 .f32) (up2 .f32 w : FVec Ideal S1024x2816 .f32) = up2 .f32 (proj x w) := by
  refine eq_up2 fun r k => ?_
  pointwise
  simp only [up2_apply, ← EReal.coe_mul, sum_real]
  rfl

theorem h_cols (f : Fin 2048 → Fin 2816 → ℝ) :
    truncf (F := Ideal) .bf16 (transpose S4x2048x704 [1, 0, 2] (shapeCast S2048x4x704 (up2 .f32 f : FVec Ideal S2048x2816 .f32) shapeCasts_S2048x2816_S2048x4x704) transposes_S2048x4x704_S4x2048x704_1_0_2) bitsLt_bf16_f32
      = up3 .bf16 fun (j : Fin 4) r k => f r (hid j.val k) := by
  refine eq_up3 fun j r k => ?_
  pointwise
  exact congrArg (fun g => ((f r g : ℝ) : EReal)) (Fin.ext (by rw [hid_val j.isLt]; show j.val * 704 + k.val = _; omega))

theorem h_rows (f : Fin 2816 → Fin 1024 → ℝ) :
    truncf (F := Ideal) .bf16 (shapeCast S4x704x1024 (up2 .f32 f : FVec Ideal S2816x1024 .f32) shapeCasts_S2816x1024_S4x704x1024) bitsLt_bf16_f32
      = up3 .bf16 fun (j : Fin 4) k d => f (hid j.val k) d := by
  refine eq_up3 fun j k d => ?_
  pointwise
  exact congrArg (fun g => ((f g d : ℝ) : EReal)) (Fin.ext (by rw [hid_val j.isLt]; show j.val * 704 + k.val = _; omega))

theorem h_tr (f : Fin 1024 → Fin 2816 → ℝ) :
    transpose S2816x1024 [1, 0] (up2 .f32 f : FVec Ideal S1024x2816 .f32) transposes_S1024x2816_S2816x1024_1_0 = up2 .f32 fun k d => f d k := by
  exact eq_up2 fun k d => by pointwise [up2]

variable (m : (ℓ : Loc nD τ sig) → Buf (Elt Ideal) ℓ) (c : Dev nD) (A : Args)

/-- The arguments hold the real numbers `A`. -/
structure Holds : Prop where
  x : (m ((c : Thread nD τ).loc main_arg0) : FVec Ideal S2048x1024 .f32) = up2 .f32 A.x
  wg : (m ((c : Thread nD τ).loc main_arg1) : FVec Ideal S1024x2816 .f32) = up2 .f32 A.wg
  wu : (m ((c : Thread nD τ).loc main_arg2) : FVec Ideal S1024x2816 .f32) = up2 .f32 A.wu
  wd : (m ((c : Thread nD τ).loc main_arg3) : FVec Ideal S2816x1024 .f32) = up2 .f32 A.wd
  dr : (m ((c : Thread nD τ).loc main_arg4) : FVec Ideal S2048x1024 .f32) = up2 .f32 A.dr

variable {m c A} (H : Holds m c A)
include H

theorem V_x : (V m c main_v0 : FVec Ideal S2048x1024 .bf16) = up2 .bf16 A.x := by
  refine Eq.trans (b := truncf (F := Ideal) .bf16 (m ((c : Thread nD τ).loc main_arg0) : FVec Ideal S2048x1024 .f32) bitsLt_bf16_f32) ?_ ?_
  · simp only [V, hostOps0, StableHlo.after]
    rfl
  · rw [H.x]; rfl

theorem V_a : (V m c main_v4 : FVec Ideal S4x2048x704 .bf16) = up3 .bf16 fun (j : Fin 4) r k => ga A r (hid j.val k) := by
  refine Eq.trans (b := truncf (F := Ideal) .bf16 (transpose S4x2048x704 [1, 0, 2] (shapeCast S2048x4x704 (Host.dotGeneral (F := Ideal) (φ₁ := .f32) (φ₂ := .f32) dot_S2048x1024_S1024x2816_S2048x2816_1_0_0_1_n_n none
    (m ((c : Thread nD τ).loc main_arg0) : FVec Ideal S2048x1024 .f32) (m ((c : Thread nD τ).loc main_arg1) : FVec Ideal S1024x2816 .f32) : FVec Ideal S2048x2816 .f32) shapeCasts_S2048x2816_S2048x4x704) transposes_S2048x4x704_S4x2048x704_1_0_2) bitsLt_bf16_f32) ?_ ?_
  · simp only [V, hostOps0, StableHlo.after]
    rfl
  · rw [H.x, H.wg, h_dot]; exact h_cols _

theorem V_b : (V m c main_v8 : FVec Ideal S4x2048x704 .bf16) = up3 .bf16 fun (j : Fin 4) r k => up A r (hid j.val k) := by
  refine Eq.trans (b := truncf (F := Ideal) .bf16 (transpose S4x2048x704 [1, 0, 2] (shapeCast S2048x4x704 (Host.dotGeneral (F := Ideal) (φ₁ := .f32) (φ₂ := .f32) dot_S2048x1024_S1024x2816_S2048x2816_1_0_0_1_n_n none
    (m ((c : Thread nD τ).loc main_arg0) : FVec Ideal S2048x1024 .f32) (m ((c : Thread nD τ).loc main_arg2) : FVec Ideal S1024x2816 .f32) : FVec Ideal S2048x2816 .f32) shapeCasts_S2048x2816_S2048x4x704) transposes_S2048x4x704_S4x2048x704_1_0_2) bitsLt_bf16_f32) ?_ ?_
  · simp only [V, hostOps0, StableHlo.after]
    rfl
  · rw [H.x, H.wu, h_dot]; exact h_cols _

theorem V_wg : (V m c main_v11 : FVec Ideal S4x704x1024 .bf16) = up3 .bf16 fun (j : Fin 4) k d => A.wg d (hid j.val k) := by
  refine Eq.trans (b := truncf (F := Ideal) .bf16 (shapeCast S4x704x1024 (transpose S2816x1024 [1, 0]
    (m ((c : Thread nD τ).loc main_arg1) : FVec Ideal S1024x2816 .f32) transposes_S1024x2816_S2816x1024_1_0) shapeCasts_S2816x1024_S4x704x1024) bitsLt_bf16_f32) ?_ ?_
  · simp only [V, hostOps0, StableHlo.after]
    rfl
  · rw [H.wg, h_tr]; exact h_rows _

theorem V_wu : (V m c main_v14 : FVec Ideal S4x704x1024 .bf16) = up3 .bf16 fun (j : Fin 4) k d => A.wu d (hid j.val k) := by
  refine Eq.trans (b := truncf (F := Ideal) .bf16 (shapeCast S4x704x1024 (transpose S2816x1024 [1, 0]
    (m ((c : Thread nD τ).loc main_arg2) : FVec Ideal S1024x2816 .f32) transposes_S1024x2816_S2816x1024_1_0) shapeCasts_S2816x1024_S4x704x1024) bitsLt_bf16_f32) ?_ ?_
  · simp only [V, hostOps0, StableHlo.after]
    rfl
  · rw [H.wu, h_tr]; exact h_rows _

theorem V_wd : (V m c main_v16 : FVec Ideal S4x704x1024 .bf16) = up3 .bf16 fun (j : Fin 4) k d => A.wd (hid j.val k) d := by
  refine Eq.trans (b := truncf (F := Ideal) .bf16 (shapeCast S4x704x1024
    (m ((c : Thread nD τ).loc main_arg3) : FVec Ideal S2816x1024 .f32) shapeCasts_S2816x1024_S4x704x1024) bitsLt_bf16_f32) ?_ ?_
  · simp only [V, hostOps0, StableHlo.after]
    rfl
  · rw [H.wd]; exact h_rows _

end Cert.Proof.Swi

end
-- ==== Proof.FfnFinite.lean ====
/- The FFN call's precondition read back: every element of the arguments is a real number. -/
module

public import proofs.«01_k».proof.Proof.Finite
public import proofs.«01_k».proof.Proof.FfnHost
public import proofs.«01_k».proof.Proof.Gen.Pre_ffn_finite

@[expose] public section

noncomputable section

namespace Cert.Proof.Swi

open Idealize.ShloMosaic Idealize.ShloMosaic.TcCoe Cert.FfnKernelIdeal
open Cert.Proof.Finite (real_of_all two)

theorem all_real (x0 : FVec Ideal S2048x1024 .f32) (x1 x2 : FVec Ideal S1024x2816 .f32) (x3 : FVec Ideal S2816x1024 .f32) (x4 : FVec Ideal S2048x1024 .f32)
    (j) (h : Cert.Pre_ffn_finite.fn (F := Ideal) x0 x1 x2 x3 x4 j = 1#1) :
    (∀ i, x0 i = (((x0 i).toReal : ℝ) : EReal)) ∧ (∀ i, x1 i = (((x1 i).toReal : ℝ) : EReal)) ∧ (∀ i, x2 i = (((x2 i).toReal : ℝ) : EReal))
      ∧ (∀ i, x3 i = (((x3 i).toReal : ℝ) : EReal)) ∧ ∀ i, x4 i = (((x4 i).toReal : ℝ) : EReal) := by
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all x0 _ _ _ _ j h0, real_of_all x1 _ _ _ _ j h1, real_of_all x2 _ _ _ _ j h2, real_of_all x3 _ _ _ _ j h3, real_of_all x4 _ _ _ _ j h4⟩

variable (m : (ℓ : Loc nD τ sig) → Buf (Elt Ideal) ℓ) (c : Dev nD)

/-- The real numbers the arguments hold. -/
def args : Args where
  x r d := ((m ((c : Thread nD τ).loc main_arg0) : FVec Ideal S2048x1024 .f32) (ix2 r d)).toReal
  wg d k := ((m ((c : Thread nD τ).loc main_arg1) : FVec Ideal S1024x2816 .f32) (ix2 d k)).toReal
  wu d k := ((m ((c : Thread nD τ).loc main_arg2) : FVec Ideal S1024x2816 .f32) (ix2 d k)).toReal
  wd k d := ((m ((c : Thread nD τ).loc main_arg3) : FVec Ideal S2816x1024 .f32) (ix2 k d)).toReal
  dr r d := ((m ((c : Thread nD τ).loc main_arg4) : FVec Ideal S2048x1024 .f32) (ix2 r d)).toReal

theorem holds (h : Cert.Pre_ffn_finite.fn (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = fun _ => 1#1) :
    Holds m c (args m c) := by
  obtain ⟨h0, h1, h2, h3, h4⟩ := all_real _ _ _ _ _ _ (congrFun h (fun a => a.elim0))
  exact ⟨two _ h0, two _ h1, two _ h2, two _ h3, two _ h4⟩

end Cert.Proof.Swi

end
-- ==== Proof.FfnBase.lean ====
/- The operands of the FFN's backward call as its one core holds them — the staged blocks, the scratch buffers, the array
   read and the four arrays written by the body's own copies, the five copy semaphores — and the conditions of the body's
   branches in terms of the grid point. -/
module

public import proofs.«01_k».proof.Proof.Gen.FfnKernelIdeal.Launch
public import proofs.«01_k».proof.Proof.Gen.FfnKernelIdeal.Skeleton
public import proofs.«01_k».proof.Proof.Gen.FfnKernelIdeal.Points
public import proofs.«01_k».proof.Proof.Gen.FfnKernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp

@[expose] public section

set_option maxRecDepth 16384

noncomputable section

namespace Cert.FfnKernelIdeal.Hand

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The scratch buffers: the accumulated `dx`, a shard's `da`, `db` and `s`, the whole `df` and `x`, the two staging slots. -/
abbrev mDx : Memref sig .tc .vmem S2048x1024 .f32 := Memref.whole cc0_scratch0
abbrev mDa : Memref sig .tc .vmem S2048x704 .bf16 := Memref.whole cc0_scratch1
abbrev mDb : Memref sig .tc .vmem S2048x704 .bf16 := Memref.whole cc0_scratch2
abbrev mS : Memref sig .tc .vmem S2048x704 .bf16 := Memref.whole cc0_scratch3
abbrev mDf : Memref sig .tc .vmem S2048x1024 .bf16 := Memref.whole cc0_scratch4
abbrev mX : Memref sig .tc .vmem S2048x1024 .bf16 := Memref.whole cc0_scratch5
abbrev mRes : Memref sig .tc .vmem S2x704x1024 .f32 := Memref.whole cc0_scratch6
/-- The array of `x`, and the four results. -/
abbrev hX : Memref sig .tc .hbm S2048x1024 .bf16 := Memref.whole main_v0
abbrev hWg : Memref sig .tc .hbm S2x4x352x1024 .f32 := Memref.whole main_v17_0
abbrev hWu : Memref sig .tc .hbm S2x4x352x1024 .f32 := Memref.whole main_v17_1
abbrev hWd : Memref sig .tc .hbm S2x4x352x1024 .f32 := Memref.whole main_v17_2
abbrev hDx : Memref sig .tc .hbm S2048x1024 .f32 := Memref.whole main_v17_3

/-- A buffer held whole at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The body's five copy semaphores. -/
abbrev osem0 : Fin 5 → SemLoc sig := fun j => (![SemLoc.dma 12, SemLoc.dma 13, SemLoc.dma 14, SemLoc.dma 15, SemLoc.dma 16] : Fin 5 → SemLoc sig) j
theorem ownSemFacts0 : Pipeline.OwnSemFacts spec0 osem0 := by decide

/-- The body at a point over its operands. -/
abbrev body (i : grid0.Coords) (arg2 : Memref sig .tc .vmem S512x1024 .f32) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) : Prog (TpuEff nD τ sig (Elt F) Λ₀ .tc) PUnit :=
  cc0_ffn_bwd i arg2 harg2 arg3 harg3 arg4 harg4 arg5 harg5 arg6 harg6 arg7 harg7 hX (Memref.isWhole_whole _) hWg (Memref.isWhole_whole _) hWu (Memref.isWhole_whole _) hWd (Memref.isWhole_whole _) hDx (Memref.isWhole_whole _) mDx (Memref.isWhole_whole _) mDa (Memref.isWhole_whole _) mDb (Memref.isWhole_whole _) mS (Memref.isWhole_whole _) mDf (Memref.isWhole_whole _) mX (Memref.isWhole_whole _) mRes (Memref.isWhole_whole _) cc0_scratch7

/-- The conditions of the body's first and last branches, as printed. -/
abbrev cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32
abbrev cond6 (i : grid0.Coords) : BitVec 1 :=
  Scalar.cmpi .ne (Scalar.extui (Scalar.andi (Scalar.cmpi .eq (BitVec.ofNat 32 (i 0).val) 3#32) (Scalar.cmpi .eq (BitVec.ofNat 32 (i 1).val) 3#32)) : BitVec 32) 0#32

end Cert.FfnKernelIdeal.Hand

end
-- ==== Proof.FfnStep.lean ====
/- What one grid point of the FFN's backward call does to the buffers it keeps, as plain functions of what they held: each
   store puts a block of rows, each pair of copies out puts the two halves of one shard of a weight gradient. -/
module

public import proofs.«01_k».proof.Proof.FfnBase
public import Idealize.ShloMosaic.Lib.VecWindow
public import Idealize.ShloMosaic.Lib.ValueIdx
public import Idealize.ShloMosaic.Lib.ValueLayout

@[expose] public section

set_option maxRecDepth 16384

noncomputable section

namespace Cert.FfnKernelIdeal.Hand

open Cert.FfnKernelIdeal Cert.FfnKernelIdeal.Gen
open Idealize.ShloMosaic Idealize.ShloMosaic.TcCoe Idealize.ShloMosaic.ValueIdx
open Idealize.SL Idealize.SL.Sem

variable {F : FTy → Type} [FloatOps F]

/-! ## The offsets in terms of the point -/

theorem word_rows : ∀ n : Fin 4, (Scalar.indexCast (Scalar.muli (BitVec.ofNat 32 n.val) 512#32) : Index).toNat = 512 * n.val := by decide
theorem word_shard : ∀ n : Fin 4, (BitVec.ofNat 32 n.val).toNat = n.val := by decide

theorem off1_eq (i : grid0.Coords) : k0_off1 i = ![512 * (i 1).val, 0] := by
  unfold k0_off1
  exact congrArg (fun k : ℕ => (![k, 0] : Fin 2 → ℕ)) (word_rows (i 1))
theorem off2_eq (i : grid0.Coords) : k0_off2 i = ![512 * (i 1).val, 0] := off1_eq i
theorem off3_eq (i : grid0.Coords) : k0_off3 i = ![512 * (i 1).val, 0] := off1_eq i
theorem off4_eq (i : grid0.Coords) : k0_off4 i = ![512 * (i 1).val, 0] := off1_eq i
theorem off5_eq (i : grid0.Coords) : k0_off5 i = ![0, (i 0).val, 0, 0] := by
  unfold k0_off5
  exact congrArg (fun k : ℕ => (![0, k, 0, 0] : Fin 4 → ℕ)) (word_shard (i 0))
theorem off6_eq (i : grid0.Coords) : k0_off6 i = ![1, (i 0).val, 0, 0] := by
  unfold k0_off6
  exact congrArg (fun k : ℕ => (![1, k, 0, 0] : Fin 4 → ℕ)) (word_shard (i 0))

theorem rows_inb (i : grid0.Coords) (n : ℕ) : ∀ a, (![512 * (i 1).val, 0] : Fin 2 → ℕ) a + (![512, n] : Fin 2 → ℕ) a ≤ (![2048, n] : Fin 2 → ℕ) a := by
  have h : (i 1).val < 4 := (i 1).isLt
  intro a
  fin_cases a
  · show 512 * (i 1).val + 512 ≤ 2048
    omega
  · show 0 + n ≤ n
    omega

/-! ## The operations -/

/-- A buffer of 2048 rows with `w` over the 512 rows of the point's row block. -/
abbrev putRows {e : EltTy} {n : ℕ} (i : grid0.Coords) (f : Vec F (⟨2, ![2048, n]⟩ : Shape) e) (w : Vec F (⟨2, ![512, n]⟩ : Shape) e) : Vec F (⟨2, ![2048, n]⟩ : Shape) e :=
  VecWindow.put (s := (⟨2, ![2048, n]⟩ : Shape)) f ![512 * (i 1).val, 0] ![512, n] w
/-- The 512 rows of the point's row block. -/
abbrev getRows {e : EltTy} {n : ℕ} (i : grid0.Coords) (f : Vec F (⟨2, ![2048, n]⟩ : Shape) e) : Vec F (⟨2, ![512, n]⟩ : Shape) e :=
  VecWindow.window (s := (⟨2, ![2048, n]⟩ : Shape)) f ![512 * (i 1).val, 0] ![512, n] (rows_inb i n)
/-- A weight gradient's array with `p`'s 704 rows over shard `j`, the first 352 in half 0 and the last in half 1. -/
def shard (j : ℕ) (f : Vec F S2x4x352x1024 .f32) (p : Vec F S1x704x1024 .f32) : Vec F S2x4x352x1024 .f32 := fun y =>
  if (y 1).val = j then
    p (ix3 (n0 := 1) (n1 := 704) (n2 := 1024) ⟨0, Nat.one_pos⟩ ⟨352 * (y 0).val + (y 2).val, by
      have h0 : (y 0).val < 2 := (y 0).isLt
      have h2 : (y 2).val < 352 := (y 2).isLt
      omega⟩ (y 3))
  else f y

/-- What a point loads: the cotangent's rows, the two pieces of `w_downᵀ`, the saved gate and up rows, the two weights. -/
structure Ld (F : FTy → Type) where
  v7 : Vec F S512x1024 .f32
  v14 : Vec F S1x384x1024 .bf16
  v17 : Vec F S1x320x1024 .bf16
  v21 : Vec F S1x512x704 .bf16
  v24 : Vec F S1x512x704 .bf16
  v54 : Vec F S1x704x1024 .bf16
  v57 : Vec F S1x704x1024 .bf16

/-- The rows a point stores. -/
def Ld.df (L : Ld F) : FVec F S512x1024 .bf16 := k0_pay5 L.v7
def Ld.da (L : Ld F) : FVec F S512x704 .bf16 := k0_pay15 (k0_pay7 L.v21) (k0_pay9 L.v21) (k0_pay11 L.v7 L.v14 L.v17 L.v24) (k0_pay12 L.v21)
def Ld.db (L : Ld F) : FVec F S512x704 .bf16 := k0_pay16 (k0_pay6 L.v7 L.v14 L.v17) (k0_pay10 L.v21)
def Ld.s (L : Ld F) : FVec F S512x704 .bf16 := k0_pay17 (k0_pay8 L.v24) (k0_pay10 L.v21)
def Ld.dx0 (L : Ld F) : FVec F S512x1024 .f32 :=
  k0_pay19 L.v7 (k0_pay6 L.v7 L.v14 L.v17) (k0_pay7 L.v21) (k0_pay9 L.v21) (k0_pay10 L.v21) (k0_pay11 L.v7 L.v14 L.v17 L.v24) (k0_pay12 L.v21) L.v54 L.v57
def Ld.dxS (L : Ld F) (p : FVec F S512x1024 .f32) : FVec F S512x1024 .f32 :=
  k0_pay20 (k0_pay6 L.v7 L.v14 L.v17) (k0_pay7 L.v21) (k0_pay9 L.v21) (k0_pay10 L.v21) (k0_pay11 L.v7 L.v14 L.v17 L.v24) (k0_pay12 L.v21) L.v54 L.v57 p

/-- The buffers kept between points. -/
structure St (F : FTy → Type) where
  dx : Vec F S2048x1024 .f32
  da : Vec F S2048x704 .bf16
  db : Vec F S2048x704 .bf16
  s : Vec F S2048x704 .bf16
  df : Vec F S2048x1024 .bf16
  x : Vec F S2048x1024 .bf16
  wg : Vec F S2x4x352x1024 .f32
  wu : Vec F S2x4x352x1024 .f32
  wd : Vec F S2x4x352x1024 .f32
  ox : Vec F S2048x1024 .f32

/-- One point: from the buffers before, the array of `x` and the loads, the buffers after. -/
def St.step (i : grid0.Coords) (X : Vec F S2048x1024 .bf16) (L : Ld F) (st : St F) : St F :=
  let x := if cond1 i = 1#1 then X else st.x
  let df := if k0_cond2 i = 1#1 then putRows i st.df L.df else st.df
  let da := putRows i st.da L.da
  let db := putRows i st.db L.db
  let s := putRows i st.s L.s
  let dx := if k0_cond2 i = 1#1 then putRows i st.dx L.dx0 else putRows i st.dx (L.dxS (getRows i st.dx))
  { x := x, df := df, da := da, db := db, s := s, dx := dx
    wg := if k0_cond5 i = 1#1 then shard (i 0).val st.wg (k0_pay1 da x) else st.wg
    wu := if k0_cond5 i = 1#1 then shard (i 0).val st.wu (k0_pay2 db x) else st.wu
    wd := if k0_cond5 i = 1#1 then shard (i 0).val st.wd (k0_pay3 s df) else st.wd
    ox := if cond6 i = 1#1 then dx else st.ox }

/-! ## The stores and the copies are these operations -/

theorem rows_written {e : EltTy} {n : ℕ} {sp : Space} (v : View sig .tc sp (⟨2, ![2048, n]⟩ : Shape) e) (f : v.ty.Contents (Elt F)) {off : Fin 2 → ℕ} (i : grid0.Coords)
    (inb : ∀ a, off a + (![512, n] : Fin 2 → ℕ) a ≤ (![2048, n] : Fin 2 → ℕ) a) (h : off = ![512 * (i 1).val, 0]) (w : Vec F (⟨2, ![512, n]⟩ : Shape) e) :
    v.read (Elt F) (v.writes (Elt F) f [⟨Rect.unit (s := (⟨2, ![2048, n]⟩ : Shape)) off ![512, n] inb, w⟩]) = putRows i (v.read (Elt F) f) w :=
  View.read_writes_cons_put v f inb w [] h

theorem rows_read {e : EltTy} {n : ℕ} {sp : Space} (v : View sig .tc sp (⟨2, ![2048, n]⟩ : Shape) e) (f : v.ty.Contents (Elt F)) {off : Fin 2 → ℕ} (i : grid0.Coords)
    (inb : ∀ a, off a + (![512, n] : Fin 2 → ℕ) a ≤ (![2048, n] : Fin 2 → ℕ) a) (h : off = ![512 * (i 1).val, 0]) :
    v.readAt (Elt F) (Rect.unit (s := (⟨2, ![2048, n]⟩ : Shape)) off ![512, n] inb).toLoadRect f = getRows i (v.read (Elt F) f) :=
  View.readAt_unit v f inb h _

/-- Half `h` of slot `k` of the staging buffer, after the slot was stored: rows `352 h …` of what was stored. -/
theorem half_read {sp : Space} (v : View sig .tc sp S2x704x1024 .f32) (f : v.ty.Contents (Elt F)) (k h : ℕ) (L : List (View.Piece (Elt F) S2x704x1024 .f32))
    (inb : ∀ a, (![k, 0, 0] : Fin 3 → ℕ) a + S1x704x1024.size a ≤ S2x704x1024.size a)
    (inb' : ∀ a, (![k, 352 * h, 0] : Fin 3 → ℕ) a + S1x352x1024.size a ≤ S2x704x1024.size a)
    (hn : S352x1024.numel = (Rect.unit (s := S2x704x1024) ![k, 352 * h, 0] S1x352x1024.size inb').shape.numel)
    (p : Vec F S1x704x1024 .f32) (z0 : Fin 352) (z1 : Fin 1024) (r : Fin 704) (hr : r.val = 352 * h + z0.val) :
    View.read (Elt F) ((v.slice (Rect.unit (s := S2x704x1024) ![k, 352 * h, 0] S1x352x1024.size inb')).reshape S352x1024 hn)
        (v.writes (Elt F) f (⟨Rect.unit (s := S2x704x1024) ![k, 0, 0] S1x704x1024.size inb, p⟩ :: L)) (ix2 z0 z1)
      = p (ix3 (n0 := 1) (n1 := 704) (n2 := 1024) ⟨0, Nat.one_pos⟩ r z1) := by
  have e : Shape.reshapeEquiv hn (ix2 z0 z1) = ix3 (n0 := 1) (n1 := 352) (n2 := 1024) ⟨0, Nat.one_pos⟩ z0 z1 := reshapeEquiv_ix2_1ab (a := 352) (b := 1024) hn z0 z1
  refine (congrArg (fun u => v.read (Elt F) (v.writes (Elt F) f (⟨Rect.unit (s := S2x704x1024) ![k, 0, 0] S1x704x1024.size inb, p⟩ :: L))
    ((Rect.unit (s := S2x704x1024) ![k, 352 * h, 0] S1x352x1024.size inb').emb u)) e).trans ?_
  refine View.read_writes_cons_unit_of_mem v f inb p L _ (ix3 (n0 := 1) (n1 := 704) (n2 := 1024) ⟨0, Nat.one_pos⟩ r z1) rfl fun a => ?_
  fin_cases a
  · show k + 1 * 0 = k + 0
    omega
  · show 352 * h + 1 * z0.val = 0 + r.val
    omega
  · show 0 + 1 * z1.val = 0 + z1.val
    omega

/-- One half's copy into a weight gradient's array, read at an index: inside the half's shard what was copied, elsewhere what was there. -/
theorem half_written {sp : Space} (v : View sig .tc sp S2x4x352x1024 .f32) (f : v.ty.Contents (Elt F)) {off : Fin 4 → ℕ} (h j : ℕ) (ho : off = ![h, j, 0, 0])
    (inb : ∀ a, off a + S1x1x352x1024.size a ≤ S2x4x352x1024.size a)
    (hn : S352x1024.numel = (Rect.unit (s := S2x4x352x1024) off S1x1x352x1024.size inb).shape.numel) (w : Vec F S352x1024 .f32) (y : S2x4x352x1024.Idx) :
    v.read (Elt F) (View.write (Elt F) ((v.slice (Rect.unit (s := S2x4x352x1024) off S1x1x352x1024.size inb)).reshape S352x1024 hn) f w Finset.univ) y
      = if (y 0).val = h ∧ (y 1).val = j then w (ix2 (n0 := 352) (n1 := 1024) (y 2) (y 3)) else v.read (Elt F) f y := by
  subst ho
  have emb_val : ∀ z : S352x1024.Idx, ((v.slice (Rect.unit (s := S2x4x352x1024) ![h, j, 0, 0] S1x1x352x1024.size inb)).reshape S352x1024 hn).emb z
      = v.emb ((Rect.unit (s := S2x4x352x1024) ![h, j, 0, 0] S1x1x352x1024.size inb).emb (ix4 (n0 := 1) (n1 := 1) (n2 := 352) (n3 := 1024) ⟨0, Nat.one_pos⟩ ⟨0, Nat.one_pos⟩ (z 0) (z 1))) := fun z => by
    have e : Shape.reshapeEquiv hn z = ix4 (n0 := 1) (n1 := 1) (n2 := 352) (n3 := 1024) ⟨0, Nat.one_pos⟩ ⟨0, Nat.one_pos⟩ (z 0) (z 1) := by
      have := reshapeEquiv_ix2_11ab (a := 352) (b := 1024) hn (z 0) (z 1)
      exact (congrArg (Shape.reshapeEquiv hn) (eq_ix2 (n0 := 352) (n1 := 1024) z)).trans this
    exact congrArg (fun u => v.emb ((Rect.unit (s := S2x4x352x1024) ![h, j, 0, 0] S1x1x352x1024.size inb).emb u)) e
  by_cases hy : (y 0).val = h ∧ (y 1).val = j
  · rw [if_pos hy]
    have hz : ((v.slice (Rect.unit (s := S2x4x352x1024) ![h, j, 0, 0] S1x1x352x1024.size inb)).reshape S352x1024 hn).emb (ix2 (n0 := 352) (n1 := 1024) (y 2) (y 3)) = v.emb y := by
      rw [emb_val]
      refine congrArg v.emb (funext fun a => Fin.ext ?_)
      fin_cases a
      · show h + 1 * 0 = (y 0).val
        omega
      · show j + 1 * 0 = (y 1).val
        omega
      · show 0 + 1 * (y 2).val = (y 2).val
        omega
      · show 0 + 1 * (y 3).val = (y 3).val
        omega
    rw [View.read_apply, ← hz]
    exact congrFun (View.read_write_univ (v := (v.slice (Rect.unit (s := S2x4x352x1024) ![h, j, 0, 0] S1x1x352x1024.size inb)).reshape S352x1024 hn) f w) _
  · rw [if_neg hy]
    have hno : ∀ z : S352x1024.Idx, ((v.slice (Rect.unit (s := S2x4x352x1024) ![h, j, 0, 0] S1x1x352x1024.size inb)).reshape S352x1024 hn).emb z ≠ v.emb y := fun z hz => by
      rw [emb_val] at hz
      have hq := v.emb.injective hz
      apply hy
      have h0 := congrArg (fun u : S2x4x352x1024.Idx => (u 0).val) hq
      have h1 := congrArg (fun u : S2x4x352x1024.Idx => (u 1).val) hq
      have h0' : h + 1 * 0 = (y 0).val := h0
      have h1' : j + 1 * 0 = (y 1).val := h1
      omega
    rw [View.read_apply, View.read_apply]
    congr 1
    unfold View.write
    rw [preimage?_eq_none hno]

/-- The two halves' copies out of one slot put the slot's rows over the shard. -/
theorem shard_written {sp : Space} (v : View sig .tc sp S2x4x352x1024 .f32) (f : v.ty.Contents (Elt F)) (i : grid0.Coords) (h5 : k0_cond5 i = 1#1)
    (hn5 : S352x1024.numel = (Rect.unit (s := S2x4x352x1024) (k0_off5 i) S1x1x352x1024.size (k0_off5_inb i h5)).shape.numel)
    (hn6 : S352x1024.numel = (Rect.unit (s := S2x4x352x1024) (k0_off6 i) S1x1x352x1024.size (k0_off6_inb i h5)).shape.numel)
    (w5 w6 : Vec F S352x1024 .f32) (p : Vec F S1x704x1024 .f32)
    (e5 : ∀ (z0 : Fin 352) (z1 : Fin 1024) (r : Fin 704), r.val = 352 * 0 + z0.val → w5 (ix2 z0 z1) = p (ix3 (n0 := 1) (n1 := 704) (n2 := 1024) ⟨0, Nat.one_pos⟩ r z1))
    (e6 : ∀ (z0 : Fin 352) (z1 : Fin 1024) (r : Fin 704), r.val = 352 * 1 + z0.val → w6 (ix2 z0 z1) = p (ix3 (n0 := 1) (n1 := 704) (n2 := 1024) ⟨0, Nat.one_pos⟩ r z1)) :
    v.read (Elt F) (View.write (Elt F) ((v.slice (Rect.unit (s := S2x4x352x1024) (k0_off6 i) S1x1x352x1024.size (k0_off6_inb i h5))).reshape S352x1024 hn6)
      (View.write (Elt F) ((v.slice (Rect.unit (s := S2x4x352x1024) (k0_off5 i) S1x1x352x1024.size (k0_off5_inb i h5))).reshape S352x1024 hn5) f w5 Finset.univ) w6 Finset.univ)
      = shard (i 0).val (v.read (Elt F) f) p := by
  funext y
  rw [half_written v _ 1 (i 0).val (off6_eq i)]
  have h0 : (y 0).val < 2 := (y 0).isLt
  unfold shard
  by_cases h1 : (y 1).val = (i 0).val
  · rw [if_pos h1]
    by_cases h : (y 0).val = 1
    · rw [if_pos ⟨h, h1⟩]
      exact e6 (y 2) (y 3) _ (by show 352 * (y 0).val + (y 2).val = 352 * 1 + (y 2).val; rw [h])
    · rw [if_neg (fun hh => h hh.1), half_written v _ 0 (i 0).val (off5_eq i), if_pos ⟨by omega, h1⟩]
      exact e5 (y 2) (y 3) _ (by show 352 * (y 0).val + (y 2).val = 352 * 0 + (y 2).val; rw [show (y 0).val = 0 by omega])
  · rw [if_neg h1, if_neg (fun hh => h1 hh.2), half_written v _ 0 (i 0).val (off5_eq i), if_neg (fun hh => h1 hh.2)]

/-! ## The same over the kept buffers themselves, whole -/

theorem whole_Dx (f : Vec F S2048x1024 .f32) : mDx.view.read (Elt F) f = f := rfl
theorem whole_Da (f : Vec F S2048x704 .bf16) : mDa.view.read (Elt F) f = f := rfl
theorem whole_Db (f : Vec F S2048x704 .bf16) : mDb.view.read (Elt F) f = f := rfl
theorem whole_S (f : Vec F S2048x704 .bf16) : mS.view.read (Elt F) f = f := rfl
theorem whole_Df (f : Vec F S2048x1024 .bf16) : mDf.view.read (Elt F) f = f := rfl
theorem whole_X (f : Vec F S2048x1024 .bf16) : mX.view.read (Elt F) f = f := rfl

theorem dx_first (f : Vec F S2048x1024 .f32) (i : grid0.Coords) (h : k0_cond3 i = 1#1) (w : Vec F S512x1024 .f32) :
    mDx.view.writes (Elt F) f [⟨Rect.unit (s := S2048x1024) (k0_off3 i) S512x1024.size (k0_off3_inb i h), w⟩] = putRows i f w :=
  (whole_Dx _).symm.trans <| rows_written mDx.view f i (k0_off3_inb i h) (off3_eq i) w
theorem dx_later (f : Vec F S2048x1024 .f32) (i : grid0.Coords) (h : k0_cond4 i = 1#1) (v20 v23 v27 v28 v29 v31 : FVec F S512x704 .f32) (v54 v57 : Vec F S1x704x1024 .bf16) :
    mDx.view.writes (Elt F) f [⟨Rect.unit (s := S2048x1024) (k0_off4 i) S512x1024.size (k0_off4_inb i h),
        k0_pay20 v20 v23 v27 v28 v29 v31 v54 v57 (View.readAt (Elt F) mDx.view (Rect.unit (s := S2048x1024) (k0_off4 i) S512x1024.size (k0_off4_inb i h)).toLoadRect f)⟩]
      = putRows i f (k0_pay20 v20 v23 v27 v28 v29 v31 v54 v57 (getRows i f)) :=
  (whole_Dx _).symm.trans <| (rows_written mDx.view f i (k0_off4_inb i h) (off4_eq i) _).trans
    (congrArg (fun p : Vec F S512x1024 .f32 => putRows i f (k0_pay20 v20 v23 v27 v28 v29 v31 v54 v57 p)) (rows_read mDx.view f i (k0_off4_inb i h) (off4_eq i)))
theorem da_rows (f : Vec F S2048x704 .bf16) (i : grid0.Coords) (w : Vec F S512x704 .bf16) :
    mDa.view.writes (Elt F) f [⟨Rect.unit (s := S2048x704) (k0_off2 i) S512x704.size (k0_off2_inb i), w⟩] = putRows i f w :=
  (whole_Da _).symm.trans <| rows_written mDa.view f i (k0_off2_inb i) (off2_eq i) w
theorem db_rows (f : Vec F S2048x704 .bf16) (i : grid0.Coords) (w : Vec F S512x704 .bf16) :
    mDb.view.writes (Elt F) f [⟨Rect.unit (s := S2048x704) (k0_off2 i) S512x704.size (k0_off2_inb i), w⟩] = putRows i f w :=
  (whole_Db _).symm.trans <| rows_written mDb.view f i (k0_off2_inb i) (off2_eq i) w
theorem s_rows (f : Vec F S2048x704 .bf16) (i : grid0.Coords) (w : Vec F S512x704 .bf16) :
    mS.view.writes (Elt F) f [⟨Rect.unit (s := S2048x704) (k0_off2 i) S512x704.size (k0_off2_inb i), w⟩] = putRows i f w :=
  (whole_S _).symm.trans <| rows_written mS.view f i (k0_off2_inb i) (off2_eq i) w
theorem df_rows (f : Vec F S2048x1024 .bf16) (i : grid0.Coords) (h : k0_cond2 i = 1#1) (w : Vec F S512x1024 .bf16) :
    mDf.view.writes (Elt F) f [⟨Rect.unit (s := S2048x1024) (k0_off1 i) S512x1024.size (k0_off1_inb i h), w⟩] = putRows i f w :=
  (whole_Df _).symm.trans <| rows_written mDf.view f i (k0_off1_inb i h) (off1_eq i) w
theorem x_loaded (f w : Vec F S2048x1024 .bf16) : View.write (Elt F) mX.view f w Finset.univ = w :=
  View.read_write_univ (v := mX.view) f w
theorem ox_copied (f w : Vec F S2048x1024 .f32) : View.write (Elt F) hDx.view f w Finset.univ = w :=
  View.read_write_univ (v := hDx.view) f w

/-- Half `h` of slot `k` of the staging buffer as the body's copy reads it. -/
abbrev half (k h : ℕ) (inb : ∀ a, (![k, h, 0] : Fin 3 → ℕ) a + S1x352x1024.size a ≤ S2x704x1024.size a) : Memref sig .tc .vmem S352x1024 .f32 :=
  (mRes.slice (Rect.unit (s := S2x704x1024) ![k, h, 0] S1x352x1024.size inb) (fun _ => rfl)).squeeze S352x1024 squeezes_S1x352x1024_S352x1024
/-- The two halves of the point's shard of a weight gradient's array, as the body's copies write them. -/
abbrev lo (hW : Memref sig .tc .hbm S2x4x352x1024 .f32) (i : grid0.Coords) (h5 : k0_cond5 i = 1#1) : Memref sig .tc .hbm S352x1024 .f32 :=
  (hW.slice (Rect.unit (s := S2x4x352x1024) (k0_off5 i) S1x1x352x1024.size (k0_off5_inb i h5)) (fun _ => rfl)).squeeze S352x1024 squeezes_S1x1x352x1024_S352x1024
abbrev hi (hW : Memref sig .tc .hbm S2x4x352x1024 .f32) (i : grid0.Coords) (h5 : k0_cond5 i = 1#1) : Memref sig .tc .hbm S352x1024 .f32 :=
  (hW.slice (Rect.unit (s := S2x4x352x1024) (k0_off6 i) S1x1x352x1024.size (k0_off6_inb i h5)) (fun _ => rfl)).squeeze S352x1024 squeezes_S1x1x352x1024_S352x1024

theorem half_copied (k h h' : ℕ) (hh : h' = 352 * h) (inb : ∀ a, (![k, 0, 0] : Fin 3 → ℕ) a + S1x704x1024.size a ≤ S2x704x1024.size a)
    (inb' : ∀ a, (![k, h', 0] : Fin 3 → ℕ) a + S1x352x1024.size a ≤ S2x704x1024.size a)
    (f : Vec F S2x704x1024 .f32) (p : Vec F S1x704x1024 .f32) (L : List (View.Piece (Elt F) S2x704x1024 .f32)) (z0 : Fin 352) (z1 : Fin 1024) (r : Fin 704) (hr : r.val = 352 * h + z0.val) :
    (ReadAs.same.apply (View.read (Elt F) (half k h' inb').view (mRes.view.writes (Elt F) f (⟨Rect.unit (s := S2x704x1024) ![k, 0, 0] S1x704x1024.size inb, p⟩ :: L))) : Vec F S352x1024 .f32) (ix2 z0 z1)
      = p (ix3 (n0 := 1) (n1 := 704) (n2 := 1024) ⟨0, Nat.one_pos⟩ r z1) := by
  subst hh
  exact half_read mRes.view f k h L inb inb' (squeezes_S1x352x1024_S352x1024).numel_eq p z0 z1 r hr

theorem shard_copied (hW : Memref sig .tc .hbm S2x4x352x1024 .f32) (f : hW.view.ty.Contents (Elt F)) (i : grid0.Coords) (h5 : k0_cond5 i = 1#1) (k : ℕ)
    (inb : ∀ a, (![k, 0, 0] : Fin 3 → ℕ) a + S1x704x1024.size a ≤ S2x704x1024.size a)
    (inb0 : ∀ a, (![k, 0, 0] : Fin 3 → ℕ) a + S1x352x1024.size a ≤ S2x704x1024.size a) (inb1 : ∀ a, (![k, 352, 0] : Fin 3 → ℕ) a + S1x352x1024.size a ≤ S2x704x1024.size a)
    (f0 f1 : Vec F S2x704x1024 .f32) (p : Vec F S1x704x1024 .f32) (L0 L1 : List (View.Piece (Elt F) S2x704x1024 .f32)) :
    hW.view.read (Elt F) (View.write (Elt F) (hi hW i h5).view
      (View.write (Elt F) (lo hW i h5).view f
        (ReadAs.same.apply (View.read (Elt F) (half k 0 inb0).view (mRes.view.writes (Elt F) f0 (⟨Rect.unit (s := S2x704x1024) ![k, 0, 0] S1x704x1024.size inb, p⟩ :: L0)))) Finset.univ)
      (ReadAs.same.apply (View.read (Elt F) (half k 352 inb1).view (mRes.view.writes (Elt F) f1 (⟨Rect.unit (s := S2x704x1024) ![k, 0, 0] S1x704x1024.size inb, p⟩ :: L1)))) Finset.univ)
      = shard (i 0).val (hW.view.read (Elt F) f) p :=
  shard_written hW.view f i h5 (squeezes_S1x1x352x1024_S352x1024).numel_eq (squeezes_S1x1x352x1024_S352x1024).numel_eq _ _ p
    (half_copied k 0 0 rfl inb inb0 f0 p L0) (half_copied k 1 352 rfl inb inb1 f1 p L1)

theorem whole_Wg (f : Vec F S2x4x352x1024 .f32) : hWg.view.read (Elt F) f = f := rfl
theorem wg_copied (f : Vec F S2x4x352x1024 .f32) (i : grid0.Coords) (h5 : k0_cond5 i = 1#1) (k : ℕ)
    (inb : ∀ a, (![k, 0, 0] : Fin 3 → ℕ) a + S1x704x1024.size a ≤ S2x704x1024.size a)
    (inb0 : ∀ a, (![k, 0, 0] : Fin 3 → ℕ) a + S1x352x1024.size a ≤ S2x704x1024.size a) (inb1 : ∀ a, (![k, 352, 0] : Fin 3 → ℕ) a + S1x352x1024.size a ≤ S2x704x1024.size a)
    (f0 f1 : Vec F S2x704x1024 .f32) (p : Vec F S1x704x1024 .f32) (L0 L1 : List (View.Piece (Elt F) S2x704x1024 .f32)) :
    View.write (Elt F) (hi hWg i h5).view
      (View.write (Elt F) (lo hWg i h5).view f
        (ReadAs.same.apply (View.read (Elt F) (half k 0 inb0).view (mRes.view.writes (Elt F) f0 (⟨Rect.unit (s := S2x704x1024) ![k, 0, 0] S1x704x1024.size inb, p⟩ :: L0)))) Finset.univ)
      (ReadAs.same.apply (View.read (Elt F) (half k 352 inb1).view (mRes.view.writes (Elt F) f1 (⟨Rect.unit (s := S2x704x1024) ![k, 0, 0] S1x704x1024.size inb, p⟩ :: L1)))) Finset.univ
      = shard (i 0).val f p :=
  (whole_Wg _).symm.trans (shard_copied hWg f i h5 k inb inb0 inb1 f0 f1 p L0 L1)

theorem whole_Wu (f : Vec F S2x4x352x1024 .f32) : hWu.view.read (Elt F) f = f := rfl
theorem wu_copied (f : Vec F S2x4x352x1024 .f32) (i : grid0.Coords) (h5 : k0_cond5 i = 1#1) (k : ℕ)
    (inb : ∀ a, (![k, 0, 0] : Fin 3 → ℕ) a + S1x704x1024.size a ≤ S2x704x1024.size a)
    (inb0 : ∀ a, (![k, 0, 0] : Fin 3 → ℕ) a + S1x352x1024.size a ≤ S2x704x1024.size a) (inb1 : ∀ a, (![k, 352, 0] : Fin 3 → ℕ) a + S1x352x1024.size a ≤ S2x704x1024.size a)
    (f0 f1 : Vec F S2x704x1024 .f32) (p : Vec F S1x704x1024 .f32) (L0 L1 : List (View.Piece (Elt F) S2x704x1024 .f32)) :
    View.write (Elt F) (hi hWu i h5).view
      (View.write (Elt F) (lo hWu i h5).view f
        (ReadAs.same.apply (View.read (Elt F) (half k 0 inb0).view (mRes.view.writes (Elt F) f0 (⟨Rect.unit (s := S2x704x1024) ![k, 0, 0] S1x704x1024.size inb, p⟩ :: L0)))) Finset.univ)
      (ReadAs.same.apply (View.read (Elt F) (half k 352 inb1).view (mRes.view.writes (Elt F) f1 (⟨Rect.unit (s := S2x704x1024) ![k, 0, 0] S1x704x1024.size inb, p⟩ :: L1)))) Finset.univ
      = shard (i 0).val f p :=
  (whole_Wu _).symm.trans (shard_copied hWu f i h5 k inb inb0 inb1 f0 f1 p L0 L1)

theorem whole_Wd (f : Vec F S2x4x352x1024 .f32) : hWd.view.read (Elt F) f = f := rfl
theorem wd_copied (f : Vec F S2x4x352x1024 .f32) (i : grid0.Coords) (h5 : k0_cond5 i = 1#1) (k : ℕ)
    (inb : ∀ a, (![k, 0, 0] : Fin 3 → ℕ) a + S1x704x1024.size a ≤ S2x704x1024.size a)
    (inb0 : ∀ a, (![k, 0, 0] : Fin 3 → ℕ) a + S1x352x1024.size a ≤ S2x704x1024.size a) (inb1 : ∀ a, (![k, 352, 0] : Fin 3 → ℕ) a + S1x352x1024.size a ≤ S2x704x1024.size a)
    (f0 f1 : Vec F S2x704x1024 .f32) (p : Vec F S1x704x1024 .f32) (L0 L1 : List (View.Piece (Elt F) S2x704x1024 .f32)) :
    View.write (Elt F) (hi hWd i h5).view
      (View.write (Elt F) (lo hWd i h5).view f
        (ReadAs.same.apply (View.read (Elt F) (half k 0 inb0).view (mRes.view.writes (Elt F) f0 (⟨Rect.unit (s := S2x704x1024) ![k, 0, 0] S1x704x1024.size inb, p⟩ :: L0)))) Finset.univ)
      (ReadAs.same.apply (View.read (Elt F) (half k 352 inb1).view (mRes.view.writes (Elt F) f1 (⟨Rect.unit (s := S2x704x1024) ![k, 0, 0] S1x704x1024.size inb, p⟩ :: L1)))) Finset.univ
      = shard (i 0).val f p :=
  (whole_Wd _).symm.trans (shard_copied hWd f i h5 k inb inb0 inb1 f0 f1 p L0 L1)

theorem load_704 (M : Memref sig .tc .vmem S2048x704 .bf16) (f : M.view.ty.Contents (Elt F)) (inb : ∀ a, (![0, 0] : Fin 2 → ℕ) a + S2048x704.size a ≤ S2048x704.size a) :
    View.readAt (Elt F) M.view (Rect.unit (s := S2048x704) ![0, 0] S2048x704.size inb).toLoadRect f = M.view.read (Elt F) f := View.readAt_full M.view f inb
theorem load_1024 (M : Memref sig .tc .vmem S2048x1024 .bf16) (f : M.view.ty.Contents (Elt F)) (inb : ∀ a, (![0, 0] : Fin 2 → ℕ) a + S2048x1024.size a ≤ S2048x1024.size a) :
    View.readAt (Elt F) M.view (Rect.unit (s := S2048x1024) ![0, 0] S2048x1024.size inb).toLoadRect f = M.view.read (Elt F) f := View.readAt_full M.view f inb
theorem da_loaded (f : Vec F S2048x704 .bf16) (inb) : View.readAt (Elt F) mDa.view (Rect.unit (s := S2048x704) ![0, 0] S2048x704.size inb).toLoadRect f = f := (load_704 mDa f inb).trans (whole_Da f)
theorem db_loaded (f : Vec F S2048x704 .bf16) (inb) : View.readAt (Elt F) mDb.view (Rect.unit (s := S2048x704) ![0, 0] S2048x704.size inb).toLoadRect f = f := (load_704 mDb f inb).trans (whole_Db f)
theorem s_loaded (f : Vec F S2048x704 .bf16) (inb) : View.readAt (Elt F) mS.view (Rect.unit (s := S2048x704) ![0, 0] S2048x704.size inb).toLoadRect f = f := (load_704 mS f inb).trans (whole_S f)
theorem df_loaded (f : Vec F S2048x1024 .bf16) (inb) : View.readAt (Elt F) mDf.view (Rect.unit (s := S2048x1024) ![0, 0] S2048x1024.size inb).toLoadRect f = f := (load_1024 mDf f inb).trans (whole_Df f)
theorem x_whole_loaded (f : Vec F S2048x1024 .bf16) (inb) : View.readAt (Elt F) mX.view (Rect.unit (s := S2048x1024) ![0, 0] S2048x1024.size inb).toLoadRect f = f := (load_1024 mX f inb).trans (whole_X f)

/-! ## The step's fields, by the branch taken -/

variable (i : grid0.Coords) (X : Vec F S2048x1024 .bf16) (L : Ld F) (st : St F)

theorem step_x_pos (h : cond1 i = 1#1) : (st.step i X L).x = X := if_pos h
theorem step_x_neg (h : ¬ cond1 i = 1#1) : (st.step i X L).x = st.x := if_neg h
theorem step_df_pos (h : k0_cond2 i = 1#1) : (st.step i X L).df = putRows i st.df L.df := if_pos h
theorem step_df_neg (h : ¬ k0_cond2 i = 1#1) : (st.step i X L).df = st.df := if_neg h
theorem step_dx_pos (h : k0_cond2 i = 1#1) : (st.step i X L).dx = putRows i st.dx L.dx0 := if_pos h
theorem step_dx_neg (h : ¬ k0_cond2 i = 1#1) : (st.step i X L).dx = putRows i st.dx (L.dxS (getRows i st.dx)) := if_neg h
theorem step_da : (st.step i X L).da = putRows i st.da L.da := rfl
theorem step_db : (st.step i X L).db = putRows i st.db L.db := rfl
theorem step_s : (st.step i X L).s = putRows i st.s L.s := rfl
theorem step_wg_pos (h : k0_cond5 i = 1#1) : (st.step i X L).wg = shard (i 0).val st.wg (k0_pay1 (st.step i X L).da (st.step i X L).x) := if_pos h
theorem step_wu_pos (h : k0_cond5 i = 1#1) : (st.step i X L).wu = shard (i 0).val st.wu (k0_pay2 (st.step i X L).db (st.step i X L).x) := if_pos h
theorem step_wd_pos (h : k0_cond5 i = 1#1) : (st.step i X L).wd = shard (i 0).val st.wd (k0_pay3 (st.step i X L).s (st.step i X L).df) := if_pos h
theorem step_wg_neg (h : ¬ k0_cond5 i = 1#1) : (st.step i X L).wg = st.wg := if_neg h
theorem step_wu_neg (h : ¬ k0_cond5 i = 1#1) : (st.step i X L).wu = st.wu := if_neg h
theorem step_wd_neg (h : ¬ k0_cond5 i = 1#1) : (st.step i X L).wd = st.wd := if_neg h
theorem step_ox_pos (h : cond6 i = 1#1) : (st.step i X L).ox = (st.step i X L).dx := if_pos h
theorem step_ox_neg (h : ¬ cond6 i = 1#1) : (st.step i X L).ox = st.ox := if_neg h

end Cert.FfnKernelIdeal.Hand

end
-- ==== Proof.FfnBlock.lean ====
/- The body's values at one point, on real numbers: what the point adds to each buffer is the real function of FfnSpec. -/
module

public import proofs.«01_k».proof.Proof.FfnSpec
public import proofs.«01_k».proof.Proof.FfnStep

@[expose] public section

set_option maxRecDepth 8192

noncomputable section

namespace Cert.Proof.Swi

open Idealize.ShloMosaic Cert.FfnKernelIdeal Cert.FfnKernelIdeal.Gen Cert.FfnKernelIdeal.Hand

/-- A sum of products of two real arrays is real. -/
theorem dot_real {n : ℕ} (f g : Fin n → ℝ) : (∑ k, ((f k : ℝ) : EReal) * ((g k : ℝ) : EReal)) = ((∑ k, f k * g k : ℝ) : EReal) := by
  simp only [← EReal.coe_mul, sum_real]

/-- A weight's gradient on one shard, over all the rows. -/
def gram (u : Fin 2048 → Fin 704 → ℝ) (w : Fin 2048 → Fin 1024 → ℝ) (f : Fin 704) (d : Fin 1024) : ℝ := ∑ r, u r f * w r d

theorem pay1 (u : Fin 2048 → Fin 704 → ℝ) (w : Fin 2048 → Fin 1024 → ℝ) :
    k0_pay1 (F := Ideal) (up2 .bf16 u) (up2 .bf16 w) = up3 .f32 fun (_ : Fin 1) f d => gram u w f d := by
  refine eq_up3 fun n f d => ?_
  simp only [k0_pay1]
  pointwise
  simp only [up2_apply, dot_real]
  rfl
theorem pay2 (u : Fin 2048 → Fin 704 → ℝ) (w : Fin 2048 → Fin 1024 → ℝ) :
    k0_pay2 (F := Ideal) (up2 .bf16 u) (up2 .bf16 w) = up3 .f32 fun (_ : Fin 1) f d => gram u w f d := pay1 u w
theorem pay3 (u : Fin 2048 → Fin 704 → ℝ) (w : Fin 2048 → Fin 1024 → ℝ) :
    k0_pay3 (F := Ideal) (up2 .bf16 u) (up2 .bf16 w) = up3 .f32 fun (_ : Fin 1) f d => gram u w f d := pay1 u w

variable (B : Blk)

/-- What a point loads, from its block's real numbers. -/
def Blk.ld : Ld Ideal where
  v7 := up2 .f32 B.dr
  v14 := up3 .bf16 fun (_ : Fin 1) (f : Fin 384) d => B.wd ⟨f.val, by omega⟩ d
  v17 := up3 .bf16 fun (_ : Fin 1) (f : Fin 320) d => B.wd ⟨384 + f.val, by omega⟩ d
  v21 := up3 .bf16 fun (_ : Fin 1) p f => B.a p f
  v24 := up3 .bf16 fun (_ : Fin 1) p f => B.b p f
  v54 := up3 .bf16 fun (_ : Fin 1) f d => B.wg f d
  v57 := up3 .bf16 fun (_ : Fin 1) f d => B.wu f d

theorem pay4 : k0_pay4 (F := Ideal) B.ld.v7 = up2 .bf16 B.df := by
  refine eq_up2 fun p d => ?_
  pointwise [k0_pay4, Blk.ld]
  rw [c_half, up2_apply, ← EReal.coe_mul]
  rfl
theorem ld_df : B.ld.df = up2 .bf16 B.df := (shapeCast_self _ _).trans (pay4 B)

theorem pay6 : k0_pay6 (F := Ideal) B.ld.v7 B.ld.v14 B.ld.v17 = up2 .f32 B.ds := by
  refine eq_up2 fun p f => ?_
  simp only [k0_pay6, pay4]
  pointwise [Blk.ld]
  split_ifs with h <;> simp only [up2_apply, up3_apply, dot_real] <;> rw [Blk.ds] <;> congr 1
  all_goals exact Finset.sum_congr rfl fun d _ => congrArg (fun g => B.df p d * B.wd g d) (Fin.ext (by dsimp only; omega))

theorem pay7 : k0_pay7 (F := Ideal) B.ld.v21 = up2 .f32 B.a := by
  refine eq_up2 fun p f => ?_
  pointwise [k0_pay7, Blk.ld]
  rfl
theorem pay8 : k0_pay8 (F := Ideal) B.ld.v24 = up2 .f32 B.b := by
  refine eq_up2 fun p f => ?_
  pointwise [k0_pay8, Blk.ld]
  rfl
theorem pay9 : k0_pay9 (F := Ideal) B.ld.v21 = up2 .f32 fun p f => lgs (B.a p f) := by
  refine eq_up2 fun p f => ?_
  simp only [k0_pay9, pay7]
  pointwise
  rw [up2_apply, Ideal.logistic_coe]
  rfl
theorem pay10 : k0_pay10 (F := Ideal) B.ld.v21 = up2 .f32 fun p f => silu (B.a p f) := by
  refine eq_up2 fun p f => ?_
  simp only [k0_pay10, pay7, pay9]
  pointwise
  simp only [up2_apply, ← EReal.coe_mul]
  rfl
theorem pay11 : k0_pay11 (F := Ideal) B.ld.v7 B.ld.v14 B.ld.v17 B.ld.v24 = up2 .f32 fun p f => B.ds p f * B.b p f := by
  refine eq_up2 fun p f => ?_
  simp only [k0_pay11, pay6, pay8]
  pointwise
  simp only [up2_apply, ← EReal.coe_mul]
theorem pay12 : k0_pay12 (F := Ideal) B.ld.v21 = up2 .f32 fun p f => 1 - lgs (B.a p f) := by
  refine eq_up2 fun p f => ?_
  simp only [k0_pay12, pay9]
  pointwise
  simp only [up2_apply, ← EReal.coe_one, ← EReal.coe_sub]

theorem pay13 (a g t q : Fin 512 → Fin 704 → ℝ) :
    k0_pay13 (F := Ideal) (up2 .f32 a) (up2 .f32 g) (up2 .f32 t) (up2 .f32 q) = up2 .bf16 fun p f => t p f * (g p f * (1 + a p f * q p f)) := by
  refine eq_up2 fun p f => ?_
  pointwise [k0_pay13]
  simp only [up2_apply, ← EReal.coe_one, ← EReal.coe_mul, ← EReal.coe_add]
theorem pay14 (t g : Fin 512 → Fin 704 → ℝ) :
    k0_pay14 (F := Ideal) (up2 .f32 t) (up2 .f32 g) = up2 .bf16 fun p f => t p f * g p f := by
  refine eq_up2 fun p f => ?_
  pointwise [k0_pay14]
  simp only [up2_apply, ← EReal.coe_mul]

theorem ld_da : B.ld.da = up2 .bf16 B.da := by
  rw [Ld.da, pay7, pay9, pay11, pay12]
  exact (shapeCast_self _ _).trans (pay13 _ _ _ _)
theorem ld_db : B.ld.db = up2 .bf16 B.db := by
  rw [Ld.db, pay6, pay10]
  exact (shapeCast_self _ _).trans (pay14 _ _)
theorem ld_s : B.ld.s = up2 .bf16 B.s := by
  rw [Ld.s, pay8, pay10]
  refine eq_up2 fun p f => ?_
  pointwise [k0_pay17]
  simp only [up2_apply, ← EReal.coe_mul]
  rfl

/-- The shard's part of the input's gradient. -/
theorem pay18 : k0_pay18 (F := Ideal) (k0_pay6 B.ld.v7 B.ld.v14 B.ld.v17) (k0_pay7 B.ld.v21) (k0_pay9 B.ld.v21) (k0_pay10 B.ld.v21)
    (k0_pay11 B.ld.v7 B.ld.v14 B.ld.v17 B.ld.v24) (k0_pay12 B.ld.v21) B.ld.v54 B.ld.v57 = up2 .f32 B.part := by
  refine eq_up2 fun p d => ?_
  rw [pay6, pay7, pay9, pay10, pay11, pay12]
  simp only [k0_pay18, pay13, pay14]
  pointwise [Blk.ld]
  simp only [up2_apply, up3_apply, dot_real, ← EReal.coe_add]
  rfl

theorem ld_dx0 : B.ld.dx0 = up2 .f32 fun p d => alpha * B.dr p d + B.part p d := by
  rw [Ld.dx0]
  refine eq_up2 fun p d => ?_
  simp only [k0_pay19, pay18]
  pointwise [Blk.ld]
  simp only [up2_apply, c_alpha, ← EReal.coe_mul, ← EReal.coe_add]
theorem ld_dxS (u : Fin 512 → Fin 1024 → ℝ) : B.ld.dxS (up2 .f32 u) = up2 .f32 fun p d => u p d + B.part p d := by
  rw [Ld.dxS]
  refine eq_up2 fun p d => ?_
  simp only [k0_pay20, pay18]
  pointwise
  simp only [up2_apply, ← EReal.coe_add]

end Cert.Proof.Swi

end
-- ==== Proof.FfnRun.lean ====
/- One grid point of the FFN's backward call, run once for all points: from the buffers at `st` to the buffers at `st.step`. -/
module

public import proofs.«01_k».proof.Proof.FfnStep

@[expose] public section

set_option maxRecDepth 16384

noncomputable section

namespace Cert.FfnKernelIdeal.Hand

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- The ways the body's branches can go: the first point, the rest of the first shard, its last row block, and the same of
    the later shards. -/
abbrev Cases (i : grid0.Coords) : Prop :=
  (cond1 i = 1#1 ∧ k0_cond2 i = 1#1 ∧ k0_cond3 i = 1#1 ∧ ¬ k0_cond4 i = 1#1 ∧ ¬ k0_cond5 i = 1#1 ∧ ¬ cond6 i = 1#1)
  ∨ (¬ cond1 i = 1#1 ∧ k0_cond2 i = 1#1 ∧ k0_cond3 i = 1#1 ∧ ¬ k0_cond4 i = 1#1 ∧ ¬ k0_cond5 i = 1#1 ∧ ¬ cond6 i = 1#1)
  ∨ (¬ cond1 i = 1#1 ∧ k0_cond2 i = 1#1 ∧ k0_cond3 i = 1#1 ∧ ¬ k0_cond4 i = 1#1 ∧ k0_cond5 i = 1#1 ∧ ¬ cond6 i = 1#1)
  ∨ (¬ cond1 i = 1#1 ∧ ¬ k0_cond2 i = 1#1 ∧ ¬ k0_cond3 i = 1#1 ∧ k0_cond4 i = 1#1 ∧ ¬ k0_cond5 i = 1#1 ∧ ¬ cond6 i = 1#1)
  ∨ (¬ cond1 i = 1#1 ∧ ¬ k0_cond2 i = 1#1 ∧ ¬ k0_cond3 i = 1#1 ∧ k0_cond4 i = 1#1 ∧ k0_cond5 i = 1#1 ∧ ¬ cond6 i = 1#1)
  ∨ (¬ cond1 i = 1#1 ∧ ¬ k0_cond2 i = 1#1 ∧ ¬ k0_cond3 i = 1#1 ∧ k0_cond4 i = 1#1 ∧ k0_cond5 i = 1#1 ∧ cond6 i = 1#1)

theorem cases_at : ∀ t : Fin grid0.N, Cases (grid0.coords t) := by decide

/-- The buffers kept between points and the results' arrays, held at `st`; the staging slots at anything. -/
def Held (c : Dev nD) (st : St F) : sProp 𝕄 :=
  iprop(pt c mDx st.dx ∗ pt c mDa st.da ∗ pt c mDb st.db ∗ pt c mS st.s ∗ pt c mDf st.df ∗ pt c mX st.x
    ∗ (∃ res, pt c mRes res) ∗ pt c hWg st.wg ∗ pt c hWu st.wu ∗ pt c hWd st.wd ∗ pt c hDx st.ox)

/-- The body's five copy semaphores at zero. -/
def Sems (c : Dev nD) : sProp 𝕄 :=
  iprop(semVal ((c : Thread nD τ), SemLoc.dma 12) 0 ∗ semVal ((c : Thread nD τ), SemLoc.dma 13) 0 ∗ semVal ((c : Thread nD τ), SemLoc.dma 14) 0
    ∗ semVal ((c : Thread nD τ), SemLoc.dma 15) 0 ∗ semVal ((c : Thread nD τ), SemLoc.dma 16) 0)

theorem pt_of (c : Dev nD) {sp : Space} {S : Shape} {e : EltTy} (M : Memref sig .tc sp S e) (g : Buf (Elt F) (M.view.loc (c : Thread nD τ))) :
    iprop(∃ f, ⌜f = g⌝ ∗ pt c M f) ⊢ (pt c M g : sProp 𝕄) := by
  iintro ⟨%f, %h, H⟩
  subst h
  iexact H

set_option maxHeartbeats 16000000 in
set_option sl_exec.dmaWindow true in
theorem run (c : Dev nD) (i : grid0.Coords) (hc : Cases i)
    (arg2 : Memref sig .tc .vmem S512x1024 .f32) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole)
    (x2 : Vec F S512x1024 .f32) (x3 : Vec F S1x512x704 .bf16) (x4 : Vec F S1x512x704 .bf16) (x5 : Vec F S1x704x1024 .bf16) (x6 : Vec F S1x704x1024 .bf16) (x7 : Vec F S1x704x1024 .bf16)
    (v7 : Vec F S512x1024 .f32) (v14 : Vec F S1x384x1024 .bf16) (v17 : Vec F S1x320x1024 .bf16) (v21 v24 : Vec F S1x512x704 .bf16) (v54 v57 : Vec F S1x704x1024 .bf16)
    (e7 : View.readAt (Elt F) arg2.view (Rect.unit (s := S512x1024) ![0, 0] S512x1024.size inb_S512x1024_S512x1024_0_0).toLoadRect (harg2.unread x2) = v7)
    (e14 : View.readAt (Elt F) arg7.view (Rect.unit (s := S1x704x1024) ![0, 0, 0] S1x384x1024.size inb_S1x704x1024_S1x384x1024_0_0_0).toLoadRect (harg7.unread x7) = v14)
    (e17 : View.readAt (Elt F) arg7.view (Rect.unit (s := S1x704x1024) ![0, 384, 0] S1x320x1024.size inb_S1x704x1024_S1x320x1024_0_384_0).toLoadRect (harg7.unread x7) = v17)
    (e21 : View.readAt (Elt F) arg3.view (Rect.unit (s := S1x512x704) ![0, 0, 0] S1x512x704.size inb_S1x512x704_S1x512x704_0_0_0).toLoadRect (harg3.unread x3) = v21)
    (e24 : View.readAt (Elt F) arg4.view (Rect.unit (s := S1x512x704) ![0, 0, 0] S1x512x704.size inb_S1x512x704_S1x512x704_0_0_0).toLoadRect (harg4.unread x4) = v24)
    (e54 : View.readAt (Elt F) arg5.view (Rect.unit (s := S1x704x1024) ![0, 0, 0] S1x704x1024.size inb_S1x704x1024_S1x704x1024_0_0_0).toLoadRect (harg5.unread x5) = v54)
    (e57 : View.readAt (Elt F) arg6.view (Rect.unit (s := S1x704x1024) ![0, 0, 0] S1x704x1024.size inb_S1x704x1024_S1x704x1024_0_0_0).toLoadRect (harg6.unread x6) = v57)
    (X : Vec F S2048x1024 .bf16) (st : St F) (W : Waits sig Unit) (K : PUnit → sProp 𝕄) :
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ pt c hX X ∗ Held c st ∗ Sems c ∗ owes (c : Thread nD τ) 0 W
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
              ∗ pt c hX X ∗ Held c (st.step i X ⟨v7, v14, v17, v21, v24, v54, v57⟩) ∗ Sems c ∗ (∃ W', owes (c : Thread nD τ) 0 W')) -∗ K PUnit.unit))
          ⊢ wp frame (wpE (defs₀ (F := F)) Variants.none c none) Set.univ (body i arg2 harg2 arg3 harg3 arg4 harg4 arg5 harg5 arg6 harg6 arg7 harg7) K := by
  have x_pos := step_x_pos i X ⟨v7, v14, v17, v21, v24, v54, v57⟩ st
  have x_neg := step_x_neg i X ⟨v7, v14, v17, v21, v24, v54, v57⟩ st
  have df_pos := step_df_pos i X ⟨v7, v14, v17, v21, v24, v54, v57⟩ st
  have df_neg := step_df_neg i X ⟨v7, v14, v17, v21, v24, v54, v57⟩ st
  have dx_pos := step_dx_pos i X ⟨v7, v14, v17, v21, v24, v54, v57⟩ st
  have dx_neg := step_dx_neg i X ⟨v7, v14, v17, v21, v24, v54, v57⟩ st
  have wg_pos := step_wg_pos i X ⟨v7, v14, v17, v21, v24, v54, v57⟩ st
  have wg_neg := step_wg_neg i X ⟨v7, v14, v17, v21, v24, v54, v57⟩ st
  have wu_pos := step_wu_pos i X ⟨v7, v14, v17, v21, v24, v54, v57⟩ st
  have wu_neg := step_wu_neg i X ⟨v7, v14, v17, v21, v24, v54, v57⟩ st
  have wd_pos := step_wd_pos i X ⟨v7, v14, v17, v21, v24, v54, v57⟩ st
  have wd_neg := step_wd_neg i X ⟨v7, v14, v17, v21, v24, v54, v57⟩ st
  have ox_pos := step_ox_pos i X ⟨v7, v14, v17, v21, v24, v54, v57⟩ st
  have ox_neg := step_ox_neg i X ⟨v7, v14, v17, v21, v24, v54, v57⟩ st
  subst e7 e14 e17 e21 e24 e54 e57
  unfold body
  simp only [cc0_ffn_bwd_eq_skeleton]; unfold cc0_ffn_bwd_skel
  simp only [k0_part1_eq_skeleton, k0_part2_eq_skeleton, k0_part3_eq_skeleton, k0_part4_eq_skeleton, k0_part5_eq_skeleton]
  unfold owns Held Sems
  iintro ⟨⟨%f2, %hf2, H2⟩, ⟨%f3, %hf3, H3⟩, ⟨%f4, %hf4, H4⟩, ⟨%f5, %hf5, H5⟩, ⟨%f6, %hf6, H6⟩, ⟨%f7, %hf7, H7⟩, HX, ⟨HS0, HS1, HS2, HS3, HS4, HS5, ⟨%res, HS6⟩, HO0, HO1, HO2, HO3⟩, ⟨Hq0, Hq1, Hq2, Hq3, Hq4⟩, HW, HK⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  rcases hc with ⟨h1, h2, h3, h4, h5, h6⟩ | ⟨h1, h2, h3, h4, h5, h6⟩ | ⟨h1, h2, h3, h4, h5, h6⟩ | ⟨h1, h2, h3, h4, h5, h6⟩ | ⟨h1, h2, h3, h4, h5, h6⟩ | ⟨h1, h2, h3, h4, h5, h6⟩ <;> (
    sl_exec (disch := first | sl_exact h1 | sl_exact h2 | sl_exact h3 | sl_exact h4 | sl_exact h5 | sl_exact h6)
    sl_step
    iapply HK
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HX]; · iexact HX
    isplitr [Hq0 Hq1 Hq2 Hq3 Hq4 HW]
    · isplitl [HS0]
      · iapply (pt_of c mDx _); iexists _; isplitr; swap; · iexact HS0
        ipureintro
        first
          | exact (dx_first st.dx i h3 _).trans (dx_pos h2).symm
          | exact (dx_later st.dx i h4 _ _ _ _ _ _ _ _).trans (dx_neg h2).symm
      isplitl [HS1]
      · iapply (pt_of c mDa _); iexists _; isplitr; swap; · iexact HS1
        ipureintro; exact da_rows st.da i _
      isplitl [HS2]
      · iapply (pt_of c mDb _); iexists _; isplitr; swap; · iexact HS2
        ipureintro; exact db_rows st.db i _
      isplitl [HS3]
      · iapply (pt_of c mS _); iexists _; isplitr; swap; · iexact HS3
        ipureintro; exact s_rows st.s i _
      isplitl [HS4]
      · iapply (pt_of c mDf _); iexists _; isplitr; swap; · iexact HS4
        ipureintro
        first
          | exact (df_rows st.df i h2 _).trans (df_pos h2).symm
          | exact (df_neg h2).symm
      isplitl [HS5]
      · iapply (pt_of c mX _); iexists _; isplitr; swap; · iexact HS5
        ipureintro
        first
          | exact (x_neg h1).symm
          | exact (x_loaded st.x X).trans (x_pos h1).symm
      isplitl [HS6]; · iexists _; iexact HS6
      isplitl [HO0]
      · iapply (pt_of c hWg _); iexists _; isplitr; swap; · iexact HO0
        ipureintro
        first
          | exact (wg_neg h5).symm
          | exact (wg_copied st.wg i h5 0 _ _ _ _ _ _ _ _).trans ((congrArg (fun p => shard (i 0).val st.wg p) (congrArg₂ k0_pay1
              ((da_loaded _ _).trans (da_rows st.da i _)) ((x_whole_loaded _ _).trans (x_neg h1).symm))).trans (wg_pos h5).symm)
      isplitl [HO1]
      · iapply (pt_of c hWu _); iexists _; isplitr; swap; · iexact HO1
        ipureintro
        first
          | exact (wu_neg h5).symm
          | exact (wu_copied st.wu i h5 1 _ _ _ _ _ _ _ _).trans ((congrArg (fun p => shard (i 0).val st.wu p) (congrArg₂ k0_pay2
              ((db_loaded _ _).trans (db_rows st.db i _)) ((x_whole_loaded _ _).trans (x_neg h1).symm))).trans (wu_pos h5).symm)
      isplitl [HO2]
      · iapply (pt_of c hWd _); iexists _; isplitr; swap; · iexact HO2
        ipureintro
        first
          | exact (wd_neg h5).symm
          | exact (wd_copied st.wd i h5 0 _ _ _ _ _ _ _ _).trans ((congrArg (fun p => shard (i 0).val st.wd p) (congrArg₂ k0_pay3
              ((s_loaded _ _).trans (s_rows st.s i _)) ((df_loaded _ _).trans (df_neg h2).symm))).trans (wd_pos h5).symm)
          | exact (wd_copied st.wd i h5 0 _ _ _ _ _ _ _ _).trans ((congrArg (fun p => shard (i 0).val st.wd p) (congrArg₂ k0_pay3
              ((s_loaded _ _).trans (s_rows st.s i _)) ((df_loaded _ _).trans ((df_rows st.df i h2 _).trans (df_pos h2).symm)))).trans (wd_pos h5).symm)
      · iapply (pt_of c hDx _); iexists _; isplitr; swap; · iexact HO3
        ipureintro
        first
          | exact (ox_neg h6).symm
          | exact (ox_copied st.ox _).trans (((whole_Dx _).trans ((dx_later st.dx i h4 _ _ _ _ _ _ _ _).trans (dx_neg h2).symm)).trans (ox_pos h6).symm)
    isplitl [Hq0 Hq1 Hq2 Hq3 Hq4]
    · isplitl [Hq0]; · iexact Hq0
      isplitl [Hq1]; · iexact Hq1
      isplitl [Hq2]; · iexact Hq2
      isplitl [Hq3]; · iexact Hq3
      iexact Hq4
    · iexists _; iexact HW)

end Cert.FfnKernelIdeal.Hand

end
-- ==== Proof.FfnInv.lean ====
/- What the buffers of the FFN's backward call hold after each grid point, as a function of the loads of the points run. -/
module

public import proofs.«01_k».proof.Proof.FfnStep

@[expose] public section

set_option maxRecDepth 16384

noncomputable section

namespace Cert.FfnKernelIdeal.Hand

open Cert.FfnKernelIdeal Cert.FfnKernelIdeal.Gen
open Idealize.ShloMosaic Idealize.ShloMosaic.TcCoe Idealize.ShloMosaic.ValueIdx
open Idealize.SL Idealize.SL.Sem

variable {F : FTy → Type} [FloatOps F]

/-! ## Reading a block put over rows -/

theorem putRows_in {e : EltTy} {n : ℕ} (i : grid0.Coords) (f : Vec F (⟨2, ![2048, n]⟩ : Shape) e) (w : Vec F (⟨2, ![512, n]⟩ : Shape) e) (y : (⟨2, ![2048, n]⟩ : Shape).Idx)
    (h : 512 * (i 1).val ≤ (y 0).val ∧ (y 0).val < 512 * (i 1).val + 512) :
    putRows i f w y = w (ix2 (n0 := 512) (n1 := n) ⟨(y 0).val % 512, Nat.mod_lt _ (by decide)⟩ (y 1)) := by
  have hh : ∀ a, (![512 * (i 1).val, 0] : Fin 2 → ℕ) a ≤ (y a).val ∧ (y a).val < (![512 * (i 1).val, 0] : Fin 2 → ℕ) a + (![512, n] : Fin 2 → ℕ) a := by
    intro a
    fin_cases a
    · exact h
    · have h1 : (y 1).val < n := (y 1).isLt
      exact ⟨Nat.zero_le _, by show (y 1).val < 0 + n; omega⟩
  refine (dif_pos hh).trans (congrArg w (funext fun a => Fin.ext ?_))
  fin_cases a
  · show (y 0).val - 512 * (i 1).val = (y 0).val % 512
    omega
  · show (y 1).val - 0 = (y 1).val
    omega

theorem putRows_out {e : EltTy} {n : ℕ} (i : grid0.Coords) (f : Vec F (⟨2, ![2048, n]⟩ : Shape) e) (w : Vec F (⟨2, ![512, n]⟩ : Shape) e) (y : (⟨2, ![2048, n]⟩ : Shape).Idx)
    (h : ¬ (512 * (i 1).val ≤ (y 0).val ∧ (y 0).val < 512 * (i 1).val + 512)) : putRows i f w y = f y :=
  dif_neg fun hh => h (hh 0)

/-! ## The buffers over the loads -/

/-- The rows of the four points from `4 j`, one block of 512 under the other. -/
def rows {e : EltTy} {n : ℕ} (p : ℕ → Vec F (⟨2, ![512, n]⟩ : Shape) e) (j : ℕ) : Vec F (⟨2, ![2048, n]⟩ : Shape) e := fun y =>
  p (4 * j + (y 0).val / 512) (ix2 (n0 := 512) (n1 := n) ⟨(y 0).val % 512, Nat.mod_lt _ (by decide)⟩ (y 1))

/-- Row block `b` of the accumulated `dx` after shards `0 … j`. -/
def dxBlock (L : ℕ → Ld F) (b : ℕ) : ℕ → FVec F S512x1024 .f32
  | 0 => (L b).dx0
  | j + 1 => (L (4 * (j + 1) + b)).dxS (dxBlock L b j)

/-- The accumulated `dx` after shards `0 … j`. -/
def dxRows (L : ℕ → Ld F) (j : ℕ) : Vec F S2048x1024 .f32 := fun y =>
  dxBlock L ((y 0).val / 512) j (ix2 (n0 := 512) (n1 := 1024) ⟨(y 0).val % 512, Nat.mod_lt _ (by decide)⟩ (y 1))

/-- A weight gradient: shard `j`'s product at the shard's rows. -/
def shards (p : ℕ → Vec F S1x704x1024 .f32) : Vec F S2x4x352x1024 .f32 := fun y => shard (y 1).val (fun _ => p 0 (ix3 (n0 := 1) (n1 := 704) (n2 := 1024) ⟨0, Nat.one_pos⟩ ⟨0, by decide⟩ (y 3))) (p (y 1).val) y

def daRows (L : ℕ → Ld F) (j : ℕ) : Vec F S2048x704 .bf16 := rows (fun n => (L n).da) j
def dbRows (L : ℕ → Ld F) (j : ℕ) : Vec F S2048x704 .bf16 := rows (fun n => (L n).db) j
def sRows (L : ℕ → Ld F) (j : ℕ) : Vec F S2048x704 .bf16 := rows (fun n => (L n).s) j
def dfRows (L : ℕ → Ld F) : Vec F S2048x1024 .bf16 := rows (fun n => (L n).df) 0
def wgOut (L : ℕ → Ld F) (X : Vec F S2048x1024 .bf16) : Vec F S2x4x352x1024 .f32 := shards fun j => k0_pay1 (daRows L j) X
def wuOut (L : ℕ → Ld F) (X : Vec F S2048x1024 .bf16) : Vec F S2x4x352x1024 .f32 := shards fun j => k0_pay2 (dbRows L j) X
def wdOut (L : ℕ → Ld F) : Vec F S2x4x352x1024 .f32 := shards fun j => k0_pay3 (sRows L j) (dfRows L)

/-- The buffers before point `n`. -/
structure Inv (L : ℕ → Ld F) (X : Vec F S2048x1024 .bf16) (n : ℕ) (st : St F) : Prop where
  x : 0 < n → st.x = X
  df : ∀ y, (y 0).val < 512 * n → st.df y = dfRows L y
  da : ∀ y, (y 0).val < 512 * (n % 4) → st.da y = daRows L (n / 4) y
  db : ∀ y, (y 0).val < 512 * (n % 4) → st.db y = dbRows L (n / 4) y
  s : ∀ y, (y 0).val < 512 * (n % 4) → st.s y = sRows L (n / 4) y
  dxDone : ∀ y, (y 0).val < 512 * (n % 4) → st.dx y = dxRows L (n / 4) y
  dxLeft : ∀ y, 512 * (n % 4) ≤ (y 0).val → 0 < n / 4 → st.dx y = dxRows L (n / 4 - 1) y
  wg : ∀ y, (y 1).val < n / 4 → st.wg y = wgOut L X y
  wu : ∀ y, (y 1).val < n / 4 → st.wu y = wuOut L X y
  wd : ∀ y, (y 1).val < n / 4 → st.wd y = wdOut L y
  ox : n = 16 → st.ox = dxRows L 3

theorem inv_zero (L : ℕ → Ld F) (X : Vec F S2048x1024 .bf16) (st : St F) : Inv L X 0 st where
  x h := absurd h (by omega)
  df y h := absurd h (by omega)
  da y h := absurd h (by omega)
  db y h := absurd h (by omega)
  s y h := absurd h (by omega)
  dxDone y h := absurd h (by omega)
  dxLeft y _ h := absurd h (by omega)
  wg y h := absurd h (by omega)
  wu y h := absurd h (by omega)
  wd y h := absurd h (by omega)
  ox h := absurd h (by omega)

/-- Where the point is, and what that says of the branches. -/
structure At (i : grid0.Coords) (n : ℕ) : Prop where
  lt : n < 16
  shard : (i 0).val = n / 4
  block : (i 1).val = n % 4
  c1 : cond1 i = 1#1 ↔ n = 0
  c2 : k0_cond2 i = 1#1 ↔ n < 4
  c5 : k0_cond5 i = 1#1 ↔ n % 4 = 3
  c6 : cond6 i = 1#1 ↔ n = 15

theorem at_point (t : Fin grid0.N) : At (grid0.coords t) t.val := by
  have h : ∀ t : Fin grid0.N, t.val < 16 ∧ (grid0.coords t 0).val = t.val / 4 ∧ (grid0.coords t 1).val = t.val % 4 ∧ (cond1 (grid0.coords t) = 1#1 ↔ t.val = 0)
      ∧ (k0_cond2 (grid0.coords t) = 1#1 ↔ t.val < 4) ∧ (k0_cond5 (grid0.coords t) = 1#1 ↔ t.val % 4 = 3) ∧ (cond6 (grid0.coords t) = 1#1 ↔ t.val = 15) := by decide
  obtain ⟨h0, h1, h2, h3, h4, h5, h6⟩ := h t
  exact ⟨h0, h1, h2, h3, h4, h5, h6⟩

section Step

variable {L : ℕ → Ld F} {X : Vec F S2048x1024 .bf16} {n : ℕ} {st : St F} {i : grid0.Coords}

/-- A buffer written a block of rows a point: done below the point's block before it, done below the next after it. -/
theorem rows_step {e : EltTy} {w : ℕ} (ha : At i n) (p : ℕ → Vec F (⟨2, ![512, w]⟩ : Shape) e) (f : Vec F (⟨2, ![2048, w]⟩ : Shape) e)
    (h : ∀ y, (y 0).val < 512 * (n % 4) → f y = rows p (n / 4) y) (y : (⟨2, ![2048, w]⟩ : Shape).Idx) (hy : (y 0).val < 512 * (n % 4) + 512) :
    putRows i f (p n) y = rows p (n / 4) y := by
  have hb := ha.block
  by_cases hi : 512 * (i 1).val ≤ (y 0).val ∧ (y 0).val < 512 * (i 1).val + 512
  · rw [putRows_in i f _ y hi]
    unfold rows
    rw [show 4 * (n / 4) + (y 0).val / 512 = n by omega]
  · rw [putRows_out i f _ y hi]
    exact h y (by omega)

theorem rows_done {e : EltTy} {w : ℕ} (ha : At i n) (p : ℕ → Vec F (⟨2, ![512, w]⟩ : Shape) e) (f : Vec F (⟨2, ![2048, w]⟩ : Shape) e)
    (h : ∀ y, (y 0).val < 512 * (n % 4) → f y = rows p (n / 4) y) (h3 : n % 4 = 3) : putRows i f (p n) = rows p (n / 4) :=
  funext fun y => rows_step ha p f h y (by have h0 : (y 0).val < 2048 := (y 0).isLt; omega)

/-- The point's rows of the accumulated `dx`, after it. -/
theorem dx_block (ha : At i n) (hI : Inv L X n st) (y : S2048x1024.Idx) (hy : 512 * (n % 4) ≤ (y 0).val ∧ (y 0).val < 512 * (n % 4) + 512) :
    (st.step i X (L n)).dx y = dxRows L (n / 4) y := by
  have hb := ha.block
  have hi : 512 * (i 1).val ≤ (y 0).val ∧ (y 0).val < 512 * (i 1).val + 512 := by omega
  have hq : (y 0).val / 512 = n % 4 := by omega
  by_cases h2 : k0_cond2 i = 1#1
  · have hn := ha.c2.mp h2
    rw [step_dx_pos i X (L n) st h2, putRows_in i _ _ y hi]
    unfold dxRows
    rw [hq, show n / 4 = 0 by omega, show n % 4 = n by omega]
    rfl
  · have hn : ¬ n < 4 := fun h => h2 (ha.c2.mpr h)
    rw [step_dx_neg i X (L n) st h2, putRows_in i _ _ y hi]
    unfold dxRows
    rw [hq]
    obtain ⟨j, hj⟩ : ∃ j, n / 4 = j + 1 := ⟨n / 4 - 1, by omega⟩
    rw [hj]
    have e : getRows i st.dx = dxBlock L (n % 4) j := by
      funext z
      have hz : (z 0).val < 512 := (z 0).isLt
      refine (hI.dxLeft _ (by show 512 * (n % 4) ≤ 512 * (i 1).val + 1 * (z 0).val; omega) (by omega)).trans ?_
      show dxBlock L ((512 * (i 1).val + 1 * (z 0).val) / 512) (n / 4 - 1) _ = _
      rw [show (512 * (i 1).val + 1 * (z 0).val) / 512 = n % 4 by omega, show n / 4 - 1 = j by omega]
      refine congrArg (dxBlock L (n % 4) j) (funext fun a => Fin.ext ?_)
      fin_cases a
      · show (512 * (i 1).val + 1 * (z 0).val) % 512 = (z 0).val
        omega
      · show 0 + 1 * (z 1).val = (z 1).val
        omega
    show (L n).dxS (getRows i st.dx) _ = (L (4 * (j + 1) + n % 4)).dxS (dxBlock L (n % 4) j) _
    rw [e, show 4 * (j + 1) + n % 4 = n by omega]

theorem dx_kept (ha : At i n) (y : S2048x1024.Idx) (hy : ¬ (512 * (n % 4) ≤ (y 0).val ∧ (y 0).val < 512 * (n % 4) + 512)) : (st.step i X (L n)).dx y = st.dx y := by
  have hb := ha.block
  have hi : ¬ (512 * (i 1).val ≤ (y 0).val ∧ (y 0).val < 512 * (i 1).val + 512) := by omega
  by_cases h2 : k0_cond2 i = 1#1
  · rw [step_dx_pos i X (L n) st h2, putRows_out i _ _ y hi]
  · rw [step_dx_neg i X (L n) st h2, putRows_out i _ _ y hi]

theorem step_x (ha : At i n) (hI : Inv L X n st) : (st.step i X (L n)).x = X := by
  by_cases h : cond1 i = 1#1
  · exact step_x_pos i X _ st h
  · exact (step_x_neg i X _ st h).trans (hI.x (Nat.pos_of_ne_zero fun h0 => h (ha.c1.mpr h0)))

theorem step_df (ha : At i n) (hI : Inv L X n st) (y : S2048x1024.Idx) (hy : (y 0).val < 512 * n + 512) : (st.step i X (L n)).df y = dfRows L y := by
  by_cases h2 : k0_cond2 i = 1#1
  · have hn := ha.c2.mp h2
    rw [step_df_pos i X (L n) st h2]
    have := rows_step ha (fun n => (L n).df) st.df (fun y hy => by
      rw [hI.df y (by omega)]; unfold dfRows; rw [show n / 4 = 0 by omega]) y (by omega)
    rw [show n / 4 = 0 by omega] at this
    exact this
  · have hn : ¬ n < 4 := fun h => h2 (ha.c2.mpr h)
    have h0 : (y 0).val < 2048 := (y 0).isLt
    rw [step_df_neg i X (L n) st h2]
    exact hI.df y (by omega)

/-- A shard put over a weight gradient's array that has the shards before it. -/
theorem shard_step (ha : At i n) (p : ℕ → Vec F S1x704x1024 .f32) (f g : Vec F S2x4x352x1024 .f32) (h : ∀ y, (y 1).val < n / 4 → f y = shards p y)
    (hp : k0_cond5 i = 1#1 → g = shard (i 0).val f (p (n / 4))) (hn : ¬ k0_cond5 i = 1#1 → g = f) (y : S2x4x352x1024.Idx) (hy : (y 1).val < (n + 1) / 4) : g y = shards p y := by
  have hs := ha.shard
  by_cases h5 : k0_cond5 i = 1#1
  · have h3 := ha.c5.mp h5
    rw [hp h5]
    by_cases hq : (y 1).val = n / 4
    · unfold shards shard
      rw [if_pos (hq.trans hs.symm), if_pos rfl, hq]
    · unfold shard
      rw [if_neg (fun e => hq (e.trans hs))]
      exact h y (by omega)
  · have h3 : ¬ n % 4 = 3 := fun h => h5 (ha.c5.mpr h)
    rw [hn h5]
    exact h y (by omega)

theorem inv_step (ha : At i n) (hI : Inv L X n st) : Inv L X (n + 1) (st.step i X (L n)) where
  x _ := step_x ha hI
  df y hy := step_df ha hI y (by omega)
  da y hy := by
    by_cases h3 : n % 4 = 3
    · exact absurd hy (by omega)
    · rw [show (n + 1) / 4 = n / 4 by omega]
      exact rows_step (w := 704) (e := .bf16) ha (fun n => (L n).da) st.da hI.da y (by omega)
  db y hy := by
    by_cases h3 : n % 4 = 3
    · exact absurd hy (by omega)
    · rw [show (n + 1) / 4 = n / 4 by omega]
      exact rows_step (w := 704) (e := .bf16) ha (fun n => (L n).db) st.db hI.db y (by omega)
  s y hy := by
    by_cases h3 : n % 4 = 3
    · exact absurd hy (by omega)
    · rw [show (n + 1) / 4 = n / 4 by omega]
      exact rows_step (w := 704) (e := .bf16) ha (fun n => (L n).s) st.s hI.s y (by omega)
  dxDone y hy := by
    by_cases h3 : n % 4 = 3
    · exact absurd hy (by omega)
    · rw [show (n + 1) / 4 = n / 4 by omega]
      by_cases hi : 512 * (n % 4) ≤ (y 0).val ∧ (y 0).val < 512 * (n % 4) + 512
      · exact dx_block ha hI y hi
      · rw [dx_kept ha y hi]
        exact hI.dxDone y (by omega)
  dxLeft y hy hp := by
    have h0 : (y 0).val < 2048 := (y 0).isLt
    by_cases h3 : n % 4 = 3
    · rw [show (n + 1) / 4 - 1 = n / 4 by omega]
      by_cases hi : 512 * (n % 4) ≤ (y 0).val ∧ (y 0).val < 512 * (n % 4) + 512
      · exact dx_block ha hI y hi
      · rw [dx_kept ha y hi]
        exact hI.dxDone y (by omega)
    · rw [show (n + 1) / 4 = n / 4 by omega, dx_kept ha y (by omega)]
      exact hI.dxLeft y (by omega) (by omega)
  wg := shard_step ha (fun j => k0_pay1 (daRows L j) X) st.wg _ hI.wg
    (fun h5 => (step_wg_pos i X (L n) st h5).trans (by
      rw [step_x ha hI, step_da]
      exact congrArg (fun r => shard (i 0).val st.wg (k0_pay1 r X)) (rows_done (w := 704) (e := .bf16) ha (fun n => (L n).da) st.da hI.da (ha.c5.mp h5))))
    (fun h5 => step_wg_neg i X (L n) st h5)
  wu := shard_step ha (fun j => k0_pay2 (dbRows L j) X) st.wu _ hI.wu
    (fun h5 => (step_wu_pos i X (L n) st h5).trans (by
      rw [step_x ha hI, step_db]
      exact congrArg (fun r => shard (i 0).val st.wu (k0_pay2 r X)) (rows_done (w := 704) (e := .bf16) ha (fun n => (L n).db) st.db hI.db (ha.c5.mp h5))))
    (fun h5 => step_wu_neg i X (L n) st h5)
  wd := shard_step ha (fun j => k0_pay3 (sRows L j) (dfRows L)) st.wd _ hI.wd
    (fun h5 => (step_wd_pos i X (L n) st h5).trans (by
      have h3 := ha.c5.mp h5
      rw [show (st.step i X (L n)).df = dfRows L from funext fun y => step_df ha hI y (by have h0 : (y 0).val < 2048 := (y 0).isLt; omega), step_s]
      exact congrArg (fun r => shard (i 0).val st.wd (k0_pay3 r (dfRows L))) (rows_done (w := 704) (e := .bf16) ha (fun n => (L n).s) st.s hI.s h3)))
    (fun h5 => step_wd_neg i X (L n) st h5)
  ox h16 := by
    rw [step_ox_pos i X (L n) st (ha.c6.mpr (by omega))]
    funext y
    have h0 : (y 0).val < 2048 := (y 0).isLt
    by_cases hi : 512 * (n % 4) ≤ (y 0).val ∧ (y 0).val < 512 * (n % 4) + 512
    · rw [dx_block ha hI y hi, show n / 4 = 3 by omega]
    · rw [dx_kept ha y hi, hI.dxDone y (by omega), show n / 4 = 3 by omega]

end Step

end Cert.FfnKernelIdeal.Hand

end
-- ==== Proof.FfnFrame.lean ====
/- The launch of the FFN's backward call: the invariant between points, the body's obligation, the run of @main, and what it
   leaves in the four results. -/
module

public import proofs.«01_k».proof.Proof.FfnRun
public import proofs.«01_k».proof.Proof.FfnInv

@[expose] public section

set_option maxRecDepth 16384

noncomputable section

namespace Cert.FfnKernelIdeal.Hand

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The loads of a point -/

/-- What point `t` loads: its windows' blocks, `w_downᵀ`'s in the two pieces the body reads. -/
def ld (c : Dev nD) (t : Fin cfg0.N) : Ld F where
  v7 := iblk m c 0 t
  v14 := VecWindow.window (s := S1x704x1024) (iblk m c 5 t) ![0, 0, 0] S1x384x1024.size inb_S1x704x1024_S1x384x1024_0_0_0
  v17 := VecWindow.window (s := S1x704x1024) (iblk m c 5 t) ![0, 384, 0] S1x320x1024.size inb_S1x704x1024_S1x320x1024_0_384_0
  v21 := iblk m c 1 t
  v24 := iblk m c 2 t
  v54 := iblk m c 3 t
  v57 := iblk m c 4 t

theorem pt_lt (n : ℕ) : n % 16 < cfg0.N := (Nat.mod_lt n (by decide)).trans_eq N_0.symm
def lds (c : Dev nD) (n : ℕ) : Ld F := ld m c ⟨n % 16, pt_lt n⟩
theorem lds_at (c : Dev nD) (t : Fin cfg0.N) : lds m c t.val = ld m c t :=
  congrArg (ld m c) (Fin.ext (Nat.mod_eq_of_lt (t.isLt.trans_eq N_0)))

/-- The array of `x` as the region finds it. -/
abbrev xArr (c : Dev nD) : Vec F S2048x1024 .bf16 := V m c main_v0

/-- A load of a whole buffer, and of a part of one, as the body reads a window's block. -/
theorem whole_load {sp : Space} {S : Shape} {e : EltTy} (M : Memref sig .tc sp S e) (h : M.IsWhole) (x : Vec F S e) {off : Fin S.rank → ℕ} (inb : ∀ a, off a + S.size a ≤ S.size a) :
    View.readAt (Elt F) M.view (Rect.unit (s := S) off S.size inb).toLoadRect (h.unread x) = x :=
  (View.readAt_full M.view _ inb).trans (h.read_unread x)
theorem part_load {sp : Space} {S : Shape} {e : EltTy} (M : Memref sig .tc sp S e) (h : M.IsWhole) (x : Vec F S e) {off size : Fin S.rank → ℕ} (inb : ∀ a, off a + size a ≤ S.size a) :
    View.readAt (Elt F) M.view (Rect.unit (s := S) off size inb).toLoadRect (h.unread x) = VecWindow.window (s := S) x off size inb :=
  (View.readAt_unit M.view _ inb rfl inb).trans (congrArg (fun y => VecWindow.window (s := S) y off size inb) (h.read_unread x))

/-! ## The launch's resources, listed -/

def H0 : Finset (Ref sig .tc) := {main_v0}
def R0 : Finset (Ref sig .tc) := {main_v17_0, main_v17_1, main_v17_2, main_v17_3}
theorem H0_sub : H0 ⊆ Pipeline.restRefs sig spec0 := by decide
theorem R0_sub : R0 ⊆ Pipeline.restRefs sig spec0 \ H0 := by decide

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem ownSems00_eq (c : Dev nD) :
    (Pipeline.ownSems0 (Ix := Unit) (Name := ℕ) (U := Pipeline.UD sig nD τ) (Lvl := ℕ) (Val := Elt F) (τ := τ) osem0 c : sProp 𝕄) = Sems c := by
  rw [Pipeline.ownSems0_eq_of_list c osem0 [0, 1, 2, 3, 4] (by decide) (by decide)]; rfl
theorem hbmPts0_eq (c : Dev nD) :
    (bigSep H0 (fun b => ((c : Thread nD τ).loc b) ↦{fullShare} V m c b) : sProp 𝕄) = pt c hX (xArr m c) := by
  rw [BI.bigSep_eq_bigSepL_of_eq [main_v0] (by decide) (by decide)]; rfl
theorem routed_eq (c : Dev nD) (W : (b : Ref sig .tc) → Buf (Elt F) ((c : Thread nD τ).loc b)) :
    (Pipeline.routed R0 c W : sProp 𝕄)
      = iprop(pt c hWg (W main_v17_0) ∗ pt c hWu (W main_v17_1) ∗ pt c hWd (W main_v17_2) ∗ pt c hDx (W main_v17_3)) := by
  unfold Pipeline.routed; rw [BI.bigSep_eq_bigSepL_of_eq [main_v17_0, main_v17_1, main_v17_2, main_v17_3] (by decide) (by decide)]; rfl

/-- What the region leaves in its buffers: the four results over the loads, everything else as it was. -/
def G (c : Dev nD) : (b : Ref sig .tc) → Buf (Elt F) ((c : Thread nD τ).loc b) :=
  Function.update (Function.update (Function.update (Function.update (V m c) main_v17_0 (wgOut (lds m c) (xArr m c)))
    main_v17_1 (wuOut (lds m c) (xArr m c))) main_v17_2 (wdOut (lds m c))) main_v17_3 (dxRows (lds m c) 3)
theorem G_wg (c : Dev nD) : G m c main_v17_0 = wgOut (lds m c) (xArr m c) := by
  unfold G
  rw [Function.update_of_ne (by decide), Function.update_of_ne (by decide), Function.update_of_ne (by decide), Function.update_self]
theorem G_wu (c : Dev nD) : G m c main_v17_1 = wuOut (lds m c) (xArr m c) := by
  unfold G
  rw [Function.update_of_ne (by decide), Function.update_of_ne (by decide), Function.update_self]
theorem G_wd (c : Dev nD) : G m c main_v17_2 = wdOut (lds m c) := by
  unfold G
  rw [Function.update_of_ne (by decide), Function.update_self]
theorem G_dx (c : Dev nD) : G m c main_v17_3 = dxRows (lds m c) 3 := by
  unfold G
  rw [Function.update_self]

/-! ## The invariant -/

/-- Between points: the kept buffers at some state the points run so far allow. -/
def Phi (c : Dev nD) (n : ℕ) : sProp 𝕄 :=
  iprop(∃ st, ⌜Inv (lds m c) (xArr m c) n st⌝ ∗ Held c st ∗ (∃ r, prngReg c r) ∗ Sems c ∗ pt c hX (xArr m c))

theorem Phi_in (c : Dev nD) : (Pipeline.ΦDRG osem0 spec0 H0 R0 (V m) (V m) c : sProp 𝕄) ⊢ Phi m c 0 := by
  rw [Pipeline.ΦDRG_eq, scopedRest0_eq, ownSems00_eq, hbmPts0_eq, routed_eq]
  unfold Phi Held
  iintro ⟨⟨⟨%dx, HS0⟩, ⟨%da, HS1⟩, ⟨%db, HS2⟩, ⟨%s, HS3⟩, ⟨%df, HS4⟩, ⟨%x, HS5⟩, HS6⟩, Hg, Hq, HX, HO0, HO1, HO2, HO3⟩
  iexists (⟨dx, da, db, s, df, x, V m c main_v17_0, V m c main_v17_1, V m c main_v17_2, V m c main_v17_3⟩ : St F)
  isplitr
  · ipureintro; exact inv_zero _ _ _
  isplitl [HS0 HS1 HS2 HS3 HS4 HS5 HS6 HO0 HO1 HO2 HO3]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HO0]; · iexact HO0
    isplitl [HO1]; · iexact HO1
    isplitl [HO2]; · iexact HO2
    iexact HO3
  isplitl [Hg]; · iexact Hg
  isplitl [Hq]; · iexact Hq
  iexact HX

theorem Phi_out (c : Dev nD) : Phi m c 16 ⊢ (Pipeline.ΦDRG osem0 spec0 H0 R0 (V m) (G m) c : sProp 𝕄) := by
  rw [Pipeline.ΦDRG_eq, scopedRest0_eq, ownSems00_eq, hbmPts0_eq, routed_eq, G_wg, G_wu, G_wd, G_dx]
  unfold Phi Held
  iintro ⟨%st, %hI, ⟨HS0, HS1, HS2, HS3, HS4, HS5, HS6, HO0, HO1, HO2, HO3⟩, Hg, Hq, HX⟩
  isplitl [HS0 HS1 HS2 HS3 HS4 HS5 HS6]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexact HS6
  isplitl [Hg]; · iexact Hg
  isplitl [Hq]; · iexact Hq
  isplitl [HX]; · iexact HX
  isplitl [HO0]
  · iapply (pt_of c hWg _); iexists _; isplitr; swap; · iexact HO0
    ipureintro; exact funext fun y => hI.wg y (y 1).isLt
  isplitl [HO1]
  · iapply (pt_of c hWu _); iexists _; isplitr; swap; · iexact HO1
    ipureintro; exact funext fun y => hI.wu y (y 1).isLt
  isplitl [HO2]
  · iapply (pt_of c hWd _); iexists _; isplitr; swap; · iexact HO2
    ipureintro; exact funext fun y => hI.wd y (y 1).isLt
  iapply (pt_of c hDx _); iexists _; isplitr; swap; · iexact HO3
  ipureintro; exact hI.ox rfl

theorem Ld.eta (L : Ld F) : (⟨L.v7, L.v14, L.v17, L.v21, L.v24, L.v54, L.v57⟩ : Ld F) = L := rfl
theorem inv_next (c : Dev nD) (t : Fin cfg0.N) {st : St F} (hI : Inv (lds m c) (xArr m c) t.val st) :
    Inv (lds m c) (xArr m c) (t.val + 1) (st.step (grid0.coords t) (xArr m c)
      ⟨(ld m c t).v7, (ld m c t).v14, (ld m c t).v17, (ld m c t).v21, (ld m c t).v24, (ld m c t).v54, (ld m c t).v57⟩) := by
  have h := inv_step (at_point t) hI
  rw [lds_at] at h
  rw [Ld.eta]
  exact h

/-! ## The proof data and the body's obligation -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ t := Phi m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.castSucc = Phi m c t.val from rfl, show (dats m 0 c).Φ t.succ = Phi m c (t.val + 1) from rfl]
  unfold Dat.owesAt Pipeline.owesWithin
  rw [show (dats m 0 c).owed t.castSucc = 0 from rfl, show (dats m 0 c).owed t.succ = 0 from rfl]
  simp only [before_0, before_1, before_2, before_3, before_4, before_5, after_0, after_1, after_2, after_3, after_4, after_5]
  unfold Phi
  iintro ⟨⟨%st, %hI, HS, Hg, Hq, HX⟩, ⟨%W, -, HW⟩, ⟨%d0, H0⟩, ⟨%d1, H1⟩, ⟨%d2, H2⟩, ⟨%d3, H3⟩, ⟨%d4, H4⟩, ⟨%d5, H5⟩⟩
  iapply (run c (grid0.coords t) (cases_at t) (ms0 t) (hstage0_0 ((cfg0.slots t 0).cast nbuf0_0)) (ms1 t) (hstage0_1 ((cfg0.slots t 1).cast nbuf0_1))
    (ms2 t) (hstage0_2 ((cfg0.slots t 2).cast nbuf0_2)) (ms3 t) (hstage0_3 ((cfg0.slots t 3).cast nbuf0_3))
    (ms4 t) (hstage0_4 ((cfg0.slots t 4).cast nbuf0_4)) (ms5 t) (hstage0_5 ((cfg0.slots t 5).cast nbuf0_5))
    (iblk m c 0 t) (iblk m c 1 t) (iblk m c 2 t) (iblk m c 3 t) (iblk m c 4 t) (iblk m c 5 t)
    (ld m c t).v7 (ld m c t).v14 (ld m c t).v17 (ld m c t).v21 (ld m c t).v24 (ld m c t).v54 (ld m c t).v57
    (whole_load _ _ _ _) (part_load _ _ _ _) (part_load _ _ _ _) (whole_load _ _ _ _) (whole_load _ _ _ _) (whole_load _ _ _ _) (whole_load _ _ _ _)
    (xArr m c) st W _)
  isplitl [H0]; · iexact H0
  isplitl [H1]; · iexact H1
  isplitl [H2]; · iexact H2
  isplitl [H3]; · iexact H3
  isplitl [H4]; · iexact H4
  isplitl [H5]; · iexact H5
  isplitl [HX]; · iexact HX
  isplitl [HS]; · iexact HS
  isplitl [Hq]; · iexact Hq
  isplitl [HW]; · iexact HW
  iintro ⟨H0, H1, H2, H3, H4, H5, HX, HS, Hq, ⟨%W', HW'⟩⟩
  isplitl [HS Hg Hq HX]
  · iexists _; isplitr; swap
    · isplitl [HS]; · iexact HS
      isplitl [Hg]; · iexact Hg
      isplitl [Hq]; · iexact Hq
      iexact HX
    ipureintro
    exact inv_next m c t hI
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run of @main -/

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := Phi_in m) (hout := Phi_out m)

end Cert.FfnKernelIdeal.Hand

end
-- ==== Proof.FfnValue.lean ====
/- The FFN call's four results as real numbers: each point's loads are its shard's and row block's, and the buffers after the
   last point hold the gradients. -/
module

public import proofs.«01_k».proof.Proof.FfnBlock
public import proofs.«01_k».proof.Proof.FfnHost
public import proofs.«01_k».proof.Proof.FfnFrame

@[expose] public section

set_option maxRecDepth 16384

noncomputable section

namespace Cert.Proof.Swi

open Idealize.ShloMosaic Idealize.ShloMosaic.TcCoe Idealize.SL.Sem Cert.FfnKernelIdeal Cert.FfnKernelIdeal.Gen Cert.FfnKernelIdeal.Hand

variable {m : (ℓ : Loc nD τ sig) → Buf (Elt Ideal) ℓ} {c : Dev nD} {A : Args} (H : Holds m c A)
include H

/-! ## The windows' blocks -/

theorem iblk0 (t : Fin cfg0.N) : (iblk m c 0 t : FVec Ideal S512x1024 .f32) = up2 .f32 (A.blk (t.val / 4) (t.val % 4)).dr := by
  have hi : ∀ t : Fin grid0.N, win0_0.index t 0 = t.val % 4 ∧ win0_0.index t 1 = 0 := by decide +kernel
  refine eq_up2 fun p d => ?_
  unfold iblk
  rw [View.read_apply]
  show V m c main_arg4 _ = _
  rw [V_main_arg4 m c]
  refine (congrFun H.dr _).trans ?_
  show ((A.dr _ _ : ℝ) : EReal) = ((A.dr (row (t.val % 4) p) d : ℝ) : EReal)
  congr 2
  · apply Fin.ext
    rw [row_val (Nat.mod_lt _ (by decide))]
    show win0_0.index t 0 * 512 + 1 * p.val = _
    rw [(hi t).1]
    omega
  · apply Fin.ext
    show win0_0.index t 1 * 1024 + 1 * d.val = d.val
    rw [(hi t).2]
    omega

omit H in
/-- A block of one shard's rows, and a shard's block of a weight, read off arrays of real numbers. -/
theorem blk_rows (f : Fin 2048 → Fin 2816 → ℝ) (j b : ℕ) (hj : j < 4) (hb : b < 4) (i : S4x2048x704.Idx) (p : Fin 512) (k : Fin 704)
    (h0 : (i 0).val = j) (h1 : (i 1).val = 512 * b + p.val) (h2 : (i 2).val = k.val) :
    (up3 .bf16 (fun (j : Fin 4) r k => f r (hid j.val k)) : FVec Ideal S4x2048x704 .bf16) i = ((f (row b p) (hid j k) : ℝ) : EReal) := by
  have e1 : (i 1 : Fin 2048) = row b p := Fin.ext (h1.trans (row_val hb p).symm)
  have e2 : (i 2 : Fin 704) = k := Fin.ext h2
  show ((f (i 1) (hid (i 0).val (i 2)) : ℝ) : EReal) = _
  rw [e1, e2, h0]

omit H in
theorem blk_weight (f : Fin 2816 → Fin 1024 → ℝ) (j : ℕ) (i : S4x704x1024.Idx) (k : Fin 704) (d : Fin 1024)
    (h0 : (i 0).val = j) (h1 : (i 1).val = k.val) (h2 : (i 2).val = d.val) :
    (up3 .bf16 (fun (j : Fin 4) k d => f (hid j.val k) d) : FVec Ideal S4x704x1024 .bf16) i = ((f (hid j k) d : ℝ) : EReal) := by
  have e1 : (i 1 : Fin 704) = k := Fin.ext h1
  have e2 : (i 2 : Fin 1024) = d := Fin.ext h2
  show ((f (hid (i 0).val (i 1)) (i 2) : ℝ) : EReal) = _
  rw [e1, e2, h0]

omit H in
theorem t_lt (t : Fin cfg0.N) : t.val < 16 := t.isLt.trans_eq N_0

theorem iblk1 (t : Fin cfg0.N) : (iblk m c 1 t : FVec Ideal S1x512x704 .bf16) = up3 .bf16 fun (_ : Fin 1) => (A.blk (t.val / 4) (t.val % 4)).a := by
  have hi : ∀ t : Fin grid0.N, win0_1.index t 0 = t.val / 4 ∧ win0_1.index t 1 = t.val % 4 ∧ win0_1.index t 2 = 0 := by decide +kernel
  have ht := t_lt t
  refine eq_up3 fun n p k => ?_
  unfold iblk
  rw [View.read_apply]
  show V m c main_v4 _ = _
  rw [V_a H]
  refine blk_rows (ga A) (t.val / 4) (t.val % 4) (by omega) (by omega) _ p k ?_ ?_ ?_
  · show win0_1.index t 0 * 1 + 1 * n.val = _; rw [(hi t).1]; omega
  · show win0_1.index t 1 * 512 + 1 * p.val = _; rw [(hi t).2.1]; omega
  · show win0_1.index t 2 * 704 + 1 * k.val = _; rw [(hi t).2.2]; omega

theorem iblk2 (t : Fin cfg0.N) : (iblk m c 2 t : FVec Ideal S1x512x704 .bf16) = up3 .bf16 fun (_ : Fin 1) => (A.blk (t.val / 4) (t.val % 4)).b := by
  have hi : ∀ t : Fin grid0.N, win0_2.index t 0 = t.val / 4 ∧ win0_2.index t 1 = t.val % 4 ∧ win0_2.index t 2 = 0 := by decide +kernel
  have ht := t_lt t
  refine eq_up3 fun n p k => ?_
  unfold iblk
  rw [View.read_apply]
  show V m c main_v8 _ = _
  rw [V_b H]
  refine blk_rows (up A) (t.val / 4) (t.val % 4) (by omega) (by omega) _ p k ?_ ?_ ?_
  · show win0_2.index t 0 * 1 + 1 * n.val = _; rw [(hi t).1]; omega
  · show win0_2.index t 1 * 512 + 1 * p.val = _; rw [(hi t).2.1]; omega
  · show win0_2.index t 2 * 704 + 1 * k.val = _; rw [(hi t).2.2]; omega

theorem iblk3 (t : Fin cfg0.N) : (iblk m c 3 t : FVec Ideal S1x704x1024 .bf16) = up3 .bf16 fun (_ : Fin 1) => (A.blk (t.val / 4) (t.val % 4)).wg := by
  have hi : ∀ t : Fin grid0.N, win0_3.index t 0 = t.val / 4 ∧ win0_3.index t 1 = 0 ∧ win0_3.index t 2 = 0 := by decide +kernel
  refine eq_up3 fun n k d => ?_
  unfold iblk
  rw [View.read_apply]
  show V m c main_v11 _ = _
  rw [V_wg H]
  refine blk_weight (fun k d => A.wg d k) (t.val / 4) _ k d ?_ ?_ ?_
  · show win0_3.index t 0 * 1 + 1 * n.val = _; rw [(hi t).1]; omega
  · show win0_3.index t 1 * 704 + 1 * k.val = _; rw [(hi t).2.1]; omega
  · show win0_3.index t 2 * 1024 + 1 * d.val = _; rw [(hi t).2.2]; omega

theorem iblk4 (t : Fin cfg0.N) : (iblk m c 4 t : FVec Ideal S1x704x1024 .bf16) = up3 .bf16 fun (_ : Fin 1) => (A.blk (t.val / 4) (t.val % 4)).wu := by
  have hi : ∀ t : Fin grid0.N, win0_4.index t 0 = t.val / 4 ∧ win0_4.index t 1 = 0 ∧ win0_4.index t 2 = 0 := by decide +kernel
  refine eq_up3 fun n k d => ?_
  unfold iblk
  rw [View.read_apply]
  show V m c main_v14 _ = _
  rw [V_wu H]
  refine blk_weight (fun k d => A.wu d k) (t.val / 4) _ k d ?_ ?_ ?_
  · show win0_4.index t 0 * 1 + 1 * n.val = _; rw [(hi t).1]; omega
  · show win0_4.index t 1 * 704 + 1 * k.val = _; rw [(hi t).2.1]; omega
  · show win0_4.index t 2 * 1024 + 1 * d.val = _; rw [(hi t).2.2]; omega

theorem iblk5 (t : Fin cfg0.N) : (iblk m c 5 t : FVec Ideal S1x704x1024 .bf16) = up3 .bf16 fun (_ : Fin 1) => (A.blk (t.val / 4) (t.val % 4)).wd := by
  have hi : ∀ t : Fin grid0.N, win0_5.index t 0 = t.val / 4 ∧ win0_5.index t 1 = 0 ∧ win0_5.index t 2 = 0 := by decide +kernel
  refine eq_up3 fun n k d => ?_
  unfold iblk
  rw [View.read_apply]
  show V m c main_v16 _ = _
  rw [V_wd H]
  refine blk_weight A.wd (t.val / 4) _ k d ?_ ?_ ?_
  · show win0_5.index t 0 * 1 + 1 * n.val = _; rw [(hi t).1]; omega
  · show win0_5.index t 1 * 704 + 1 * k.val = _; rw [(hi t).2.1]; omega
  · show win0_5.index t 2 * 1024 + 1 * d.val = _; rw [(hi t).2.2]; omega

omit H in
/-- The two pieces of a shard's `w_down` block the body reads. -/
theorem piece (w : Fin 704 → Fin 1024 → ℝ) (o n : ℕ) (h : o + n ≤ 704) (inb) :
    (VecWindow.window (s := S1x704x1024) (up3 .bf16 fun (_ : Fin 1) => w : FVec Ideal S1x704x1024 .bf16) ![0, o, 0] ![1, n, 1024] inb : FVec Ideal ⟨3, ![1, n, 1024]⟩ .bf16)
      = up3 .bf16 fun (_ : Fin 1) (f : Fin n) d => w ⟨o + f.val, by omega⟩ d := by
  refine eq_up3 fun u f d => ?_
  refine congrArg₂ (fun k d => ((w k d : ℝ) : EReal)) (Fin.ext ?_) (Fin.ext ?_)
  · show o + 1 * f.val = o + f.val
    omega
  · show 0 + 1 * d.val = d.val
    omega

/-- What point `t` loads is what its shard's and row block's real numbers make. -/
theorem ld_eq (t : Fin cfg0.N) : Hand.ld m c t = (A.blk (t.val / 4) (t.val % 4)).ld := by
  unfold Hand.ld Blk.ld
  rw [iblk5 H t]
  congr 1
  · exact iblk0 H t
  · refine (piece _ 0 384 (by decide) _).trans (eq_up3 fun u f d => ?_)
    exact congrArg (fun g => (((A.blk (t.val / 4) (t.val % 4)).wd g d : ℝ) : EReal)) (Fin.ext (Nat.zero_add _))
  · exact piece _ 384 320 (by decide) _
  · exact iblk1 H t
  · exact iblk2 H t
  · exact iblk3 H t
  · exact iblk4 H t

theorem lds_eq {j b : ℕ} (hj : j < 4) (hb : b < 4) : lds m c (4 * j + b) = (A.blk j b).ld := by
  have e : (4 * j + b) % 16 = 4 * j + b := by omega
  refine (ld_eq H _).trans ?_
  show (A.blk ((4 * j + b) % 16 / 4) ((4 * j + b) % 16 % 4)).ld = _
  rw [e, show (4 * j + b) / 4 = j by omega, show (4 * j + b) % 4 = b by omega]

/-! ## The kept rows and the results -/

theorem daRows_eq {j : ℕ} (hj : j < 4) : daRows (lds m c) j = up2 .bf16 fun r k => da A r (hid j k) := by
  refine eq_up2 fun r k => ?_
  have hb : r.val / 512 < 4 := by omega
  show (lds m c (4 * j + r.val / 512)).da _ = _
  rw [lds_eq H hj hb, ld_da]
  exact congrArg (fun r => ((da A r (hid j k) : ℝ) : EReal)) (row_div r _)
theorem dbRows_eq {j : ℕ} (hj : j < 4) : dbRows (lds m c) j = up2 .bf16 fun r k => db A r (hid j k) := by
  refine eq_up2 fun r k => ?_
  have hb : r.val / 512 < 4 := by omega
  show (lds m c (4 * j + r.val / 512)).db _ = _
  rw [lds_eq H hj hb, ld_db]
  exact congrArg (fun r => ((db A r (hid j k) : ℝ) : EReal)) (row_div r _)
theorem sRows_eq {j : ℕ} (hj : j < 4) : sRows (lds m c) j = up2 .bf16 fun r k => s A r (hid j k) := by
  refine eq_up2 fun r k => ?_
  have hb : r.val / 512 < 4 := by omega
  show (lds m c (4 * j + r.val / 512)).s _ = _
  rw [lds_eq H hj hb, ld_s]
  exact congrArg (fun r => ((s A r (hid j k) : ℝ) : EReal)) (row_div r _)
theorem dfRows_eq : dfRows (lds m c) = up2 .bf16 (df A) := by
  refine eq_up2 fun r d => ?_
  have hb : r.val / 512 < 4 := by omega
  show (lds m c (4 * 0 + r.val / 512)).df _ = _
  rw [lds_eq H (by decide) hb, ld_df]
  exact congrArg (fun r => ((df A r d : ℝ) : EReal)) (row_div r _)

theorem dxBlock_eq {b : ℕ} (hb : b < 4) : ∀ j, j < 4 → dxBlock (lds m c) b j = up2 .f32 (dxUpTo A (j + 1) b)
  | 0, _ => by
    have e := lds_eq H (j := 0) (b := b) (by decide) hb
    rw [Nat.mul_zero, Nat.zero_add] at e
    show (lds m c b).dx0 = _
    rw [e, ld_dx0, dxUpTo_succ]
    refine congrArg _ (funext fun p => funext fun d => ?_)
    rw [dxUpTo, Finset.sum_range_zero, add_zero]
    rfl
  | j + 1, hj => by
    show (lds m c (4 * (j + 1) + b)).dxS (dxBlock (lds m c) b j) = _
    rw [lds_eq H hj hb, dxBlock_eq hb j (by omega), ld_dxS, dxUpTo_succ A (j + 1)]

/-- The four results. -/
theorem dx_eq : dxRows (lds m c) 3 = up2 .f32 (dx A) := by
  refine eq_up2 fun r d => ?_
  have hb : r.val / 512 < 4 := by omega
  show dxBlock (lds m c) (r.val / 512) 3 _ = _
  rw [dxBlock_eq H hb 3 (by decide)]
  refine (congrArg Real.toEReal (dxUpTo_four A _ _ _)).trans ?_
  exact congrArg (fun r => ((dx A r d : ℝ) : EReal)) (row_div r _)

omit H in
theorem shards_apply (p : ℕ → Vec Ideal S1x704x1024 .f32) (g : Fin 2816 → Fin 1024 → ℝ)
    (hp : ∀ j, j < 4 → p j = up3 .f32 fun (_ : Fin 1) k d => g (hid j k) d) (y : S2x4x352x1024.Idx) :
    shards p y = ((g (unit y) (y 3) : ℝ) : EReal) := by
  refine (if_pos rfl).trans ?_
  rw [hp _ (y 1).isLt]
  rfl

theorem wg_apply (y : S2x4x352x1024.Idx) : wgOut (lds m c) (xArr m c) y = ((dwg A (unit y) (y 3) : ℝ) : EReal) := by
  refine shards_apply _ (dwg A) (fun j hj => ?_) y
  rw [daRows_eq H hj, show xArr m c = _ from V_x H]
  exact pay1 _ _
theorem wu_apply (y : S2x4x352x1024.Idx) : wuOut (lds m c) (xArr m c) y = ((dwu A (unit y) (y 3) : ℝ) : EReal) := by
  refine shards_apply _ (dwu A) (fun j hj => ?_) y
  rw [dbRows_eq H hj, show xArr m c = _ from V_x H]
  exact pay2 _ _
theorem wd_apply (y : S2x4x352x1024.Idx) : wdOut (lds m c) y = ((dwd A (unit y) (y 3) : ℝ) : EReal) := by
  refine shards_apply _ (dwd A) (fun j hj => ?_) y
  rw [sRows_eq H hj, dfRows_eq H]
  exact pay3 _ _

end Cert.Proof.Swi

end
-- ==== Proof.FfnRef.lean ====
/- The reference's backward pass of the gated FFN, read at an index as real numbers. -/
module

public import proofs.«01_k».proof.Proof.FfnSpec
public import proofs.«01_k».proof.Proof.Gen.FfnReferenceIdeal.Read

@[expose] public section

set_option maxRecDepth 16384

noncomputable section

namespace Cert.Proof.Swi.Ref

open Idealize.ShloMosaic Idealize.ShloMosaic.TcCoe Cert.FfnReferenceIdeal Cert.FfnReferenceIdeal.Gen Cert.FfnReferenceIdeal.Read

variable (A : Args)

/-- The arguments' contents. -/
abbrev cx : (⟨S2048x1024, .f32⟩ : BufTy).Contents (Elt Ideal) := (up2 .f32 A.x : S2048x1024.Idx → Ideal .f32)
abbrev cg : (⟨S1024x2816, .f32⟩ : BufTy).Contents (Elt Ideal) := (up2 .f32 A.wg : S1024x2816.Idx → Ideal .f32)
abbrev cu : (⟨S1024x2816, .f32⟩ : BufTy).Contents (Elt Ideal) := (up2 .f32 A.wu : S1024x2816.Idx → Ideal .f32)
abbrev cd : (⟨S2816x1024, .f32⟩ : BufTy).Contents (Elt Ideal) := (up2 .f32 A.wd : S2816x1024.Idx → Ideal .f32)
abbrev cr : (⟨S2048x1024, .f32⟩ : BufTy).Contents (Elt Ideal) := (up2 .f32 A.dr : S2048x1024.Idx → Ideal .f32)

/-- The operations of the host on real numbers. -/
theorem o_add (x y : ℝ) : (FloatOps.addf (F := Ideal) (φ := .f32) (x : EReal) (y : EReal) : EReal) = ((x + y : ℝ) : EReal) := rfl
theorem o_sub (x y : ℝ) : (FloatOps.subf (F := Ideal) (φ := .f32) (x : EReal) (y : EReal) : EReal) = ((x - y : ℝ) : EReal) := rfl
theorem o_mul (x y : ℝ) : (FloatOps.mulf (F := Ideal) (φ := .f32) (x : EReal) (y : EReal) : EReal) = ((x * y : ℝ) : EReal) := rfl
theorem o_neg (x : ℝ) : (FloatOps.hostNegf (F := Ideal) (φ := .f32) (x : EReal) : EReal) = ((-x : ℝ) : EReal) := rfl
theorem o_div {x y : ℝ} (h : y ≠ 0) : (FloatOps.hostDivf (F := Ideal) (φ := .f32) (x : EReal) (y : EReal) : EReal) = ((x / y : ℝ) : EReal) := div_real h
theorem o_exp (x : ℝ) : (FloatOps.hostUnary (F := Ideal) (φ := .f32) .exp (x : EReal) : EReal) = ((Real.exp x : ℝ) : EReal) := rfl
theorem o_bits (b : BitVec 32) : (FloatOps.ofBits (F := Ideal) .f32 b : EReal) = Ideal.ofBits .f32 b := rfl

/-- A sum of products of two arrays, read as real numbers. -/
theorem dot_real {n : ℕ} {f g : Fin n → EReal} {f' g' : Fin n → ℝ} (hf : ∀ k, f k = ((f' k : ℝ) : EReal)) (hg : ∀ k, g k = ((g' k : ℝ) : EReal)) :
    (∑ k, f k * g k) = ((∑ k, f' k * g' k : ℝ) : EReal) := by
  simp only [hf, hg, ← EReal.coe_mul, sum_real]

theorem one_add_exp_ne (x : ℝ) : 1 + Real.exp x ≠ 0 := (add_pos one_pos (Real.exp_pos x)).ne'

/-! ## The forward pass's intermediate values -/

theorem r2 (i) : val_main_v2 (F := Ideal) (cx A) (cg A) i = ((ga A (i 0) (i 1) : ℝ) : EReal) := by
  rw [val_main_v2_apply]
  exact dot_real (fun _ => rfl) (fun _ => rfl)
theorem r4 (i) : val_main_v4 (F := Ideal) (cx A) (cu A) i = ((up A (i 0) (i 1) : ℝ) : EReal) := by
  rw [val_main_v4_apply]
  exact dot_real (fun _ => rfl) (fun _ => rfl)
theorem r3_2 (i) : val_main_v3_2 (F := Ideal) (cx A) (cg A) i = ((lgs (ga A (i 0) (i 1)) : ℝ) : EReal) := by
  rw [val_main_v3_2_apply, val_main_call0_v4_apply, val_main_call0_cst_0_apply, val_main_call0_v3_apply, val_main_call0_v2_apply, val_main_call0_cst_apply,
    val_main_call0_v1_apply, val_main_call0_v0_apply, r2, o_neg, o_exp, o_bits, c_one, o_add, o_div (one_add_exp_ne _)]
  exact congrArg Real.toEReal (one_div _)
theorem r3_1 (i) : val_main_v3_1 (F := Ideal) (cx A) (cg A) i
    = ((lgs (ga A (i 0) (i 1)) * (1 - lgs (ga A (i 0) (i 1))) : ℝ) : EReal) := by
  rw [val_main_v3_1_apply, val_main_call0_v7_apply, val_main_call0_v6_apply, val_main_call0_cst_1_apply, r3_2, o_bits, c_one, o_sub, o_mul]
theorem r3_0 (i) : val_main_v3_0 (F := Ideal) (cx A) (cg A) i = ((silu (ga A (i 0) (i 1)) : ℝ) : EReal) := by
  rw [val_main_v3_0_apply, r3_2, r2, o_mul]
  rfl
theorem r5 (i) : val_main_v5 (F := Ideal) (cx A) (cg A) (cu A) i = ((s A (i 0) (i 1) : ℝ) : EReal) := by
  rw [val_main_v5_apply, r3_0, r4, o_mul]
  rfl

/-! ## The backward pass -/

theorem r10 (i) : val_main_v10 (F := Ideal) (cr A) i = ((A.dr (i 0) (i 1) : ℝ) : EReal) :=
  congrFun (shapeCast_self (cr A) _) i
theorem r11 (i) : val_main_v11 (F := Ideal) (cr A) i = ((A.dr (i 0) (i 1) : ℝ) : EReal) := r10 A i
theorem r13 (i) : val_main_v13 (F := Ideal) (cr A) i = ((df A (i 0) (i 1) : ℝ) : EReal) := by
  rw [val_main_v13_apply, val_main_v12_apply, val_main_cst_1_apply, r11, o_bits, c_half, o_mul]
  rfl
theorem r14 (i) : val_main_v14 (F := Ideal) (cx A) (cg A) (cu A) (cr A) i = ((dwd A (i 1) (i 0) : ℝ) : EReal) := by
  rw [val_main_v14_apply]
  refine (dot_real (fun k => r13 A _) (fun k => r5 A _)).trans ?_
  exact congrArg Real.toEReal (Finset.sum_congr rfl fun r _ => mul_comm _ _)
theorem r16 (i) : val_main_v16 (F := Ideal) (cd A) (cr A) i = ((ds A (i 0) (i 1) : ℝ) : EReal) := by
  rw [val_main_v16_apply]
  exact dot_real (fun k => r13 A _) (fun _ => rfl)
theorem r17 (i) : val_main_v17 (F := Ideal) (cx A) (cg A) (cd A) (cr A) i = ((db A (i 0) (i 1) : ℝ) : EReal) := by
  rw [val_main_v17_apply, r3_0, r16, o_mul]
  exact congrArg Real.toEReal (mul_comm _ _)
theorem r18 (i) : val_main_v18 (F := Ideal) (cx A) (cu A) (cd A) (cr A) i = ((ds A (i 0) (i 1) * up A (i 0) (i 1) : ℝ) : EReal) := by
  rw [val_main_v18_apply, r16, r4, o_mul]
theorem r19 (i) : val_main_v19 (F := Ideal) (cx A) (cg A) (cd A) (cr A) i = ((dwu A (i 0) (i 1) : ℝ) : EReal) := by
  rw [val_main_v19_apply]
  exact dot_real (fun k => r17 A _) (fun _ => rfl)
theorem r21 (i) : val_main_v21 (F := Ideal) (cx A) (cg A) (cu A) (cd A) (cr A) i = ((∑ k, db A (i 0) k * A.wu (i 1) k : ℝ) : EReal) := by
  rw [val_main_v21_apply]
  exact dot_real (fun k => r17 A _) (fun _ => rfl)

/-- The derivative of the activation in the reference's order. -/
theorem dsilu_order (t a : ℝ) : t * lgs a + a * t * (lgs a * (1 - lgs a)) = t * dsilu a := by
  unfold dsilu; ring

theorem r22 (i) : val_main_v22 (F := Ideal) (cx A) (cg A) (cu A) (cd A) (cr A) i = ((da A (i 0) (i 1) : ℝ) : EReal) := by
  rw [val_main_v22_apply, val_main_call1_v1_apply, val_main_call1_v2_apply, val_main_call1_v0_apply, r18, r2, r3_2, r3_1, o_mul, o_mul, o_mul, o_add]
  exact congrArg Real.toEReal (dsilu_order _ _)
theorem r23 (i) : val_main_v23 (F := Ideal) (cx A) (cg A) (cu A) (cd A) (cr A) i = ((dwg A (i 0) (i 1) : ℝ) : EReal) := by
  rw [val_main_v23_apply]
  exact dot_real (fun k => r22 A _) (fun _ => rfl)
theorem r25 (i) : val_main_v25 (F := Ideal) (cx A) (cg A) (cu A) (cd A) (cr A) i = ((∑ k, da A (i 0) k * A.wg (i 1) k : ℝ) : EReal) := by
  rw [val_main_v25_apply]
  exact dot_real (fun k => r22 A _) (fun _ => rfl)

/-! ## The four results -/

/-- The input's gradient, in the reference's order. -/
theorem dx_order (r : Fin 2048) (d : Fin 1024) :
    (∑ k, db A r k * A.wu d k) + (∑ k, da A r k * A.wg d k) + alpha * A.dr r d = dx A r d := by
  rw [dx, Finset.sum_add_distrib]
  ring
theorem r29 (i) : val_main_v29 (F := Ideal) (cx A) (cg A) (cu A) (cd A) (cr A) i = ((dx A (i 0) (i 1) : ℝ) : EReal) := by
  rw [val_main_v29_apply, val_main_v28_apply, val_main_v27_apply, val_main_cst_2_apply, val_main_v26_apply, r21, r25, r10, o_bits, c_alpha, o_mul, o_add, o_add]
  exact congrArg Real.toEReal (dx_order A _ _)

theorem place (y : S2x4x352x1024.Idx) (g : Fin 2816 → Fin 1024 → ℝ) (k : Fin 2816) (d : Fin 1024)
    (hk : k.val = ((((y 1).val * 2 + (y 0).val) * 352 + (y 2).val) * 1024 + (y 3).val) / 1024)
    (hd : d.val = ((((y 1).val * 2 + (y 0).val) * 352 + (y 2).val) * 1024 + (y 3).val) % 1024) :
    ((g k d : ℝ) : EReal) = ((g (unit y) (y 3) : ℝ) : EReal) := by
  have h0 : (y 0).val < 2 := (y 0).isLt
  have h1 : (y 1).val < 4 := (y 1).isLt
  have h2 : (y 2).val < 352 := (y 2).isLt
  have h3 : (y 3).val < 1024 := (y 3).isLt
  have e : k = unit y := Fin.ext (by rw [unit, hid_val h1]; dsimp only; omega)
  have e' : d = (y 3 : Fin 1024) := Fin.ext (by omega)
  rw [e, e']

theorem r32 (y) : val_main_v32 (F := Ideal) (cx A) (cg A) (cu A) (cd A) (cr A) y = ((dwg A (unit y) (y 3) : ℝ) : EReal) := by
  rw [val_main_v32_apply, val_main_v31_apply, val_main_v30_apply, val_main_v24_apply, r23]
  exact place y (dwg A) _ _ rfl rfl
theorem r35 (y) : val_main_v35 (F := Ideal) (cx A) (cg A) (cd A) (cr A) y = ((dwu A (unit y) (y 3) : ℝ) : EReal) := by
  rw [val_main_v35_apply, val_main_v34_apply, val_main_v33_apply, val_main_v20_apply, r19]
  exact place y (dwu A) _ _ rfl rfl
theorem r37 (y) : val_main_v37 (F := Ideal) (cx A) (cg A) (cu A) (cr A) y = ((dwd A (unit y) (y 3) : ℝ) : EReal) := by
  rw [val_main_v37_apply, val_main_v36_apply, val_main_v15_apply, r14]
  exact place y (dwd A) _ _ rfl rfl

end Cert.Proof.Swi.Ref

end
-- ==== Proof.FfnSame.lean ====
/- The two printed programs of the FFN call have one text: their body tables are equal. -/
module

public import proofs.«01_k».proof.Proof.Gen.FfnKernel
public import proofs.«01_k».proof.Proof.Gen.FfnKernelIdeal

@[expose] public section

set_option maxRecDepth 16384

noncomputable section

namespace Cert.FfnKernelIdeal.Hand

open Idealize.ShloMosaic Idealize.SL.Sem

variable {F : FTy → Type} [FloatOps F]

theorem bodies_eq : Cert.FfnKernel.defs₀ (F := F) = Cert.FfnKernelIdeal.defs₀ (F := F) := by
  unfold Cert.FfnKernel.defs₀ Cert.FfnKernelIdeal.defs₀
  refine congrArg (Defs.onTc (nD := Cert.FfnKernel.nD) (τ := Cert.FfnKernel.τ) (sig := Cert.FfnKernel.sig) (Λ := Cert.FfnKernel.Λ₀))
    (funext fun l => funext fun a => ?_)
  match l, a with
  | 0, (t, s) => rfl
  | ⟨_ + 1, h⟩, _ => exact absurd h (Nat.not_lt.2 (Nat.le_add_left _ _))

theorem defs_eq : Cert.FfnKernel.defs (F := F) = Cert.FfnKernelIdeal.defs (F := F) :=
  congrArg (Pipeline.defs (Cert.FfnKernel.pcfgs (F := F))) bodies_eq

/-- A run of the one program is a run of the other. -/
theorem run_same (s : MemSt Cert.FfnKernel.nD Cert.FfnKernel.τ Cert.FfnKernel.sig (Elt F))
    (post : PUnit × MemSt Cert.FfnKernel.nD Cert.FfnKernel.τ Cert.FfnKernel.sig (Elt F) → Prop)
    (h : θ_run (Cert.FfnKernelIdeal.defs (F := F)) (onTc (τ := Cert.FfnKernelIdeal.τ) (Cert.FfnKernelIdeal.main (F := F))) s post) :
    θ_run (Cert.FfnKernel.defs (F := F)) (onTc (τ := Cert.FfnKernel.τ) (Cert.FfnKernel.main (F := F))) s post :=
  (congrArg (fun D => θ_run D (onTc (τ := Cert.FfnKernel.τ) (Cert.FfnKernel.main (F := F))) s post) defs_eq).mpr h

end Cert.FfnKernelIdeal.Hand

end
-- ==== Proof.Ffn.lean ====
/- The claims about the FFN's backward call: the frames, and that the kernel's four results are the reference's. -/
module

public import proofs.«01_k».proof.Defs
public import proofs.«01_k».proof.Proof.FfnFinite
public import proofs.«01_k».proof.Proof.FfnValue
public import proofs.«01_k».proof.Proof.FfnRef
public import proofs.«01_k».proof.Proof.FfnSame
public import proofs.«01_k».proof.Proof.Gen.FfnReferenceIdeal.Run
public import Idealize.ShloMosaic.Adequacy

@[expose] public section

set_option maxRecDepth 16384

noncomputable section

namespace Cert.FfnKernelIdeal.Hand

open Cert.FfnKernelIdeal Cert.FfnKernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The arguments end as they began. -/
theorem kept {r : PUnit × MemSt nD τ sig (Elt F)} (h : Pipeline.FramePostRG cfgs (dats m) 0 R0 (V m) (G m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h.toR c).2 main_arg0 (Finset.mem_sdiff.mpr ⟨Pipeline.mem_restRefs_of main_arg0 (by decide) (by decide), by decide⟩)).trans (V_main_arg0 m c),
    ((h.toR c).2 main_arg1 (Finset.mem_sdiff.mpr ⟨Pipeline.mem_restRefs_of main_arg1 (by decide) (by decide), by decide⟩)).trans (V_main_arg1 m c),
    ((h.toR c).2 main_arg2 (Finset.mem_sdiff.mpr ⟨Pipeline.mem_restRefs_of main_arg2 (by decide) (by decide), by decide⟩)).trans (V_main_arg2 m c),
    ((h.toR c).2 main_arg3 (Finset.mem_sdiff.mpr ⟨Pipeline.mem_restRefs_of main_arg3 (by decide) (by decide), by decide⟩)).trans (V_main_arg3 m c),
    ((h.toR c).1 0).trans (((dats m 0 c).arrAt_in 0 rfl _).trans ((A_eq m c 0).trans (V_main_arg4 m c)))⟩

/-- @main ends with the results of the points' loads, its arguments unchanged and every semaphore at zero. -/
theorem run_results : θ_run defs (onTc (τ := τ) (main (F := F))) ⟨m, fun _ => 0, ρ⟩ (fun r => (∀ c : Dev nD,
      r.2.mem ((c.tc : Thread nD τ).loc main_v17_0) = wgOut (lds m c) (xArr m c)
      ∧ r.2.mem ((c.tc : Thread nD τ).loc main_v17_1) = wuOut (lds m c) (xArr m c)
      ∧ r.2.mem ((c.tc : Thread nD τ).loc main_v17_2) = wdOut (lds m c)
      ∧ r.2.mem ((c.tc : Thread nD τ).loc main_v17_3) = dxRows (lds m c) 3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c => ⟨(h.1.written c (b := main_v17_0) (by decide)).trans (G_wg m c),
      (h.1.written c (b := main_v17_1) (by decide)).trans (G_wu m c), (h.1.written c (b := main_v17_2) (by decide)).trans (G_wd m c),
      (h.1.written c (b := main_v17_3) (by decide)).trans (G_dx m c), kept m h.1 c⟩, h.2⟩) (run_main m ρ)

end Cert.FfnKernelIdeal.Hand

namespace Cert.Proof.Ffn

open Idealize.ShloMosaic Idealize.ShloMosaic.TcCoe Idealize.SL.Sem

theorem frame_pi : Cert.quiescent_FfnKernelIdeal := fun m ρ _ =>
  (θ_run Cert.FfnKernelIdeal.defs _ _).mono (fun _ h => ⟨fun c => (h.1 c).2.2.2.2, h.2⟩) (Cert.FfnKernelIdeal.Hand.run_results (F := Ideal) m ρ)
theorem frame_pi_finite : Cert.quiescent_FfnKernelIdeal_pre_ffn_finite := fun m ρ _ => frame_pi m ρ trivial
theorem frame_p : Cert.quiescent_FfnKernel := fun m ρ _ => Cert.FfnKernelIdeal.Hand.run_same _ _
  ((θ_run Cert.FfnKernelIdeal.defs _ _).mono (fun _ h => ⟨fun c => (h.1 c).2.2.2.2, h.2⟩) (Cert.FfnKernelIdeal.Hand.run_results (F := Bits) m ρ))
theorem frame_ri : Cert.quiescent_FfnReferenceIdeal := fun m ρ _ =>
  (θ_run Cert.FfnReferenceIdeal.defs _ _).mono (fun r h => ⟨fun c => (h c).2.2.2.2,
      Idealize.ShloMosaic.sem_eq_zero_of_no_sems (by decide) r.2⟩)
    (Cert.FfnReferenceIdeal.Value.run (F := Ideal) m ρ)
theorem frame_ri_finite : Cert.quiescent_FfnReferenceIdeal_pre_ffn_finite := fun m ρ _ => frame_ri m ρ trivial

theorem algebraic : Cert.algebraic_FfnKernelIdeal_FfnReferenceIdeal_pre_ffn_finite := by
  intro m ρ m' ρ' hpre hagree
  have H := fun c => Swi.holds m c (hpre c)
  refine ⟨_, _, _, _, (θ_run Cert.FfnKernelIdeal.defs _ _).mono (fun _ h => h.1) (Cert.FfnKernelIdeal.Hand.run_results (F := Ideal) m ρ), ?_⟩
  refine (θ_run Cert.FfnReferenceIdeal.defs _ _).mono (fun _ h c => ?_) (Cert.FfnReferenceIdeal.Value.run (F := Ideal) m' ρ')
  obtain ⟨h0, h1, h2, h3, hk⟩ := h c
  obtain ⟨a0, a1, a2, a3, a4⟩ := hagree c
  have e0 := a0.trans (H c).x
  have e1 := a1.trans (H c).wg
  have e2 := a2.trans (H c).wu
  have e3 := a3.trans (H c).wd
  have e4 := a4.trans (H c).dr
  refine ⟨h0.trans ?_, h1.trans ?_, h2.trans ?_, h3.trans ?_, hk⟩
  · rw [Cert.FfnReferenceIdeal.Read.val_main_v32_eq, e0, e1, e2, e3, e4]
    exact funext fun y => (Swi.Ref.r32 (Swi.args m c) y).trans (Swi.wg_apply (H c) y).symm
  · rw [Cert.FfnReferenceIdeal.Read.val_main_v35_eq, e0, e1, e3, e4]
    exact funext fun y => (Swi.Ref.r35 (Swi.args m c) y).trans (Swi.wu_apply (H c) y).symm
  · rw [Cert.FfnReferenceIdeal.Read.val_main_v37_eq, e0, e1, e2, e4]
    exact funext fun y => (Swi.Ref.r37 (Swi.args m c) y).trans (Swi.wd_apply (H c) y).symm
  · rw [Cert.FfnReferenceIdeal.Read.val_main_v29_eq, e0, e1, e2, e3, e4]
    exact (funext fun i => Swi.Ref.r29 (Swi.args m c) i).trans (Swi.dx_eq (H c)).symm

end Cert.Proof.Ffn

end
-- ==== Proof.Win.lean ====
/- The gradient of the mixer's input projection: each grid point's block is a product of a block of the transposed input's rows
   with a block of the incoming gradient's columns, and the eight blocks are the whole gradient. -/
module

public import proofs.«01_k».proof.Defs
public import proofs.«01_k».proof.Proof.Gen.WinKernel.Frame
public import proofs.«01_k».proof.Proof.Gen.WinKernelIdeal.Value
public import proofs.«01_k».proof.Proof.Gen.WinReferenceIdeal.Run
public import proofs.«01_k».proof.Proof.Gen.WinReferenceIdeal.Read
public import Idealize.ShloMosaic.Lib.Pointwise
public import Idealize.ShloMosaic.Adequacy

@[expose] public section

set_option maxRecDepth 16384

noncomputable section

namespace Cert.Proof.Win

open Idealize.ShloMosaic Idealize.ShloMosaic.TcCoe Idealize.SL.Sem Cert.WinKernelIdeal Cert.WinKernelIdeal.Gen

/-- The gradient at row `i` and column `j`: the sum over the sequence. -/
def dw (h : FVec Ideal S2048x1024 .f32) (g : FVec Ideal S2048x8704 .f32) (i : Fin 1024) (j : Fin 8704) : EReal :=
  ∑ k : Fin 2048, h (ix2 k i) * g (ix2 k j)

/-- Row `p` of half `a`, and column `q` of shard `b`. -/
def row (a : ℕ) (p : Fin 512) : Fin 1024 := ⟨(512 * a + p.val) % 1024, Nat.mod_lt _ (by decide)⟩
def col (b : ℕ) (q : Fin 2176) : Fin 8704 := ⟨(2176 * b + q.val) % 8704, Nat.mod_lt _ (by decide)⟩

/-- The gradient by halves of the rows and shards of the columns. -/
def dw4 (h : FVec Ideal S2048x1024 .f32) (g : FVec Ideal S2048x8704 .f32) : FVec Ideal S2x4x512x2176 .f32 :=
  fun y => dw h g (row (y 0).val (y 2)) (col (y 1).val (y 3))

/-! ## One block -/

theorem hz2 : (![0, 0] : Fin 2 → Nat) = fun _ => 0 := funext fun a => by fin_cases a <;> rfl
theorem hz4 : (![0, 0, 0, 0] : Fin 4 → Nat) = fun _ => 0 := funext fun a => by fin_cases a <;> rfl

theorem pay_apply (x : FVec Ideal S512x2048 .bf16) (y : FVec Ideal S2048x2176 .bf16) (j : S1x1x512x2176.Idx) :
    k0_pay1 (F := Ideal) x y j = ∑ k : Fin 2048, x (ix2 (j 2) k) * y (ix2 k (j 3)) := by
  pointwise [k0_pay1]

theorem out_eq (x : FVec Ideal S512x2048 .bf16) (y : FVec Ideal S2048x2176 .bf16) : out0_2 (F := Ideal) x y = k0_pay1 (F := Ideal) x y := by
  unfold out0_2
  rw [View.canon_cons_unit_zero hz4, View.ld_unit_zero (S := S512x2048) hz2, View.ld_unit_zero (S := S2048x2176) hz2]

/-! ## The arrays that the host prepares, and their blocks -/

variable (m : (ℓ : Loc nD τ sig) → Buf (Elt Ideal) ℓ) (c : Dev nD)

/-- The projection's input, and the incoming gradient. -/
abbrev inp : FVec Ideal S2048x1024 .f32 := m ((c : Thread nD τ).loc main_arg0)
abbrev grad : FVec Ideal S2048x8704 .f32 := m ((c : Thread nD τ).loc main_arg2)

theorem V_h (i : S1024x2048.Idx) : (V m c main_v1 : FVec Ideal S1024x2048 .bf16) i = inp m c (ix2 (i 1) (i 0)) := by
  refine Eq.trans (b := truncf (F := Ideal) .bf16 (transpose S1024x2048 [1, 0] (inp m c) transposes_S2048x1024_S1024x2048_1_0) bitsLt_bf16_f32 i) ?_ ?_
  · simp only [V, hostOps0, StableHlo.after]
    rfl
  · pointwise
theorem V_g (i : S2048x8704.Idx) : (V m c main_v2 : FVec Ideal S2048x8704 .bf16) i = grad m c i := by
  refine Eq.trans (b := truncf (F := Ideal) .bf16 (grad m c) bitsLt_bf16_f32 i) ?_ ?_
  · simp only [V, hostOps0, StableHlo.after]
    rfl
  · rfl

theorem iblk0 (t : Fin cfg0.N) (p : Fin 512) (k : Fin 2048) : (iblk m c 0 t : FVec Ideal S512x2048 .bf16) (ix2 p k) = inp m c (ix2 k (row (t.val / 4) p)) := by
  have hi : ∀ t : Fin grid0.N, win0_0.index t 0 = t.val / 4 ∧ win0_0.index t 1 = 0 := by decide +kernel
  have ht : t.val < 8 := t.isLt.trans_eq N_0
  have hp := p.isLt
  unfold iblk
  rw [View.read_apply]
  refine (V_h m c _).trans (congrArg (inp m c) (congrArg₂ ix2 ?_ ?_))
  · apply Fin.ext
    show win0_0.index t 1 * 2048 + 1 * k.val = k.val
    rw [(hi t).2]
    omega
  · apply Fin.ext
    show win0_0.index t 0 * 512 + 1 * p.val = (512 * (t.val / 4) + p.val) % 1024
    rw [(hi t).1]
    omega

theorem iblk1 (t : Fin cfg0.N) (k : Fin 2048) (q : Fin 2176) : (iblk m c 1 t : FVec Ideal S2048x2176 .bf16) (ix2 k q) = grad m c (ix2 k (col (t.val % 4) q)) := by
  have hi : ∀ t : Fin grid0.N, win0_1.index t 0 = 0 ∧ win0_1.index t 1 = t.val % 4 := by decide +kernel
  have ht : t.val < 8 := t.isLt.trans_eq N_0
  have hq := q.isLt
  unfold iblk
  rw [View.read_apply]
  refine (V_g m c _).trans (congrArg (grad m c) (funext fun a => ?_))
  match a with
  | ⟨0, _⟩ =>
    apply Fin.ext
    show win0_1.index t 0 * 2048 + 1 * k.val = k.val
    rw [(hi t).1]
    omega
  | ⟨1, _⟩ =>
    apply Fin.ext
    show win0_1.index t 1 * 2176 + 1 * q.val = (2176 * (t.val % 4) + q.val) % 8704
    rw [(hi t).2]
    omega

/-- What a point leaves in its block. -/
theorem block (t : Fin cfg0.N) : out0_2 (F := Ideal) (iblk m c 0 t) (iblk m c 1 t)
    = fun j : S1x1x512x2176.Idx => dw (inp m c) (grad m c) (row (t.val / 4) (j 2)) (col (t.val % 4) (j 3)) := by
  rw [out_eq]
  funext j
  refine (pay_apply _ _ j).trans (Finset.sum_congr rfl fun k _ => ?_)
  exact congrArg₂ (· * ·) (iblk0 m c t (j 2) k) (iblk1 m c t k (j 3))

/-- The call's result. -/
theorem final : (dats m 0 c).arrAt 2 cfg0.N = (dw4 (inp m c) (grad m c) : Buf (Elt Ideal) ((c : Thread nD τ).loc main_v3)) := by
  have hi : ∀ t : Fin grid0.N, win0_2.index t 0 = t.val / 4 ∧ win0_2.index t 1 = t.val % 4 ∧ win0_2.index t 2 = 0 ∧ win0_2.index t 3 = 0 := by decide +kernel
  refine (dats m 0 c).arrAt_eq_of_cover 2 _ (fun t hf => ?_) fun i => ?_
  · have ht : t.val < 8 := t.isLt.trans_eq N_0
    show (cfg0.win 2).cut (grid0.coords t) ((dats m 0 c).after 2 t) = _
    rw [after0_2, block m c t]
    funext j
    rw [View.read_apply]
    have h0 : (j 0 : Nat) < 1 := (j 0).isLt
    have h1 : (j 1 : Nat) < 1 := (j 1).isLt
    have h2 : (j 2 : Nat) < 512 := (j 2).isLt
    have h3 : (j 3 : Nat) < 2176 := (j 3).isLt
    have e : ∀ (i : S2x4x512x2176.Idx), (i 0).val = t.val / 4 → (i 1).val = t.val % 4 → (i 2).val = (j 2 : Nat) → (i 3).val = (j 3 : Nat) →
        dw (inp m c) (grad m c) (row (t.val / 4) ⟨(j 2 : Nat), h2⟩) (col (t.val % 4) ⟨(j 3 : Nat), h3⟩) = dw4 (inp m c) (grad m c) i := by
      intro i e0 e1 e2 e3
      unfold dw4
      rw [e0, e1]
      exact congrArg₂ (fun p q => dw (inp m c) (grad m c) (row (t.val / 4) p) (col (t.val % 4) q)) (Fin.ext e2.symm) (Fin.ext e3.symm)
    refine e _ ?_ ?_ ?_ ?_
    · show win0_2.index t 0 * 1 + 1 * (j 0).val = t.val / 4
      rw [(hi t).1]
      omega
    · show win0_2.index t 1 * 1 + 1 * (j 1).val = t.val % 4
      rw [(hi t).2.1]
      omega
    · show win0_2.index t 2 * 512 + 1 * (j 2).val = (j 2).val
      rw [(hi t).2.2.1]
      omega
    · show win0_2.index t 3 * 2176 + 1 * (j 3).val = (j 3).val
      rw [(hi t).2.2.2]
      omega
  · have h0 : (i 0 : Nat) < 2 := (i 0).isLt
    have h1 : (i 1 : Nat) < 4 := (i 1).isLt
    have h2 : (i 2 : Nat) < 512 := (i 2).isLt
    have h3 : (i 3 : Nat) < 2176 := (i 3).isLt
    let t : Fin grid0.N := ⟨(i 0 : Nat) * 4 + (i 1 : Nat), by rw [N_0]; omega⟩
    refine ⟨t, flush0_2 t, ?_⟩
    show i ∈ ((View.whole main_v3).slice (win0_2.rect t)).set
    rw [View.set_slice_whole, Rect.mem_set_unit]
    have hx : ∀ t : Fin grid0.N, win0_2.xsize (grid0.coords t) 0 = 1 ∧ win0_2.xsize (grid0.coords t) 1 = 1 ∧ win0_2.xsize (grid0.coords t) 2 = 512
        ∧ win0_2.xsize (grid0.coords t) 3 = 2176 := by decide +kernel
    intro a
    match a with
    | ⟨0, _⟩ =>
      show win0_2.index t 0 * 1 ≤ (i 0 : Nat) ∧ (i 0 : Nat) < win0_2.index t 0 * 1 + win0_2.xsize (grid0.coords t) 0
      rw [(hi t).1, (hx t).1]
      show ((i 0 : Nat) * 4 + (i 1 : Nat)) / 4 * 1 ≤ (i 0 : Nat) ∧ (i 0 : Nat) < ((i 0 : Nat) * 4 + (i 1 : Nat)) / 4 * 1 + 1
      omega
    | ⟨1, _⟩ =>
      show win0_2.index t 1 * 1 ≤ (i 1 : Nat) ∧ (i 1 : Nat) < win0_2.index t 1 * 1 + win0_2.xsize (grid0.coords t) 1
      rw [(hi t).2.1, (hx t).2.1]
      show ((i 0 : Nat) * 4 + (i 1 : Nat)) % 4 * 1 ≤ (i 1 : Nat) ∧ (i 1 : Nat) < ((i 0 : Nat) * 4 + (i 1 : Nat)) % 4 * 1 + 1
      omega
    | ⟨2, _⟩ =>
      show win0_2.index t 2 * 512 ≤ (i 2 : Nat) ∧ (i 2 : Nat) < win0_2.index t 2 * 512 + win0_2.xsize (grid0.coords t) 2
      rw [(hi t).2.2.1, (hx t).2.2.1]
      omega
    | ⟨3, _⟩ =>
      show win0_2.index t 3 * 2176 ≤ (i 3 : Nat) ∧ (i 3 : Nat) < win0_2.index t 3 * 2176 + win0_2.xsize (grid0.coords t) 3
      rw [(hi t).2.2.2, (hx t).2.2.2]
      omega

/-! ## The reference -/

theorem ref_apply (h : FVec Ideal S2048x1024 .f32) (g : FVec Ideal S2048x8704 .f32) (y : S2x4x512x2176.Idx) :
    Cert.WinReferenceIdeal.Read.val_main_v5 (F := Ideal) h g y = dw4 h g y := by
  rw [Cert.WinReferenceIdeal.Read.val_main_v5_apply, Cert.WinReferenceIdeal.Read.val_main_v4_apply, Cert.WinReferenceIdeal.Read.val_main_v2_apply,
    Cert.WinReferenceIdeal.Read.val_main_v1_apply]
  unfold dw4 dw
  have h0 : (y 0 : Nat) < 2 := (y 0).isLt
  have h1 : (y 1 : Nat) < 4 := (y 1).isLt
  have h2 : (y 2 : Nat) < 512 := (y 2).isLt
  have h3 : (y 3 : Nat) < 2176 := (y 3).isLt
  refine Finset.sum_congr rfl fun k _ => (mul_comm _ _).trans (congrArg₂ (· * ·) (congrArg h (funext fun a => ?_)) (congrArg g (funext fun a => ?_)))
  · match a with
    | ⟨0, _⟩ => rfl
    | ⟨1, _⟩ =>
      apply Fin.ext
      show ((((y 0).val * 512 + (y 2).val) * 4 + (y 1).val) * 2176 + (y 3).val) / 8704 = (512 * (y 0).val + (y 2).val) % 1024
      omega
  · match a with
    | ⟨0, _⟩ => rfl
    | ⟨1, _⟩ =>
      apply Fin.ext
      show ((((y 0).val * 512 + (y 2).val) * 4 + (y 1).val) * 2176 + (y 3).val) % 8704 = (2176 * (y 1).val + (y 3).val) % 8704
      omega

/-! ## The claims -/

theorem frame_p : Cert.quiescent_WinKernel := fun m ρ _ => Cert.WinKernel.Gen.frame m ρ
theorem frame_pi : Cert.quiescent_WinKernelIdeal := fun m ρ _ => Cert.WinKernelIdeal.Gen.frame m ρ
theorem frame_ri : Cert.quiescent_WinReferenceIdeal := fun m ρ _ =>
  (θ_run Cert.WinReferenceIdeal.defs _ _).mono (fun r h => ⟨fun c => (h c).2, Idealize.ShloMosaic.sem_eq_zero_of_no_sems (by decide) r.2⟩)
    (Cert.WinReferenceIdeal.Value.run (F := Ideal) m ρ)

theorem algebraic : Cert.algebraic_WinKernelIdeal_WinReferenceIdeal := by
  intro m ρ m' ρ' _ hagree
  refine ⟨_, Cert.WinKernelIdeal.Value.run_blocks (F := Ideal) m ρ, ?_⟩
  refine (θ_run Cert.WinReferenceIdeal.defs _ _).mono (fun _ h c => ?_) (Cert.WinReferenceIdeal.Value.run (F := Ideal) m' ρ')
  obtain ⟨h0, hk⟩ := h c
  obtain ⟨a0, _, a2⟩ := hagree c
  refine ⟨h0.trans ?_, hk⟩
  rw [Cert.WinReferenceIdeal.Read.val_main_v5_eq, a0, a2]
  exact (funext fun y => ref_apply (inp m c) (grad m c) y).trans (final m c).symm

end Cert.Proof.Win

end
-- ==== Proof.NormSpec.lean ====
/- The transpose of a layer norm and of its two uses on real numbers: the norm of a row, the gradient that reaches its result,
   the gradients of its input, gain and offset, and the column and row blocks of their sums. -/
module

public import proofs.«01_k».proof.Proof.FfnSpec

@[expose] public section

noncomputable section

namespace Cert.Proof.Norm

open Real
open Cert.Proof.Spec (mean eps eps_pos)
open Cert.Proof.Swi (alpha)

/-! ## One row -/

section
variable (f : Fin 1024 → ℝ)

def cen (c : Fin 1024) : ℝ := f c - mean f
def var : ℝ := mean fun c => cen f c * cen f c
def rstd : ℝ := (√(var f + eps))⁻¹
def xh (c : Fin 1024) : ℝ := cen f c * rstd f

theorem var_pos : 0 < var f + eps := by
  refine add_pos_of_nonneg_of_pos ?_ eps_pos
  unfold var mean
  exact mul_nonneg (Finset.sum_nonneg fun c _ => mul_self_nonneg _) (by norm_num)

theorem sum_cen : ∑ c, cen f c = 0 := by
  simp only [cen, Finset.sum_sub_distrib, Finset.sum_const, Finset.card_univ, Fintype.card_fin, nsmul_eq_mul]
  unfold mean
  push_cast
  ring

theorem rstd_sq : rstd f * rstd f = 1 / (var f + eps) := by
  rw [rstd, ← mul_inv, mul_self_sqrt (var_pos f).le, one_div]
end

/-- The transposed norm in its centred form, from the normed row `x` and the scale `s`. -/
def back (s : ℝ) (x d : Fin 1024 → ℝ) (c : Fin 1024) : ℝ := s * (d c - mean d - x c * mean fun c => d c * x c)

/-- The transposed norm as the derivative of mean, centring and variance one after another. -/
theorem back_eq (f d : Fin 1024 → ℝ) (c : Fin 1024) :
    d c * rstd f + (∑ c, cen f c * d c) * (-(1 / 2) * (rstd f * (1 / (var f + eps)))) * (1 / 1024) * (2 * cen f c)
      + ((∑ c, -(d c * rstd f))
        + ∑ c', -((∑ c, cen f c * d c) * (-(1 / 2) * (rstd f * (1 / (var f + eps)))) * (1 / 1024) * (2 * cen f c')))
        * (1 / 1024)
      = back (rstd f) (xh f) d c := by
  rw [Finset.sum_neg_distrib, Finset.sum_neg_distrib, ← Finset.mul_sum, ← Finset.mul_sum, sum_cen, ← Finset.sum_mul,
    ← rstd_sq]
  have h : (∑ c, d c * xh f c) = (∑ c, cen f c * d c) * rstd f := by
    rw [Finset.sum_mul]; exact Finset.sum_congr rfl fun c _ => by rw [xh]; ring
  unfold back mean
  rw [h, xh]
  ring

/-! ## The whole arrays -/

/-- The norm's input, gain and offset, the projection's weight, and the gradients of the residual branch and of the projection. -/
structure Args where
  r : Fin 2048 → Fin 1024 → ℝ
  g : Fin 1024 → ℝ
  b : Fin 1024 → ℝ
  w : Fin 1024 → Fin 8704 → ℝ
  dr : Fin 2048 → Fin 1024 → ℝ
  dp : Fin 2048 → Fin 8704 → ℝ

section
variable (A : Args)
/-- The gradient of the norm's result, and those of its input, gain and offset. -/
def dh (i : Fin 2048) (c : Fin 1024) : ℝ := (∑ k, A.dp i k * A.w c k) + alpha * A.dr i c
def din (i : Fin 2048) (c : Fin 1024) : ℝ := back (rstd (A.r i)) (xh (A.r i)) (fun c => dh A i c * A.g c) c
def dgain (c : Fin 1024) : ℝ := ∑ i, dh A i c * xh (A.r i) c
def doff (c : Fin 1024) : ℝ := ∑ i, dh A i c
end

/-! ## Blocks -/

/-- Row `p` of half `a`, column `q` of column block `k`, row `o + p` of a half. -/
def row (a : ℕ) (p : Fin 1024) : Fin 2048 := ⟨(1024 * a + p.val) % 2048, Nat.mod_lt _ (by decide)⟩
def col (k : ℕ) (q : Fin 2176) : Fin 8704 := ⟨(2176 * k + q.val) % 8704, Nat.mod_lt _ (by decide)⟩
def off (o : ℕ) (p : Fin 256) : Fin 1024 := ⟨(o + p.val) % 1024, Nat.mod_lt _ (by decide)⟩

theorem off_cases (p : Fin 1024) : (∃ q, p = off 0 q) ∨ (∃ q, p = off 256 q) ∨ (∃ q, p = off 512 q) ∨ ∃ q, p = off 768 q := by
  have hp := p.isLt
  by_cases h1 : p.val < 256
  · exact .inl ⟨⟨p.val, h1⟩, Fin.ext (by simp only [off]; omega)⟩
  by_cases h2 : p.val < 512
  · exact .inr (.inl ⟨⟨p.val - 256, by omega⟩, Fin.ext (by simp only [off]; omega)⟩)
  by_cases h3 : p.val < 768
  · exact .inr (.inr (.inl ⟨⟨p.val - 512, by omega⟩, Fin.ext (by simp only [off]; omega)⟩))
  · exact .inr (.inr (.inr ⟨⟨p.val - 768, by omega⟩, Fin.ext (by simp only [off]; omega)⟩))

/-- A sum over the columns, block by block. -/
theorem sum_cols (f : Fin 8704 → ℝ) : ∑ k, f k = (∑ q, f (col 0 q)) + (∑ q, f (col 1 q)) + (∑ q, f (col 2 q)) + ∑ q, f (col 3 q) := by
  have h : ∑ k, f k = ∑ j ∈ Finset.range 4, ∑ q : Fin 2176, f (col j q) := by
    rw [Finset.sum_range fun j => ∑ q : Fin 2176, f (col j q), ← Fintype.sum_prod_type']
    let e : Fin 8704 ≃ Fin 4 × Fin 2176 :=
      { toFun := fun k => (⟨k.val / 2176, by omega⟩, ⟨k.val % 2176, Nat.mod_lt _ (by decide)⟩)
        invFun := fun q => col q.1.val q.2
        left_inv := fun k => Fin.ext (by simp only [col]; omega)
        right_inv := fun q => Prod.ext (Fin.ext (by simp only [col]; omega)) (Fin.ext (by simp only [col]; omega)) }
    exact Fintype.sum_equiv e _ _ fun k => congrArg f (e.left_inv k).symm
  rw [h]
  simp only [Finset.sum_range_succ, Finset.sum_range_zero, zero_add]

/-- What the rows of one half add to a sum that held `s`, chunk by chunk. -/
def sweep (s : ℝ) (f : Fin 1024 → ℝ) : ℝ :=
  s + (∑ p, f (off 0 p)) + (∑ p, f (off 256 p)) + (∑ p, f (off 512 p)) + ∑ p, f (off 768 p)

/-- A sum over the rows, by the two halves' chunks. -/
theorem sum_rows (f : Fin 2048 → ℝ) : ∑ i, f i = sweep (sweep 0 fun p => f (row 0 p)) fun p => f (row 1 p) := by
  have h : ∑ i, f i = ∑ n ∈ Finset.range 8, ∑ p : Fin 256, f (row (n / 4) (off (256 * (n % 4)) p)) := by
    rw [Finset.sum_range fun n => ∑ p : Fin 256, f (row (n / 4) (off (256 * (n % 4)) p)), ← Fintype.sum_prod_type']
    let e : Fin 2048 ≃ Fin 8 × Fin 256 :=
      { toFun := fun k => (⟨k.val / 256, by omega⟩, ⟨k.val % 256, Nat.mod_lt _ (by decide)⟩)
        invFun := fun q => row (q.1.val / 4) (off (256 * (q.1.val % 4)) q.2)
        left_inv := fun k => Fin.ext (by simp only [row, off]; omega)
        right_inv := fun q => Prod.ext (Fin.ext (by simp only [row, off]; omega)) (Fin.ext (by simp only [row, off]; omega)) }
    exact Fintype.sum_equiv e _ _ fun k => congrArg f (e.left_inv k).symm
  rw [h]
  unfold sweep
  simp only [Finset.sum_range_succ, Finset.sum_range_zero, zero_add, Nat.reduceDiv, Nat.reduceMod, Nat.reduceMul]

end Cert.Proof.Norm

end
-- ==== Proof.NormRef.lean ====
/- The reference's transposed norm, read at an index as a real number. -/
module

public import proofs.«01_k».proof.Proof.NormSpec
public import proofs.«01_k».proof.Proof.RefSum
public import proofs.«01_k».proof.Proof.Block
public import proofs.«01_k».proof.Proof.Gen.NormReferenceIdeal.Read

@[expose] public section

set_option maxRecDepth 16384

noncomputable section

namespace Cert.Proof.Norm

open Idealize.ShloMosaic Idealize.ShloMosaic.TcCoe Cert.NormReferenceIdeal Cert.NormReferenceIdeal.Gen Cert.NormReferenceIdeal.Read
open Cert.Proof.Ref (o_add o_sub o_mul o_neg o_div o_div_1024 o_div_one o_rsqrt o_bits add_zero_sum zero_add_real ix2_of)
open Cert.Proof.Block (dot_real)
open Cert.Proof.Swi (alpha c_alpha)

/-- The arguments' contents. -/
abbrev ar (A : Args) : (⟨S2048x1024, .f32⟩ : BufTy).Contents (Elt Ideal) := (up2 .f32 A.r : S2048x1024.Idx → Ideal .f32)
abbrev ag (A : Args) : (⟨S1x1024, .f32⟩ : BufTy).Contents (Elt Ideal) := (up2 .f32 fun (_ : Fin 1) c => A.g c : S1x1024.Idx → Ideal .f32)
abbrev aw (A : Args) : (⟨S1024x8704, .f32⟩ : BufTy).Contents (Elt Ideal) := (up2 .f32 A.w : S1024x8704.Idx → Ideal .f32)
abbrev ad (A : Args) : (⟨S2048x1024, .f32⟩ : BufTy).Contents (Elt Ideal) := (up2 .f32 A.dr : S2048x1024.Idx → Ideal .f32)
abbrev ap (A : Args) : (⟨S2048x8704, .f32⟩ : BufTy).Contents (Elt Ideal) := (up2 .f32 A.dp : S2048x8704.Idx → Ideal .f32)

variable (A : Args)

/-- The cotangent of the normed row, and the common factor of the variance's part. -/
abbrev dn (i : Fin 2048) (c : Fin 1024) : ℝ := dh A i c * A.g c
abbrev vf (i : Fin 2048) : ℝ :=
  (∑ c, cen (A.r i) c * dn A i c) * (-(1 / 2) * (rstd (A.r i) * (1 / (var (A.r i) + Spec.eps)))) * (1 / 1024)

theorem r0 (i) : val_main_v0 (F := Ideal) (ar A) i = ((∑ c, A.r (i 0) c : ℝ) : EReal) := by
  rw [val_main_v0_apply, val_main_cst_apply, o_bits, c_zero, ← add_zero_sum]
  rfl
theorem r3 (i) : val_main_v3 (F := Ideal) (ar A) i = ((Spec.mean (A.r (i 0)) : ℝ) : EReal) := by
  rw [val_main_v3_apply, val_main_v1_apply, r0, val_main_v2_apply, val_main_cst_0_apply, o_bits, c_1024, o_div_1024]
  rfl
theorem r5 (i) : val_main_v5 (F := Ideal) (ar A) i = ((cen (A.r (i 0)) (i 1) : ℝ) : EReal) := by
  rw [val_main_v5_apply, val_main_v4_apply, r3, show ar A i = ((A.r (i 0) (i 1) : ℝ) : EReal) from rfl, o_sub]
  rfl
theorem r14 (i) : val_main_v14 (F := Ideal) (ar A) i = ((cen (A.r (i 0)) (i 1) : ℝ) : EReal) := by
  rw [val_main_v14_apply, val_main_v13_apply, r3, show ar A i = ((A.r (i 0) (i 1) : ℝ) : EReal) from rfl, o_sub]
  rfl
theorem r8 (i) : val_main_v8 (F := Ideal) (ar A) i = ((2 * cen (A.r (i 0)) (i 1) : ℝ) : EReal) := by
  rw [val_main_v8_apply, r5, val_main_v7_apply, val_main_cst_1_apply, o_bits, c_two, o_mul]
theorem r9 (i) : val_main_v9 (F := Ideal) (ar A) i = ((∑ c, cen (A.r (i 0)) c * cen (A.r (i 0)) c : ℝ) : EReal) := by
  rw [val_main_v9_apply, val_main_cst_2_apply, o_bits, c_zero, ← add_zero_sum]
  simp only [val_main_v6_apply, r5, o_mul]
  rfl
theorem r16 (i) : val_main_v16 (F := Ideal) (ar A) i = ((var (A.r (i 0)) + Spec.eps : ℝ) : EReal) := by
  rw [val_main_v16_apply, val_main_v12_apply, val_main_v10_apply, r9, val_main_v11_apply, val_main_cst_3_apply, val_main_v15_apply, val_main_cst_4_apply,
    o_bits, o_bits, c_1024, c_eps, o_div_1024, o_add]
  rfl
theorem r17 (i) : val_main_v17 (F := Ideal) (ar A) i = ((rstd (A.r (i 0)) : ℝ) : EReal) := by
  rw [val_main_v17_apply, r16, o_rsqrt (var_pos _)]
  rfl
theorem r20 (i) : val_main_v20 (F := Ideal) (ar A) i
    = ((-(1 / 2) * (rstd (A.r (i 0)) * (1 / (var (A.r (i 0)) + Spec.eps))) : ℝ) : EReal) := by
  rw [val_main_v20_apply, val_main_v19_apply, val_main_cst_5_apply, o_bits, c_neg_half, val_main_v18_apply, r17, r16, o_div_one (var_pos _).ne', o_mul]
theorem r22 (i) : val_main_v22 (F := Ideal) (ar A) i = ((xh (A.r (i 0)) (i 1) : ℝ) : EReal) := by
  rw [val_main_v22_apply, r14, val_main_v21_apply, r17, o_mul]
  rfl
theorem r32 (i) : val_main_v32 (F := Ideal) (aw A) (ap A) i = ((∑ k, A.dp (i 0) k * A.w (i 1) k : ℝ) : EReal) := by
  rw [val_main_v32_apply]
  exact dot_real (fun k => A.dp (i 0) k) fun k => A.w (i 1) k
theorem r35 (i) : val_main_v35 (F := Ideal) (aw A) (ad A) (ap A) i = ((dh A (i 0) (i 1) : ℝ) : EReal) := by
  rw [val_main_v35_apply, r32, val_main_v34_apply, val_main_v33_apply, val_main_cst_7_apply, o_bits, c_alpha,
    show ad A i = ((A.dr (i 0) (i 1) : ℝ) : EReal) from rfl, o_mul, o_add]
  rfl
theorem r37 (i) : val_main_v37 (F := Ideal) (aw A) (ad A) (ap A) i = ((doff A (i 1) : ℝ) : EReal) := by
  rw [val_main_v37_apply, val_main_v36_apply, val_main_cst_8_apply, o_bits, c_zero]
  simp only [r35]
  refine (add_zero_sum fun k => dh A k _).trans (congrArg (fun c => ((doff A c : ℝ) : EReal)) ?_)
  apply Fin.ext
  have h0 : (i 0).val < 1 := (i 0).isLt
  show (i 0).val * 1024 + (i 1).val = (i 1).val
  omega
theorem r38 (i) : val_main_v38 (F := Ideal) (ar A) (aw A) (ad A) (ap A) i = ((dh A (i 0) (i 1) * xh (A.r (i 0)) (i 1) : ℝ) : EReal) := by
  rw [val_main_v38_apply, r35, r22]
  exact mul_comm _ _
theorem r40 (i) : val_main_v40 (F := Ideal) (ar A) (aw A) (ad A) (ap A) i = ((dgain A (i 1) : ℝ) : EReal) := by
  rw [val_main_v40_apply, val_main_v39_apply, val_main_cst_9_apply, o_bits, c_zero]
  simp only [r38]
  refine (add_zero_sum fun k => dh A k _ * xh (A.r k) _).trans (congrArg (fun c => ((dgain A c : ℝ) : EReal)) ?_)
  apply Fin.ext
  have h0 : (i 0).val < 1 := (i 0).isLt
  show (i 0).val * 1024 + (i 1).val = (i 1).val
  omega
theorem r42 (i) : val_main_v42 (F := Ideal) (ag A) (aw A) (ad A) (ap A) i = ((dn A (i 0) (i 1) : ℝ) : EReal) := by
  rw [val_main_v42_apply, r35, val_main_v41_apply]
  rfl
theorem r45 (i) : val_main_v45 (F := Ideal) (ar A) (ag A) (aw A) (ad A) (ap A) i = ((∑ c, cen (A.r (i 0)) c * dn A (i 0) c : ℝ) : EReal) := by
  rw [val_main_v45_apply, val_main_v44_apply, val_main_cst_10_apply, o_bits, c_zero]
  simp only [val_main_v43_apply, r14, r42]
  refine (add_zero_sum fun c => cen (A.r _) c * dn A _ c).trans (congrArg (fun r => ((∑ c, cen (A.r r) c * dn A r c : ℝ) : EReal)) ?_)
  apply Fin.ext
  have h1 : (i 1).val < 1 := (i 1).isLt
  show (i 0).val * 1 + (i 1).val = (i 0).val
  omega
theorem r47 (i) : val_main_v47 (F := Ideal) (ar A) (ag A) (aw A) (ad A) (ap A) i = ((dn A (i 0) (i 1) * rstd (A.r (i 0)) : ℝ) : EReal) := by
  rw [val_main_v47_apply, r42, val_main_v46_apply, r17]
  rfl
theorem r54 (i) : val_main_v54 (F := Ideal) (ar A) (ag A) (aw A) (ad A) (ap A) i = ((vf A (i 0) : ℝ) : EReal) := by
  rw [val_main_v54_apply, val_main_cst_13_apply, o_bits, c_zero]
  have e : ∀ k, val_main_v53 (F := Ideal) (ar A) (ag A) (aw A) (ad A) (ap A) (idx_main_v54 i k) = ((vf A (i 0) : ℝ) : EReal) := fun k => by
    rw [val_main_v53_apply, val_main_v48_apply, r45, r20, val_main_v52_apply, val_main_cst_12_apply, o_bits, c_1024, o_mul, o_div_1024]
    rfl
  simp only [e]
  rw [add_zero_sum]
  simp
theorem r56 (i) : val_main_v56 (F := Ideal) (ar A) (ag A) (aw A) (ad A) (ap A) i = ((vf A (i 0) * (2 * cen (A.r (i 0)) (i 1)) : ℝ) : EReal) := by
  rw [val_main_v56_apply, val_main_v55_apply, r54, r8]
  rfl
theorem r51 (i) : val_main_v51 (F := Ideal) (ar A) (ag A) (aw A) (ad A) (ap A) i = ((∑ c, -(dn A (i 0) c * rstd (A.r (i 0))) : ℝ) : EReal) := by
  rw [val_main_v51_apply, val_main_v50_apply, val_main_cst_11_apply, o_bits, c_zero]
  simp only [val_main_v49_apply, r47]
  refine (add_zero_sum fun c => -(dn A _ c * rstd (A.r _))).trans (congrArg (fun r => ((∑ c, -(dn A r c * rstd (A.r r)) : ℝ) : EReal)) ?_)
  apply Fin.ext
  have h1 : (i 1).val < 1 := (i 1).isLt
  show (i 0).val * 1 + (i 1).val = (i 0).val
  omega
theorem r59 (i) : val_main_v59 (F := Ideal) (ar A) (ag A) (aw A) (ad A) (ap A) i = ((∑ c, -(vf A (i 0) * (2 * cen (A.r (i 0)) c)) : ℝ) : EReal) := by
  rw [val_main_v59_apply, val_main_v58_apply, val_main_cst_14_apply, o_bits, c_zero]
  simp only [val_main_v57_apply, r56]
  refine (add_zero_sum fun c => -(vf A _ * (2 * cen (A.r _) c))).trans (congrArg (fun r => ((∑ c, -(vf A r * (2 * cen (A.r r) c)) : ℝ) : EReal)) ?_)
  apply Fin.ext
  have h1 : (i 1).val < 1 := (i 1).isLt
  show (i 0).val * 1 + (i 1).val = (i 0).val
  omega
theorem r64 (i) : val_main_v64 (F := Ideal) (ar A) (ag A) (aw A) (ad A) (ap A) i
    = ((((∑ c, -(dn A (i 0) c * rstd (A.r (i 0)))) + ∑ c, -(vf A (i 0) * (2 * cen (A.r (i 0)) c))) * (1 / 1024) : ℝ) : EReal) := by
  rw [val_main_v64_apply, val_main_cst_16_apply, o_bits, c_zero]
  have e : ∀ k, val_main_v63 (F := Ideal) (ar A) (ag A) (aw A) (ad A) (ap A) (idx_main_v64 i k)
      = ((((∑ c, -(dn A (i 0) c * rstd (A.r (i 0)))) + ∑ c, -(vf A (i 0) * (2 * cen (A.r (i 0)) c))) * (1 / 1024) : ℝ) : EReal) := fun k => by
    rw [val_main_v63_apply, val_main_v61_apply, r51, r59, val_main_v62_apply, val_main_cst_15_apply, o_bits, c_1024, o_add, o_div_1024]
    rfl
  simp only [e]
  rw [add_zero_sum]
  simp
theorem r66 (i) : val_main_v66 (F := Ideal) (ar A) (ag A) (aw A) (ad A) (ap A) i = ((din A (i 0) (i 1) : ℝ) : EReal) := by
  rw [val_main_v66_apply, val_main_v60_apply, r47, r56, val_main_v65_apply, r64, o_add, o_add]
  exact congrArg Real.toEReal (back_eq (A.r (i 0)) (dn A (i 0)) (i 1))

/-! The reference's three results. -/

theorem res_in : val_main_v66 (F := Ideal) (ar A) (ag A) (aw A) (ad A) (ap A) = (up2 .f32 (din A) : S2048x1024.Idx → Ideal .f32) := funext (r66 A)
theorem res_gain : val_main_v40 (F := Ideal) (ar A) (aw A) (ad A) (ap A) = (up2 .f32 (fun (_ : Fin 1) c => dgain A c) : S1x1024.Idx → Ideal .f32) :=
  funext (r40 A)
theorem res_off : val_main_v37 (F := Ideal) (aw A) (ad A) (ap A) = (up2 .f32 (fun (_ : Fin 1) c => doff A c) : S1x1024.Idx → Ideal .f32) :=
  funext (r37 A)

end Cert.Proof.Norm

end
-- ==== Proof.NormBlock.lean ====
/- The payloads of the kernel that transposes the norm, on one block of real numbers. -/
module

public import proofs.«01_k».proof.Proof.NormSpec
public import proofs.«01_k».proof.Proof.Gen.NormKernelIdeal.Skeleton

@[expose] public section

set_option maxRecDepth 8192

noncomputable section

namespace Cert.Proof.Norm.Pay

open Idealize.ShloMosaic Cert.NormKernelIdeal Cert.NormKernelIdeal.Gen
open Cert.Proof.Swi (alpha c_alpha)
open Cert.Proof.Spec (mean)

/-- One row of 1024 numbers, a column of 256 numbers, and a chunk of 256 rows. -/
abbrev one (f : Fin 1024 → ℝ) : FVec Ideal S1x1024 .f32 := up2 .f32 fun (_ : Fin 1) c => f c
abbrev col (f : Fin 256 → ℝ) : FVec Ideal S256x1 .f32 := up2 .f32 fun p (_ : Fin 1) => f p
abbrev blk (f : Fin 256 → Fin 1024 → ℝ) : FVec Ideal S256x1024 .f32 := up2 .f32 f

theorem dot_real {n : ℕ} (f g : Fin n → ℝ) : (∑ k, ((f k : ℝ) : EReal) * ((g k : ℝ) : EReal)) = ((∑ k, f k * g k : ℝ) : EReal) := by
  simp only [← EReal.coe_mul, sum_real]

theorem pay1 (x y : Fin 1024 → Fin 2176 → ℝ) :
    k0_pay1 (F := Ideal) (up2 .bf16 x) (up2 .bf16 y) = up2 .f32 fun p c => ∑ k, x p k * y c k := by
  refine eq_up2 fun p c => ?_
  pointwise [k0_pay1]
  simp only [up2_apply, dot_real]
theorem pay2 (x y : Fin 1024 → Fin 2176 → ℝ) :
    k0_pay2 (F := Ideal) (up2 .bf16 x) (up2 .bf16 y) = up2 .f32 fun p c => ∑ k, x p k * y c k := by
  rw [← pay1]
  exact shapeCast_self _ _
theorem pay3 (x y : Fin 1024 → Fin 2176 → ℝ) (u : Fin 1024 → Fin 1024 → ℝ) :
    k0_pay3 (F := Ideal) (up2 .bf16 x) (up2 .bf16 y) (up2 .f32 u) = up2 .f32 fun p c => u p c + ∑ k, x p k * y c k := by
  refine eq_up2 fun p c => ?_
  simp only [k0_pay3, pay1]
  pointwise
  simp only [up2_apply, ← EReal.coe_add]
theorem pay4 : k0_pay4 (F := Ideal) = one fun _ => 0 := eq_up2 fun _ _ => c_zero
theorem pay5 : k0_pay5 (F := Ideal) = one fun _ => 0 := eq_up2 fun _ _ => c_zero

variable (u d x h : Fin 256 → Fin 1024 → ℝ) (g old : Fin 1024 → ℝ) (s : Fin 256 → ℝ)

theorem pay9 : k0_pay9 (F := Ideal) (blk u) (blk d) = blk fun p c => u p c + alpha * d p c := by
  refine eq_up2 fun p c => ?_
  pointwise [k0_pay9]
  simp only [up2_apply, c_alpha, ← EReal.coe_mul, ← EReal.coe_add]
theorem pay10 : k0_pay10 (F := Ideal) (blk x) = blk x := shapeCast_self _ _
theorem pay6 : k0_pay6 (F := Ideal) (blk x) (blk h) (col s) = blk fun p c => back (s p) (x p) (h p) c := by
  refine eq_up2 fun p c => ?_
  pointwise [k0_pay6]
  simp only [up2_apply, c_1024, ← EReal.coe_mul, sum_real, div_1024, ← EReal.coe_sub]
  rfl
theorem pay11 : k0_pay11 (F := Ideal) (blk u) (blk d) (blk x) (one g) (col s)
    = blk fun p c => back (s p) (x p) (fun c => (u p c + alpha * d p c) * g c) c := by
  refine eq_up2 fun p c => ?_
  simp only [k0_pay11, pay9, pay10]
  pointwise
  simp only [up2_apply, c_1024, ← EReal.coe_mul, sum_real, div_1024, ← EReal.coe_sub]
  rfl
theorem pay7 : k0_pay7 (F := Ideal) (blk h) (blk x) (one old) = one fun c => old c + ∑ p, h p c * x p c := by
  refine eq_up2 fun _ c => ?_
  pointwise [k0_pay7]
  simp only [up2_apply, dot_real, ← EReal.coe_add]
theorem pay8 : k0_pay8 (F := Ideal) (blk h) (one old) = one fun c => old c + ∑ p, h p c := by
  refine eq_up2 fun _ c => ?_
  pointwise [k0_pay8]
  simp only [up2_apply, sum_real, ← EReal.coe_add]
theorem pay12 : k0_pay12 (F := Ideal) (blk u) (blk d) (blk x) (one old) = one fun c => old c + ∑ p, (u p c + alpha * d p c) * x p c := by
  refine eq_up2 fun _ c => ?_
  simp only [k0_pay12, pay9, pay10]
  pointwise
  simp only [up2_apply, dot_real, ← EReal.coe_add]
theorem pay13 : k0_pay13 (F := Ideal) (blk h) (one old) = one fun c => old c + ∑ p, h p c := pay8 h old
theorem pay14 : k0_pay14 (F := Ideal) (blk u) (blk d) = blk fun p c => u p c + alpha * d p c := pay9 u d
theorem pay15 : k0_pay15 (F := Ideal) (blk x) = blk x := pay10 x
theorem pay16 : k0_pay16 (F := Ideal) (blk u) (blk d) (blk x) (one g) (col s)
    = blk fun p c => back (s p) (x p) (fun c => (u p c + alpha * d p c) * g c) c := pay11 u d x g s
theorem pay17 : k0_pay17 (F := Ideal) (blk h) (blk x) (one old) = one fun c => old c + ∑ p, h p c * x p c := pay7 x h old
theorem pay18 : k0_pay18 (F := Ideal) (blk h) (one old) = one fun c => old c + ∑ p, h p c := pay8 h old
theorem pay19 : k0_pay19 (F := Ideal) (blk u) (blk d) = blk fun p c => u p c + alpha * d p c := pay9 u d
theorem pay20 : k0_pay20 (F := Ideal) (blk x) = blk x := pay10 x
theorem pay21 : k0_pay21 (F := Ideal) (blk u) (blk d) (one g) = blk fun p c => (u p c + alpha * d p c) * g c := by
  refine eq_up2 fun p c => ?_
  simp only [k0_pay21, pay19]
  pointwise
  simp only [up2_apply, ← EReal.coe_mul]
theorem pay22 : k0_pay22 (F := Ideal) (col s) = col s := shapeCast_self _ _
theorem pay23 : k0_pay23 (F := Ideal) (blk u) (blk d) (one g) = col fun p => mean fun c => (u p c + alpha * d p c) * g c := by
  refine eq_up2 fun p c => ?_
  simp only [k0_pay23, pay21]
  pointwise
  simp only [up2_apply, c_1024, sum_real, div_1024]
  rfl
theorem pay24 : k0_pay24 (F := Ideal) (blk u) (blk d) (blk x) (one g)
    = col fun p => mean fun c => (u p c + alpha * d p c) * g c * x p c := by
  refine eq_up2 fun p c => ?_
  simp only [k0_pay24, pay21, pay20]
  pointwise
  simp only [up2_apply, c_1024, dot_real, div_1024]
  rfl
theorem pay25 : k0_pay25 (F := Ideal) (blk x) (blk h) (col s) (col fun p => mean (h p)) (col fun p => mean fun c => h p c * x p c)
    = blk fun p c => back (s p) (x p) (h p) c := by
  refine eq_up2 fun p c => ?_
  pointwise [k0_pay25]
  simp only [up2_apply, ← EReal.coe_mul, ← EReal.coe_sub]
  rfl
theorem pay26 : k0_pay26 (F := Ideal) (blk h) (blk x) (one old) = one fun c => old c + ∑ p, h p c * x p c := pay7 x h old
theorem pay27 : k0_pay27 (F := Ideal) (blk h) (one old) = one fun c => old c + ∑ p, h p c := pay8 h old
theorem pay28 : k0_pay28 (F := Ideal) (blk u) (blk d) = blk fun p c => u p c + alpha * d p c := pay9 u d
theorem pay29 : k0_pay29 (F := Ideal) (blk x) = blk x := pay10 x
theorem pay30 : k0_pay30 (F := Ideal) (blk u) (blk d) (one g) = blk fun p c => (u p c + alpha * d p c) * g c := pay21 u d g
theorem pay31 : k0_pay31 (F := Ideal) (col s) = col s := pay22 s

end Cert.Proof.Norm.Pay

end
-- ==== Proof.NormBody.lean ====
/- What the kernel's body leaves in the running product and in each result's block at one grid point, from the block's real
   numbers, in its four cases: the first column block of a half, a middle one, the last one of the first half and the last
   one of the second half. -/
module

public import proofs.«01_k».proof.Proof.NormBlock
public import proofs.«01_k».proof.Proof.Gen.NormKernelIdeal.Value

@[expose] public section

set_option maxRecDepth 16384

noncomputable section

namespace Cert.Proof.Norm.Body

open Idealize.ShloMosaic Idealize.ShloMosaic.TcCoe Idealize.SL.Sem Cert.NormKernelIdeal Cert.NormKernelIdeal.Gen
open Cert.Proof.Norm.Pay (one blk)
open Cert.Proof.Swi (alpha)

theorem hz2 : (![0, 0] : Fin 2 → Nat) = fun _ => 0 := funext fun a => by fin_cases a <;> rfl

/-- The block as the kernel finds it. -/
abbrev x0 (p : Fin 1024 → Fin 2176 → ℝ) : Vec Ideal S1024x2176 .bf16 := up2 .bf16 p
abbrev x1 (w : Fin 1024 → Fin 2176 → ℝ) : Vec Ideal S1024x2176 .bf16 := up2 .bf16 w
abbrev x2 (d : Fin 1024 → Fin 1024 → ℝ) : Vec Ideal S1024x1024 .f32 := up2 .f32 d
abbrev x4 (s : Fin 1024 → ℝ) : Vec Ideal S1024x1 .f32 := up2 .f32 fun p (_ : Fin 1) => s p

/-- The product with one more column block, the gradient of the norm's result, and that of its input. -/
def step (u : Fin 1024 → Fin 1024 → ℝ) (p w : Fin 1024 → Fin 2176 → ℝ) (r c : Fin 1024) : ℝ := u r c + ∑ k, p r k * w c k
def top (u : Fin 1024 → Fin 1024 → ℝ) (p w : Fin 1024 → Fin 2176 → ℝ) (d : Fin 1024 → Fin 1024 → ℝ) (r c : Fin 1024) : ℝ :=
  (u r c + ∑ k, p r k * w c k) + alpha * d r c

/-- Rows `o` to `o + 255` of a block, loaded, -/
theorem ld_rows (f : Fin 1024 → Fin 1024 → ℝ) (o : ℕ) (ho : o + 256 ≤ 1024) (inb) :
    View.ld (Val := Elt Ideal) (e' := .f32) (up2 .f32 f : S1024x1024.Idx → Ideal .f32) (Rect.unit (s := S1024x1024) ![o, 0] ![256, 1024] inb)
      = blk fun p c => f (off o p) c := by
  refine eq_up2 fun p c => ?_
  have hp := p.isLt
  show up2 .f32 f _ = _
  simp only [up2]
  congr 1
  congr 1 <;> apply Fin.ext <;> simp [Rect.unit, off] <;> omega
theorem ld_rows1 (f : Fin 1024 → ℝ) (o : ℕ) (ho : o + 256 ≤ 1024) (inb) :
    View.ld (Val := Elt Ideal) (e' := .f32) (up2 .f32 (fun p (_ : Fin 1) => f p) : S1024x1.Idx → Ideal .f32) (Rect.unit (s := S1024x1) ![o, 0] ![256, 1] inb)
      = Pay.col fun p => f (off o p) := by
  refine eq_up2 fun p c => ?_
  have hp := p.isLt
  show up2 .f32 (fun p (_ : Fin 1) => f p) _ = _
  simp only [up2]
  congr 1
  congr 1
  apply Fin.ext
  simp [Rect.unit, off]
  omega
/-- and read where the whole block was stored. -/
theorem rd_rows {κ : Kind} {sp : Space} (v : View sig κ sp S1024x1024 .f32) (f : Fin 1024 → Fin 1024 → ℝ) (o : ℕ) (ho : o + 256 ≤ 1024) (inbz inb) (L) :
    v.readCov (Val := Elt Ideal) (⟨Rect.unit ![0, 0] ![1024, 1024] inbz, (up2 .f32 f : S1024x1024.Idx → Ideal .f32)⟩ :: L) (Rect.unit ![o, 0] ![256, 1024] inb).toLoadRect
      = blk fun p c => f (off o p) c := by
  rw [← ld_rows f o ho inb]
  rw [View.readCov_eq_canon', View.canon_cons_unit_zero (S := S1024x1024) hz2]

/-- What a block holds after the stores of its chunks: the last store's rows, -/
theorem cn_hit (o : ℕ) (ho : o + 256 ≤ 1024) (inb) (f : Fin 256 → Fin 1024 → ℝ) (L) (p : Fin 256) (c : Fin 1024) :
    View.canon (Val := Elt Ideal) (s := S1024x1024) (e := .f32) (⟨Rect.unit ![o, 0] ![256, 1024] inb, blk f⟩ :: L) (ix2 (off o p) c) = ((f p c : ℝ) : EReal) := by
  have hp := p.isLt
  have e : (ix2 (off o p) c : S1024x1024.Idx) = (Rect.unit (s := S1024x1024) ![o, 0] ![256, 1024] inb).emb (ix2 p c) := by
    funext a
    apply Fin.ext
    match a with
    | ⟨0, _⟩ => show (o + p.val) % 1024 = o + 1 * p.val; omega
    | ⟨1, _⟩ => show c.val = 0 + 1 * c.val; omega
  rw [e, View.canon_cons_emb]
  rfl
/-- and off them the earlier stores. -/
theorem cn_miss (o o' : ℕ) (ho : o + 256 ≤ o') (inb) (w) (L) (p : Fin 256) (c : Fin 1024) :
    View.canon (Val := Elt Ideal) (s := S1024x1024) (e := .f32) (⟨Rect.unit ![o', 0] ![256, 1024] inb, w⟩ :: L) (ix2 (off o p) c)
      = View.canon L (ix2 (off o p) c) := by
  refine View.canon_cons_of_not_mem _ L fun hy => ?_
  have h1 := ((Rect.mem_set_unit (s := S1024x1024) (inb := inb)).mp hy) 0
  have hp := p.isLt
  have ho' : o' + 256 ≤ 1024 := inb 0
  simp [off] at h1
  omega

variable (c : Dev nD) (i : grid0.Coords) (a2 : Memref sig .tc .vmem S1024x2176 .bf16) (h2 : a2.IsWhole) (a3 : Memref sig .tc .vmem S1024x2176 .bf16) (h3 : a3.IsWhole) (a4 : Memref sig .tc .vmem S1024x1024 .f32) (h4 : a4.IsWhole) (a5 : Memref sig .tc .vmem S1024x1024 .f32) (h5 : a5.IsWhole) (a6 : Memref sig .tc .vmem S1024x1 .f32) (h6 : a6.IsWhole) (a7 : Memref sig .tc .vmem S1x1024 .f32) (h7 : a7.IsWhole) (a8 : Memref sig .tc .vmem S1024x1024 .f32) (h8 : a8.IsWhole) (a9 : Memref sig .tc .vmem S1x1024 .f32) (h9 : a9.IsWhole) (a10 : Memref sig .tc .vmem S1x1024 .f32) (h10 : a10.IsWhole) (a11 : Memref sig .tc .vmem S1024x1024 .f32) (h11 : a11.IsWhole)
  (p w : Fin 1024 → Fin 2176 → ℝ) (d x u : Fin 1024 → Fin 1024 → ℝ) (s : Fin 1024 → ℝ) (g : Fin 1024 → ℝ)

theorem acc_A (c0 : cond0_0 i) (c1 : ¬cond0_1 i) (c2 : ¬cond0_2 i) (c3 : ¬cond0_3 i) :
    sout0_A_0 (F := Ideal) c i a2 h2 a3 h3 a4 h4 a5 h5 a6 h6 a7 h7 a8 h8 a9 h9 a10 h10 a11 h11 c0 c1 c2 c3 (x0 p) (x1 w) (x2 d) (x2 x) (x4 s) (one g) = x2 fun r c => ∑ k, p r k * w c k := by
  unfold sout0_A_0
  rw [View.read_writes_eq_canon _ _ _ (scover0_A_0 c i a2 h2 a3 h3 a4 h4 a5 h5 a6 h6 a7 h7 a8 h8 a9 h9 a10 h10 a11 h11 c0 c1 c2 c3 (x0 p) (x1 w) (x2 d) (x2 x) (x4 s) (one g))]
  unfold kernelRun0_A
  dsimp only
  sl_unfold_words
  rw [View.canon_cons_unit_zero hz2]
  simp only [View.readAt_eq_ld, h2.read_unread, h3.read_unread, h4.read_unread, h5.read_unread, h6.read_unread, h7.read_unread,
    View.ld_unit_zero (S := S1024x2176) hz2, View.ld_unit_zero (S := S1024x1024) hz2, View.ld_unit_zero (S := S1x1024) hz2]
  simp (discharger := omega) only [ld_rows, ld_rows1, rd_rows, View.readCov_cons_toLoadRect, View.readCov_unit_zero (S := S1x1024) _ hz2, Pay.pay2, Pay.pay3, Pay.pay4, Pay.pay5, Pay.pay6, Pay.pay7, Pay.pay8, Pay.pay9, Pay.pay10, Pay.pay11, Pay.pay12, Pay.pay13, Pay.pay14, Pay.pay15, Pay.pay16, Pay.pay17, Pay.pay18, Pay.pay19, Pay.pay20, Pay.pay21, Pay.pay22, Pay.pay23, Pay.pay24, Pay.pay25, Pay.pay26, Pay.pay27, Pay.pay28, Pay.pay29, Pay.pay30, Pay.pay31]

theorem acc_B (c0 : ¬cond0_0 i) (c1 : cond0_1 i) (c2 : ¬cond0_2 i) (c3 : ¬cond0_3 i) :
    sout0_B_0 (F := Ideal) c i a2 h2 a3 h3 a4 h4 a5 h5 a6 h6 a7 h7 a8 h8 a9 h9 a10 h10 a11 h11 c0 c1 c2 c3 (x0 p) (x1 w) (x2 d) (x2 x) (x4 s) (one g) (x2 u) = x2 (step u p w) := by
  unfold sout0_B_0
  rw [View.read_writes_eq_canon _ _ _ (scover0_B_0 c i a2 h2 a3 h3 a4 h4 a5 h5 a6 h6 a7 h7 a8 h8 a9 h9 a10 h10 a11 h11 c0 c1 c2 c3 (x0 p) (x1 w) (x2 d) (x2 x) (x4 s) (one g) (x2 u))]
  unfold kernelRun0_B
  dsimp only
  sl_unfold_words
  rw [View.canon_cons_unit_zero hz2]
  simp only [View.readAt_eq_ld, h2.read_unread, h3.read_unread, h4.read_unread, h5.read_unread, h6.read_unread, h7.read_unread, h11.read_unread,
    View.ld_unit_zero (S := S1024x2176) hz2, View.ld_unit_zero (S := S1024x1024) hz2, View.ld_unit_zero (S := S1x1024) hz2]
  simp (discharger := omega) only [ld_rows, ld_rows1, rd_rows, View.readCov_cons_toLoadRect, View.readCov_unit_zero (S := S1x1024) _ hz2, Pay.pay2, Pay.pay3, Pay.pay4, Pay.pay5, Pay.pay6, Pay.pay7, Pay.pay8, Pay.pay9, Pay.pay10, Pay.pay11, Pay.pay12, Pay.pay13, Pay.pay14, Pay.pay15, Pay.pay16, Pay.pay17, Pay.pay18, Pay.pay19, Pay.pay20, Pay.pay21, Pay.pay22, Pay.pay23, Pay.pay24, Pay.pay25, Pay.pay26, Pay.pay27, Pay.pay28, Pay.pay29, Pay.pay30, Pay.pay31]
  rfl

theorem acc_C (c0 : ¬cond0_0 i) (c1 : cond0_1 i) (c2 : cond0_2 i) (c3 : cond0_3 i) :
    sout0_C_0 (F := Ideal) c i a2 h2 a3 h3 a4 h4 a5 h5 a6 h6 a7 h7 a8 h8 a9 h9 a10 h10 a11 h11 c0 c1 c2 c3 (x0 p) (x1 w) (x2 d) (x2 x) (x4 s) (one g) (x2 u) = x2 (step u p w) := by
  unfold sout0_C_0
  rw [View.read_writes_eq_canon _ _ _ (scover0_C_0 c i a2 h2 a3 h3 a4 h4 a5 h5 a6 h6 a7 h7 a8 h8 a9 h9 a10 h10 a11 h11 c0 c1 c2 c3 (x0 p) (x1 w) (x2 d) (x2 x) (x4 s) (one g) (x2 u))]
  unfold kernelRun0_C
  dsimp only
  sl_unfold_words
  rw [View.canon_cons_unit_zero hz2]
  simp only [View.readAt_eq_ld, h2.read_unread, h3.read_unread, h4.read_unread, h5.read_unread, h6.read_unread, h7.read_unread, h11.read_unread,
    View.ld_unit_zero (S := S1024x2176) hz2, View.ld_unit_zero (S := S1024x1024) hz2, View.ld_unit_zero (S := S1x1024) hz2]
  simp (discharger := omega) only [ld_rows, ld_rows1, rd_rows, View.readCov_cons_toLoadRect, View.readCov_unit_zero (S := S1x1024) _ hz2, Pay.pay2, Pay.pay3, Pay.pay4, Pay.pay5, Pay.pay6, Pay.pay7, Pay.pay8, Pay.pay9, Pay.pay10, Pay.pay11, Pay.pay12, Pay.pay13, Pay.pay14, Pay.pay15, Pay.pay16, Pay.pay17, Pay.pay18, Pay.pay19, Pay.pay20, Pay.pay21, Pay.pay22, Pay.pay23, Pay.pay24, Pay.pay25, Pay.pay26, Pay.pay27, Pay.pay28, Pay.pay29, Pay.pay30, Pay.pay31]
  rfl

theorem acc_D (c0 : ¬cond0_0 i) (c1 : cond0_1 i) (c2 : ¬cond0_2 i) (c3 : cond0_3 i) (o7 o8 : Fin 1024 → ℝ) :
    sout0_D_0 (F := Ideal) c i a2 h2 a3 h3 a4 h4 a5 h5 a6 h6 a7 h7 a8 h8 a9 h9 a10 h10 a11 h11 c0 c1 c2 c3 (x0 p) (x1 w) (x2 d) (x2 x) (x4 s) (one g) (one o7) (one o8) (x2 u) = x2 (step u p w) := by
  unfold sout0_D_0
  rw [View.read_writes_eq_canon _ _ _ (scover0_D_0 c i a2 h2 a3 h3 a4 h4 a5 h5 a6 h6 a7 h7 a8 h8 a9 h9 a10 h10 a11 h11 c0 c1 c2 c3 (x0 p) (x1 w) (x2 d) (x2 x) (x4 s) (one g) (one o7) (one o8) (x2 u))]
  unfold kernelRun0_D
  dsimp only
  sl_unfold_words
  rw [View.canon_cons_unit_zero hz2]
  simp only [View.readAt_eq_ld, h2.read_unread, h3.read_unread, h4.read_unread, h5.read_unread, h6.read_unread, h7.read_unread, h9.read_unread, h10.read_unread, h11.read_unread,
    View.ld_unit_zero (S := S1024x2176) hz2, View.ld_unit_zero (S := S1024x1024) hz2, View.ld_unit_zero (S := S1x1024) hz2]
  simp (discharger := omega) only [ld_rows, ld_rows1, rd_rows, View.readCov_cons_toLoadRect, View.readCov_unit_zero (S := S1x1024) _ hz2, Pay.pay2, Pay.pay3, Pay.pay4, Pay.pay5, Pay.pay6, Pay.pay7, Pay.pay8, Pay.pay9, Pay.pay10, Pay.pay11, Pay.pay12, Pay.pay13, Pay.pay14, Pay.pay15, Pay.pay16, Pay.pay17, Pay.pay18, Pay.pay19, Pay.pay20, Pay.pay21, Pay.pay22, Pay.pay23, Pay.pay24, Pay.pay25, Pay.pay26, Pay.pay27, Pay.pay28, Pay.pay29, Pay.pay30, Pay.pay31]
  rfl

theorem in_C (c0 : ¬cond0_0 i) (c1 : cond0_1 i) (c2 : cond0_2 i) (c3 : cond0_3 i) :
    out0_C_6 (F := Ideal) c i a2 h2 a3 h3 a4 h4 a5 h5 a6 h6 a7 h7 a8 h8 a9 h9 a10 h10 a11 h11 c0 c1 c2 c3 (x0 p) (x1 w) (x2 d) (x2 x) (x4 s) (one g) (x2 u) = x2 fun r c => back (s r) (x r) (fun c => top u p w d r c * g c) c := by
  unfold out0_C_6
  rw [View.read_writes_eq_canon _ _ _ (cover0_C_6 c i a2 h2 a3 h3 a4 h4 a5 h5 a6 h6 a7 h7 a8 h8 a9 h9 a10 h10 a11 h11 c0 c1 c2 c3 (x0 p) (x1 w) (x2 d) (x2 x) (x4 s) (one g) (x2 u))]
  unfold kernelRun0_C
  dsimp only
  sl_unfold_words
  simp only [View.readAt_eq_ld, h2.read_unread, h3.read_unread, h4.read_unread, h5.read_unread, h6.read_unread, h7.read_unread, h11.read_unread,
    View.ld_unit_zero (S := S1024x2176) hz2, View.ld_unit_zero (S := S1024x1024) hz2, View.ld_unit_zero (S := S1x1024) hz2]
  simp (discharger := omega) only [ld_rows, ld_rows1, rd_rows, View.readCov_cons_toLoadRect, View.readCov_unit_zero (S := S1x1024) _ hz2, Pay.pay2, Pay.pay3, Pay.pay4, Pay.pay5, Pay.pay6, Pay.pay7, Pay.pay8, Pay.pay9, Pay.pay10, Pay.pay11, Pay.pay12, Pay.pay13, Pay.pay14, Pay.pay15, Pay.pay16, Pay.pay17, Pay.pay18, Pay.pay19, Pay.pay20, Pay.pay21, Pay.pay22, Pay.pay23, Pay.pay24, Pay.pay25, Pay.pay26, Pay.pay27, Pay.pay28, Pay.pay29, Pay.pay30, Pay.pay31]
  refine eq_up2 fun r c => ?_
  rcases off_cases r with ⟨q, rfl⟩ | ⟨q, rfl⟩ | ⟨q, rfl⟩ | ⟨q, rfl⟩ <;> simp (discharger := omega) only [cn_hit, cn_miss] <;> rfl

theorem gain_C (c0 : ¬cond0_0 i) (c1 : cond0_1 i) (c2 : cond0_2 i) (c3 : cond0_3 i) :
    out0_C_7 (F := Ideal) c i a2 h2 a3 h3 a4 h4 a5 h5 a6 h6 a7 h7 a8 h8 a9 h9 a10 h10 a11 h11 c0 c1 c2 c3 (x0 p) (x1 w) (x2 d) (x2 x) (x4 s) (one g) (x2 u) = one fun c => sweep 0 fun r => top u p w d r c * x r c := by
  unfold out0_C_7
  rw [View.read_writes_eq_canon _ _ _ (cover0_C_7 c i a2 h2 a3 h3 a4 h4 a5 h5 a6 h6 a7 h7 a8 h8 a9 h9 a10 h10 a11 h11 c0 c1 c2 c3 (x0 p) (x1 w) (x2 d) (x2 x) (x4 s) (one g) (x2 u))]
  unfold kernelRun0_C
  dsimp only
  sl_unfold_words
  rw [View.canon_cons_unit_zero hz2]
  simp only [View.readAt_eq_ld, h2.read_unread, h3.read_unread, h4.read_unread, h5.read_unread, h6.read_unread, h7.read_unread, h11.read_unread,
    View.ld_unit_zero (S := S1024x2176) hz2, View.ld_unit_zero (S := S1024x1024) hz2, View.ld_unit_zero (S := S1x1024) hz2]
  simp (discharger := omega) only [ld_rows, ld_rows1, rd_rows, View.readCov_cons_toLoadRect, View.readCov_unit_zero (S := S1x1024) _ hz2, Pay.pay2, Pay.pay3, Pay.pay4, Pay.pay5, Pay.pay6, Pay.pay7, Pay.pay8, Pay.pay9, Pay.pay10, Pay.pay11, Pay.pay12, Pay.pay13, Pay.pay14, Pay.pay15, Pay.pay16, Pay.pay17, Pay.pay18, Pay.pay19, Pay.pay20, Pay.pay21, Pay.pay22, Pay.pay23, Pay.pay24, Pay.pay25, Pay.pay26, Pay.pay27, Pay.pay28, Pay.pay29, Pay.pay30, Pay.pay31]
  rfl

theorem off_C (c0 : ¬cond0_0 i) (c1 : cond0_1 i) (c2 : cond0_2 i) (c3 : cond0_3 i) :
    out0_C_8 (F := Ideal) c i a2 h2 a3 h3 a4 h4 a5 h5 a6 h6 a7 h7 a8 h8 a9 h9 a10 h10 a11 h11 c0 c1 c2 c3 (x0 p) (x1 w) (x2 d) (x2 x) (x4 s) (one g) (x2 u) = one fun c => sweep 0 fun r => top u p w d r c := by
  unfold out0_C_8
  rw [View.read_writes_eq_canon _ _ _ (cover0_C_8 c i a2 h2 a3 h3 a4 h4 a5 h5 a6 h6 a7 h7 a8 h8 a9 h9 a10 h10 a11 h11 c0 c1 c2 c3 (x0 p) (x1 w) (x2 d) (x2 x) (x4 s) (one g) (x2 u))]
  unfold kernelRun0_C
  dsimp only
  sl_unfold_words
  rw [View.canon_cons_unit_zero hz2]
  simp only [View.readAt_eq_ld, h2.read_unread, h3.read_unread, h4.read_unread, h5.read_unread, h6.read_unread, h7.read_unread, h11.read_unread,
    View.ld_unit_zero (S := S1024x2176) hz2, View.ld_unit_zero (S := S1024x1024) hz2, View.ld_unit_zero (S := S1x1024) hz2]
  simp (discharger := omega) only [ld_rows, ld_rows1, rd_rows, View.readCov_cons_toLoadRect, View.readCov_unit_zero (S := S1x1024) _ hz2, Pay.pay2, Pay.pay3, Pay.pay4, Pay.pay5, Pay.pay6, Pay.pay7, Pay.pay8, Pay.pay9, Pay.pay10, Pay.pay11, Pay.pay12, Pay.pay13, Pay.pay14, Pay.pay15, Pay.pay16, Pay.pay17, Pay.pay18, Pay.pay19, Pay.pay20, Pay.pay21, Pay.pay22, Pay.pay23, Pay.pay24, Pay.pay25, Pay.pay26, Pay.pay27, Pay.pay28, Pay.pay29, Pay.pay30, Pay.pay31]
  rfl

theorem in_D (c0 : ¬cond0_0 i) (c1 : cond0_1 i) (c2 : ¬cond0_2 i) (c3 : cond0_3 i) (o7 o8 : Fin 1024 → ℝ) :
    out0_D_6 (F := Ideal) c i a2 h2 a3 h3 a4 h4 a5 h5 a6 h6 a7 h7 a8 h8 a9 h9 a10 h10 a11 h11 c0 c1 c2 c3 (x0 p) (x1 w) (x2 d) (x2 x) (x4 s) (one g) (one o7) (one o8) (x2 u) = x2 fun r c => back (s r) (x r) (fun c => top u p w d r c * g c) c := by
  unfold out0_D_6
  rw [View.read_writes_eq_canon _ _ _ (cover0_D_6 c i a2 h2 a3 h3 a4 h4 a5 h5 a6 h6 a7 h7 a8 h8 a9 h9 a10 h10 a11 h11 c0 c1 c2 c3 (x0 p) (x1 w) (x2 d) (x2 x) (x4 s) (one g) (one o7) (one o8) (x2 u))]
  unfold kernelRun0_D
  dsimp only
  sl_unfold_words
  simp only [View.readAt_eq_ld, h2.read_unread, h3.read_unread, h4.read_unread, h5.read_unread, h6.read_unread, h7.read_unread, h9.read_unread, h10.read_unread, h11.read_unread,
    View.ld_unit_zero (S := S1024x2176) hz2, View.ld_unit_zero (S := S1024x1024) hz2, View.ld_unit_zero (S := S1x1024) hz2]
  simp (discharger := omega) only [ld_rows, ld_rows1, rd_rows, View.readCov_cons_toLoadRect, View.readCov_unit_zero (S := S1x1024) _ hz2, Pay.pay2, Pay.pay3, Pay.pay4, Pay.pay5, Pay.pay6, Pay.pay7, Pay.pay8, Pay.pay9, Pay.pay10, Pay.pay11, Pay.pay12, Pay.pay13, Pay.pay14, Pay.pay15, Pay.pay16, Pay.pay17, Pay.pay18, Pay.pay19, Pay.pay20, Pay.pay21, Pay.pay22, Pay.pay23, Pay.pay24, Pay.pay25, Pay.pay26, Pay.pay27, Pay.pay28, Pay.pay29, Pay.pay30, Pay.pay31]
  refine eq_up2 fun r c => ?_
  rcases off_cases r with ⟨q, rfl⟩ | ⟨q, rfl⟩ | ⟨q, rfl⟩ | ⟨q, rfl⟩ <;> simp (discharger := omega) only [cn_hit, cn_miss] <;> rfl

theorem gain_D (c0 : ¬cond0_0 i) (c1 : cond0_1 i) (c2 : ¬cond0_2 i) (c3 : cond0_3 i) (o7 o8 : Fin 1024 → ℝ) :
    out0_D_7 (F := Ideal) c i a2 h2 a3 h3 a4 h4 a5 h5 a6 h6 a7 h7 a8 h8 a9 h9 a10 h10 a11 h11 c0 c1 c2 c3 (x0 p) (x1 w) (x2 d) (x2 x) (x4 s) (one g) (one o7) (one o8) (x2 u) = one fun c => sweep (o7 c) fun r => top u p w d r c * x r c := by
  unfold out0_D_7
  rw [View.read_writes_eq_canon _ _ _ (cover0_D_7 c i a2 h2 a3 h3 a4 h4 a5 h5 a6 h6 a7 h7 a8 h8 a9 h9 a10 h10 a11 h11 c0 c1 c2 c3 (x0 p) (x1 w) (x2 d) (x2 x) (x4 s) (one g) (one o7) (one o8) (x2 u))]
  unfold kernelRun0_D
  dsimp only
  sl_unfold_words
  rw [View.canon_cons_unit_zero hz2]
  simp only [View.readAt_eq_ld, h2.read_unread, h3.read_unread, h4.read_unread, h5.read_unread, h6.read_unread, h7.read_unread, h9.read_unread, h10.read_unread, h11.read_unread,
    View.ld_unit_zero (S := S1024x2176) hz2, View.ld_unit_zero (S := S1024x1024) hz2, View.ld_unit_zero (S := S1x1024) hz2]
  simp (discharger := omega) only [ld_rows, ld_rows1, rd_rows, View.readCov_cons_toLoadRect, View.readCov_unit_zero (S := S1x1024) _ hz2, Pay.pay2, Pay.pay3, Pay.pay4, Pay.pay5, Pay.pay6, Pay.pay7, Pay.pay8, Pay.pay9, Pay.pay10, Pay.pay11, Pay.pay12, Pay.pay13, Pay.pay14, Pay.pay15, Pay.pay16, Pay.pay17, Pay.pay18, Pay.pay19, Pay.pay20, Pay.pay21, Pay.pay22, Pay.pay23, Pay.pay24, Pay.pay25, Pay.pay26, Pay.pay27, Pay.pay28, Pay.pay29, Pay.pay30, Pay.pay31]
  rfl

theorem off_D (c0 : ¬cond0_0 i) (c1 : cond0_1 i) (c2 : ¬cond0_2 i) (c3 : cond0_3 i) (o7 o8 : Fin 1024 → ℝ) :
    out0_D_8 (F := Ideal) c i a2 h2 a3 h3 a4 h4 a5 h5 a6 h6 a7 h7 a8 h8 a9 h9 a10 h10 a11 h11 c0 c1 c2 c3 (x0 p) (x1 w) (x2 d) (x2 x) (x4 s) (one g) (one o7) (one o8) (x2 u) = one fun c => sweep (o8 c) fun r => top u p w d r c := by
  unfold out0_D_8
  rw [View.read_writes_eq_canon _ _ _ (cover0_D_8 c i a2 h2 a3 h3 a4 h4 a5 h5 a6 h6 a7 h7 a8 h8 a9 h9 a10 h10 a11 h11 c0 c1 c2 c3 (x0 p) (x1 w) (x2 d) (x2 x) (x4 s) (one g) (one o7) (one o8) (x2 u))]
  unfold kernelRun0_D
  dsimp only
  sl_unfold_words
  rw [View.canon_cons_unit_zero hz2]
  simp only [View.readAt_eq_ld, h2.read_unread, h3.read_unread, h4.read_unread, h5.read_unread, h6.read_unread, h7.read_unread, h9.read_unread, h10.read_unread, h11.read_unread,
    View.ld_unit_zero (S := S1024x2176) hz2, View.ld_unit_zero (S := S1024x1024) hz2, View.ld_unit_zero (S := S1x1024) hz2]
  simp (discharger := omega) only [ld_rows, ld_rows1, rd_rows, View.readCov_cons_toLoadRect, View.readCov_unit_zero (S := S1x1024) _ hz2, Pay.pay2, Pay.pay3, Pay.pay4, Pay.pay5, Pay.pay6, Pay.pay7, Pay.pay8, Pay.pay9, Pay.pay10, Pay.pay11, Pay.pay12, Pay.pay13, Pay.pay14, Pay.pay15, Pay.pay16, Pay.pay17, Pay.pay18, Pay.pay19, Pay.pay20, Pay.pay21, Pay.pay22, Pay.pay23, Pay.pay24, Pay.pay25, Pay.pay26, Pay.pay27, Pay.pay28, Pay.pay29, Pay.pay30, Pay.pay31]
  rfl

end Cert.Proof.Norm.Body

end
-- ==== Proof.NormFold.lean ====
/- The kernel's three results as real numbers: the host's arrays and their blocks, the running product and the two carried sums at
   the grid points, and the arrays after the last one. -/
module

public import proofs.«01_k».proof.Proof.NormRef
public import proofs.«01_k».proof.Proof.NormBody

@[expose] public section

set_option maxRecDepth 16384

noncomputable section

namespace Cert.Proof.Norm.Fold

open Idealize.ShloMosaic Idealize.ShloMosaic.TcCoe Idealize.SL.Sem Cert.NormKernelIdeal Cert.NormKernelIdeal.Gen
open Cert.Proof.Norm.Pay (one)
open Cert.Proof.Norm.Body (x0 x1 x2 x4 step top)
open Cert.Proof.Swi (alpha)

/-- Column block `k` of the incoming gradient's half `a` and of the weight. -/
def gb (A : Args) (a k : ℕ) (p : Fin 1024) (q : Fin 2176) : ℝ := A.dp (row a p) (col k q)
def wb (A : Args) (k : ℕ) (p : Fin 1024) (q : Fin 2176) : ℝ := A.w p (col k q)

/-- The product's sum over the first `k + 1` column blocks. -/
def part (A : Args) (a : ℕ) : ℕ → Fin 1024 → Fin 1024 → ℝ
  | 0 => fun r c => ∑ q, gb A a 0 r q * wb A 0 c q
  | k + 1 => step (part A a k) (gb A a (k + 1)) (wb A (k + 1))

/-- With the last block and the residual branch it is the gradient of the norm's result. -/
theorem top_eq (A : Args) (a : ℕ) (r c : Fin 1024) :
    top (part A a 2) (gb A a 3) (wb A 3) (fun p q => A.dr (row a p) q) r c = dh A (row a r) c := by
  unfold dh
  rw [sum_cols]
  rfl

variable (m : (ℓ : Loc nD τ sig) → Buf (Elt Ideal) ℓ) (c : Dev nD) (A : Args)

/-- The arguments hold the real numbers `A`. -/
structure Holds : Prop where
  r : (m ((c : Thread nD τ).loc main_arg0) : FVec Ideal S2048x1024 .f32) = up2 .f32 A.r
  g : (m ((c : Thread nD τ).loc main_arg1) : FVec Ideal S1x1024 .f32) = one A.g
  b : (m ((c : Thread nD τ).loc main_arg2) : FVec Ideal S1x1024 .f32) = one A.b
  w : (m ((c : Thread nD τ).loc main_arg3) : FVec Ideal S1024x8704 .f32) = up2 .f32 A.w
  dr : (m ((c : Thread nD τ).loc main_arg4) : FVec Ideal S2048x1024 .f32) = up2 .f32 A.dr
  dp : (m ((c : Thread nD τ).loc main_arg5) : FVec Ideal S2048x8704 .f32) = up2 .f32 A.dp

/-! ## The host's arrays -/

theorem V_scale : (V m c main_v13 : FVec Ideal S2048x1 .f32)
    = Cert.NormReferenceIdeal.Read.val_main_v17 (F := Ideal) (m ((c : Thread nD τ).loc main_arg0)) := by
  simp only [V, hostOps0, StableHlo.after]
  rfl
theorem V_normed : (V m c main_v19 : FVec Ideal S2048x1024 .f32)
    = Cert.NormReferenceIdeal.Read.val_main_v22 (F := Ideal) (m ((c : Thread nD τ).loc main_arg0)) := by
  simp only [V, hostOps0, StableHlo.after]
  rfl
theorem V_grad : (V m c main_v14 : FVec Ideal S2048x8704 .bf16)
    = truncf (F := Ideal) .bf16 (m ((c : Thread nD τ).loc main_arg5) : FVec Ideal S2048x8704 .f32) bitsLt_bf16_f32 := by
  simp only [V, hostOps0, StableHlo.after]
  rfl
theorem V_weight : (V m c main_v15 : FVec Ideal S1024x8704 .bf16)
    = truncf (F := Ideal) .bf16 (m ((c : Thread nD τ).loc main_arg3) : FVec Ideal S1024x8704 .f32) bitsLt_bf16_f32 := by
  simp only [V, hostOps0, StableHlo.after]
  rfl

variable {m c A} (H : Holds m c A)
include H

theorem h_scale : (V m c main_v13 : FVec Ideal S2048x1 .f32) = up2 .f32 fun i (_ : Fin 1) => rstd (A.r i) := by
  rw [V_scale, H.r]
  exact funext fun i => r17 A i
theorem h_normed : (V m c main_v19 : FVec Ideal S2048x1024 .f32) = up2 .f32 fun i k => xh (A.r i) k := by
  rw [V_normed, H.r]
  exact funext fun i => r22 A i
theorem h_grad : (V m c main_v14 : FVec Ideal S2048x8704 .bf16) = up2 .bf16 A.dp := by
  rw [V_grad, H.dp]
  rfl
theorem h_weight : (V m c main_v15 : FVec Ideal S1024x8704 .bf16) = up2 .bf16 A.w := by
  rw [V_weight, H.w]
  rfl

/-! ## Their blocks -/

theorem iblk0 (t : Fin cfg0.N) : (iblk m c 0 t : FVec Ideal S1024x2176 .bf16) = x0 (gb A (t.val / 4) (t.val % 4)) := by
  have hi : ∀ t : Fin grid0.N, win0_0.index t 0 = t.val / 4 ∧ win0_0.index t 1 = t.val % 4 := by decide +kernel
  have ht : t.val < 8 := t.isLt.trans_eq N_0
  refine eq_up2 fun p q => ?_
  have hp := p.isLt
  have hq := q.isLt
  unfold iblk
  rw [View.read_apply]
  show V m c main_v14 _ = _
  refine (congrFun (h_grad H) _).trans ?_
  show ((A.dp _ _ : ℝ) : EReal) = ((A.dp (row (t.val / 4) p) (col (t.val % 4) q) : ℝ) : EReal)
  refine congrArg Real.toEReal (congrArg₂ A.dp ?_ ?_)
  · apply Fin.ext
    show win0_0.index t 0 * 1024 + 1 * p.val = (1024 * (t.val / 4) + p.val) % 2048
    rw [(hi t).1]
    omega
  · apply Fin.ext
    show win0_0.index t 1 * 2176 + 1 * q.val = (2176 * (t.val % 4) + q.val) % 8704
    rw [(hi t).2]
    omega

theorem iblk1 (t : Fin cfg0.N) : (iblk m c 1 t : FVec Ideal S1024x2176 .bf16) = x1 (wb A (t.val % 4)) := by
  have hi : ∀ t : Fin grid0.N, win0_1.index t 0 = 0 ∧ win0_1.index t 1 = t.val % 4 := by decide +kernel
  have ht : t.val < 8 := t.isLt.trans_eq N_0
  refine eq_up2 fun p q => ?_
  have hp := p.isLt
  have hq := q.isLt
  unfold iblk
  rw [View.read_apply]
  show V m c main_v15 _ = _
  refine (congrFun (h_weight H) _).trans ?_
  show ((A.w _ _ : ℝ) : EReal) = ((A.w (p) (col (t.val % 4) q) : ℝ) : EReal)
  refine congrArg Real.toEReal (congrArg₂ A.w ?_ ?_)
  · apply Fin.ext
    show win0_1.index t 0 * 1024 + 1 * p.val = p.val
    rw [(hi t).1]
    omega
  · apply Fin.ext
    show win0_1.index t 1 * 2176 + 1 * q.val = (2176 * (t.val % 4) + q.val) % 8704
    rw [(hi t).2]
    omega

theorem iblk2 (t : Fin cfg0.N) : (iblk m c 2 t : FVec Ideal S1024x1024 .f32) = x2 fun p q => A.dr (row (t.val / 4) p) q := by
  have hi : ∀ t : Fin grid0.N, win0_2.index t 0 = t.val / 4 ∧ win0_2.index t 1 = 0 := by decide +kernel
  have ht : t.val < 8 := t.isLt.trans_eq N_0
  refine eq_up2 fun p q => ?_
  have hp := p.isLt
  have hq := q.isLt
  unfold iblk
  rw [View.read_apply]
  show V m c main_arg4 _ = _
  refine (congrFun ((V_main_arg4 m c).trans H.dr) _).trans ?_
  show ((A.dr _ _ : ℝ) : EReal) = ((A.dr (row (t.val / 4) p) (q) : ℝ) : EReal)
  refine congrArg Real.toEReal (congrArg₂ A.dr ?_ ?_)
  · apply Fin.ext
    show win0_2.index t 0 * 1024 + 1 * p.val = (1024 * (t.val / 4) + p.val) % 2048
    rw [(hi t).1]
    omega
  · apply Fin.ext
    show win0_2.index t 1 * 1024 + 1 * q.val = q.val
    rw [(hi t).2]
    omega

theorem iblk3 (t : Fin cfg0.N) : (iblk m c 3 t : FVec Ideal S1024x1024 .f32) = x2 fun p => xh (A.r (row (t.val / 4) p)) := by
  have hi : ∀ t : Fin grid0.N, win0_3.index t 0 = t.val / 4 ∧ win0_3.index t 1 = 0 := by decide +kernel
  have ht : t.val < 8 := t.isLt.trans_eq N_0
  refine eq_up2 fun p q => ?_
  have hp := p.isLt
  have hq := q.isLt
  unfold iblk
  rw [View.read_apply]
  show V m c main_v19 _ = _
  refine (congrFun (h_normed H) _).trans ?_
  show (((fun i k => xh (A.r i) k) _ _ : ℝ) : EReal) = (((fun i k => xh (A.r i) k) (row (t.val / 4) p) (q) : ℝ) : EReal)
  refine congrArg Real.toEReal (congrArg₂ (fun i k => xh (A.r i) k) ?_ ?_)
  · apply Fin.ext
    show win0_3.index t 0 * 1024 + 1 * p.val = (1024 * (t.val / 4) + p.val) % 2048
    rw [(hi t).1]
    omega
  · apply Fin.ext
    show win0_3.index t 1 * 1024 + 1 * q.val = q.val
    rw [(hi t).2]
    omega

theorem iblk4 (t : Fin cfg0.N) : (iblk m c 4 t : FVec Ideal S1024x1 .f32) = x4 fun p => rstd (A.r (row (t.val / 4) p)) := by
  have hi : ∀ t : Fin grid0.N, win0_4.index t 0 = t.val / 4 ∧ win0_4.index t 1 = 0 := by decide +kernel
  have ht : t.val < 8 := t.isLt.trans_eq N_0
  refine eq_up2 fun p q => ?_
  have hp := p.isLt
  unfold iblk
  rw [View.read_apply]
  show V m c main_v13 _ = _
  refine (congrFun (h_scale H) _).trans ?_
  show ((rstd (A.r _) : ℝ) : EReal) = ((rstd (A.r (row (t.val / 4) p)) : ℝ) : EReal)
  refine congrArg Real.toEReal (congrArg (fun i => rstd (A.r i)) (Fin.ext ?_))
  show win0_4.index t 0 * 1024 + 1 * p.val = (1024 * (t.val / 4) + p.val) % 2048
  rw [(hi t).1]
  omega

theorem iblk5 (t : Fin cfg0.N) : (iblk m c 5 t : FVec Ideal S1x1024 .f32) = one A.g := by
  have hi : ∀ t : Fin grid0.N, win0_5.index t 0 = 0 ∧ win0_5.index t 1 = 0 := by decide +kernel
  refine Eq.trans ?_ ((V_main_arg1 m c).trans H.g)
  funext j
  unfold iblk
  rw [View.read_apply]
  show V m c main_arg1 _ = V m c main_arg1 j
  congr 1
  funext a
  apply Fin.ext
  match a with
  | ⟨0, _⟩ => show win0_5.index t 0 * 1 + 1 * (j 0).val = (j 0).val; rw [(hi t).1]; omega
  | ⟨1, _⟩ => show win0_5.index t 1 * 1024 + 1 * (j 1).val = (j 1).val; rw [(hi t).2]; omega

/-! ## The points -/

theorem acc_first (t : Fin cfg0.N) (h : t.val % 4 = 0) : (outsAt0 m c t.val t.isLt).2.2.2 = x2 (part A (t.val / 4) 0) := by
  rw [outsAt0_A m c t h (by omega) (by omega) (by omega), iblk0 H, iblk1 H, iblk2 H, iblk3 H, iblk4 H, iblk5 H]
  dsimp only
  rw [Body.acc_A, h]
  rfl
theorem acc_next (t : Fin cfg0.N) (k : ℕ) (h : t.val % 4 = k + 1) (hk : k < 2)
    (ih : (outsAt0 m c (t.val - 1) (Nat.lt_of_le_of_lt (Nat.sub_le _ _) t.isLt)).2.2.2 = x2 (part A (t.val / 4) k)) :
    (outsAt0 m c t.val t.isLt).2.2.2 = x2 (part A (t.val / 4) (k + 1)) := by
  rw [outsAt0_B m c t (by omega) (by omega) (by omega) (by omega), iblk0 H, iblk1 H, iblk2 H, iblk3 H, iblk4 H, iblk5 H, ih]
  dsimp only
  rw [Body.acc_B, h]
  rfl
theorem acc_two (n : ℕ) (hn : n < cfg0.N) (h : n % 4 = 2) : (outsAt0 m c n hn).2.2.2 = x2 (part A (n / 4) 2) := by
  have h2 : (n - 1) / 4 = n / 4 := by omega
  have h3 : (n - 1 - 1) / 4 = n / 4 := by omega
  have e0 := acc_first H ⟨n - 1 - 1, by omega⟩ (by dsimp only; omega)
  have e1 := acc_next H ⟨n - 1, by omega⟩ 0 (by dsimp only; omega) (by omega) (by rw [h2, ← h3]; exact e0)
  exact acc_next H ⟨n, hn⟩ 1 h (by omega) (by rw [← h2]; exact e1)

omit H in
/-- The carried sums pass the points that do not store them. -/
theorem carry (n : ℕ) (hn : n + 1 < cfg0.N) (h : (n + 1) % 4 ≠ 3) :
    (outsAt0 m c (n + 1) hn).2.1 = (outsAt0 m c n (Nat.lt_of_succ_lt hn)).2.1 ∧ (outsAt0 m c (n + 1) hn).2.2.1 = (outsAt0 m c n (Nat.lt_of_succ_lt hn)).2.2.1 := by
  by_cases h0 : (n + 1) % 4 = 0
  · rw [outsAt0_A m c ⟨n + 1, hn⟩ h0 (by dsimp only; omega) (by dsimp only; omega) (by dsimp only; omega)]
    exact ⟨rfl, rfl⟩
  · rw [outsAt0_B m c ⟨n + 1, hn⟩ h0 (by dsimp only; omega) (by dsimp only; omega) (by dsimp only; omega)]
    exact ⟨rfl, rfl⟩

/-- The last column block of the first half, -/
theorem last_C (t : Fin cfg0.N) (a : ℕ) (ha : t.val / 4 = a) (h : t.val % 8 = 3) : outsAt0 m c t.val t.isLt
    = (x2 fun r k => din A (row a r) k, one fun k => sweep 0 fun r => dh A (row a r) k * xh (A.r (row a r)) k,
      one fun k => sweep 0 fun r => dh A (row a r) k, x2 (part A a 3)) := by
  subst ha
  have h3 : t.val % 4 = 3 := by omega
  have hd : (t.val - 1) / 4 = t.val / 4 := by omega
  have ih := acc_two H (t.val - 1) (Nat.lt_of_le_of_lt (Nat.sub_le _ _) t.isLt) (by omega)
  rw [hd] at ih
  rw [outsAt0_C m c t (by omega) (by omega) h h3, iblk0 H, iblk1 H, iblk2 H, iblk3 H, iblk4 H, iblk5 H, ih,
    Body.in_C, Body.gain_C, Body.off_C, Body.acc_C, h3]
  simp only [top_eq]
  rfl
/-- and of the second. -/
theorem last_D (t : Fin cfg0.N) (a : ℕ) (ha : t.val / 4 = a) (h : t.val % 8 = 7) (o7 o8 : Fin 1024 → ℝ)
    (h7 : (outsAt0 m c (t.val - 1) (Nat.lt_of_le_of_lt (Nat.sub_le _ _) t.isLt)).2.1 = one o7)
    (h8 : (outsAt0 m c (t.val - 1) (Nat.lt_of_le_of_lt (Nat.sub_le _ _) t.isLt)).2.2.1 = one o8) : outsAt0 m c t.val t.isLt
    = (x2 fun r k => din A (row a r) k, one fun k => sweep (o7 k) fun r => dh A (row a r) k * xh (A.r (row a r)) k,
      one fun k => sweep (o8 k) fun r => dh A (row a r) k, x2 (part A a 3)) := by
  subst ha
  have h3 : t.val % 4 = 3 := by omega
  have hd : (t.val - 1) / 4 = t.val / 4 := by omega
  have ih := acc_two H (t.val - 1) (Nat.lt_of_le_of_lt (Nat.sub_le _ _) t.isLt) (by omega)
  rw [hd] at ih
  rw [outsAt0_D m c t (by omega) (by omega) (by omega) h3, iblk0 H, iblk1 H, iblk2 H, iblk3 H, iblk4 H, iblk5 H, ih, h7, h8,
    Body.in_D, Body.gain_D, Body.off_D, Body.acc_D, h3]
  simp only [top_eq]
  rfl

theorem at_three (h : 3 < cfg0.N) : outsAt0 m c 3 h
    = (x2 fun r k => din A (row 0 r) k, one fun k => sweep 0 fun r => dh A (row 0 r) k * xh (A.r (row 0 r)) k,
      one fun k => sweep 0 fun r => dh A (row 0 r) k, x2 (part A 0 3)) := last_C H ⟨3, h⟩ 0 (show 3 / 4 = 0 from rfl) rfl
theorem at_seven (h : 7 < cfg0.N) : outsAt0 m c 7 h
    = (x2 fun r k => din A (row 1 r) k, one (dgain A), one (doff A), x2 (part A 1 3)) := by
  have h3 := at_three H (by omega)
  have c4 := carry (m := m) (c := c) 3 (by omega) (by decide)
  have c5 := carry (m := m) (c := c) 4 (by omega) (by decide)
  have c6 := carry (m := m) (c := c) 5 (by omega) (by decide)
  have e := last_D H ⟨7, h⟩ 1 (show 7 / 4 = 1 from rfl) rfl (fun k => sweep 0 fun r => dh A (row 0 r) k * xh (A.r (row 0 r)) k) (fun k => sweep 0 fun r => dh A (row 0 r) k)
    ((c6.1.trans (c5.1.trans c4.1)).trans (by rw [h3])) ((c6.2.trans (c5.2.trans c4.2)).trans (by rw [h3]))
  have eg : (fun k => sweep (sweep 0 fun r => dh A (row 0 r) k * xh (A.r (row 0 r)) k) fun r => dh A (row 1 r) k * xh (A.r (row 1 r)) k) = dgain A :=
    funext fun k => (sum_rows fun i => dh A i k * xh (A.r i) k).symm
  have eo : (fun k => sweep (sweep 0 fun r => dh A (row 0 r) k) fun r => dh A (row 1 r) k) = doff A :=
    funext fun k => (sum_rows fun i => dh A i k).symm
  rw [← eg, ← eo]
  exact e

/-! ## The arrays -/

theorem at_last (n : ℕ) (hn : n < cfg0.N) (h : n % 4 = 3) : (outsAt0 m c n hn).1 = x2 fun r k => din A (row (n / 4) r) k := by
  have hN : cfg0.N = 8 := N_0
  rcases (show n = 3 ∨ n = 7 by omega) with rfl | rfl
  · rw [at_three H hn]
  · rw [at_seven H hn]

theorem final6 : (dats m 0 c).arrAt 6 cfg0.N = ((up2 .f32 (din A) : S2048x1024.Idx → Ideal .f32) : Buf (Elt Ideal) ((c : Thread nD τ).loc main_v20_0)) := by
  rw [Cert.NormKernelIdeal.Value.final6]
  funext i
  have hN : cfg0.N = 8 := N_0
  have h0 : (i 0).val < 2048 := (i 0).isLt
  have h1 : (i 1).val < 1024 := (i 1).isLt
  have hr : Cert.NormKernelIdeal.Value.run6Of i = (i 0).val / 1024 := by
    show 1 * ((i 0).val / 1024 - 0) + 1 * ((i 1).val / 1024 - 0) = _
    omega
  have hp : Cert.NormKernelIdeal.Value.pt6Of i < cfg0.N := by
    show 4 * Cert.NormKernelIdeal.Value.run6Of i + 3 < _
    omega
  unfold Cert.NormKernelIdeal.Value.G6
  rw [dif_pos hp, ← Cert.NormKernelIdeal.Value.outsAt0_sweep m c _ hp, at_last H _ hp (by show (4 * Cert.NormKernelIdeal.Value.run6Of i + 3) % 4 = 3; omega)]
  show ((din A _ _ : ℝ) : EReal) = ((din A (i 0) (i 1) : ℝ) : EReal)
  refine congrArg Real.toEReal (congrArg₂ (din A) (Fin.ext ?_) (Fin.ext ?_))
  · show (1024 * ((4 * Cert.NormKernelIdeal.Value.run6Of i + 3) / 4) + (i 0).val % 1024) % 2048 = (i 0).val
    omega
  · show (i 1).val % 1024 = (i 1).val
    omega
theorem final7 : (dats m 0 c).arrAt 7 cfg0.N = (one (dgain A) : Buf (Elt Ideal) ((c : Thread nD τ).loc main_v20_1)) := by
  have h : 7 < cfg0.N := lt_of_lt_of_eq (by decide) N_0.symm
  rw [Cert.NormKernelIdeal.Value.final7, Cert.NormKernelIdeal.Value.G7_last, ← Cert.NormKernelIdeal.Value.outsAt0_sweep m c 7 h, at_seven H h]
theorem final8 : (dats m 0 c).arrAt 8 cfg0.N = (one (doff A) : Buf (Elt Ideal) ((c : Thread nD τ).loc main_v20_2)) := by
  have h : 7 < cfg0.N := lt_of_lt_of_eq (by decide) N_0.symm
  rw [Cert.NormKernelIdeal.Value.final8, Cert.NormKernelIdeal.Value.G8_last, ← Cert.NormKernelIdeal.Value.outsAt0_sweep m c 7 h, at_seven H h]

end Cert.Proof.Norm.Fold

end
-- ==== Proof.NormFinite.lean ====
/- The norm call's precondition read back: every element of the arguments is a real number. -/
module

public import proofs.«01_k».proof.Proof.Finite
public import proofs.«01_k».proof.Proof.NormFold
public import proofs.«01_k».proof.Proof.Gen.Pre_norm_finite

@[expose] public section

noncomputable section

namespace Cert.Proof.Norm

open Idealize.ShloMosaic Idealize.ShloMosaic.TcCoe Cert.NormKernelIdeal
open Cert.Proof.Finite (real_of_all two one)

theorem all_real (x0 : FVec Ideal S2048x1024 .f32) (x1 x2 : FVec Ideal S1x1024 .f32) (x3 : FVec Ideal S1024x8704 .f32) (x4 : FVec Ideal S2048x1024 .f32)
    (x5 : FVec Ideal S2048x8704 .f32) (j) (h : Cert.Pre_norm_finite.fn (F := Ideal) x0 x1 x2 x3 x4 x5 j = 1#1) :
    (∀ i, x0 i = (((x0 i).toReal : ℝ) : EReal)) ∧ (∀ i, x1 i = (((x1 i).toReal : ℝ) : EReal)) ∧ (∀ i, x2 i = (((x2 i).toReal : ℝ) : EReal))
      ∧ (∀ i, x3 i = (((x3 i).toReal : ℝ) : EReal)) ∧ (∀ i, x4 i = (((x4 i).toReal : ℝ) : EReal)) ∧ ∀ i, x5 i = (((x5 i).toReal : ℝ) : EReal) := by
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all x0 _ _ _ _ j h0, real_of_all x1 _ _ _ _ j h1, real_of_all x2 _ _ _ _ j h2, real_of_all x3 _ _ _ _ j h3,
    real_of_all x4 _ _ _ _ j h4, real_of_all x5 _ _ _ _ j h5⟩

variable (m : (ℓ : Loc nD τ sig) → Buf (Elt Ideal) ℓ) (c : Dev nD)

/-- The real numbers the arguments hold. -/
def args : Args where
  r i k := ((m ((c : Thread nD τ).loc main_arg0) : FVec Ideal S2048x1024 .f32) (ix2 i k)).toReal
  g k := ((m ((c : Thread nD τ).loc main_arg1) : FVec Ideal S1x1024 .f32) (ix2 0 k)).toReal
  b k := ((m ((c : Thread nD τ).loc main_arg2) : FVec Ideal S1x1024 .f32) (ix2 0 k)).toReal
  w k q := ((m ((c : Thread nD τ).loc main_arg3) : FVec Ideal S1024x8704 .f32) (ix2 k q)).toReal
  dr i k := ((m ((c : Thread nD τ).loc main_arg4) : FVec Ideal S2048x1024 .f32) (ix2 i k)).toReal
  dp i q := ((m ((c : Thread nD τ).loc main_arg5) : FVec Ideal S2048x8704 .f32) (ix2 i q)).toReal

theorem holds (h : Cert.Pre_norm_finite.fn (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) = fun _ => 1#1) : Fold.Holds m c (args m c) := by
  obtain ⟨h0, h1, h2, h3, h4, h5⟩ := all_real _ _ _ _ _ _ _ (congrFun h (fun a => a.elim0))
  exact ⟨two _ h0, one _ h1, one _ h2, two _ h3, two _ h4, two _ h5⟩

end Cert.Proof.Norm

end
-- ==== Proof.Norm.lean ====
/- The claims about the backward pass of the norm behind the first network: the frames, and that the kernel's three results
   are the reference's. -/
module

public import proofs.«01_k».proof.Defs
public import proofs.«01_k».proof.Proof.NormFinite
public import proofs.«01_k».proof.Proof.Gen.NormKernel.Frame
public import proofs.«01_k».proof.Proof.Gen.NormReferenceIdeal.Run
public import Idealize.ShloMosaic.Adequacy

@[expose] public section

noncomputable section

namespace Cert.Proof.Norm

open Idealize.ShloMosaic Idealize.ShloMosaic.TcCoe Idealize.SL.Sem

theorem frame_p : Cert.quiescent_NormKernel := fun m ρ _ => Cert.NormKernel.Gen.frame m ρ
theorem frame_pi : Cert.quiescent_NormKernelIdeal := fun m ρ _ => Cert.NormKernelIdeal.Gen.frame m ρ
theorem frame_pi_finite : Cert.quiescent_NormKernelIdeal_pre_norm_finite := fun m ρ _ => Cert.NormKernelIdeal.Gen.frame m ρ
theorem frame_ri : Cert.quiescent_NormReferenceIdeal := fun m ρ _ =>
  (θ_run Cert.NormReferenceIdeal.defs _ _).mono (fun r h => ⟨fun c => (h c).2.2.2,
      Idealize.ShloMosaic.sem_eq_zero_of_no_sems (by decide) r.2⟩)
    (Cert.NormReferenceIdeal.Value.run (F := Ideal) m ρ)
theorem frame_ri_finite : Cert.quiescent_NormReferenceIdeal_pre_norm_finite := fun m ρ _ => frame_ri m ρ trivial

theorem algebraic : Cert.algebraic_NormKernelIdeal_NormReferenceIdeal_pre_norm_finite := by
  intro m ρ m' ρ' hpre hagree
  have H := fun c => holds m c (hpre c)
  refine ⟨_, _, _, Cert.NormKernelIdeal.Value.run_blocks (F := Ideal) m ρ, ?_⟩
  refine (θ_run Cert.NormReferenceIdeal.defs _ _).mono (fun _ h c => ?_) (Cert.NormReferenceIdeal.Value.run (F := Ideal) m' ρ')
  obtain ⟨h0, h1, h2, hk⟩ := h c
  obtain ⟨a0, a1, _, a3, a4, a5⟩ := hagree c
  have e0 := a0.trans (H c).r
  have e1 := a1.trans (H c).g
  have e3 := a3.trans (H c).w
  have e4 := a4.trans (H c).dr
  have e5 := a5.trans (H c).dp
  refine ⟨h0.trans ?_, h1.trans ?_, h2.trans ?_, hk⟩
  · rw [Fold.final6 (H c), Cert.NormReferenceIdeal.Read.val_main_v66_eq, e0, e1, e3, e4, e5]
    exact res_in (args m c)
  · rw [Fold.final7 (H c), Cert.NormReferenceIdeal.Read.val_main_v40_eq, e0, e3, e4, e5]
    exact res_gain (args m c)
  · rw [Fold.final8 (H c), Cert.NormReferenceIdeal.Read.val_main_v37_eq, e3, e4, e5]
    exact res_off (args m c)

end Cert.Proof.Norm

end
-- ==== Proof.FwdSpec.lean ====
/- The first line of a layer on extended real numbers: the feed-forward network with its residual branch and its norm, the norm's
   intermediate values, and the column blocks of the network's sums. -/
module

public import proofs.«01_k».proof.Proof.NormSpec
public import proofs.«01_k».proof.Proof.Consts

@[expose] public section

noncomputable section

namespace Cert.Proof.Fwd

open Idealize.ShloMosaic
open Cert.Proof.Swi (hid)
open Cert.Proof.Norm (row)

/-- Arrays of extended real numbers, read as arrays of floats of any format. -/
def ev2 (φ : FTy) {a b : ℕ} (f : Fin a → Fin b → EReal) : FVec Ideal ⟨2, ![a, b]⟩ φ := fun i => f (i 0) (i 1)
def ev3 (φ : FTy) {a b c : ℕ} (f : Fin a → Fin b → Fin c → EReal) : FVec Ideal ⟨3, ![a, b, c]⟩ φ := fun i => f (i 0) (i 1) (i 2)

theorem ev2_apply {φ : FTy} {a b : ℕ} (f : Fin a → Fin b → EReal) (i : Fin a) (j : Fin b) : ev2 φ f (ix2 i j) = f i j := rfl
theorem ev3_apply {φ : FTy} {a b c : ℕ} (f : Fin a → Fin b → Fin c → EReal) (i : Fin a) (j : Fin b) (k : Fin c) :
    ev3 φ f (ix3 i j k) = f i j k := rfl
theorem eq_ev2 {φ : FTy} {a b : ℕ} {x : FVec Ideal ⟨2, ![a, b]⟩ φ} {f : Fin a → Fin b → EReal} (h : ∀ i j, x (ix2 i j) = f i j) :
    x = ev2 φ f := funext fun i => (congrArg x (eq_ix2 i)).trans (h _ _)
theorem eq_ev3 {φ : FTy} {a b c : ℕ} {x : FVec Ideal ⟨3, ![a, b, c]⟩ φ} {f : Fin a → Fin b → Fin c → EReal}
    (h : ∀ i j k, x (ix3 i j k) = f i j k) : x = ev3 φ f := funext fun i => (congrArg x (eq_ix3 i)).trans (h _ _ _)

/-- The constants, as the programs write them. -/
def two4 : EReal := Ideal.ofBits .f32 0x3F9837F0#32
def half : EReal := Ideal.ofBits .f32 0x3F000000#32
def cols : EReal := Ideal.ofBits .f32 0x44800000#32
def eps : EReal := Ideal.ofBits .f32 0x3727C5AC#32

/-- The gated activation, and the sum before the norm. -/
def act (a b : EReal) : EReal := a * Ideal.logistic a * b
def mix (x t : EReal) : EReal := two4 * x + half * t

/-! ## One row -/

section
variable (f g b : Fin 1024 → EReal)
def mean : EReal := Ideal.div (∑ c, f c) cols
def cen (c : Fin 1024) : EReal := f c - mean f
def rstd : EReal := Ideal.rsqrt (mean (fun c => cen f c * cen f c) + eps)
def xh (c : Fin 1024) : EReal := cen f c * rstd f
def out (c : Fin 1024) : EReal := xh f c * g c + b c
end

/-! ## The whole arrays -/

/-- The rows, the three weights, and the norm's gain and offset. -/
structure Args where
  x : Fin 2048 → Fin 1024 → EReal
  wg : Fin 1024 → Fin 2816 → EReal
  wu : Fin 1024 → Fin 2816 → EReal
  wd : Fin 2816 → Fin 1024 → EReal
  g : Fin 1024 → EReal
  b : Fin 1024 → EReal

/-- The product of the rows with a weight. -/
def proj (x : Fin 2048 → Fin 1024 → EReal) (w : Fin 1024 → Fin 2816 → EReal) (i : Fin 2048) (k : Fin 2816) : EReal := ∑ d, x i d * w d k

section
variable (A : Args)
/-- The network, the sum before the norm, and the norm's result. -/
def net (i : Fin 2048) (c : Fin 1024) : EReal := ∑ k, act (proj A.x A.wg i k) (proj A.x A.wu i k) * A.wd k c
def pre (i : Fin 2048) (c : Fin 1024) : EReal := mix (A.x i c) (net A i c)
def res (i : Fin 2048) (c : Fin 1024) : EReal := out (pre A i) A.g A.b c
end

/-! ## Blocks -/

/-- The product of a block of rows with one shard, and the network's part that the shard gives. -/
def prod (x : Fin 1024 → Fin 1024 → EReal) (w : Fin 704 → Fin 1024 → EReal) (p : Fin 1024) (f : Fin 704) : EReal := ∑ d, x p d * w f d
def part (x : Fin 1024 → Fin 1024 → EReal) (wg wu wd : Fin 704 → Fin 1024 → EReal) (p c : Fin 1024) : EReal :=
  ∑ f, act (prod x wg p f) (prod x wu p f) * wd f c

section
variable (A : Args)
/-- Row block `a`, and shard `j` of the three weights. -/
def xb (a : ℕ) (p c : Fin 1024) : EReal := A.x (row a p) c
def gb (j : ℕ) (f : Fin 704) (d : Fin 1024) : EReal := A.wg d (hid j f)
def ub (j : ℕ) (f : Fin 704) (d : Fin 1024) : EReal := A.wu d (hid j f)
def db (j : ℕ) (f : Fin 704) (c : Fin 1024) : EReal := A.wd (hid j f) c

/-- The network's sum over the first `j + 1` shards. -/
def upTo (a : ℕ) : ℕ → Fin 1024 → Fin 1024 → EReal
  | 0 => part (xb A a) (gb A 0) (ub A 0) (db A 0)
  | j + 1 => fun p c => upTo a j p c + part (xb A a) (gb A (j + 1)) (ub A (j + 1)) (db A (j + 1)) p c

/-- A sum over the hidden units, shard by shard. -/
theorem sum_hid (g : Fin 2816 → EReal) : ∑ k, g k = ∑ j ∈ Finset.range 4, ∑ f : Fin 704, g (hid j f) := by
  rw [Finset.sum_range fun j => ∑ f : Fin 704, g (hid j f), ← Fintype.sum_prod_type']
  let e : Fin 2816 ≃ Fin 4 × Fin 704 :=
    { toFun := fun k => (⟨k.val / 704, by omega⟩, ⟨k.val % 704, Nat.mod_lt _ (by decide)⟩)
      invFun := fun q => hid q.1.val q.2
      left_inv := fun k => Fin.ext (by simp only [hid]; omega)
      right_inv := fun q => Prod.ext (Fin.ext (by simp only [hid]; omega)) (Fin.ext (by simp only [hid]; omega)) }
  exact Fintype.sum_equiv e _ _ fun k => congrArg g (e.left_inv k).symm

theorem upTo_three (a : ℕ) (p c : Fin 1024) : upTo A a 3 p c = net A (row a p) c := by
  unfold net
  rw [sum_hid]
  simp only [Finset.sum_range_succ, Finset.sum_range_zero, zero_add]
  rfl
end

end Cert.Proof.Fwd

end
-- ==== Proof.FwdRef.lean ====
/- The reference's first line of a layer, read at an index as an extended real number. -/
module

public import proofs.«01_k».proof.Proof.FwdSpec
public import proofs.«01_k».proof.Proof.RefSum
public import proofs.«01_k».proof.Proof.Gen.FwdReferenceIdeal.Read

@[expose] public section

set_option maxRecDepth 16384

noncomputable section

namespace Cert.Proof.Fwd

open Idealize.ShloMosaic Idealize.ShloMosaic.TcCoe Cert.FwdReferenceIdeal Cert.FwdReferenceIdeal.Gen Cert.FwdReferenceIdeal.Read
open Cert.Proof.Ref (o_bits)
open Cert.Proof.Swi (hid hid_val)

/-- The arguments' contents. -/
abbrev ax (A : Args) : (⟨S2048x1024, .f32⟩ : BufTy).Contents (Elt Ideal) := (ev2 .f32 A.x : S2048x1024.Idx → Ideal .f32)
abbrev awg (A : Args) : (⟨S1024x2816, .f32⟩ : BufTy).Contents (Elt Ideal) := (ev2 .f32 A.wg : S1024x2816.Idx → Ideal .f32)
abbrev awu (A : Args) : (⟨S1024x2816, .f32⟩ : BufTy).Contents (Elt Ideal) := (ev2 .f32 A.wu : S1024x2816.Idx → Ideal .f32)
abbrev awd (A : Args) : (⟨S2816x1024, .f32⟩ : BufTy).Contents (Elt Ideal) := (ev2 .f32 A.wd : S2816x1024.Idx → Ideal .f32)
abbrev ag (A : Args) : (⟨S1x1024, .f32⟩ : BufTy).Contents (Elt Ideal) := (ev2 .f32 fun (_ : Fin 1) c => A.g c : S1x1024.Idx → Ideal .f32)
abbrev ab (A : Args) : (⟨S1x1024, .f32⟩ : BufTy).Contents (Elt Ideal) := (ev2 .f32 fun (_ : Fin 1) c => A.b c : S1x1024.Idx → Ideal .f32)

variable (A : Args)

theorem c_nil : Ideal.ofBits .f32 0x00000000#32 = 0 := c_zero.trans EReal.coe_zero
theorem c_unit : Ideal.ofBits .f32 0x3F800000#32 = 1 := c_one.trans EReal.coe_one

theorem r0 (i) : val_main_v0 (F := Ideal) (ax A) (awg A) i = proj A.x A.wg (i 0) (i 1) := by
  rw [val_main_v0_apply]
  rfl
theorem r1 (i) : val_main_v1 (F := Ideal) (ax A) (awu A) i = proj A.x A.wu (i 0) (i 1) := by
  rw [val_main_v1_apply]
  rfl
theorem r5 (i) : val_main_v5 (F := Ideal) (ax A) (awg A) (awu A) i = act (proj A.x A.wg (i 0) (i 1)) (proj A.x A.wu (i 0) (i 1)) := by
  rw [val_main_v5_apply, val_main_v4_apply, val_main_call0_v5_apply, val_main_call0_v4_apply, val_main_call0_cst_0_apply, val_main_call0_v3_apply,
    val_main_call0_v2_apply, val_main_call0_cst_apply, val_main_call0_v1_apply, val_main_call0_v0_apply, r0, r1, o_bits, c_unit]
  rfl
theorem r6 (i) : val_main_v6 (F := Ideal) (ax A) (awg A) (awu A) (awd A) i = net A (i 0) (i 1) := by
  rw [val_main_v6_apply]
  simp only [r5]
  rfl
theorem r9 (i) : val_main_v9 (F := Ideal) (ax A) (awg A) (awu A) (awd A) i = pre A (i 0) (i 1) := by
  rw [val_main_v9_apply, val_main_v3_apply, val_main_v2_apply, val_main_cst_apply, val_main_v8_apply, val_main_v7_apply, val_main_cst_0_apply, r6]
  rfl
theorem r10 (i) : val_main_v10 (F := Ideal) (ax A) (awg A) (awu A) (awd A) i = ∑ c, pre A (i 0) c := by
  rw [val_main_v10_apply, val_main_cst_1_apply, o_bits, c_nil, zero_add]
  simp only [r9]
  rfl
theorem r13 (i) : val_main_v13 (F := Ideal) (ax A) (awg A) (awu A) (awd A) i = mean (pre A (i 0)) := by
  rw [val_main_v13_apply, val_main_v11_apply, r10, val_main_v12_apply, val_main_cst_2_apply]
  rfl
theorem r15 (i) : val_main_v15 (F := Ideal) (ax A) (awg A) (awu A) (awd A) i = cen (pre A (i 0)) (i 1) := by
  rw [val_main_v15_apply, r9, val_main_v14_apply, r13]
  rfl
theorem r17 (i) : val_main_v17 (F := Ideal) (ax A) (awg A) (awu A) (awd A) i = ∑ c, cen (pre A (i 0)) c * cen (pre A (i 0)) c := by
  rw [val_main_v17_apply, val_main_cst_3_apply, o_bits, c_nil, zero_add]
  simp only [val_main_v16_apply, r15]
  rfl
theorem r23 (i) : val_main_v23 (F := Ideal) (ax A) (awg A) (awu A) (awd A) i = rstd (pre A (i 0)) := by
  rw [val_main_v23_apply, val_main_v22_apply, val_main_v20_apply, val_main_v18_apply, r17, val_main_v19_apply, val_main_cst_4_apply,
    val_main_v21_apply, val_main_cst_5_apply]
  rfl
theorem r27 (i) : val_main_v27 (F := Ideal) (ax A) (awg A) (awu A) (awd A) i = xh (pre A (i 0)) (i 1) := by
  rw [val_main_v27_apply, val_main_v25_apply, r9, val_main_v24_apply, r13, val_main_v26_apply, r23]
  rfl
theorem r31 (i) : val_main_v31 (F := Ideal) (ax A) (awg A) (awu A) (awd A) (ag A) (ab A) i = res A (i 0) (i 1) := by
  rw [val_main_v31_apply, val_main_v29_apply, r27, val_main_v28_apply, val_main_v30_apply]
  rfl

theorem h_cols (f : Fin 2048 → Fin 2816 → EReal) :
    truncf (F := Ideal) .bf16 (transpose S4x2048x704 [1, 0, 2] (shapeCast S2048x4x704 (ev2 .f32 f : FVec Ideal S2048x2816 .f32) shapeCasts_S2048x2816_S2048x4x704) transposes_S2048x4x704_S4x2048x704_1_0_2) bitsLt_bf16_f32
      = ev3 .bf16 fun (j : Fin 4) r k => f r (hid j.val k) := by
  refine eq_ev3 fun j r k => ?_
  pointwise
  exact congrArg (fun g => f r g) (Fin.ext (by rw [hid_val j.isLt]; show j.val * 704 + k.val = _; omega))

/-! The reference's six results. -/

theorem res_h : val_main_v32 (F := Ideal) (ax A) (awg A) (awu A) (awd A) (ag A) (ab A) = (ev2 .bf16 (res A) : S2048x1024.Idx → Ideal .bf16) := by
  funext i
  rw [val_main_v32_apply, r31]
  rfl
theorem res_xh : val_main_v27 (F := Ideal) (ax A) (awg A) (awu A) (awd A) = (ev2 .f32 (fun r => xh (pre A r)) : S2048x1024.Idx → Ideal .f32) :=
  funext (r27 A)
theorem res_rs : val_main_v23 (F := Ideal) (ax A) (awg A) (awu A) (awd A) = (ev2 .f32 (fun r (_ : Fin 1) => rstd (pre A r)) : S2048x1.Idx → Ideal .f32) :=
  funext (r23 A)
theorem res_gate : val_main_v35 (F := Ideal) (ax A) (awg A)
    = (ev3 .bf16 (fun (j : Fin 4) r k => proj A.x A.wg r (hid j.val k)) : S4x2048x704.Idx → Ideal .bf16) := by
  have e : val_main_v0 (F := Ideal) (ax A) (awg A) = (ev2 .f32 (proj A.x A.wg) : FVec Ideal S2048x2816 .f32) := funext (r0 A)
  unfold val_main_v35 val_main_v34 val_main_v33
  rw [e]
  exact h_cols _
theorem res_up : val_main_v38 (F := Ideal) (ax A) (awu A)
    = (ev3 .bf16 (fun (j : Fin 4) r k => proj A.x A.wu r (hid j.val k)) : S4x2048x704.Idx → Ideal .bf16) := by
  have e : val_main_v1 (F := Ideal) (ax A) (awu A) = (ev2 .f32 (proj A.x A.wu) : FVec Ideal S2048x2816 .f32) := funext (r1 A)
  unfold val_main_v38 val_main_v37 val_main_v36
  rw [e]
  exact h_cols _
theorem res_tr : val_main_v40 (F := Ideal) (ax A) (awg A) (awu A) (awd A) (ag A) (ab A) = (ev2 .bf16 (fun c r => res A r c) : S1024x2048.Idx → Ideal .bf16) := by
  funext i
  rw [val_main_v40_apply, val_main_v39_apply, r31]
  rfl

end Cert.Proof.Fwd

end
-- ==== Proof.FwdBlock.lean ====
/- The payloads of the forward kernel on one block of extended real numbers. -/
module

public import proofs.«01_k».proof.Proof.FwdSpec
public import proofs.«01_k».proof.Proof.Gen.FwdKernelIdeal.Skeleton

@[expose] public section

set_option maxRecDepth 8192

noncomputable section

namespace Cert.Proof.Fwd.Pay

open Idealize.ShloMosaic Cert.FwdKernelIdeal Cert.FwdKernelIdeal.Gen

/-- One row of 1024 numbers, a column of 256 numbers, a chunk of 256 rows, and one shard of a weight. -/
abbrev one (f : Fin 1024 → EReal) : FVec Ideal S1x1024 .f32 := ev2 .f32 fun (_ : Fin 1) c => f c
abbrev col (f : Fin 256 → EReal) : FVec Ideal S256x1 .f32 := ev2 .f32 fun p (_ : Fin 1) => f p
abbrev blk (f : Fin 256 → Fin 1024 → EReal) : FVec Ideal S256x1024 .f32 := ev2 .f32 f
abbrev shd (w : Fin 704 → Fin 1024 → EReal) : FVec Ideal S1x704x1024 .bf16 := ev3 .bf16 fun (_ : Fin 1) f d => w f d

section
variable (x : Fin 1024 → Fin 1024 → EReal) (w v z : Fin 704 → Fin 1024 → EReal)

theorem pay26 : k0_pay26 (F := Ideal) (ev2 .f32 x) (shd w) = ev2 .f32 (prod x w) := by
  refine eq_ev2 fun p f => ?_
  pointwise [k0_pay26, k0_pay25]
  simp only [ev2_apply, ev3_apply]
  rfl
theorem pay27 : k0_pay27 (F := Ideal) (ev2 .f32 x) (shd w) = ev2 .f32 (prod x w) := pay26 x w
theorem pay28 : k0_pay28 (F := Ideal) (ev2 .f32 x) (shd w) = ev3 .bf16 fun (_ : Fin 1) p f => prod x w p f := by
  refine eq_ev3 fun q p f => ?_
  simp only [k0_pay28, pay26]
  pointwise
  rfl
theorem pay29 : k0_pay29 (F := Ideal) (ev2 .f32 x) (shd w) = ev3 .bf16 fun (_ : Fin 1) p f => prod x w p f := pay28 x w
theorem pay30 : k0_pay30 (F := Ideal) (ev2 .f32 x) (shd w) (shd v) (shd z) = ev2 .f32 (part x w v z) := by
  refine eq_ev2 fun p c => ?_
  simp only [k0_pay30, pay26, pay27]
  pointwise
  simp only [ev2_apply, ev3_apply]
  rfl
theorem pay31 : k0_pay31 (F := Ideal) (ev2 .f32 x) (shd w) (shd v) (shd z) = ev2 .f32 (part x w v z) :=
  (shapeCast_self _ _).trans (pay30 x w v z)
theorem pay32 (u : Fin 1024 → Fin 1024 → EReal) :
    k0_pay32 (F := Ideal) (ev2 .f32 x) (shd w) (shd v) (shd z) (ev2 .f32 u) = ev2 .f32 fun p c => u p c + part x w v z p c := by
  refine eq_ev2 fun p c => ?_
  simp only [k0_pay32, pay30]
  pointwise
  simp only [ev2_apply]
end

variable (x t : Fin 256 → Fin 1024 → EReal) (g b : Fin 1024 → EReal)

/-- A row of the chunk before its norm. -/
abbrev sm (p : Fin 256) (c : Fin 1024) : EReal := mix (x p c) (t p c)

theorem pay2 : k0_pay2 (F := Ideal) (blk x) (blk t) = blk fun p => cen (sm x t p) := by
  refine eq_ev2 fun p c => ?_
  pointwise [k0_pay2]
  simp only [ev2_apply]
  rfl
theorem pay3 : k0_pay3 (F := Ideal) (blk x) (blk t) = col fun p => rstd (sm x t p) := by
  refine eq_ev2 fun p c => ?_
  simp only [k0_pay3, pay2]
  pointwise
  simp only [ev2_apply]
  rfl
theorem pay4 : k0_pay4 (F := Ideal) (blk x) (blk t) = blk fun p => xh (sm x t p) := by
  refine eq_ev2 fun p c => ?_
  simp only [k0_pay4, pay2, pay3]
  pointwise
  simp only [ev2_apply]
  rfl
theorem pay5 : k0_pay5 (F := Ideal) (blk x) (blk t) (one g) (one b) = blk fun p => out (sm x t p) g b := by
  refine eq_ev2 fun p c => ?_
  simp only [k0_pay5, pay4]
  pointwise
  simp only [ev2_apply]
  rfl
theorem pay6 : k0_pay6 (F := Ideal) (blk x) (blk t) (one g) (one b) = ev2 .bf16 fun p => out (sm x t p) g b := by
  simp only [k0_pay6, pay5]
  rfl
theorem pay7 : k0_pay7 (F := Ideal) (blk x) (blk t) (one g) (one b) = ev2 .bf16 fun c p => out (sm x t p) g b c := by
  refine eq_ev2 fun c p => ?_
  simp only [k0_pay7, pay5]
  pointwise
  rfl
theorem pay13 : k0_pay13 (F := Ideal) (blk x) = ev2 .bf16 fun c p => x p c := by
  refine eq_ev2 fun c p => ?_
  pointwise [k0_pay13]
  rfl
theorem pay19 : k0_pay19 (F := Ideal) (blk x) = ev2 .bf16 fun c p => x p c := pay13 x
theorem pay1 : k0_pay1 (F := Ideal) (blk x) = ev2 .bf16 fun c p => x p c := pay13 x

/-! The other chunks' payloads are the first's. -/

theorem pay9 : k0_pay9 (F := Ideal) (blk x) (blk t) = col fun p => rstd (sm x t p) := pay3 x t
theorem pay10 : k0_pay10 (F := Ideal) (blk x) (blk t) = blk fun p => xh (sm x t p) := pay4 x t
theorem pay11 : k0_pay11 (F := Ideal) (blk x) (blk t) (one g) (one b) = blk fun p => out (sm x t p) g b := pay5 x t g b
theorem pay12 : k0_pay12 (F := Ideal) (blk x) (blk t) (one g) (one b) = ev2 .bf16 fun p => out (sm x t p) g b := pay6 x t g b
theorem pay15 : k0_pay15 (F := Ideal) (blk x) (blk t) = col fun p => rstd (sm x t p) := pay3 x t
theorem pay16 : k0_pay16 (F := Ideal) (blk x) (blk t) = blk fun p => xh (sm x t p) := pay4 x t
theorem pay17 : k0_pay17 (F := Ideal) (blk x) (blk t) (one g) (one b) = blk fun p => out (sm x t p) g b := pay5 x t g b
theorem pay18 : k0_pay18 (F := Ideal) (blk x) (blk t) (one g) (one b) = ev2 .bf16 fun p => out (sm x t p) g b := pay6 x t g b
theorem pay21 : k0_pay21 (F := Ideal) (blk x) (blk t) = col fun p => rstd (sm x t p) := pay3 x t
theorem pay22 : k0_pay22 (F := Ideal) (blk x) (blk t) = blk fun p => xh (sm x t p) := pay4 x t
theorem pay23 : k0_pay23 (F := Ideal) (blk x) (blk t) (one g) (one b) = blk fun p => out (sm x t p) g b := pay5 x t g b
theorem pay24 : k0_pay24 (F := Ideal) (blk x) (blk t) (one g) (one b) = ev2 .bf16 fun p => out (sm x t p) g b := pay6 x t g b

end Cert.Proof.Fwd.Pay

end
-- ==== Proof.FwdBody.lean ====
/- What the forward kernel's body leaves in the network's running sum and in each result's block at one grid point, from the
   block's numbers, in its three cases: the first shard, a middle one and the last one. -/
module

public import proofs.«01_k».proof.Proof.FwdBlock
public import proofs.«01_k».proof.Proof.Gen.FwdKernelIdeal.Frame

@[expose] public section

set_option maxRecDepth 16384

noncomputable section

namespace Cert.Proof.Fwd.Body

open Idealize.ShloMosaic Idealize.ShloMosaic.TcCoe Idealize.SL.Sem Cert.FwdKernelIdeal Cert.FwdKernelIdeal.Gen
open Cert.Proof.Fwd.Pay (one blk shd)
open Cert.Proof.Norm (off off_cases)

theorem hz2 : (![0, 0] : Fin 2 → Nat) = fun _ => 0 := funext fun a => by fin_cases a <;> rfl
theorem hz3 : (![0, 0, 0] : Fin 3 → Nat) = fun _ => 0 := funext fun a => by fin_cases a <;> rfl

/-- The blocks as the kernel finds and leaves them. -/
abbrev bk (x : Fin 1024 → Fin 1024 → EReal) : Vec Ideal S1024x1024 .f32 := ev2 .f32 x
abbrev sh (x : Fin 1024 → Fin 1024 → EReal) : Vec Ideal S1024x1024 .bf16 := ev2 .bf16 x
abbrev cl (x : Fin 1024 → EReal) : Vec Ideal S1024x1 .f32 := ev2 .f32 fun p (_ : Fin 1) => x p
abbrev hd (x : Fin 1024 → Fin 704 → EReal) : Vec Ideal S1x1024x704 .bf16 := ev3 .bf16 fun (_ : Fin 1) p k => x p k

/-- The running sum with one more shard, and a row before its norm. -/
def step (u x : Fin 1024 → Fin 1024 → EReal) (w v z : Fin 704 → Fin 1024 → EReal) (p c : Fin 1024) : EReal := u p c + part x w v z p c
def top (u x : Fin 1024 → Fin 1024 → EReal) (w v z : Fin 704 → Fin 1024 → EReal) (p c : Fin 1024) : EReal := mix (x p c) (step u x w v z p c)

/-- Rows `o` to `o + 255` of a block, loaded, -/
theorem ld_rows (f : Fin 1024 → Fin 1024 → EReal) (o : ℕ) (ho : o + 256 ≤ 1024) (inb) :
    View.ld (Val := Elt Ideal) (e' := .f32) (ev2 .f32 f : S1024x1024.Idx → Ideal .f32) (Rect.unit (s := S1024x1024) ![o, 0] ![256, 1024] inb)
      = blk fun p c => f (off o p) c := by
  refine eq_ev2 fun p c => ?_
  have hp := p.isLt
  show ev2 .f32 f _ = _
  simp only [ev2]
  congr 1 <;> apply Fin.ext <;> simp [Rect.unit, off] <;> omega
/-- and read where the whole block was stored. -/
theorem rd_rows {κ : Kind} {sp : Space} (v : View sig κ sp S1024x1024 .f32) (f : Fin 1024 → Fin 1024 → EReal) (o : ℕ) (ho : o + 256 ≤ 1024) (inbz inb) (L) :
    v.readCov (Val := Elt Ideal) (⟨Rect.unit ![0, 0] ![1024, 1024] inbz, (ev2 .f32 f : S1024x1024.Idx → Ideal .f32)⟩ :: L) (Rect.unit ![o, 0] ![256, 1024] inb).toLoadRect
      = blk fun p c => f (off o p) c := by
  rw [← ld_rows f o ho inb]
  rw [View.readCov_eq_canon', View.canon_cons_unit_zero (S := S1024x1024) hz2]

/-! What a block holds after the stores of its chunks: the last store's rows or columns, and off them the earlier stores. -/

theorem cx_hit (o : ℕ) (ho : o + 256 ≤ 1024) (inb) (f : Fin 256 → Fin 1024 → EReal) (L) (p : Fin 256) (c : Fin 1024) :
    View.canon (Val := Elt Ideal) (s := S1024x1024) (e := .f32) (⟨Rect.unit ![o, 0] ![256, 1024] inb, blk f⟩ :: L) (ix2 (off o p) c) = f p c := by
  have hp := p.isLt
  have e : (ix2 (off o p) c : S1024x1024.Idx) = (Rect.unit (s := S1024x1024) ![o, 0] ![256, 1024] inb).emb (ix2 p c) := by
    funext a
    apply Fin.ext
    match a with
    | ⟨0, _⟩ => show (o + p.val) % 1024 = o + 1 * p.val; omega
    | ⟨1, _⟩ => show c.val = 0 + 1 * c.val; omega
  rw [e, View.canon_cons_emb]
  rfl
theorem cx_miss (o o' : ℕ) (ho : o + 256 ≤ o') (inb) (w) (L) (p : Fin 256) (c : Fin 1024) :
    View.canon (Val := Elt Ideal) (s := S1024x1024) (e := .f32) (⟨Rect.unit ![o', 0] ![256, 1024] inb, w⟩ :: L) (ix2 (off o p) c) = View.canon L (ix2 (off o p) c) := by
  refine View.canon_cons_of_not_mem _ L fun hy => ?_
  have h1 := ((Rect.mem_set_unit (s := S1024x1024) (inb := inb)).mp hy) 0
  have hp := p.isLt
  have ho' : o' + 256 ≤ 1024 := inb 0
  simp [off] at h1
  omega

theorem ch_hit (o : ℕ) (ho : o + 256 ≤ 1024) (inb) (f : Fin 256 → Fin 1024 → EReal) (L) (p : Fin 256) (c : Fin 1024) :
    View.canon (Val := Elt Ideal) (s := S1024x1024) (e := .bf16) (⟨Rect.unit ![o, 0] ![256, 1024] inb, (ev2 .bf16 f : FVec Ideal S256x1024 .bf16)⟩ :: L) (ix2 (off o p) c) = f p c := by
  have hp := p.isLt
  have e : (ix2 (off o p) c : S1024x1024.Idx) = (Rect.unit (s := S1024x1024) ![o, 0] ![256, 1024] inb).emb (ix2 p c) := by
    funext a
    apply Fin.ext
    match a with
    | ⟨0, _⟩ => show (o + p.val) % 1024 = o + 1 * p.val; omega
    | ⟨1, _⟩ => show c.val = 0 + 1 * c.val; omega
  rw [e, View.canon_cons_emb]
  rfl
theorem ch_miss (o o' : ℕ) (ho : o + 256 ≤ o') (inb) (w) (L) (p : Fin 256) (c : Fin 1024) :
    View.canon (Val := Elt Ideal) (s := S1024x1024) (e := .bf16) (⟨Rect.unit ![o', 0] ![256, 1024] inb, w⟩ :: L) (ix2 (off o p) c) = View.canon L (ix2 (off o p) c) := by
  refine View.canon_cons_of_not_mem _ L fun hy => ?_
  have h1 := ((Rect.mem_set_unit (s := S1024x1024) (inb := inb)).mp hy) 0
  have hp := p.isLt
  have ho' : o' + 256 ≤ 1024 := inb 0
  simp [off] at h1
  omega

theorem cs_hit (o : ℕ) (ho : o + 256 ≤ 1024) (inb) (f : Fin 256 → EReal) (L) (p : Fin 256) (c : Fin 1) :
    View.canon (Val := Elt Ideal) (s := S1024x1) (e := .f32) (⟨Rect.unit ![o, 0] ![256, 1] inb, Pay.col f⟩ :: L) (ix2 (off o p) c) = f p := by
  have hp := p.isLt
  have e : (ix2 (off o p) c : S1024x1.Idx) = (Rect.unit (s := S1024x1) ![o, 0] ![256, 1] inb).emb (ix2 p c) := by
    funext a
    apply Fin.ext
    match a with
    | ⟨0, _⟩ => show (o + p.val) % 1024 = o + 1 * p.val; omega
    | ⟨1, _⟩ => show c.val = 0 + 1 * c.val; omega
  rw [e, View.canon_cons_emb]
  rfl
theorem cs_miss (o o' : ℕ) (ho : o + 256 ≤ o') (inb) (w) (L) (p : Fin 256) (c : Fin 1) :
    View.canon (Val := Elt Ideal) (s := S1024x1) (e := .f32) (⟨Rect.unit ![o', 0] ![256, 1] inb, w⟩ :: L) (ix2 (off o p) c) = View.canon L (ix2 (off o p) c) := by
  refine View.canon_cons_of_not_mem _ L fun hy => ?_
  have h1 := ((Rect.mem_set_unit (s := S1024x1) (inb := inb)).mp hy) 0
  have hp := p.isLt
  have ho' : o' + 256 ≤ 1024 := inb 0
  simp [off] at h1
  omega

theorem ct_hit (o : ℕ) (ho : o + 256 ≤ 1024) (inb) (f : Fin 1024 → Fin 256 → EReal) (L) (p : Fin 256) (c : Fin 1024) :
    View.canon (Val := Elt Ideal) (s := S1024x1024) (e := .bf16) (⟨Rect.unit ![0, o] ![1024, 256] inb, (ev2 .bf16 f : FVec Ideal S1024x256 .bf16)⟩ :: L) (ix2 c (off o p)) = f c p := by
  have hp := p.isLt
  have e : (ix2 c (off o p) : S1024x1024.Idx) = (Rect.unit (s := S1024x1024) ![0, o] ![1024, 256] inb).emb (ix2 c p) := by
    funext a
    apply Fin.ext
    match a with
    | ⟨0, _⟩ => show c.val = 0 + 1 * c.val; omega
    | ⟨1, _⟩ => show (o + p.val) % 1024 = o + 1 * p.val; omega
  rw [e, View.canon_cons_emb]
  rfl
theorem ct_miss (o o' : ℕ) (ho : o + 256 ≤ o') (inb) (w) (L) (p : Fin 256) (c : Fin 1024) :
    View.canon (Val := Elt Ideal) (s := S1024x1024) (e := .bf16) (⟨Rect.unit ![0, o'] ![1024, 256] inb, w⟩ :: L) (ix2 c (off o p)) = View.canon L (ix2 c (off o p)) := by
  refine View.canon_cons_of_not_mem _ L fun hy => ?_
  have h1 := ((Rect.mem_set_unit (s := S1024x1024) (inb := inb)).mp hy) 1
  have hp := p.isLt
  have ho' : o' + 256 ≤ 1024 := inb 1
  simp [off] at h1
  omega

variable (c : Dev nD) (i : grid0.Coords) (a2 : Memref sig .tc .vmem S1024x1024 .f32) (h2 : a2.IsWhole) (a3 : Memref sig .tc .vmem S1x704x1024 .bf16) (h3 : a3.IsWhole) (a4 : Memref sig .tc .vmem S1x704x1024 .bf16) (h4 : a4.IsWhole) (a5 : Memref sig .tc .vmem S1x704x1024 .bf16) (h5 : a5.IsWhole) (a6 : Memref sig .tc .vmem S1x1024 .f32) (h6 : a6.IsWhole) (a7 : Memref sig .tc .vmem S1x1024 .f32) (h7 : a7.IsWhole) (a8 : Memref sig .tc .vmem S1024x1024 .bf16) (h8 : a8.IsWhole) (a9 : Memref sig .tc .vmem S1024x1024 .f32) (h9 : a9.IsWhole) (a10 : Memref sig .tc .vmem S1024x1 .f32) (h10 : a10.IsWhole) (a11 : Memref sig .tc .vmem S1x1024x704 .bf16) (h11 : a11.IsWhole) (a12 : Memref sig .tc .vmem S1x1024x704 .bf16) (h12 : a12.IsWhole) (a13 : Memref sig .tc .vmem S1024x1024 .bf16) (h13 : a13.IsWhole) (a14 : Memref sig .tc .vmem S1024x1024 .f32) (h14 : a14.IsWhole)
  (x u : Fin 1024 → Fin 1024 → EReal) (w v z : Fin 704 → Fin 1024 → EReal) (g b : Fin 1024 → EReal)

theorem acc_A (c0 : cond0_0 i) (c1 : ¬cond0_1 i) (c2 : ¬cond0_2 i) :
    sout0_A_0 (F := Ideal) c i a2 h2 a3 h3 a4 h4 a5 h5 a6 h6 a7 h7 a8 h8 a9 h9 a10 h10 a11 h11 a12 h12 a13 h13 a14 h14 c0 c1 c2 (bk x) (shd w) (shd v) (shd z) (one g) (one b) = bk (part x w v z) := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 c0 c1 c2 (bk x) (shd w) (shd v) (shd z) (one g) (one b))]
  unfold kernelRun0_A
  dsimp only
  sl_unfold_words
  rw [View.canon_cons_unit_zero hz2]
  simp only [View.readAt_eq_ld, h2.read_unread, h3.read_unread, h4.read_unread, h5.read_unread, h6.read_unread, h7.read_unread,
    View.ld_unit_zero (S := S1x704x1024) hz3, View.ld_unit_zero (S := S1024x1024) hz2, View.ld_unit_zero (S := S1x1024) hz2]
  simp only [Pay.pay26, Pay.pay27, Pay.pay28, Pay.pay29, Pay.pay30, Pay.pay31, Pay.pay32]

theorem acc_B (c0 : ¬cond0_0 i) (c1 : cond0_1 i) (c2 : ¬cond0_2 i) :
    sout0_B_0 (F := Ideal) c i a2 h2 a3 h3 a4 h4 a5 h5 a6 h6 a7 h7 a8 h8 a9 h9 a10 h10 a11 h11 a12 h12 a13 h13 a14 h14 c0 c1 c2 (bk x) (shd w) (shd v) (shd z) (one g) (one b) (bk u) = bk (step u x w v z) := by
  unfold sout0_B_0
  rw [View.read_writes_eq_canon _ _ _ (scover0_B_0 c i a2 h2 a3 h3 a4 h4 a5 h5 a6 h6 a7 h7 a8 h8 a9 h9 a10 h10 a11 h11 a12 h12 a13 h13 a14 h14 c0 c1 c2 (bk x) (shd w) (shd v) (shd z) (one g) (one b) (bk u))]
  unfold kernelRun0_B
  dsimp only
  sl_unfold_words
  rw [View.canon_cons_unit_zero hz2]
  simp only [View.readAt_eq_ld, h2.read_unread, h3.read_unread, h4.read_unread, h5.read_unread, h6.read_unread, h7.read_unread, h14.read_unread,
    View.ld_unit_zero (S := S1x704x1024) hz3, View.ld_unit_zero (S := S1024x1024) hz2, View.ld_unit_zero (S := S1x1024) hz2]
  simp only [Pay.pay26, Pay.pay27, Pay.pay28, Pay.pay29, Pay.pay30, Pay.pay31, Pay.pay32]
  rfl

theorem gate_A (c0 : cond0_0 i) (c1 : ¬cond0_1 i) (c2 : ¬cond0_2 i) :
    out0_A_9 (F := Ideal) c i a2 h2 a3 h3 a4 h4 a5 h5 a6 h6 a7 h7 a8 h8 a9 h9 a10 h10 a11 h11 a12 h12 a13 h13 a14 h14 c0 c1 c2 (bk x) (shd w) (shd v) (shd z) (one g) (one b) = hd (prod x w) := by
  unfold out0_A_9
  rw [View.read_writes_eq_canon _ _ _ (cover0_A_9 c i a2 h2 a3 h3 a4 h4 a5 h5 a6 h6 a7 h7 a8 h8 a9 h9 a10 h10 a11 h11 a12 h12 a13 h13 a14 h14 c0 c1 c2 (bk x) (shd w) (shd v) (shd z) (one g) (one b))]
  unfold kernelRun0_A
  dsimp only
  sl_unfold_words
  rw [View.canon_cons_unit_zero hz3]
  simp only [View.readAt_eq_ld, h2.read_unread, h3.read_unread, h4.read_unread, h5.read_unread, h6.read_unread, h7.read_unread,
    View.ld_unit_zero (S := S1x704x1024) hz3, View.ld_unit_zero (S := S1024x1024) hz2, View.ld_unit_zero (S := S1x1024) hz2]
  simp only [Pay.pay26, Pay.pay27, Pay.pay28, Pay.pay29, Pay.pay30, Pay.pay31, Pay.pay32]

theorem up_A (c0 : cond0_0 i) (c1 : ¬cond0_1 i) (c2 : ¬cond0_2 i) :
    out0_A_10 (F := Ideal) c i a2 h2 a3 h3 a4 h4 a5 h5 a6 h6 a7 h7 a8 h8 a9 h9 a10 h10 a11 h11 a12 h12 a13 h13 a14 h14 c0 c1 c2 (bk x) (shd w) (shd v) (shd z) (one g) (one b) = hd (prod x v) := by
  unfold out0_A_10
  rw [View.read_writes_eq_canon _ _ _ (cover0_A_10 c i a2 h2 a3 h3 a4 h4 a5 h5 a6 h6 a7 h7 a8 h8 a9 h9 a10 h10 a11 h11 a12 h12 a13 h13 a14 h14 c0 c1 c2 (bk x) (shd w) (shd v) (shd z) (one g) (one b))]
  unfold kernelRun0_A
  dsimp only
  sl_unfold_words
  rw [View.canon_cons_unit_zero hz3]
  simp only [View.readAt_eq_ld, h2.read_unread, h3.read_unread, h4.read_unread, h5.read_unread, h6.read_unread, h7.read_unread,
    View.ld_unit_zero (S := S1x704x1024) hz3, View.ld_unit_zero (S := S1024x1024) hz2, View.ld_unit_zero (S := S1x1024) hz2]
  simp only [Pay.pay26, Pay.pay27, Pay.pay28, Pay.pay29, Pay.pay30, Pay.pay31, Pay.pay32]

theorem gate_B (c0 : ¬cond0_0 i) (c1 : cond0_1 i) (c2 : ¬cond0_2 i) :
    out0_B_9 (F := Ideal) c i a2 h2 a3 h3 a4 h4 a5 h5 a6 h6 a7 h7 a8 h8 a9 h9 a10 h10 a11 h11 a12 h12 a13 h13 a14 h14 c0 c1 c2 (bk x) (shd w) (shd v) (shd z) (one g) (one b) (bk u) = hd (prod x w) := by
  unfold out0_B_9
  rw [View.read_writes_eq_canon _ _ _ (cover0_B_9 c i a2 h2 a3 h3 a4 h4 a5 h5 a6 h6 a7 h7 a8 h8 a9 h9 a10 h10 a11 h11 a12 h12 a13 h13 a14 h14 c0 c1 c2 (bk x) (shd w) (shd v) (shd z) (one g) (one b) (bk u))]
  unfold kernelRun0_B
  dsimp only
  sl_unfold_words
  rw [View.canon_cons_unit_zero hz3]
  simp only [View.readAt_eq_ld, h2.read_unread, h3.read_unread, h4.read_unread, h5.read_unread, h6.read_unread, h7.read_unread, h14.read_unread,
    View.ld_unit_zero (S := S1x704x1024) hz3, View.ld_unit_zero (S := S1024x1024) hz2, View.ld_unit_zero (S := S1x1024) hz2]
  simp only [Pay.pay26, Pay.pay27, Pay.pay28, Pay.pay29, Pay.pay30, Pay.pay31, Pay.pay32]

theorem up_B (c0 : ¬cond0_0 i) (c1 : cond0_1 i) (c2 : ¬cond0_2 i) :
    out0_B_10 (F := Ideal) c i a2 h2 a3 h3 a4 h4 a5 h5 a6 h6 a7 h7 a8 h8 a9 h9 a10 h10 a11 h11 a12 h12 a13 h13 a14 h14 c0 c1 c2 (bk x) (shd w) (shd v) (shd z) (one g) (one b) (bk u) = hd (prod x v) := by
  unfold out0_B_10
  rw [View.read_writes_eq_canon _ _ _ (cover0_B_10 c i a2 h2 a3 h3 a4 h4 a5 h5 a6 h6 a7 h7 a8 h8 a9 h9 a10 h10 a11 h11 a12 h12 a13 h13 a14 h14 c0 c1 c2 (bk x) (shd w) (shd v) (shd z) (one g) (one b) (bk u))]
  unfold kernelRun0_B
  dsimp only
  sl_unfold_words
  rw [View.canon_cons_unit_zero hz3]
  simp only [View.readAt_eq_ld, h2.read_unread, h3.read_unread, h4.read_unread, h5.read_unread, h6.read_unread, h7.read_unread, h14.read_unread,
    View.ld_unit_zero (S := S1x704x1024) hz3, View.ld_unit_zero (S := S1024x1024) hz2, View.ld_unit_zero (S := S1x1024) hz2]
  simp only [Pay.pay26, Pay.pay27, Pay.pay28, Pay.pay29, Pay.pay30, Pay.pay31, Pay.pay32]

theorem gate_C (c0 : ¬cond0_0 i) (c1 : cond0_1 i) (c2 : cond0_2 i) :
    out0_C_9 (F := Ideal) c i a2 h2 a3 h3 a4 h4 a5 h5 a6 h6 a7 h7 a8 h8 a9 h9 a10 h10 a11 h11 a12 h12 a13 h13 a14 h14 c0 c1 c2 (bk x) (shd w) (shd v) (shd z) (one g) (one b) (bk u) = hd (prod x w) := by
  unfold out0_C_9
  rw [View.read_writes_eq_canon _ _ _ (cover0_C_9 c i a2 h2 a3 h3 a4 h4 a5 h5 a6 h6 a7 h7 a8 h8 a9 h9 a10 h10 a11 h11 a12 h12 a13 h13 a14 h14 c0 c1 c2 (bk x) (shd w) (shd v) (shd z) (one g) (one b) (bk u))]
  unfold kernelRun0_C
  dsimp only
  sl_unfold_words
  rw [View.canon_cons_unit_zero hz3]
  simp only [View.readAt_eq_ld, h2.read_unread, h3.read_unread, h4.read_unread, h5.read_unread, h6.read_unread, h7.read_unread, h14.read_unread,
    View.ld_unit_zero (S := S1x704x1024) hz3, View.ld_unit_zero (S := S1024x1024) hz2, View.ld_unit_zero (S := S1x1024) hz2]
  simp only [Pay.pay26, Pay.pay27, Pay.pay28, Pay.pay29, Pay.pay30, Pay.pay31, Pay.pay32]

theorem up_C (c0 : ¬cond0_0 i) (c1 : cond0_1 i) (c2 : cond0_2 i) :
    out0_C_10 (F := Ideal) c i a2 h2 a3 h3 a4 h4 a5 h5 a6 h6 a7 h7 a8 h8 a9 h9 a10 h10 a11 h11 a12 h12 a13 h13 a14 h14 c0 c1 c2 (bk x) (shd w) (shd v) (shd z) (one g) (one b) (bk u) = hd (prod x v) := by
  unfold out0_C_10
  rw [View.read_writes_eq_canon _ _ _ (cover0_C_10 c i a2 h2 a3 h3 a4 h4 a5 h5 a6 h6 a7 h7 a8 h8 a9 h9 a10 h10 a11 h11 a12 h12 a13 h13 a14 h14 c0 c1 c2 (bk x) (shd w) (shd v) (shd z) (one g) (one b) (bk u))]
  unfold kernelRun0_C
  dsimp only
  sl_unfold_words
  rw [View.canon_cons_unit_zero hz3]
  simp only [View.readAt_eq_ld, h2.read_unread, h3.read_unread, h4.read_unread, h5.read_unread, h6.read_unread, h7.read_unread, h14.read_unread,
    View.ld_unit_zero (S := S1x704x1024) hz3, View.ld_unit_zero (S := S1024x1024) hz2, View.ld_unit_zero (S := S1x1024) hz2]
  simp only [Pay.pay26, Pay.pay27, Pay.pay28, Pay.pay29, Pay.pay30, Pay.pay31, Pay.pay32]

theorem res_C (c0 : ¬cond0_0 i) (c1 : cond0_1 i) (c2 : cond0_2 i) :
    out0_C_6 (F := Ideal) c i a2 h2 a3 h3 a4 h4 a5 h5 a6 h6 a7 h7 a8 h8 a9 h9 a10 h10 a11 h11 a12 h12 a13 h13 a14 h14 c0 c1 c2 (bk x) (shd w) (shd v) (shd z) (one g) (one b) (bk u) = sh fun r => out (top u x w v z r) g b := by
  unfold out0_C_6
  rw [View.read_writes_eq_canon _ _ _ (cover0_C_6 c i a2 h2 a3 h3 a4 h4 a5 h5 a6 h6 a7 h7 a8 h8 a9 h9 a10 h10 a11 h11 a12 h12 a13 h13 a14 h14 c0 c1 c2 (bk x) (shd w) (shd v) (shd z) (one g) (one b) (bk u))]
  unfold kernelRun0_C
  dsimp only
  sl_unfold_words
  simp only [View.readAt_eq_ld, h2.read_unread, h3.read_unread, h4.read_unread, h5.read_unread, h6.read_unread, h7.read_unread, h14.read_unread,
    View.ld_unit_zero (S := S1x704x1024) hz3, View.ld_unit_zero (S := S1024x1024) hz2, View.ld_unit_zero (S := S1x1024) hz2]
  simp (discharger := omega) only [ld_rows, rd_rows, Pay.pay1, Pay.pay2, Pay.pay3, Pay.pay4, Pay.pay5, Pay.pay6, Pay.pay7, Pay.pay9, Pay.pay10, Pay.pay11, Pay.pay12, Pay.pay13, Pay.pay15, Pay.pay16, Pay.pay17, Pay.pay18, Pay.pay19, Pay.pay21, Pay.pay22, Pay.pay23, Pay.pay24, Pay.pay26, Pay.pay27, Pay.pay28, Pay.pay29, Pay.pay30, Pay.pay31, Pay.pay32]
  refine eq_ev2 fun r k => ?_
  rcases off_cases r with ⟨q, rfl⟩ | ⟨q, rfl⟩ | ⟨q, rfl⟩ | ⟨q, rfl⟩ <;> simp (discharger := omega) only [ch_hit, ch_miss] <;> rfl

theorem xh_C (c0 : ¬cond0_0 i) (c1 : cond0_1 i) (c2 : cond0_2 i) :
    out0_C_7 (F := Ideal) c i a2 h2 a3 h3 a4 h4 a5 h5 a6 h6 a7 h7 a8 h8 a9 h9 a10 h10 a11 h11 a12 h12 a13 h13 a14 h14 c0 c1 c2 (bk x) (shd w) (shd v) (shd z) (one g) (one b) (bk u) = bk fun r => xh (top u x w v z r) := by
  unfold out0_C_7
  rw [View.read_writes_eq_canon _ _ _ (cover0_C_7 c i a2 h2 a3 h3 a4 h4 a5 h5 a6 h6 a7 h7 a8 h8 a9 h9 a10 h10 a11 h11 a12 h12 a13 h13 a14 h14 c0 c1 c2 (bk x) (shd w) (shd v) (shd z) (one g) (one b) (bk u))]
  unfold kernelRun0_C
  dsimp only
  sl_unfold_words
  simp only [View.readAt_eq_ld, h2.read_unread, h3.read_unread, h4.read_unread, h5.read_unread, h6.read_unread, h7.read_unread, h14.read_unread,
    View.ld_unit_zero (S := S1x704x1024) hz3, View.ld_unit_zero (S := S1024x1024) hz2, View.ld_unit_zero (S := S1x1024) hz2]
  simp (discharger := omega) only [ld_rows, rd_rows, Pay.pay1, Pay.pay2, Pay.pay3, Pay.pay4, Pay.pay5, Pay.pay6, Pay.pay7, Pay.pay9, Pay.pay10, Pay.pay11, Pay.pay12, Pay.pay13, Pay.pay15, Pay.pay16, Pay.pay17, Pay.pay18, Pay.pay19, Pay.pay21, Pay.pay22, Pay.pay23, Pay.pay24, Pay.pay26, Pay.pay27, Pay.pay28, Pay.pay29, Pay.pay30, Pay.pay31, Pay.pay32]
  refine eq_ev2 fun r k => ?_
  rcases off_cases r with ⟨q, rfl⟩ | ⟨q, rfl⟩ | ⟨q, rfl⟩ | ⟨q, rfl⟩ <;> simp (discharger := omega) only [cx_hit, cx_miss] <;> rfl

theorem rs_C (c0 : ¬cond0_0 i) (c1 : cond0_1 i) (c2 : cond0_2 i) :
    out0_C_8 (F := Ideal) c i a2 h2 a3 h3 a4 h4 a5 h5 a6 h6 a7 h7 a8 h8 a9 h9 a10 h10 a11 h11 a12 h12 a13 h13 a14 h14 c0 c1 c2 (bk x) (shd w) (shd v) (shd z) (one g) (one b) (bk u) = cl fun r => rstd (top u x w v z r) := by
  unfold out0_C_8
  rw [View.read_writes_eq_canon _ _ _ (cover0_C_8 c i a2 h2 a3 h3 a4 h4 a5 h5 a6 h6 a7 h7 a8 h8 a9 h9 a10 h10 a11 h11 a12 h12 a13 h13 a14 h14 c0 c1 c2 (bk x) (shd w) (shd v) (shd z) (one g) (one b) (bk u))]
  unfold kernelRun0_C
  dsimp only
  sl_unfold_words
  simp only [View.readAt_eq_ld, h2.read_unread, h3.read_unread, h4.read_unread, h5.read_unread, h6.read_unread, h7.read_unread, h14.read_unread,
    View.ld_unit_zero (S := S1x704x1024) hz3, View.ld_unit_zero (S := S1024x1024) hz2, View.ld_unit_zero (S := S1x1024) hz2]
  simp (discharger := omega) only [ld_rows, rd_rows, Pay.pay1, Pay.pay2, Pay.pay3, Pay.pay4, Pay.pay5, Pay.pay6, Pay.pay7, Pay.pay9, Pay.pay10, Pay.pay11, Pay.pay12, Pay.pay13, Pay.pay15, Pay.pay16, Pay.pay17, Pay.pay18, Pay.pay19, Pay.pay21, Pay.pay22, Pay.pay23, Pay.pay24, Pay.pay26, Pay.pay27, Pay.pay28, Pay.pay29, Pay.pay30, Pay.pay31, Pay.pay32]
  refine eq_ev2 fun r k => ?_
  rcases off_cases r with ⟨q, rfl⟩ | ⟨q, rfl⟩ | ⟨q, rfl⟩ | ⟨q, rfl⟩ <;> simp (discharger := omega) only [cs_hit, cs_miss] <;> rfl

theorem tr_C (c0 : ¬cond0_0 i) (c1 : cond0_1 i) (c2 : cond0_2 i) :
    out0_C_11 (F := Ideal) c i a2 h2 a3 h3 a4 h4 a5 h5 a6 h6 a7 h7 a8 h8 a9 h9 a10 h10 a11 h11 a12 h12 a13 h13 a14 h14 c0 c1 c2 (bk x) (shd w) (shd v) (shd z) (one g) (one b) (bk u) = sh fun k r => out (top u x w v z r) g b k := by
  unfold out0_C_11
  rw [View.read_writes_eq_canon _ _ _ (cover0_C_11 c i a2 h2 a3 h3 a4 h4 a5 h5 a6 h6 a7 h7 a8 h8 a9 h9 a10 h10 a11 h11 a12 h12 a13 h13 a14 h14 c0 c1 c2 (bk x) (shd w) (shd v) (shd z) (one g) (one b) (bk u))]
  unfold kernelRun0_C
  dsimp only
  sl_unfold_words
  simp only [View.readAt_eq_ld, h2.read_unread, h3.read_unread, h4.read_unread, h5.read_unread, h6.read_unread, h7.read_unread, h14.read_unread,
    View.ld_unit_zero (S := S1x704x1024) hz3, View.ld_unit_zero (S := S1024x1024) hz2, View.ld_unit_zero (S := S1x1024) hz2]
  simp (discharger := omega) only [ld_rows, rd_rows, Pay.pay1, Pay.pay2, Pay.pay3, Pay.pay4, Pay.pay5, Pay.pay6, Pay.pay7, Pay.pay9, Pay.pay10, Pay.pay11, Pay.pay12, Pay.pay13, Pay.pay15, Pay.pay16, Pay.pay17, Pay.pay18, Pay.pay19, Pay.pay21, Pay.pay22, Pay.pay23, Pay.pay24, Pay.pay26, Pay.pay27, Pay.pay28, Pay.pay29, Pay.pay30, Pay.pay31, Pay.pay32]
  refine eq_ev2 fun r k => ?_
  rcases off_cases k with ⟨q, rfl⟩ | ⟨q, rfl⟩ | ⟨q, rfl⟩ | ⟨q, rfl⟩ <;> simp (discharger := omega) only [ct_hit, ct_miss] <;> rfl

end Cert.Proof.Fwd.Body

end
-- ==== Proof.FwdFold.lean ====
/- The kernel's six results: the host's arrays and their blocks, the network's running sum at the grid points, and the arrays
   after the last one. -/
module

public import proofs.«01_k».proof.Proof.FwdSpec
public import proofs.«01_k».proof.Proof.FwdBody
public import proofs.«01_k».proof.Proof.Gen.FwdKernelIdeal.Value

@[expose] public section

set_option maxRecDepth 16384

noncomputable section

namespace Cert.Proof.Fwd.Fold

open Idealize.ShloMosaic Idealize.ShloMosaic.TcCoe Idealize.SL.Sem Cert.FwdKernelIdeal Cert.FwdKernelIdeal.Gen
open Cert.Proof.Fwd.Pay (one shd)
open Cert.Proof.Fwd.Body (bk sh cl hd step top)
open Cert.Proof.Norm (row)
open Cert.Proof.Swi (hid hid_val)

theorem h_rows (f : Fin 2816 → Fin 1024 → EReal) :
    truncf (F := Ideal) .bf16 (shapeCast S4x704x1024 (ev2 .f32 f : FVec Ideal S2816x1024 .f32) shapeCasts_S2816x1024_S4x704x1024) bitsLt_bf16_f32
      = ev3 .bf16 fun (j : Fin 4) k d => f (hid j.val k) d := by
  refine eq_ev3 fun j k d => ?_
  pointwise
  exact congrArg (fun g => f g d) (Fin.ext (by rw [hid_val j.isLt]; show j.val * 704 + k.val = _; omega))

theorem h_tr (f : Fin 1024 → Fin 2816 → EReal) :
    transpose S2816x1024 [1, 0] (ev2 .f32 f : FVec Ideal S1024x2816 .f32) transposes_S1024x2816_S2816x1024_1_0 = ev2 .f32 fun k d => f d k :=
  eq_ev2 fun k d => by pointwise [ev2]

/-- The rows before their norm, once the last shard is in. -/
theorem top_eq (A : Args) (a : ℕ) (r : Fin 1024) :
    top (upTo A a 2) (xb A a) (gb A 3) (ub A 3) (db A 3) r = pre A (row a r) := by
  funext c
  unfold pre
  rw [← upTo_three]
  rfl

variable (m : (ℓ : Loc nD τ sig) → Buf (Elt Ideal) ℓ) (c : Dev nD)

/-- The numbers the arguments hold. -/
def args : Args where
  x := fun i j => (m ((c : Thread nD τ).loc main_arg0) : FVec Ideal S2048x1024 .f32) (ix2 i j)
  wg := fun i j => (m ((c : Thread nD τ).loc main_arg1) : FVec Ideal S1024x2816 .f32) (ix2 i j)
  wu := fun i j => (m ((c : Thread nD τ).loc main_arg2) : FVec Ideal S1024x2816 .f32) (ix2 i j)
  wd := fun i j => (m ((c : Thread nD τ).loc main_arg3) : FVec Ideal S2816x1024 .f32) (ix2 i j)
  g := fun j => (m ((c : Thread nD τ).loc main_arg4) : FVec Ideal S1x1024 .f32) (ix2 0 j)
  b := fun j => (m ((c : Thread nD τ).loc main_arg5) : FVec Ideal S1x1024 .f32) (ix2 0 j)

theorem m_x : (m ((c : Thread nD τ).loc main_arg0) : FVec Ideal S2048x1024 .f32) = ev2 .f32 (args m c).x := eq_ev2 fun _ _ => rfl
theorem m_wg : (m ((c : Thread nD τ).loc main_arg1) : FVec Ideal S1024x2816 .f32) = ev2 .f32 (args m c).wg := eq_ev2 fun _ _ => rfl
theorem m_wu : (m ((c : Thread nD τ).loc main_arg2) : FVec Ideal S1024x2816 .f32) = ev2 .f32 (args m c).wu := eq_ev2 fun _ _ => rfl
theorem m_wd : (m ((c : Thread nD τ).loc main_arg3) : FVec Ideal S2816x1024 .f32) = ev2 .f32 (args m c).wd := eq_ev2 fun _ _ => rfl
theorem m_g : (m ((c : Thread nD τ).loc main_arg4) : FVec Ideal S1x1024 .f32) = one (args m c).g :=
  eq_ev2 fun i j => by rw [Fin.fin_one_eq_zero i]; rfl
theorem m_b : (m ((c : Thread nD τ).loc main_arg5) : FVec Ideal S1x1024 .f32) = one (args m c).b :=
  eq_ev2 fun i j => by rw [Fin.fin_one_eq_zero i]; rfl

/-! ## The host's arrays -/

theorem V_wg : (V m c main_v2 : FVec Ideal S4x704x1024 .bf16) = ev3 .bf16 fun (j : Fin 4) k d => (args m c).wg d (hid j.val k) := by
  refine Eq.trans (b := truncf (F := Ideal) .bf16 (shapeCast S4x704x1024 (transpose S2816x1024 [1, 0]
    (m ((c : Thread nD τ).loc main_arg1) : FVec Ideal S1024x2816 .f32) transposes_S1024x2816_S2816x1024_1_0) shapeCasts_S2816x1024_S4x704x1024) bitsLt_bf16_f32) ?_ ?_
  · simp only [V, hostOps0, StableHlo.after]
    rfl
  · rw [m_wg m c, h_tr]; exact h_rows _
theorem V_wu : (V m c main_v5 : FVec Ideal S4x704x1024 .bf16) = ev3 .bf16 fun (j : Fin 4) k d => (args m c).wu d (hid j.val k) := by
  refine Eq.trans (b := truncf (F := Ideal) .bf16 (shapeCast S4x704x1024 (transpose S2816x1024 [1, 0]
    (m ((c : Thread nD τ).loc main_arg2) : FVec Ideal S1024x2816 .f32) transposes_S1024x2816_S2816x1024_1_0) shapeCasts_S2816x1024_S4x704x1024) bitsLt_bf16_f32) ?_ ?_
  · simp only [V, hostOps0, StableHlo.after]
    rfl
  · rw [m_wu m c, h_tr]; exact h_rows _
theorem V_wd : (V m c main_v7 : FVec Ideal S4x704x1024 .bf16) = ev3 .bf16 fun (j : Fin 4) k d => (args m c).wd (hid j.val k) d := by
  refine Eq.trans (b := truncf (F := Ideal) .bf16 (shapeCast S4x704x1024
    (m ((c : Thread nD τ).loc main_arg3) : FVec Ideal S2816x1024 .f32) shapeCasts_S2816x1024_S4x704x1024) bitsLt_bf16_f32) ?_ ?_
  · simp only [V, hostOps0, StableHlo.after]
    rfl
  · rw [m_wd m c]; exact h_rows _

/-! ## Their blocks -/

/-- A shard's block of a weight. -/
theorem blk_weight (f : Fin 2816 → Fin 1024 → EReal) (j : ℕ) (i : S4x704x1024.Idx) (k : Fin 704) (d : Fin 1024)
    (h0 : (i 0).val = j) (h1 : (i 1).val = k.val) (h2 : (i 2).val = d.val) :
    (ev3 .bf16 (fun (j : Fin 4) k d => f (hid j.val k) d) : FVec Ideal S4x704x1024 .bf16) i = f (hid j k) d := by
  have e1 : (i 1 : Fin 704) = k := Fin.ext h1
  have e2 : (i 2 : Fin 1024) = d := Fin.ext h2
  show f (hid (i 0).val (i 1)) (i 2) = _
  rw [e1, e2, h0]

theorem iblk0 (t : Fin cfg0.N) : (iblk m c 0 t : FVec Ideal S1024x1024 .f32) = bk (xb (args m c) (t.val / 4)) := by
  have hi : ∀ t : Fin grid0.N, win0_0.index t 0 = t.val / 4 ∧ win0_0.index t 1 = 0 := by decide +kernel
  have ht : t.val < 8 := t.isLt.trans_eq N_0
  refine eq_ev2 fun p q => ?_
  have hp := p.isLt
  have hq := q.isLt
  unfold iblk
  rw [View.read_apply]
  show V m c main_arg0 _ = _
  refine (congrFun ((V_main_arg0 m c).trans (m_x m c)) _).trans ?_
  show (args m c).x _ _ = (args m c).x (row (t.val / 4) p) q
  refine congrArg₂ (args m c).x ?_ ?_
  · apply Fin.ext
    show win0_0.index t 0 * 1024 + 1 * p.val = (1024 * (t.val / 4) + p.val) % 2048
    rw [(hi t).1]
    omega
  · apply Fin.ext
    show win0_0.index t 1 * 1024 + 1 * q.val = q.val
    rw [(hi t).2]
    omega

theorem iblk1 (t : Fin cfg0.N) : (iblk m c 1 t : FVec Ideal S1x704x1024 .bf16) = shd (gb (args m c) (t.val % 4)) := by
  have hi : ∀ t : Fin grid0.N, win0_1.index t 0 = t.val % 4 ∧ win0_1.index t 1 = 0 ∧ win0_1.index t 2 = 0 := by decide +kernel
  refine eq_ev3 fun n k d => ?_
  unfold iblk
  rw [View.read_apply]
  show V m c main_v2 _ = _
  rw [V_wg]
  refine blk_weight (fun k d => (args m c).wg d k) (t.val % 4) _ k d ?_ ?_ ?_
  · show win0_1.index t 0 * 1 + 1 * n.val = _; rw [(hi t).1]; omega
  · show win0_1.index t 1 * 704 + 1 * k.val = _; rw [(hi t).2.1]; omega
  · show win0_1.index t 2 * 1024 + 1 * d.val = _; rw [(hi t).2.2]; omega

theorem iblk2 (t : Fin cfg0.N) : (iblk m c 2 t : FVec Ideal S1x704x1024 .bf16) = shd (ub (args m c) (t.val % 4)) := by
  have hi : ∀ t : Fin grid0.N, win0_2.index t 0 = t.val % 4 ∧ win0_2.index t 1 = 0 ∧ win0_2.index t 2 = 0 := by decide +kernel
  refine eq_ev3 fun n k d => ?_
  unfold iblk
  rw [View.read_apply]
  show V m c main_v5 _ = _
  rw [V_wu]
  refine blk_weight (fun k d => (args m c).wu d k) (t.val % 4) _ k d ?_ ?_ ?_
  · show win0_2.index t 0 * 1 + 1 * n.val = _; rw [(hi t).1]; omega
  · show win0_2.index t 1 * 704 + 1 * k.val = _; rw [(hi t).2.1]; omega
  · show win0_2.index t 2 * 1024 + 1 * d.val = _; rw [(hi t).2.2]; omega

theorem iblk3 (t : Fin cfg0.N) : (iblk m c 3 t : FVec Ideal S1x704x1024 .bf16) = shd (db (args m c) (t.val % 4)) := by
  have hi : ∀ t : Fin grid0.N, win0_3.index t 0 = t.val % 4 ∧ win0_3.index t 1 = 0 ∧ win0_3.index t 2 = 0 := by decide +kernel
  refine eq_ev3 fun n k d => ?_
  unfold iblk
  rw [View.read_apply]
  show V m c main_v7 _ = _
  rw [V_wd]
  refine blk_weight ((args m c).wd) (t.val % 4) _ k d ?_ ?_ ?_
  · show win0_3.index t 0 * 1 + 1 * n.val = _; rw [(hi t).1]; omega
  · show win0_3.index t 1 * 704 + 1 * k.val = _; rw [(hi t).2.1]; omega
  · show win0_3.index t 2 * 1024 + 1 * d.val = _; rw [(hi t).2.2]; omega

theorem iblk4 (t : Fin cfg0.N) : (iblk m c 4 t : FVec Ideal S1x1024 .f32) = one (args m c).g := by
  have hi : ∀ t : Fin grid0.N, win0_4.index t 0 = 0 ∧ win0_4.index t 1 = 0 := by decide +kernel
  refine Eq.trans ?_ ((V_main_arg4 m c).trans (m_g m c))
  funext j
  unfold iblk
  rw [View.read_apply]
  show V m c main_arg4 _ = V m c main_arg4 j
  congr 1
  funext a
  apply Fin.ext
  match a with
  | ⟨0, _⟩ => show win0_4.index t 0 * 1 + 1 * (j 0).val = (j 0).val; rw [(hi t).1]; omega
  | ⟨1, _⟩ => show win0_4.index t 1 * 1024 + 1 * (j 1).val = (j 1).val; rw [(hi t).2]; omega

theorem iblk5 (t : Fin cfg0.N) : (iblk m c 5 t : FVec Ideal S1x1024 .f32) = one (args m c).b := by
  have hi : ∀ t : Fin grid0.N, win0_5.index t 0 = 0 ∧ win0_5.index t 1 = 0 := by decide +kernel
  refine Eq.trans ?_ ((V_main_arg5 m c).trans (m_b m c))
  funext j
  unfold iblk
  rw [View.read_apply]
  show V m c main_arg5 _ = V m c main_arg5 j
  congr 1
  funext a
  apply Fin.ext
  match a with
  | ⟨0, _⟩ => show win0_5.index t 0 * 1 + 1 * (j 0).val = (j 0).val; rw [(hi t).1]; omega
  | ⟨1, _⟩ => show win0_5.index t 1 * 1024 + 1 * (j 1).val = (j 1).val; rw [(hi t).2]; omega

/-! ## The points -/

theorem acc_first (t : Fin cfg0.N) (h : t.val % 4 = 0) : (outsAt0 m c t.val t.isLt).2.2.2.2.2.2 = bk (upTo (args m c) (t.val / 4) 0) := by
  rw [outsAt0_A m c t h (by omega) (by omega), iblk0, iblk1, iblk2, iblk3, iblk4, iblk5]
  dsimp only
  rw [Body.acc_A, h]
  rfl
theorem acc_next (t : Fin cfg0.N) (k : ℕ) (h : t.val % 4 = k + 1) (hk : k < 2)
    (ih : (outsAt0 m c (t.val - 1) (Nat.lt_of_le_of_lt (Nat.sub_le _ _) t.isLt)).2.2.2.2.2.2 = bk (upTo (args m c) (t.val / 4) k)) :
    (outsAt0 m c t.val t.isLt).2.2.2.2.2.2 = bk (upTo (args m c) (t.val / 4) (k + 1)) := by
  rw [outsAt0_B m c t (by omega) (by omega) (by omega), iblk0, iblk1, iblk2, iblk3, iblk4, iblk5, ih]
  dsimp only
  rw [Body.acc_B, h]
  rfl
theorem acc_two (n : ℕ) (hn : n < cfg0.N) (h : n % 4 = 2) : (outsAt0 m c n hn).2.2.2.2.2.2 = bk (upTo (args m c) (n / 4) 2) := by
  have h2 : (n - 1) / 4 = n / 4 := by omega
  have h3 : (n - 1 - 1) / 4 = n / 4 := by omega
  have e0 := acc_first m c ⟨n - 1 - 1, by omega⟩ (by dsimp only; omega)
  have e1 := acc_next m c ⟨n - 1, by omega⟩ 0 (by dsimp only; omega) (by omega) (by rw [h2, ← h3]; exact e0)
  exact acc_next m c ⟨n, hn⟩ 1 h (by omega) (by rw [← h2]; exact e1)

/-- The two projections' blocks, at every point. -/
theorem at_gate (t : Fin cfg0.N) : (outsAt0 m c t.val t.isLt).2.2.2.1 = hd (prod (xb (args m c) (t.val / 4)) (gb (args m c) (t.val % 4))) := by
  have hu : ∀ v : FVec Ideal S1024x1024 .f32, v = bk fun i j => v (ix2 i j) := fun v => eq_ev2 fun _ _ => rfl
  by_cases h0 : t.val % 4 = 0
  · rw [outsAt0_A m c t h0 (by omega) (by omega), iblk0, iblk1, iblk2, iblk3, iblk4, iblk5]
    dsimp only
    rw [Body.gate_A]
  · by_cases h3 : t.val % 4 = 3
    · rw [outsAt0_C m c t h0 (by omega) h3, iblk0, iblk1, iblk2, iblk3, iblk4, iblk5]
      dsimp only
      generalize (outsAt0 m c (t.val - 1) (Nat.lt_of_le_of_lt (Nat.sub_le _ _) t.isLt)).2.2.2.2.2.2 = v
      rw [hu v, Body.gate_C]
    · rw [outsAt0_B m c t h0 (by omega) h3, iblk0, iblk1, iblk2, iblk3, iblk4, iblk5]
      dsimp only
      generalize (outsAt0 m c (t.val - 1) (Nat.lt_of_le_of_lt (Nat.sub_le _ _) t.isLt)).2.2.2.2.2.2 = v
      rw [hu v, Body.gate_B]
theorem at_up (t : Fin cfg0.N) : (outsAt0 m c t.val t.isLt).2.2.2.2.1 = hd (prod (xb (args m c) (t.val / 4)) (ub (args m c) (t.val % 4))) := by
  have hu : ∀ v : FVec Ideal S1024x1024 .f32, v = bk fun i j => v (ix2 i j) := fun v => eq_ev2 fun _ _ => rfl
  by_cases h0 : t.val % 4 = 0
  · rw [outsAt0_A m c t h0 (by omega) (by omega), iblk0, iblk1, iblk2, iblk3, iblk4, iblk5]
    dsimp only
    rw [Body.up_A]
  · by_cases h3 : t.val % 4 = 3
    · rw [outsAt0_C m c t h0 (by omega) h3, iblk0, iblk1, iblk2, iblk3, iblk4, iblk5]
      dsimp only
      generalize (outsAt0 m c (t.val - 1) (Nat.lt_of_le_of_lt (Nat.sub_le _ _) t.isLt)).2.2.2.2.2.2 = v
      rw [hu v, Body.up_C]
    · rw [outsAt0_B m c t h0 (by omega) h3, iblk0, iblk1, iblk2, iblk3, iblk4, iblk5]
      dsimp only
      generalize (outsAt0 m c (t.val - 1) (Nat.lt_of_le_of_lt (Nat.sub_le _ _) t.isLt)).2.2.2.2.2.2 = v
      rw [hu v, Body.up_B]

/-- The four others, at the last shard. -/
theorem at_res (t : Fin cfg0.N) (a : ℕ) (ha : t.val / 4 = a) (h : t.val % 4 = 3) :
    (outsAt0 m c t.val t.isLt).1 = sh fun r => out (pre (args m c) (row a r)) (args m c).g (args m c).b := by
  subst ha
  have hd : (t.val - 1) / 4 = t.val / 4 := by omega
  have ih := acc_two m c (t.val - 1) (Nat.lt_of_le_of_lt (Nat.sub_le _ _) t.isLt) (by omega)
  rw [hd] at ih
  rw [outsAt0_C m c t (by omega) (by omega) h, iblk0, iblk1, iblk2, iblk3, iblk4, iblk5, ih]
  dsimp only
  rw [Body.res_C, h]
  simp only [top_eq]
theorem at_xh (t : Fin cfg0.N) (a : ℕ) (ha : t.val / 4 = a) (h : t.val % 4 = 3) :
    (outsAt0 m c t.val t.isLt).2.1 = bk fun r => xh (pre (args m c) (row a r)) := by
  subst ha
  have hd : (t.val - 1) / 4 = t.val / 4 := by omega
  have ih := acc_two m c (t.val - 1) (Nat.lt_of_le_of_lt (Nat.sub_le _ _) t.isLt) (by omega)
  rw [hd] at ih
  rw [outsAt0_C m c t (by omega) (by omega) h, iblk0, iblk1, iblk2, iblk3, iblk4, iblk5, ih]
  dsimp only
  rw [Body.xh_C, h]
  simp only [top_eq]
theorem at_rs (t : Fin cfg0.N) (a : ℕ) (ha : t.val / 4 = a) (h : t.val % 4 = 3) :
    (outsAt0 m c t.val t.isLt).2.2.1 = cl fun r => rstd (pre (args m c) (row a r)) := by
  subst ha
  have hd : (t.val - 1) / 4 = t.val / 4 := by omega
  have ih := acc_two m c (t.val - 1) (Nat.lt_of_le_of_lt (Nat.sub_le _ _) t.isLt) (by omega)
  rw [hd] at ih
  rw [outsAt0_C m c t (by omega) (by omega) h, iblk0, iblk1, iblk2, iblk3, iblk4, iblk5, ih]
  dsimp only
  rw [Body.rs_C, h]
  simp only [top_eq]
theorem at_tr (t : Fin cfg0.N) (a : ℕ) (ha : t.val / 4 = a) (h : t.val % 4 = 3) :
    (outsAt0 m c t.val t.isLt).2.2.2.2.2.1 = sh fun k r => out (pre (args m c) (row a r)) (args m c).g (args m c).b k := by
  subst ha
  have hd : (t.val - 1) / 4 = t.val / 4 := by omega
  have ih := acc_two m c (t.val - 1) (Nat.lt_of_le_of_lt (Nat.sub_le _ _) t.isLt) (by omega)
  rw [hd] at ih
  rw [outsAt0_C m c t (by omega) (by omega) h, iblk0, iblk1, iblk2, iblk3, iblk4, iblk5, ih]
  dsimp only
  rw [Body.tr_C, h]
  simp only [top_eq]

/-! ## The arrays -/

theorem final6 : (dats m 0 c).arrAt 6 cfg0.N = ((ev2 .bf16 (res (args m c)) : S2048x1024.Idx → Ideal .bf16) : Buf (Elt Ideal) ((c : Thread nD τ).loc main_v8_0)) := by
  rw [Cert.FwdKernelIdeal.Value.final6]
  funext i
  have hN : cfg0.N = 8 := N_0
  have h0 : (i 0).val < 2048 := (i 0).isLt
  have h1 : (i 1).val < 1024 := (i 1).isLt
  have hr : Cert.FwdKernelIdeal.Value.run6Of i = (i 0).val / 1024 := by
    show 1 * ((i 0).val / 1024 - 0) + 1 * ((i 1).val / 1024 - 0) = _
    omega
  have hp : Cert.FwdKernelIdeal.Value.pt6Of i < cfg0.N := by
    show 4 * Cert.FwdKernelIdeal.Value.run6Of i + 3 < _
    omega
  unfold Cert.FwdKernelIdeal.Value.G6
  rw [dif_pos hp, ← Cert.FwdKernelIdeal.Value.outsAt0_sweep m c _ hp, at_res m c ⟨_, hp⟩ _ rfl (by show (4 * Cert.FwdKernelIdeal.Value.run6Of i + 3) % 4 = 3; omega)]
  show res (args m c) _ _ = res (args m c) (i 0) (i 1)
  refine congrArg₂ (res (args m c)) (Fin.ext ?_) (Fin.ext ?_)
  · show (1024 * ((4 * Cert.FwdKernelIdeal.Value.run6Of i + 3) / 4) + (i 0).val % 1024) % 2048 = (i 0).val
    omega
  · show (i 1).val % 1024 = (i 1).val
    omega
theorem final7 : (dats m 0 c).arrAt 7 cfg0.N = ((ev2 .f32 fun r => xh (pre (args m c) r) : S2048x1024.Idx → Ideal .f32) : Buf (Elt Ideal) ((c : Thread nD τ).loc main_v8_1)) := by
  rw [Cert.FwdKernelIdeal.Value.final7]
  funext i
  have hN : cfg0.N = 8 := N_0
  have h0 : (i 0).val < 2048 := (i 0).isLt
  have h1 : (i 1).val < 1024 := (i 1).isLt
  have hr : Cert.FwdKernelIdeal.Value.run7Of i = (i 0).val / 1024 := by
    show 1 * ((i 0).val / 1024 - 0) + 1 * ((i 1).val / 1024 - 0) = _
    omega
  have hp : Cert.FwdKernelIdeal.Value.pt7Of i < cfg0.N := by
    show 4 * Cert.FwdKernelIdeal.Value.run7Of i + 3 < _
    omega
  unfold Cert.FwdKernelIdeal.Value.G7
  rw [dif_pos hp, ← Cert.FwdKernelIdeal.Value.outsAt0_sweep m c _ hp, at_xh m c ⟨_, hp⟩ _ rfl (by show (4 * Cert.FwdKernelIdeal.Value.run7Of i + 3) % 4 = 3; omega)]
  show (fun r => xh (pre (args m c) r)) _ _ = (fun r => xh (pre (args m c) r)) (i 0) (i 1)
  refine congrArg₂ (fun r => xh (pre (args m c) r)) (Fin.ext ?_) (Fin.ext ?_)
  · show (1024 * ((4 * Cert.FwdKernelIdeal.Value.run7Of i + 3) / 4) + (i 0).val % 1024) % 2048 = (i 0).val
    omega
  · show (i 1).val % 1024 = (i 1).val
    omega
theorem final8 : (dats m 0 c).arrAt 8 cfg0.N = ((ev2 .f32 fun r (_ : Fin 1) => rstd (pre (args m c) r) : S2048x1.Idx → Ideal .f32) : Buf (Elt Ideal) ((c : Thread nD τ).loc main_v8_2)) := by
  rw [Cert.FwdKernelIdeal.Value.final8]
  funext i
  have hN : cfg0.N = 8 := N_0
  have h0 : (i 0).val < 2048 := (i 0).isLt
  have h1 : (i 1).val < 1 := (i 1).isLt
  have hr : Cert.FwdKernelIdeal.Value.run8Of i = (i 0).val / 1024 := by
    show 1 * ((i 0).val / 1024 - 0) + 1 * ((i 1).val / 1 - 0) = _
    omega
  have hp : Cert.FwdKernelIdeal.Value.pt8Of i < cfg0.N := by
    show 4 * Cert.FwdKernelIdeal.Value.run8Of i + 3 < _
    omega
  unfold Cert.FwdKernelIdeal.Value.G8
  rw [dif_pos hp, ← Cert.FwdKernelIdeal.Value.outsAt0_sweep m c _ hp, at_rs m c ⟨_, hp⟩ _ rfl (by show (4 * Cert.FwdKernelIdeal.Value.run8Of i + 3) % 4 = 3; omega)]
  show rstd (pre (args m c) _) = rstd (pre (args m c) (i 0))
  refine congrArg (fun r => rstd (pre (args m c) r)) (Fin.ext ?_)
  show (1024 * ((4 * Cert.FwdKernelIdeal.Value.run8Of i + 3) / 4) + (i 0).val % 1024) % 2048 = (i 0).val
  omega
theorem final11 : (dats m 0 c).arrAt 11 cfg0.N = ((ev2 .bf16 fun k r => res (args m c) r k : S1024x2048.Idx → Ideal .bf16) : Buf (Elt Ideal) ((c : Thread nD τ).loc main_v8_5)) := by
  rw [Cert.FwdKernelIdeal.Value.final11]
  funext i
  have hN : cfg0.N = 8 := N_0
  have h0 : (i 0).val < 1024 := (i 0).isLt
  have h1 : (i 1).val < 2048 := (i 1).isLt
  have hr : Cert.FwdKernelIdeal.Value.run11Of i = (i 1).val / 1024 := by
    show 2 * ((i 0).val / 1024 - 0) + 1 * ((i 1).val / 1024 - 0) = _
    omega
  have hp : Cert.FwdKernelIdeal.Value.pt11Of i < cfg0.N := by
    show 4 * Cert.FwdKernelIdeal.Value.run11Of i + 3 < _
    omega
  unfold Cert.FwdKernelIdeal.Value.G11
  rw [dif_pos hp, ← Cert.FwdKernelIdeal.Value.outsAt0_sweep m c _ hp, at_tr m c ⟨_, hp⟩ _ rfl (by show (4 * Cert.FwdKernelIdeal.Value.run11Of i + 3) % 4 = 3; omega)]
  show (fun k r => res (args m c) r k) _ _ = (fun k r => res (args m c) r k) (i 0) (i 1)
  refine congrArg₂ (fun k r => res (args m c) r k) (Fin.ext ?_) (Fin.ext ?_)
  · show (i 0).val % 1024 = (i 0).val
    omega
  · show (1024 * ((4 * Cert.FwdKernelIdeal.Value.run11Of i + 3) / 4) + (i 1).val % 1024) % 2048 = (i 1).val
    omega
theorem final9 : (dats m 0 c).arrAt 9 cfg0.N
    = ((ev3 .bf16 fun (j : Fin 4) r k => proj (args m c).x (args m c).wg r (hid j.val k) : S4x2048x704.Idx → Ideal .bf16) : Buf (Elt Ideal) ((c : Thread nD τ).loc main_v8_3)) := by
  rw [Cert.FwdKernelIdeal.Value.final9]
  funext i
  have hN : cfg0.N = 8 := N_0
  have h0 : (i 0).val < 4 := (i 0).isLt
  have h1 : (i 1).val < 2048 := (i 1).isLt
  have h2 : (i 2).val < 704 := (i 2).isLt
  have hr : Cert.FwdKernelIdeal.Value.pt9Of i = (i 0).val + 4 * ((i 1).val / 1024) := by
    show 1 * ((i 0).val / 1 - 0) + 4 * ((i 1).val / 1024 - 0) + 8 * ((i 2).val / 704 - 0) = _
    omega
  have hp : Cert.FwdKernelIdeal.Value.pt9Of i < cfg0.N := by omega
  unfold Cert.FwdKernelIdeal.Value.G9
  rw [dif_pos hp, ← Cert.FwdKernelIdeal.Value.outsAt0_sweep m c _ hp, at_gate m c ⟨_, hp⟩]
  show proj (args m c).x (args m c).wg (row (Cert.FwdKernelIdeal.Value.pt9Of i / 4) _) (hid (Cert.FwdKernelIdeal.Value.pt9Of i % 4) _) = proj (args m c).x (args m c).wg (i 1) (hid (i 0).val (i 2))
  refine congrArg₂ (proj (args m c).x (args m c).wg) (Fin.ext ?_) ?_
  · show (1024 * (Cert.FwdKernelIdeal.Value.pt9Of i / 4) + (i 1).val % 1024) % 2048 = (i 1).val
    omega
  · refine congrArg₂ hid (by omega) (Fin.ext ?_)
    show (i 2).val % 704 = (i 2).val
    omega
theorem final10 : (dats m 0 c).arrAt 10 cfg0.N
    = ((ev3 .bf16 fun (j : Fin 4) r k => proj (args m c).x (args m c).wu r (hid j.val k) : S4x2048x704.Idx → Ideal .bf16) : Buf (Elt Ideal) ((c : Thread nD τ).loc main_v8_4)) := by
  rw [Cert.FwdKernelIdeal.Value.final10]
  funext i
  have hN : cfg0.N = 8 := N_0
  have h0 : (i 0).val < 4 := (i 0).isLt
  have h1 : (i 1).val < 2048 := (i 1).isLt
  have h2 : (i 2).val < 704 := (i 2).isLt
  have hr : Cert.FwdKernelIdeal.Value.pt10Of i = (i 0).val + 4 * ((i 1).val / 1024) := by
    show 1 * ((i 0).val / 1 - 0) + 4 * ((i 1).val / 1024 - 0) + 8 * ((i 2).val / 704 - 0) = _
    omega
  have hp : Cert.FwdKernelIdeal.Value.pt10Of i < cfg0.N := by omega
  unfold Cert.FwdKernelIdeal.Value.G10
  rw [dif_pos hp, ← Cert.FwdKernelIdeal.Value.outsAt0_sweep m c _ hp, at_up m c ⟨_, hp⟩]
  show proj (args m c).x (args m c).wu (row (Cert.FwdKernelIdeal.Value.pt10Of i / 4) _) (hid (Cert.FwdKernelIdeal.Value.pt10Of i % 4) _) = proj (args m c).x (args m c).wu (i 1) (hid (i 0).val (i 2))
  refine congrArg₂ (proj (args m c).x (args m c).wu) (Fin.ext ?_) ?_
  · show (1024 * (Cert.FwdKernelIdeal.Value.pt10Of i / 4) + (i 1).val % 1024) % 2048 = (i 1).val
    omega
  · refine congrArg₂ hid (by omega) (Fin.ext ?_)
    show (i 2).val % 704 = (i 2).val
    omega

end Cert.Proof.Fwd.Fold

end
-- ==== Proof.Fwd.lean ====
/- The claims about the first line of a layer: the frames, and that the kernel's six results are the reference's. -/
module

public import proofs.«01_k».proof.Defs
public import proofs.«01_k».proof.Proof.FwdRef
public import proofs.«01_k».proof.Proof.FwdFold
public import proofs.«01_k».proof.Proof.Gen.FwdKernel.Frame
public import proofs.«01_k».proof.Proof.Gen.FwdReferenceIdeal.Run
public import Idealize.ShloMosaic.Adequacy

@[expose] public section

noncomputable section

namespace Cert.Proof.Fwd

open Idealize.ShloMosaic Idealize.ShloMosaic.TcCoe Idealize.SL.Sem
open Cert.Proof.Fwd.Fold (args m_x m_wg m_wu m_wd m_g m_b)

theorem frame_p : Cert.quiescent_FwdKernel := fun m ρ _ => Cert.FwdKernel.Gen.frame m ρ
theorem frame_pi : Cert.quiescent_FwdKernelIdeal := fun m ρ _ => Cert.FwdKernelIdeal.Gen.frame m ρ
theorem frame_ri : Cert.quiescent_FwdReferenceIdeal := fun m ρ _ =>
  (θ_run Cert.FwdReferenceIdeal.defs _ _).mono (fun r h => ⟨fun c => (h c).2.2.2.2.2.2,
      Idealize.ShloMosaic.sem_eq_zero_of_no_sems (by decide) r.2⟩)
    (Cert.FwdReferenceIdeal.Value.run (F := Ideal) m ρ)

theorem algebraic : Cert.algebraic_FwdKernelIdeal_FwdReferenceIdeal := by
  intro m ρ m' ρ' _ hagree
  refine ⟨_, _, _, _, _, _, Cert.FwdKernelIdeal.Value.run_blocks (F := Ideal) m ρ, ?_⟩
  refine (θ_run Cert.FwdReferenceIdeal.defs _ _).mono (fun _ h c => ?_) (Cert.FwdReferenceIdeal.Value.run (F := Ideal) m' ρ')
  obtain ⟨h0, h1, h2, h3, h4, h5, hk⟩ := h c
  obtain ⟨a0, a1, a2, a3, a4, a5⟩ := hagree c
  have e0 := a0.trans (m_x m c)
  have e1 := a1.trans (m_wg m c)
  have e2 := a2.trans (m_wu m c)
  have e3 := a3.trans (m_wd m c)
  have e4 := a4.trans (m_g m c)
  have e5 := a5.trans (m_b m c)
  refine ⟨h0.trans ?_, h1.trans ?_, h2.trans ?_, h3.trans ?_, h4.trans ?_, h5.trans ?_, hk⟩
  · rw [Fold.final6, Cert.FwdReferenceIdeal.Read.val_main_v32_eq, e0, e1, e2, e3, e4, e5]
    exact res_h (args m c)
  · rw [Fold.final7, Cert.FwdReferenceIdeal.Read.val_main_v27_eq, e0, e1, e2, e3]
    exact res_xh (args m c)
  · rw [Fold.final8, Cert.FwdReferenceIdeal.Read.val_main_v23_eq, e0, e1, e2, e3]
    exact res_rs (args m c)
  · rw [Fold.final9, Cert.FwdReferenceIdeal.Read.val_main_v35_eq, e0, e1]
    exact res_gate (args m c)
  · rw [Fold.final10, Cert.FwdReferenceIdeal.Read.val_main_v38_eq, e0, e2]
    exact res_up (args m c)
  · rw [Fold.final11, Cert.FwdReferenceIdeal.Read.val_main_v40_eq, e0, e1, e2, e3, e4, e5]
    exact res_tr (args m c)

end Cert.Proof.Fwd

end
-- ==== Proof.lean ====
/- The proof of the certificate's claims about four backward calls, the gated unit's, the feed-forward network's, the mixer's input
   projection's and that of the norm behind the first network, and about the forward call of the first network and its norm.

   The gated unit, with its named constants and its five results: Proof/Spec.lean states the unit's gradients over the real
   numbers; Proof/Consts.lean reads the float constants; Proof/Block.lean, Point.lean and Fold.lean read the kernel (one block,
   one grid point, the whole grid); Proof/RefNorm.lean, RefMix.lean, RefSum.lean and RefDz.lean read the reference;
   Proof/Finite.lean reads the precondition; Proof/Gmlp.lean puts them together.

   The feed-forward network, with its four results: Proof/FfnBase.lean, FfnStep.lean, FfnRun.lean, FfnInv.lean and FfnFrame.lean
   run the kernel (its buffers, one grid point, the copies, what holds between points, the whole launch); Proof/FfnSame.lean says
   that the two printed programs are one; Proof/FfnSpec.lean states the gradients over the real numbers; Proof/FfnBlock.lean,
   FfnHost.lean and FfnValue.lean read the kernel's results; Proof/FfnRef.lean reads the reference; Proof/FfnFinite.lean reads the
   precondition; Proof/Ffn.lean puts them together.

   The input projection: Proof/Win.lean.

   The norm, with its three results: Proof/NormSpec.lean states the gradients over the real numbers; Proof/NormBlock.lean,
   NormBody.lean and NormFold.lean read the kernel (one block, one grid point, the whole grid); Proof/NormRef.lean reads the
   reference; Proof/NormFinite.lean reads the precondition; Proof/Norm.lean puts them together.

   The forward call, with its six results, over the extended reals: Proof/FwdSpec.lean states the layer's first line;
   Proof/FwdBlock.lean, FwdBody.lean and FwdFold.lean read the kernel (one block, one grid point, the whole grid);
   Proof/FwdRef.lean reads the reference; Proof/Fwd.lean puts them together. -/
module

public import proofs.«01_k».proof.Defs
public import proofs.«01_k».proof.Proof.Gmlp
public import proofs.«01_k».proof.Proof.Ffn
public import proofs.«01_k».proof.Proof.Win
public import proofs.«01_k».proof.Proof.Norm
public import proofs.«01_k».proof.Proof.Fwd
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Pre_ffn_finite
public import proofs.«01_k».proof.Proof.Gen.FwdKernel
public import proofs.«01_k».proof.Proof.Gen.FwdKernel.Skeleton
public import proofs.«01_k».proof.Proof.Gen.FwdKernel.Launch
public import proofs.«01_k».proof.Proof.Gen.FwdKernel.Points
public import proofs.«01_k».proof.Proof.Gen.FwdKernel.Frame
public import proofs.«01_k».proof.Proof.Gen.FwdKernelIdeal
public import proofs.«01_k».proof.Proof.Gen.FwdKernelIdeal.Skeleton
public import proofs.«01_k».proof.Proof.Gen.FwdKernelIdeal.Launch
public import proofs.«01_k».proof.Proof.Gen.FwdKernelIdeal.Points
public import proofs.«01_k».proof.Proof.Gen.FwdKernelIdeal.Frame
public import proofs.«01_k».proof.Proof.Gen.FwdKernelIdeal.Value
public import proofs.«01_k».proof.Proof.Gen.FwdReferenceIdeal
public import proofs.«01_k».proof.Proof.Gen.FwdReferenceIdeal.Run
public import proofs.«01_k».proof.Proof.Gen.FwdReferenceIdeal.Read
public import proofs.«01_k».proof.Proof.Gen.GmlpKernel
public import proofs.«01_k».proof.Proof.Gen.GmlpKernel.Skeleton
public import proofs.«01_k».proof.Proof.Gen.GmlpKernel.Launch
public import proofs.«01_k».proof.Proof.Gen.GmlpKernel.Points
public import proofs.«01_k».proof.Proof.Gen.GmlpKernel.Frame
public import proofs.«01_k».proof.Proof.Gen.GmlpKernelIdeal
public import proofs.«01_k».proof.Proof.Gen.GmlpKernelIdeal.Skeleton
public import proofs.«01_k».proof.Proof.Gen.GmlpKernelIdeal.Launch
public import proofs.«01_k».proof.Proof.Gen.GmlpKernelIdeal.Points
public import proofs.«01_k».proof.Proof.Gen.GmlpKernelIdeal.Frame
public import proofs.«01_k».proof.Proof.Gen.GmlpKernelIdeal.Value
public import proofs.«01_k».proof.Proof.Gen.GmlpReferenceIdeal
public import proofs.«01_k».proof.Proof.Gen.GmlpReferenceIdeal.Run
public import proofs.«01_k».proof.Proof.Gen.GmlpReferenceIdeal.Read
public import proofs.«01_k».proof.Proof.Gen.Pre_finite
public import proofs.«01_k».proof.Proof.Gen.WinKernel
public import proofs.«01_k».proof.Proof.Gen.WinKernel.Skeleton
public import proofs.«01_k».proof.Proof.Gen.WinKernel.Launch
public import proofs.«01_k».proof.Proof.Gen.WinKernel.Points
public import proofs.«01_k».proof.Proof.Gen.WinKernel.Frame
public import proofs.«01_k».proof.Proof.Gen.WinKernelIdeal
public import proofs.«01_k».proof.Proof.Gen.WinKernelIdeal.Skeleton
public import proofs.«01_k».proof.Proof.Gen.WinKernelIdeal.Launch
public import proofs.«01_k».proof.Proof.Gen.WinKernelIdeal.Points
public import proofs.«01_k».proof.Proof.Gen.WinKernelIdeal.Frame
public import proofs.«01_k».proof.Proof.Gen.WinKernelIdeal.Value
public import proofs.«01_k».proof.Proof.Gen.WinReferenceIdeal
public import proofs.«01_k».proof.Proof.Gen.WinReferenceIdeal.Run
public import proofs.«01_k».proof.Proof.Gen.WinReferenceIdeal.Read
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.Gen.NormKernelIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.Pre_norm_finite
public import Idealize.ShloMosaic.Adequacy
public import Idealize.ShloMosaic.Init

@[expose] public section

noncomputable section

namespace Cert.Proof

theorem claim : Cert.Claim :=
  ⟨Cert.GmlpKernel.Gen.facts, Cert.GmlpKernelIdeal.Gen.facts, Cert.GmlpReferenceIdeal.Gen.facts, Cert.FfnKernel.Gen.facts,
    Cert.FfnKernelIdeal.Gen.facts, Cert.FfnReferenceIdeal.Gen.facts, Cert.WinKernel.Gen.facts, Cert.WinKernelIdeal.Gen.facts,
    Cert.WinReferenceIdeal.Gen.facts, Cert.NormKernel.Gen.facts, Cert.NormKernelIdeal.Gen.facts, Cert.NormReferenceIdeal.Gen.facts,
    Cert.FwdKernel.Gen.facts, Cert.FwdKernelIdeal.Gen.facts, Cert.FwdReferenceIdeal.Gen.facts,
    Cert.Pre_finite.Gen.facts, Cert.Pre_ffn_finite.Gen.facts, Cert.Pre_norm_finite.Gen.facts,
    Gmlp.frame_p, Gmlp.frame_pi, Gmlp.frame_pi_finite, Gmlp.frame_ri, Gmlp.frame_ri_finite, Ffn.frame_p, Ffn.frame_pi,
    Ffn.frame_pi_finite, Ffn.frame_ri, Ffn.frame_ri_finite, Win.frame_p, Win.frame_pi, Win.frame_ri, Norm.frame_p, Norm.frame_pi,
    Norm.frame_pi_finite, Norm.frame_ri, Norm.frame_ri_finite, Fwd.frame_p, Fwd.frame_pi, Fwd.frame_ri, Gmlp.preserves, Gmlp.algebraic, trivial, Ffn.algebraic, trivial,
    Win.algebraic, trivial, Norm.algebraic, trivial, Fwd.algebraic⟩

end Cert.Proof

end
